-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_OutProject (m : (ℓ : Loc Cert.OutProject.nD Cert.OutProject.τ Cert.OutProject.sig) → Buf (Elt Bits) ℓ) : Prop :=
  True

def Pre_OutProjectIdeal (m : (ℓ : Loc Cert.OutProjectIdeal.nD Cert.OutProjectIdeal.τ Cert.OutProjectIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Dilated (m : (ℓ : Loc Cert.Dilated.nD Cert.Dilated.τ Cert.Dilated.sig) → Buf (Elt Bits) ℓ) : Prop :=
  True

def Pre_DilatedIdeal (m : (ℓ : Loc Cert.DilatedIdeal.nD Cert.DilatedIdeal.τ Cert.DilatedIdeal.sig) → Buf (Elt Ideal) ℓ) : Prop :=
  True

def Pre_DilatedReferenceIdeal (m : (ℓ : Loc Cert.DilatedReferenceIdeal.nD Cert.DilatedReferenceIdeal.τ Cert.DilatedReferenceIdeal.sig) → Buf (Elt Ideal) ℓ) : Prop :=
  True

def Pre_Spread (m : (ℓ : Loc Cert.Spread.nD Cert.Spread.τ Cert.Spread.sig) → Buf (Elt Bits) ℓ) : Prop :=
  True

def Pre_SpreadIdeal (m : (ℓ : Loc Cert.SpreadIdeal.nD Cert.SpreadIdeal.τ Cert.SpreadIdeal.sig) → Buf (Elt Ideal) ℓ) : Prop :=
  True

def Pre_SpreadReferenceIdeal (m : (ℓ : Loc Cert.SpreadReferenceIdeal.nD Cert.SpreadReferenceIdeal.τ Cert.SpreadReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Far (m : (ℓ : Loc Cert.Far.nD Cert.Far.τ Cert.Far.sig) → Buf (Elt Bits) ℓ) : Prop :=
  True

def Pre_FarIdeal (m : (ℓ : Loc Cert.FarIdeal.nD Cert.FarIdeal.τ Cert.FarIdeal.sig) → Buf (Elt Ideal) ℓ) : Prop :=
  True

def Pre_FarReferenceIdeal (m : (ℓ : Loc Cert.FarReferenceIdeal.nD Cert.FarReferenceIdeal.τ Cert.FarReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_OutProject [hOutProject : Cert.OutProject.Facts] : Prop :=
  ∀ (m : (ℓ : Loc Cert.OutProject.nD Cert.OutProject.τ Cert.OutProject.sig) → Buf (Elt Bits) ℓ) (g : Dev Cert.OutProject.nD → PrngReg), Pre_OutProject m →
    θ_run (Cert.OutProject.defs (F := Bits)) (onTc (τ := Cert.OutProject.τ) (Cert.OutProject.main (F := Bits))) ⟨m, fun _ => 0, g⟩ (fun r => (∀ c : Dev Cert.OutProject.nD,
      r.2.mem ((c.tc : Thread Cert.OutProject.nD Cert.OutProject.τ).loc Cert.OutProject.main_arg0) = m ((c.tc : Thread Cert.OutProject.nD Cert.OutProject.τ).loc Cert.OutProject.main_arg0)
      ∧ r.2.mem ((c.tc : Thread Cert.OutProject.nD Cert.OutProject.τ).loc Cert.OutProject.main_arg1) = m ((c.tc : Thread Cert.OutProject.nD Cert.OutProject.τ).loc Cert.OutProject.main_arg1)
      ∧ r.2.mem ((c.tc : Thread Cert.OutProject.nD Cert.OutProject.τ).loc Cert.OutProject.main_arg2) = m ((c.tc : Thread Cert.OutProject.nD Cert.OutProject.τ).loc Cert.OutProject.main_arg2))
      ∧ r.2.sem = fun _ => 0)

def quiescent_OutProjectIdeal [hOutProjectIdeal : Cert.OutProjectIdeal.Facts] : Prop :=
  ∀ (m : (ℓ : Loc Cert.OutProjectIdeal.nD Cert.OutProjectIdeal.τ Cert.OutProjectIdeal.sig) → Buf (Elt Ideal) ℓ) (g : Dev Cert.OutProjectIdeal.nD → PrngReg), Pre_OutProjectIdeal m →
    θ_run (Cert.OutProjectIdeal.defs (F := Ideal)) (onTc (τ := Cert.OutProjectIdeal.τ) (Cert.OutProjectIdeal.main (F := Ideal))) ⟨m, fun _ => 0, g⟩ (fun r => (∀ c : Dev Cert.OutProjectIdeal.nD,
      r.2.mem ((c.tc : Thread Cert.OutProjectIdeal.nD Cert.OutProjectIdeal.τ).loc Cert.OutProjectIdeal.main_arg0) = m ((c.tc : Thread Cert.OutProjectIdeal.nD Cert.OutProjectIdeal.τ).loc Cert.OutProjectIdeal.main_arg0)
      ∧ r.2.mem ((c.tc : Thread Cert.OutProjectIdeal.nD Cert.OutProjectIdeal.τ).loc Cert.OutProjectIdeal.main_arg1) = m ((c.tc : Thread Cert.OutProjectIdeal.nD Cert.OutProjectIdeal.τ).loc Cert.OutProjectIdeal.main_arg1)
      ∧ r.2.mem ((c.tc : Thread Cert.OutProjectIdeal.nD Cert.OutProjectIdeal.τ).loc Cert.OutProjectIdeal.main_arg2) = m ((c.tc : Thread Cert.OutProjectIdeal.nD Cert.OutProjectIdeal.τ).loc Cert.OutProjectIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Dilated [hDilated : Cert.Dilated.Facts] : Prop :=
  ∀ (m : (ℓ : Loc Cert.Dilated.nD Cert.Dilated.τ Cert.Dilated.sig) → Buf (Elt Bits) ℓ) (g : Dev Cert.Dilated.nD → PrngReg), Pre_Dilated m →
    θ_run (Cert.Dilated.defs (F := Bits)) (onTc (τ := Cert.Dilated.τ) (Cert.Dilated.main (F := Bits))) ⟨m, fun _ => 0, g⟩ (fun r => (∀ c : Dev Cert.Dilated.nD,
      r.2.mem ((c.tc : Thread Cert.Dilated.nD Cert.Dilated.τ).loc Cert.Dilated.main_arg0) = m ((c.tc : Thread Cert.Dilated.nD Cert.Dilated.τ).loc Cert.Dilated.main_arg0)
      ∧ r.2.mem ((c.tc : Thread Cert.Dilated.nD Cert.Dilated.τ).loc Cert.Dilated.main_arg1) = m ((c.tc : Thread Cert.Dilated.nD Cert.Dilated.τ).loc Cert.Dilated.main_arg1))
      ∧ r.2.sem = fun _ => 0)

def quiescent_DilatedIdeal [hDilatedIdeal : Cert.DilatedIdeal.Facts] : Prop :=
  ∀ (m : (ℓ : Loc Cert.DilatedIdeal.nD Cert.DilatedIdeal.τ Cert.DilatedIdeal.sig) → Buf (Elt Ideal) ℓ) (g : Dev Cert.DilatedIdeal.nD → PrngReg), Pre_DilatedIdeal m →
    θ_run (Cert.DilatedIdeal.defs (F := Ideal)) (onTc (τ := Cert.DilatedIdeal.τ) (Cert.DilatedIdeal.main (F := Ideal))) ⟨m, fun _ => 0, g⟩ (fun r => (∀ c : Dev Cert.DilatedIdeal.nD,
      r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
      ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1))
      ∧ r.2.sem = fun _ => 0)

def quiescent_DilatedReferenceIdeal [hDilatedReferenceIdeal : Cert.DilatedReferenceIdeal.Facts] : Prop :=
  ∀ (m : (ℓ : Loc Cert.DilatedReferenceIdeal.nD Cert.DilatedReferenceIdeal.τ Cert.DilatedReferenceIdeal.sig) → Buf (Elt Ideal) ℓ) (g : Dev Cert.DilatedReferenceIdeal.nD → PrngReg), Pre_DilatedReferenceIdeal m →
    θ_run (Cert.DilatedReferenceIdeal.defs (F := Ideal)) (onTc (τ := Cert.DilatedReferenceIdeal.τ) (Cert.DilatedReferenceIdeal.main (F := Ideal))) ⟨m, fun _ => 0, g⟩ (fun r => (∀ c : Dev Cert.DilatedReferenceIdeal.nD,
      r.2.mem ((c.tc : Thread Cert.DilatedReferenceIdeal.nD Cert.DilatedReferenceIdeal.τ).loc Cert.DilatedReferenceIdeal.main_arg0) = m ((c.tc : Thread Cert.DilatedReferenceIdeal.nD Cert.DilatedReferenceIdeal.τ).loc Cert.DilatedReferenceIdeal.main_arg0)
      ∧ r.2.mem ((c.tc : Thread Cert.DilatedReferenceIdeal.nD Cert.DilatedReferenceIdeal.τ).loc Cert.DilatedReferenceIdeal.main_arg1) = m ((c.tc : Thread Cert.DilatedReferenceIdeal.nD Cert.DilatedReferenceIdeal.τ).loc Cert.DilatedReferenceIdeal.main_arg1))
      ∧ r.2.sem = fun _ => 0)

def quiescent_Spread [hSpread : Cert.Spread.Facts] : Prop :=
  ∀ (m : (ℓ : Loc Cert.Spread.nD Cert.Spread.τ Cert.Spread.sig) → Buf (Elt Bits) ℓ) (g : Dev Cert.Spread.nD → PrngReg), Pre_Spread m →
    θ_run (Cert.Spread.defs (F := Bits)) (onTc (τ := Cert.Spread.τ) (Cert.Spread.main (F := Bits))) ⟨m, fun _ => 0, g⟩ (fun r => (∀ c : Dev Cert.Spread.nD,
      r.2.mem ((c.tc : Thread Cert.Spread.nD Cert.Spread.τ).loc Cert.Spread.main_arg0) = m ((c.tc : Thread Cert.Spread.nD Cert.Spread.τ).loc Cert.Spread.main_arg0)
      ∧ r.2.mem ((c.tc : Thread Cert.Spread.nD Cert.Spread.τ).loc Cert.Spread.main_arg1) = m ((c.tc : Thread Cert.Spread.nD Cert.Spread.τ).loc Cert.Spread.main_arg1))
      ∧ r.2.sem = fun _ => 0)

def quiescent_SpreadIdeal [hSpreadIdeal : Cert.SpreadIdeal.Facts] : Prop :=
  ∀ (m : (ℓ : Loc Cert.SpreadIdeal.nD Cert.SpreadIdeal.τ Cert.SpreadIdeal.sig) → Buf (Elt Ideal) ℓ) (g : Dev Cert.SpreadIdeal.nD → PrngReg), Pre_SpreadIdeal m →
    θ_run (Cert.SpreadIdeal.defs (F := Ideal)) (onTc (τ := Cert.SpreadIdeal.τ) (Cert.SpreadIdeal.main (F := Ideal))) ⟨m, fun _ => 0, g⟩ (fun r => (∀ c : Dev Cert.SpreadIdeal.nD,
      r.2.mem ((c.tc : Thread Cert.SpreadIdeal.nD Cert.SpreadIdeal.τ).loc Cert.SpreadIdeal.main_arg0) = m ((c.tc : Thread Cert.SpreadIdeal.nD Cert.SpreadIdeal.τ).loc Cert.SpreadIdeal.main_arg0)
      ∧ r.2.mem ((c.tc : Thread Cert.SpreadIdeal.nD Cert.SpreadIdeal.τ).loc Cert.SpreadIdeal.main_arg1) = m ((c.tc : Thread Cert.SpreadIdeal.nD Cert.SpreadIdeal.τ).loc Cert.SpreadIdeal.main_arg1))
      ∧ r.2.sem = fun _ => 0)

def quiescent_SpreadReferenceIdeal [hSpreadReferenceIdeal : Cert.SpreadReferenceIdeal.Facts] : Prop :=
  ∀ (m : (ℓ : Loc Cert.SpreadReferenceIdeal.nD Cert.SpreadReferenceIdeal.τ Cert.SpreadReferenceIdeal.sig) → Buf (Elt Ideal) ℓ) (g : Dev Cert.SpreadReferenceIdeal.nD → PrngReg), Pre_SpreadReferenceIdeal m →
    θ_run (Cert.SpreadReferenceIdeal.defs (F := Ideal)) (onTc (τ := Cert.SpreadReferenceIdeal.τ) (Cert.SpreadReferenceIdeal.main (F := Ideal))) ⟨m, fun _ => 0, g⟩ (fun r => (∀ c : Dev Cert.SpreadReferenceIdeal.nD,
      r.2.mem ((c.tc : Thread Cert.SpreadReferenceIdeal.nD Cert.SpreadReferenceIdeal.τ).loc Cert.SpreadReferenceIdeal.main_arg0) = m ((c.tc : Thread Cert.SpreadReferenceIdeal.nD Cert.SpreadReferenceIdeal.τ).loc Cert.SpreadReferenceIdeal.main_arg0)
      ∧ r.2.mem ((c.tc : Thread Cert.SpreadReferenceIdeal.nD Cert.SpreadReferenceIdeal.τ).loc Cert.SpreadReferenceIdeal.main_arg1) = m ((c.tc : Thread Cert.SpreadReferenceIdeal.nD Cert.SpreadReferenceIdeal.τ).loc Cert.SpreadReferenceIdeal.main_arg1))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1))
      ∧ r.2.sem = fun _ => 0)

def quiescent_Far [hFar : Cert.Far.Facts] : Prop :=
  ∀ (m : (ℓ : Loc Cert.Far.nD Cert.Far.τ Cert.Far.sig) → Buf (Elt Bits) ℓ) (g : Dev Cert.Far.nD → PrngReg), Pre_Far m →
    θ_run (Cert.Far.defs (F := Bits)) (onTc (τ := Cert.Far.τ) (Cert.Far.main (F := Bits))) ⟨m, fun _ => 0, g⟩ (fun r => (∀ c : Dev Cert.Far.nD,
      r.2.mem ((c.tc : Thread Cert.Far.nD Cert.Far.τ).loc Cert.Far.main_arg0) = m ((c.tc : Thread Cert.Far.nD Cert.Far.τ).loc Cert.Far.main_arg0)
      ∧ r.2.mem ((c.tc : Thread Cert.Far.nD Cert.Far.τ).loc Cert.Far.main_arg1) = m ((c.tc : Thread Cert.Far.nD Cert.Far.τ).loc Cert.Far.main_arg1))
      ∧ r.2.sem = fun _ => 0)

def quiescent_FarIdeal [hFarIdeal : Cert.FarIdeal.Facts] : Prop :=
  ∀ (m : (ℓ : Loc Cert.FarIdeal.nD Cert.FarIdeal.τ Cert.FarIdeal.sig) → Buf (Elt Ideal) ℓ) (g : Dev Cert.FarIdeal.nD → PrngReg), Pre_FarIdeal m →
    θ_run (Cert.FarIdeal.defs (F := Ideal)) (onTc (τ := Cert.FarIdeal.τ) (Cert.FarIdeal.main (F := Ideal))) ⟨m, fun _ => 0, g⟩ (fun r => (∀ c : Dev Cert.FarIdeal.nD,
      r.2.mem ((c.tc : Thread Cert.FarIdeal.nD Cert.FarIdeal.τ).loc Cert.FarIdeal.main_arg0) = m ((c.tc : Thread Cert.FarIdeal.nD Cert.FarIdeal.τ).loc Cert.FarIdeal.main_arg0)
      ∧ r.2.mem ((c.tc : Thread Cert.FarIdeal.nD Cert.FarIdeal.τ).loc Cert.FarIdeal.main_arg1) = m ((c.tc : Thread Cert.FarIdeal.nD Cert.FarIdeal.τ).loc Cert.FarIdeal.main_arg1))
      ∧ r.2.sem = fun _ => 0)

def quiescent_FarReferenceIdeal [hFarReferenceIdeal : Cert.FarReferenceIdeal.Facts] : Prop :=
  ∀ (m : (ℓ : Loc Cert.FarReferenceIdeal.nD Cert.FarReferenceIdeal.τ Cert.FarReferenceIdeal.sig) → Buf (Elt Ideal) ℓ) (g : Dev Cert.FarReferenceIdeal.nD → PrngReg), Pre_FarReferenceIdeal m →
    θ_run (Cert.FarReferenceIdeal.defs (F := Ideal)) (onTc (τ := Cert.FarReferenceIdeal.τ) (Cert.FarReferenceIdeal.main (F := Ideal))) ⟨m, fun _ => 0, g⟩ (fun r => (∀ c : Dev Cert.FarReferenceIdeal.nD,
      r.2.mem ((c.tc : Thread Cert.FarReferenceIdeal.nD Cert.FarReferenceIdeal.τ).loc Cert.FarReferenceIdeal.main_arg0) = m ((c.tc : Thread Cert.FarReferenceIdeal.nD Cert.FarReferenceIdeal.τ).loc Cert.FarReferenceIdeal.main_arg0)
      ∧ r.2.mem ((c.tc : Thread Cert.FarReferenceIdeal.nD Cert.FarReferenceIdeal.τ).loc Cert.FarReferenceIdeal.main_arg1) = m ((c.tc : Thread Cert.FarReferenceIdeal.nD Cert.FarReferenceIdeal.τ).loc Cert.FarReferenceIdeal.main_arg1))
      ∧ r.2.sem = fun _ => 0)

def preserves_Kernel_KernelIdeal : Prop :=
  True

def preserves_OutProject_OutProjectIdeal : Prop :=
  True

def algebraic_OutProjectIdeal_OutReferenceIdeal [hOutProjectIdeal : Cert.OutProjectIdeal.Facts] [hOutReferenceIdeal : Cert.OutReferenceIdeal.Facts] : Prop :=
  ∀ (m : (ℓ : Loc Cert.OutProjectIdeal.nD Cert.OutProjectIdeal.τ Cert.OutProjectIdeal.sig) → Buf (Elt Ideal) ℓ) (g : Dev Cert.OutProjectIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjectIdeal m →
    (∀ c : Dev Cert.OutProjectIdeal.nD,
      m' ((c.tc : Thread Cert.OutReferenceIdeal.nD Cert.OutReferenceIdeal.τ).loc Cert.OutReferenceIdeal.main_arg0) = m ((c.tc : Thread Cert.OutProjectIdeal.nD Cert.OutProjectIdeal.τ).loc Cert.OutProjectIdeal.main_arg0)
      ∧ m' ((c.tc : Thread Cert.OutReferenceIdeal.nD Cert.OutReferenceIdeal.τ).loc Cert.OutReferenceIdeal.main_arg1) = m ((c.tc : Thread Cert.OutProjectIdeal.nD Cert.OutProjectIdeal.τ).loc Cert.OutProjectIdeal.main_arg1)
      ∧ m' ((c.tc : Thread Cert.OutReferenceIdeal.nD Cert.OutReferenceIdeal.τ).loc Cert.OutReferenceIdeal.main_arg2) = m ((c.tc : Thread Cert.OutProjectIdeal.nD Cert.OutProjectIdeal.τ).loc Cert.OutProjectIdeal.main_arg2)) →
    ∃ (v0 : (c : Dev Cert.OutProjectIdeal.nD) → Buf (Elt Ideal) ((c.tc : Thread Cert.OutProjectIdeal.nD Cert.OutProjectIdeal.τ).loc Cert.OutProjectIdeal.main_v0)),
      θ_run (Cert.OutProjectIdeal.defs (F := Ideal)) (onTc (τ := Cert.OutProjectIdeal.τ) (Cert.OutProjectIdeal.main (F := Ideal))) ⟨m, fun _ => 0, g⟩ (fun r => ∀ c : Dev Cert.OutProjectIdeal.nD,
          r.2.mem ((c.tc : Thread Cert.OutProjectIdeal.nD Cert.OutProjectIdeal.τ).loc Cert.OutProjectIdeal.main_v0) = v0 c
          ∧ r.2.mem ((c.tc : Thread Cert.OutProjectIdeal.nD Cert.OutProjectIdeal.τ).loc Cert.OutProjectIdeal.main_arg0) = m ((c.tc : Thread Cert.OutProjectIdeal.nD Cert.OutProjectIdeal.τ).loc Cert.OutProjectIdeal.main_arg0)
          ∧ r.2.mem ((c.tc : Thread Cert.OutProjectIdeal.nD Cert.OutProjectIdeal.τ).loc Cert.OutProjectIdeal.main_arg1) = m ((c.tc : Thread Cert.OutProjectIdeal.nD Cert.OutProjectIdeal.τ).loc Cert.OutProjectIdeal.main_arg1)
          ∧ r.2.mem ((c.tc : Thread Cert.OutProjectIdeal.nD Cert.OutProjectIdeal.τ).loc Cert.OutProjectIdeal.main_arg2) = m ((c.tc : Thread Cert.OutProjectIdeal.nD Cert.OutProjectIdeal.τ).loc Cert.OutProjectIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v41)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v41) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v128) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Dilated_DilatedIdeal : Prop :=
  True

def algebraic_DilatedIdeal_DilatedReferenceIdeal [hDilatedIdeal : Cert.DilatedIdeal.Facts] [hDilatedReferenceIdeal : Cert.DilatedReferenceIdeal.Facts] : Prop :=
  ∀ (m : (ℓ : Loc Cert.DilatedIdeal.nD Cert.DilatedIdeal.τ Cert.DilatedIdeal.sig) → Buf (Elt Ideal) ℓ) (g : Dev Cert.DilatedIdeal.nD → PrngReg)
    (m' : (ℓ : Loc Cert.DilatedReferenceIdeal.nD Cert.DilatedReferenceIdeal.τ Cert.DilatedReferenceIdeal.sig) → Buf (Elt Ideal) ℓ) (g' : Dev Cert.DilatedReferenceIdeal.nD → PrngReg), Pre_DilatedIdeal m →
    (∀ c : Dev Cert.DilatedIdeal.nD,
      m' ((c.tc : Thread Cert.DilatedReferenceIdeal.nD Cert.DilatedReferenceIdeal.τ).loc Cert.DilatedReferenceIdeal.main_arg0) = m ((c.tc : Thread Cert.DilatedIdeal.nD Cert.DilatedIdeal.τ).loc Cert.DilatedIdeal.main_arg0)
      ∧ m' ((c.tc : Thread Cert.DilatedReferenceIdeal.nD Cert.DilatedReferenceIdeal.τ).loc Cert.DilatedReferenceIdeal.main_arg1) = m ((c.tc : Thread Cert.DilatedIdeal.nD Cert.DilatedIdeal.τ).loc Cert.DilatedIdeal.main_arg1)) →
    ∃ (v0 : (c : Dev Cert.DilatedIdeal.nD) → Buf (Elt Ideal) ((c.tc : Thread Cert.DilatedIdeal.nD Cert.DilatedIdeal.τ).loc Cert.DilatedIdeal.main_v35)),
      θ_run (Cert.DilatedIdeal.defs (F := Ideal)) (onTc (τ := Cert.DilatedIdeal.τ) (Cert.DilatedIdeal.main (F := Ideal))) ⟨m, fun _ => 0, g⟩ (fun r => ∀ c : Dev Cert.DilatedIdeal.nD,
          r.2.mem ((c.tc : Thread Cert.DilatedIdeal.nD Cert.DilatedIdeal.τ).loc Cert.DilatedIdeal.main_v35) = v0 c
          ∧ r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
          ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1))
      ∧ θ_run (Cert.DilatedReferenceIdeal.defs (F := Ideal)) (onTc (τ := Cert.DilatedReferenceIdeal.τ) (Cert.DilatedReferenceIdeal.main (F := Ideal))) ⟨m', fun _ => 0, g'⟩ (fun r => ∀ c : Dev Cert.DilatedReferenceIdeal.nD,
          r.2.mem ((c.tc : Thread Cert.DilatedReferenceIdeal.nD Cert.DilatedReferenceIdeal.τ).loc Cert.DilatedReferenceIdeal.main_v83) = v0 c
          ∧ r.2.mem ((c.tc : Thread Cert.DilatedReferenceIdeal.nD Cert.DilatedReferenceIdeal.τ).loc Cert.DilatedReferenceIdeal.main_arg0) = m' ((c.tc : Thread Cert.DilatedReferenceIdeal.nD Cert.DilatedReferenceIdeal.τ).loc Cert.DilatedReferenceIdeal.main_arg0)
          ∧ r.2.mem ((c.tc : Thread Cert.DilatedReferenceIdeal.nD Cert.DilatedReferenceIdeal.τ).loc Cert.DilatedReferenceIdeal.main_arg1) = m' ((c.tc : Thread Cert.DilatedReferenceIdeal.nD Cert.DilatedReferenceIdeal.τ).loc Cert.DilatedReferenceIdeal.main_arg1))

def preserves_Spread_SpreadIdeal : Prop :=
  True

def algebraic_SpreadIdeal_SpreadReferenceIdeal [hSpreadIdeal : Cert.SpreadIdeal.Facts] [hSpreadReferenceIdeal : Cert.SpreadReferenceIdeal.Facts] : Prop :=
  ∀ (m : (ℓ : Loc Cert.SpreadIdeal.nD Cert.SpreadIdeal.τ Cert.SpreadIdeal.sig) → Buf (Elt Ideal) ℓ) (g : Dev Cert.SpreadIdeal.nD → PrngReg)
    (m' : (ℓ : Loc Cert.SpreadReferenceIdeal.nD Cert.SpreadReferenceIdeal.τ Cert.SpreadReferenceIdeal.sig) → Buf (Elt Ideal) ℓ) (g' : Dev Cert.SpreadReferenceIdeal.nD → PrngReg), Pre_SpreadIdeal m →
    (∀ c : Dev Cert.SpreadIdeal.nD,
      m' ((c.tc : Thread Cert.SpreadReferenceIdeal.nD Cert.SpreadReferenceIdeal.τ).loc Cert.SpreadReferenceIdeal.main_arg0) = m ((c.tc : Thread Cert.SpreadIdeal.nD Cert.SpreadIdeal.τ).loc Cert.SpreadIdeal.main_arg0)
      ∧ m' ((c.tc : Thread Cert.SpreadReferenceIdeal.nD Cert.SpreadReferenceIdeal.τ).loc Cert.SpreadReferenceIdeal.main_arg1) = m ((c.tc : Thread Cert.SpreadIdeal.nD Cert.SpreadIdeal.τ).loc Cert.SpreadIdeal.main_arg1)) →
    ∃ (v0 : (c : Dev Cert.SpreadIdeal.nD) → Buf (Elt Ideal) ((c.tc : Thread Cert.SpreadIdeal.nD Cert.SpreadIdeal.τ).loc Cert.SpreadIdeal.main_v36)),
      θ_run (Cert.SpreadIdeal.defs (F := Ideal)) (onTc (τ := Cert.SpreadIdeal.τ) (Cert.SpreadIdeal.main (F := Ideal))) ⟨m, fun _ => 0, g⟩ (fun r => ∀ c : Dev Cert.SpreadIdeal.nD,
          r.2.mem ((c.tc : Thread Cert.SpreadIdeal.nD Cert.SpreadIdeal.τ).loc Cert.SpreadIdeal.main_v36) = v0 c
          ∧ r.2.mem ((c.tc : Thread Cert.SpreadIdeal.nD Cert.SpreadIdeal.τ).loc Cert.SpreadIdeal.main_arg0) = m ((c.tc : Thread Cert.SpreadIdeal.nD Cert.SpreadIdeal.τ).loc Cert.SpreadIdeal.main_arg0)
          ∧ r.2.mem ((c.tc : Thread Cert.SpreadIdeal.nD Cert.SpreadIdeal.τ).loc Cert.SpreadIdeal.main_arg1) = m ((c.tc : Thread Cert.SpreadIdeal.nD Cert.SpreadIdeal.τ).loc Cert.SpreadIdeal.main_arg1))
      ∧ θ_run (Cert.SpreadReferenceIdeal.defs (F := Ideal)) (onTc (τ := Cert.SpreadReferenceIdeal.τ) (Cert.SpreadReferenceIdeal.main (F := Ideal))) ⟨m', fun _ => 0, g'⟩ (fun r => ∀ c : Dev Cert.SpreadReferenceIdeal.nD,
          r.2.mem ((c.tc : Thread Cert.SpreadReferenceIdeal.nD Cert.SpreadReferenceIdeal.τ).loc Cert.SpreadReferenceIdeal.main_v84) = v0 c
          ∧ r.2.mem ((c.tc : Thread Cert.SpreadReferenceIdeal.nD Cert.SpreadReferenceIdeal.τ).loc Cert.SpreadReferenceIdeal.main_arg0) = m' ((c.tc : Thread Cert.SpreadReferenceIdeal.nD Cert.SpreadReferenceIdeal.τ).loc Cert.SpreadReferenceIdeal.main_arg0)
          ∧ r.2.mem ((c.tc : Thread Cert.SpreadReferenceIdeal.nD Cert.SpreadReferenceIdeal.τ).loc Cert.SpreadReferenceIdeal.main_arg1) = m' ((c.tc : Thread Cert.SpreadReferenceIdeal.nD Cert.SpreadReferenceIdeal.τ).loc Cert.SpreadReferenceIdeal.main_arg1))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v2) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1))

def preserves_Far_FarIdeal : Prop :=
  True

def algebraic_FarIdeal_FarReferenceIdeal [hFarIdeal : Cert.FarIdeal.Facts] [hFarReferenceIdeal : Cert.FarReferenceIdeal.Facts] : Prop :=
  ∀ (m : (ℓ : Loc Cert.FarIdeal.nD Cert.FarIdeal.τ Cert.FarIdeal.sig) → Buf (Elt Ideal) ℓ) (g : Dev Cert.FarIdeal.nD → PrngReg)
    (m' : (ℓ : Loc Cert.FarReferenceIdeal.nD Cert.FarReferenceIdeal.τ Cert.FarReferenceIdeal.sig) → Buf (Elt Ideal) ℓ) (g' : Dev Cert.FarReferenceIdeal.nD → PrngReg), Pre_FarIdeal m →
    (∀ c : Dev Cert.FarIdeal.nD,
      m' ((c.tc : Thread Cert.FarReferenceIdeal.nD Cert.FarReferenceIdeal.τ).loc Cert.FarReferenceIdeal.main_arg0) = m ((c.tc : Thread Cert.FarIdeal.nD Cert.FarIdeal.τ).loc Cert.FarIdeal.main_arg0)
      ∧ m' ((c.tc : Thread Cert.FarReferenceIdeal.nD Cert.FarReferenceIdeal.τ).loc Cert.FarReferenceIdeal.main_arg1) = m ((c.tc : Thread Cert.FarIdeal.nD Cert.FarIdeal.τ).loc Cert.FarIdeal.main_arg1)) →
    ∃ (v0 : (c : Dev Cert.FarIdeal.nD) → Buf (Elt Ideal) ((c.tc : Thread Cert.FarIdeal.nD Cert.FarIdeal.τ).loc Cert.FarIdeal.main_v36)),
      θ_run (Cert.FarIdeal.defs (F := Ideal)) (onTc (τ := Cert.FarIdeal.τ) (Cert.FarIdeal.main (F := Ideal))) ⟨m, fun _ => 0, g⟩ (fun r => ∀ c : Dev Cert.FarIdeal.nD,
          r.2.mem ((c.tc : Thread Cert.FarIdeal.nD Cert.FarIdeal.τ).loc Cert.FarIdeal.main_v36) = v0 c
          ∧ r.2.mem ((c.tc : Thread Cert.FarIdeal.nD Cert.FarIdeal.τ).loc Cert.FarIdeal.main_arg0) = m ((c.tc : Thread Cert.FarIdeal.nD Cert.FarIdeal.τ).loc Cert.FarIdeal.main_arg0)
          ∧ r.2.mem ((c.tc : Thread Cert.FarIdeal.nD Cert.FarIdeal.τ).loc Cert.FarIdeal.main_arg1) = m ((c.tc : Thread Cert.FarIdeal.nD Cert.FarIdeal.τ).loc Cert.FarIdeal.main_arg1))
      ∧ θ_run (Cert.FarReferenceIdeal.defs (F := Ideal)) (onTc (τ := Cert.FarReferenceIdeal.τ) (Cert.FarReferenceIdeal.main (F := Ideal))) ⟨m', fun _ => 0, g'⟩ (fun r => ∀ c : Dev Cert.FarReferenceIdeal.nD,
          r.2.mem ((c.tc : Thread Cert.FarReferenceIdeal.nD Cert.FarReferenceIdeal.τ).loc Cert.FarReferenceIdeal.main_v84) = v0 c
          ∧ r.2.mem ((c.tc : Thread Cert.FarReferenceIdeal.nD Cert.FarReferenceIdeal.τ).loc Cert.FarReferenceIdeal.main_arg0) = m' ((c.tc : Thread Cert.FarReferenceIdeal.nD Cert.FarReferenceIdeal.τ).loc Cert.FarReferenceIdeal.main_arg0)
          ∧ r.2.mem ((c.tc : Thread Cert.FarReferenceIdeal.nD Cert.FarReferenceIdeal.τ).loc Cert.FarReferenceIdeal.main_arg1) = m' ((c.tc : Thread Cert.FarReferenceIdeal.nD Cert.FarReferenceIdeal.τ).loc Cert.FarReferenceIdeal.main_arg1))

def Claim : Prop :=
  ∃ (hKernel : Cert.Kernel.Facts) (hKernelIdeal : Cert.KernelIdeal.Facts) (hOutProject : Cert.OutProject.Facts) (hOutProjectIdeal : Cert.OutProjectIdeal.Facts) (hOutReferenceIdeal : Cert.OutReferenceIdeal.Facts) (hProject : Cert.Project.Facts) (hProjectIdeal : Cert.ProjectIdeal.Facts) (hProjectReferenceIdeal : Cert.ProjectReferenceIdeal.Facts) (hDilated : Cert.Dilated.Facts) (hDilatedIdeal : Cert.DilatedIdeal.Facts) (hDilatedReferenceIdeal : Cert.DilatedReferenceIdeal.Facts) (hSpread : Cert.Spread.Facts) (hSpreadIdeal : Cert.SpreadIdeal.Facts) (hSpreadReferenceIdeal : Cert.SpreadReferenceIdeal.Facts) (hLast : Cert.Last.Facts) (hLastIdeal : Cert.LastIdeal.Facts) (hLastReferenceIdeal : Cert.LastReferenceIdeal.Facts) (hFar : Cert.Far.Facts) (hFarIdeal : Cert.FarIdeal.Facts) (hFarReferenceIdeal : Cert.FarReferenceIdeal.Facts),
    quiescent_Kernel (hKernel := hKernel)
    ∧ quiescent_KernelIdeal (hKernelIdeal := hKernelIdeal)
    ∧ quiescent_OutProject (hOutProject := hOutProject)
    ∧ quiescent_OutProjectIdeal (hOutProjectIdeal := hOutProjectIdeal)
    ∧ quiescent_OutReferenceIdeal (hOutReferenceIdeal := hOutReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Dilated (hDilated := hDilated)
    ∧ quiescent_DilatedIdeal (hDilatedIdeal := hDilatedIdeal)
    ∧ quiescent_DilatedReferenceIdeal (hDilatedReferenceIdeal := hDilatedReferenceIdeal)
    ∧ quiescent_Spread (hSpread := hSpread)
    ∧ quiescent_SpreadIdeal (hSpreadIdeal := hSpreadIdeal)
    ∧ quiescent_SpreadReferenceIdeal (hSpreadReferenceIdeal := hSpreadReferenceIdeal)
    ∧ quiescent_Last (hLast := hLast)
    ∧ quiescent_LastIdeal (hLastIdeal := hLastIdeal)
    ∧ quiescent_LastReferenceIdeal (hLastReferenceIdeal := hLastReferenceIdeal)
    ∧ quiescent_Far (hFar := hFar)
    ∧ quiescent_FarIdeal (hFarIdeal := hFarIdeal)
    ∧ quiescent_FarReferenceIdeal (hFarReferenceIdeal := hFarReferenceIdeal)
    ∧ preserves_Kernel_KernelIdeal
    ∧ preserves_OutProject_OutProjectIdeal
    ∧ algebraic_OutProjectIdeal_OutReferenceIdeal (hOutProjectIdeal := hOutProjectIdeal) (hOutReferenceIdeal := hOutReferenceIdeal)
    ∧ preserves_Project_ProjectIdeal
    ∧ algebraic_ProjectIdeal_ProjectReferenceIdeal (hProjectIdeal := hProjectIdeal) (hProjectReferenceIdeal := hProjectReferenceIdeal)
    ∧ preserves_Dilated_DilatedIdeal
    ∧ algebraic_DilatedIdeal_DilatedReferenceIdeal (hDilatedIdeal := hDilatedIdeal) (hDilatedReferenceIdeal := hDilatedReferenceIdeal)
    ∧ preserves_Spread_SpreadIdeal
    ∧ algebraic_SpreadIdeal_SpreadReferenceIdeal (hSpreadIdeal := hSpreadIdeal) (hSpreadReferenceIdeal := hSpreadReferenceIdeal)
    ∧ preserves_Last_LastIdeal
    ∧ algebraic_LastIdeal_LastReferenceIdeal (hLastIdeal := hLastIdeal) (hLastReferenceIdeal := hLastReferenceIdeal)
    ∧ preserves_Far_FarIdeal
    ∧ algebraic_FarIdeal_FarReferenceIdeal (hFarIdeal := hFarIdeal) (hFarReferenceIdeal := hFarReferenceIdeal)
-- ==== Kernel.lean ====
abbrev S16384x13312 : Shape := ⟨2, ![16384, 13312]⟩
abbrev S16384x128 : Shape := ⟨2, ![16384, 128]⟩
abbrev S8x512x128 : Shape := ⟨3, ![8, 512, 128]⟩
abbrev S8x128x512 : Shape := ⟨3, ![8, 128, 512]⟩
abbrev S16384x512 : Shape := ⟨2, ![16384, 512]⟩
abbrev S1x16384x512 : Shape := ⟨3, ![1, 16384, 512]⟩
abbrev S2x16384x512 : Shape := ⟨3, ![2, 16384, 512]⟩
abbrev S2x2x64x128x4x128 : Shape := ⟨6, ![2, 2, 64, 128, 4, 128]⟩
abbrev S2x2x4x64x128x128 : Shape := ⟨6, ![2, 2, 4, 64, 128, 128]⟩
abbrev S2x8x64x128x128 : Shape := ⟨5, ![2, 8, 64, 128, 128]⟩
abbrev S_ : Shape := ⟨0, ![]⟩
abbrev S2x8x64x1x128 : Shape := ⟨5, ![2, 8, 64, 1, 128]⟩
abbrev S2x8x64x15x128 : Shape := ⟨5, ![2, 8, 64, 15, 128]⟩
abbrev S2x8x64x144x128 : Shape := ⟨5, ![2, 8, 64, 144, 128]⟩
abbrev S512 : Shape := ⟨1, ![512]⟩
abbrev S1x512 : Shape := ⟨2, ![1, 512]⟩
abbrev S128 : Shape := ⟨1, ![128]⟩
abbrev S128x1 : Shape := ⟨2, ![128, 1]⟩
abbrev S128x512 : Shape := ⟨2, ![128, 512]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S16384x2048 : Shape := ⟨2, ![16384, 2048]⟩
abbrev S512x512 : Shape := ⟨2, ![512, 512]⟩
abbrev S1x512x128 : Shape := ⟨3, ![1, 512, 128]⟩
abbrev S1x128x512 : Shape := ⟨3, ![1, 128, 512]⟩
abbrev S1x1x64x144x128 : Shape := ⟨5, ![1, 1, 64, 144, 128]⟩
abbrev S512x128 : Shape := ⟨2, ![512, 128]⟩
abbrev S4x128x128 : Shape := ⟨3, ![4, 128, 128]⟩
abbrev S128x128 : Shape := ⟨2, ![128, 128]⟩
abbrev S640x128 : Shape := ⟨2, ![640, 128]⟩
abbrev S1x1x1x128x128 : Shape := ⟨5, ![1, 1, 1, 128, 128]⟩
abbrev S128x640 : Shape := ⟨2, ![128, 640]⟩
abbrev S640x512 : Shape := ⟨2, ![640, 512]⟩
abbrev S256x128 : Shape := ⟨2, ![256, 128]⟩
abbrev S256x256 : Shape := ⟨2, ![256, 256]⟩
abbrev S1x256 : Shape := ⟨2, ![1, 256]⟩
abbrev S144x256 : Shape := ⟨2, ![144, 256]⟩
abbrev S1x1x1x144x128 : Shape := ⟨5, ![1, 1, 1, 144, 128]⟩
abbrev S144x128 : Shape := ⟨2, ![144, 128]⟩
abbrev S256 : Shape := ⟨1, ![256]⟩
abbrev S144x512 : Shape := ⟨2, ![144, 512]⟩
abbrev S1x128x128 : Shape := ⟨3, ![1, 128, 128]⟩
abbrev S1x1x128 : Shape := ⟨3, ![1, 1, 128]⟩

abbrev nBuf : Space → Nat
  | .hbm => 87
  | .vmem => 23
  | .smem => 0
  | _ => 0

abbrev bufTy : (tb : Table) → Fin (tcTables nBuf tb) → BufTy
  | .hbm, ⟨0, _⟩ => ⟨S16384x13312, .bf16⟩
  | .hbm, ⟨1, _⟩ => ⟨S16384x128, .f32⟩
  | .hbm, ⟨2, _⟩ => ⟨S8x512x128, .bf16⟩
  | .hbm, ⟨3, _⟩ => ⟨S8x128x512, .bf16⟩
  | .hbm, ⟨4, _⟩ => ⟨S16384x512, .bf16⟩
  | .hbm, ⟨5, _⟩ => ⟨S16384x512, .bf16⟩
  | .hbm, ⟨6, _⟩ => ⟨S1x16384x512, .bf16⟩
  | .hbm, ⟨7, _⟩ => ⟨S1x16384x512, .bf16⟩
  | .hbm, ⟨8, _⟩ => ⟨S2x16384x512, .bf16⟩
  | .hbm, ⟨9, _⟩ => ⟨S2x2x64x128x4x128, .bf16⟩
  | .hbm, ⟨10, _⟩ => ⟨S2x2x4x64x128x128, .bf16⟩
  | .hbm, ⟨11, _⟩ => ⟨S2x8x64x128x128, .bf16⟩
  | .hbm, ⟨12, _⟩ => ⟨S_, .bf16⟩
  | .hbm, ⟨13, _⟩ => ⟨S2x8x64x1x128, .bf16⟩
  | .hbm, ⟨14, _⟩ => ⟨S_, .bf16⟩
  | .hbm, ⟨15, _⟩ => ⟨S2x8x64x15x128, .bf16⟩
  | .hbm, ⟨16, _⟩ => ⟨S2x8x64x144x128, .bf16⟩
  | .hbm, ⟨17, _⟩ => ⟨S512, .i32⟩
  | .hbm, ⟨18, _⟩ => ⟨S1x512, .i32⟩
  | .hbm, ⟨19, _⟩ => ⟨S128, .i32⟩
  | .hbm, ⟨20, _⟩ => ⟨S128x1, .i32⟩
  | .hbm, ⟨21, _⟩ => ⟨S_, .i32⟩
  | .hbm, ⟨22, _⟩ => ⟨S1x512, .i32⟩
  | .hbm, ⟨23, _⟩ => ⟨S1x512, .i32⟩
  | .hbm, ⟨24, _⟩ => ⟨S_, .i32⟩
  | .hbm, ⟨25, _⟩ => ⟨S1x512, .i32⟩
  | .hbm, ⟨26, _⟩ => ⟨S1x512, .i32⟩
  | .hbm, ⟨27, _⟩ => ⟨S_, .i32⟩
  | .hbm, ⟨28, _⟩ => ⟨S1x512, .i32⟩
  | .hbm, ⟨29, _⟩ => ⟨S1x512, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x512, .i32⟩
  | .hbm, ⟨34, _⟩ => ⟨S128x512, .i32⟩
  | .hbm, ⟨35, _⟩ => ⟨S128x512, .i1⟩
  | .hbm, ⟨36, _⟩ => ⟨S_, .i32⟩
  | .hbm, ⟨37, _⟩ => ⟨S1x512, .i32⟩
  | .hbm, ⟨38, _⟩ => ⟨S1x512, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S128x512, .i32⟩
  | .hbm, ⟨46, _⟩ => ⟨S128x512, .i32⟩
  | .hbm, ⟨47, _⟩ => ⟨S128x512, .i1⟩
  | .hbm, ⟨48, _⟩ => ⟨S128x512, .i1⟩
  | .hbm, ⟨49, _⟩ => ⟨S_, .i32⟩
  | .hbm, ⟨50, _⟩ => ⟨S1x512, .i32⟩
  | .hbm, ⟨51, _⟩ => ⟨S1x512, .i1⟩
  | .hbm, ⟨52, _⟩ => ⟨S128x512, .i1⟩
  | .hbm, ⟨53, _⟩ => ⟨S128x512, .i1⟩
  | .hbm, ⟨54, _⟩ => ⟨S_, .i32⟩
  | .hbm, ⟨55, _⟩ => ⟨S128x1, .i32⟩
  | .hbm, ⟨56, _⟩ => ⟨S128x1, .i1⟩
  | .hbm, ⟨57, _⟩ => ⟨S128x512, .i1⟩
  | .hbm, ⟨58, _⟩ => ⟨S128x512, .i1⟩
  | .hbm, ⟨59, _⟩ => ⟨S8192, .i32⟩
  | .hbm, ⟨60, _⟩ => ⟨S8192x1, .i32⟩
  | .hbm, ⟨61, _⟩ => ⟨S_, .i32⟩
  | .hbm, ⟨62, _⟩ => ⟨S_, .i32⟩
  | .hbm, ⟨63, _⟩ => ⟨S8192x1, .i32⟩
  | .hbm, ⟨64, _⟩ => ⟨S8192x1, .i32⟩
  | .hbm, ⟨65, _⟩ => ⟨S8192x1, .i32⟩
  | .hbm, ⟨66, _⟩ => ⟨S_, .i32⟩
  | .hbm, ⟨67, _⟩ => ⟨S8192x1, .i32⟩
  | .hbm, ⟨68, _⟩ => ⟨S8192x1, .i1⟩
  | .hbm, ⟨69, _⟩ => ⟨S8192x1, .i32⟩
  | .hbm, ⟨70, _⟩ => ⟨S8192x1, .i32⟩
  | .hbm, ⟨71, _⟩ => ⟨S_, .i32⟩
  | .hbm, ⟨72, _⟩ => ⟨S8192x1, .i32⟩
  | .hbm, ⟨73, _⟩ => ⟨S8192x1, .i1⟩
  | .hbm, ⟨74, _⟩ => ⟨S8192x1, .i1⟩
  | .hbm, ⟨75, _⟩ => ⟨S_, .i32⟩
  | .hbm, ⟨76, _⟩ => ⟨S8192x1, .i32⟩
  | .hbm, ⟨77, _⟩ => ⟨S8192x1, .i32⟩
  | .hbm, ⟨78, _⟩ => ⟨S8192x1, .i32⟩
  | .hbm, ⟨79, _⟩ => ⟨S128, .i32⟩
  | .hbm, ⟨80, _⟩ => ⟨S1x128, .i32⟩
  | .hbm, ⟨81, _⟩ => ⟨S8192x128, .i32⟩
  | .hbm, ⟨82, _⟩ => ⟨S8192x128, .i32⟩
  | .hbm, ⟨83, _⟩ => ⟨S8192x128, .i1⟩
  | .hbm, ⟨84, _⟩ => ⟨S128x512, .bf16⟩
  | .hbm, ⟨85, _⟩ => ⟨S8192x128, .bf16⟩
  | .hbm, ⟨86, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S1x512x128, .bf16⟩
  | .local _ .vmem, ⟨3, _⟩ => ⟨S1x512x128, .bf16⟩
  | .local _ .vmem, ⟨4, _⟩ => ⟨S1x128x512, .bf16⟩
  | .local _ .vmem, ⟨5, _⟩ => ⟨S1x128x512, .bf16⟩
  | .local _ .vmem, ⟨6, _⟩ => ⟨S8192x128, .bf16⟩
  | .local _ .vmem, ⟨7, _⟩ => ⟨S8192x128, .bf16⟩
  | .local _ .vmem, ⟨8, _⟩ => ⟨S1x1x64x144x128, .bf16⟩
  | .local _ .vmem, ⟨9, _⟩ => ⟨S1x1x64x144x128, .bf16⟩
  | .local _ .vmem, ⟨10, _⟩ => ⟨S8192x128, .bf16⟩
  | .local _ .vmem, ⟨11, _⟩ => ⟨S8192x128, .bf16⟩
  | .local _ .vmem, ⟨12, _⟩ => ⟨S1x1x64x144x128, .bf16⟩
  | .local _ .vmem, ⟨13, _⟩ => ⟨S1x1x64x144x128, .bf16⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S128x512, .bf16⟩
  | .local _ .vmem, ⟨19, _⟩ => ⟨S8192x128, .bf16⟩
  | .local _ .vmem, ⟨20, _⟩ => ⟨S512x512, .bf16⟩
  | .local _ .vmem, ⟨21, _⟩ => ⟨S512x512, .bf16⟩
  | .local _ .vmem, ⟨22, _⟩ => ⟨S4x128x128, .f32⟩
  | _, _ => ⟨S16384x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c4_i32_26 : BitVec 32 := 4#32
  let v92 : BitVec 32 := Scalar.subi v1 c4_i32_26
  let c0_i32_27 : BitVec 32 := 0#32
  let v93 : BitVec 32 := Scalar.maxsi v92 c0_i32_27
  let c128_i32_28 : BitVec 32 := 128#32
  let v94 : BitVec 32 := Scalar.muli v93 c128_i32_28
  v94
def k0_off1 (i : grid0.Coords) (c0_i32 : BitVec 32) : Fin 2 → Nat :=
  let arg2 : BitVec 32 := BitVec.ofNat 32 (i 2).val
  let c4_i32 : BitVec 32 := 4#32
  let v0 : BitVec 32 := Scalar.muli arg2 c4_i32
  let v1 : BitVec 32 := Scalar.addi v0 c0_i32
  let c4_i32_26 : BitVec 32 := 4#32
  let v92 : BitVec 32 := Scalar.subi v1 c4_i32_26
  let c0_i32_27 : BitVec 32 := 0#32
  let v93 : BitVec 32 := Scalar.maxsi v92 c0_i32_27
  let c128_i32_28 : BitVec 32 := 128#32
  let v94 : BitVec 32 := Scalar.muli v93 c128_i32_28
  let v95 : BitVec 32 := v94
  let v96 : Index := Scalar.indexCast v95
  let c0_29 : Index := 0#32
  ![v96.toNat, 0]
def k0_off2 (i : grid0.Coords) (c0_i32 : BitVec 32) (c0_i32_30 : BitVec 32) : Fin 5 → Nat :=
  let c0_31 : Index := 0#32
  let c0_32 : Index := 0#32
  let arg2 : BitVec 32 := BitVec.ofNat 32 (i 2).val
  let c4_i32 : BitVec 32 := 4#32
  let v0 : BitVec 32 := Scalar.muli arg2 c4_i32
  let v1 : BitVec 32 := Scalar.addi v0 c0_i32
  let c4_i32_26 : BitVec 32 := 4#32
  let v92 : BitVec 32 := Scalar.subi v1 c4_i32_26
  let c0_i32_27 : BitVec 32 := 0#32
  let v93 : BitVec 32 := Scalar.maxsi v92 c0_i32_27
  let v98 : BitVec 32 := Scalar.addi v93 c0_i32_30
  let v99 : Index := Scalar.indexCast v98
  let c0_33 : Index := 0#32
  let c0_34 : Index := 0#32
  ![0, 0, v99.toNat, 0, 0]
def k0_mult2 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c4_i32_182 : BitVec 32 := 4#32
  let v487 : BitVec 32 := Scalar.subi v396 c4_i32_182
  let c0_i32_183 : BitVec 32 := 0#32
  let v488 : BitVec 32 := Scalar.maxsi v487 c0_i32_183
  let c128_i32_184 : BitVec 32 := 128#32
  let v489 : BitVec 32 := Scalar.muli v488 c128_i32_184
  v489
def k0_mult3 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c4_i32_341 : BitVec 32 := 4#32
  let v882 : BitVec 32 := Scalar.subi v791 c4_i32_341
  let c0_i32_342 : BitVec 32 := 0#32
  let v883 : BitVec 32 := Scalar.maxsi v882 c0_i32_342
  let c128_i32_343 : BitVec 32 := 128#32
  let v884 : BitVec 32 := Scalar.muli v883 c128_i32_343
  v884
def k0_mult4 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c4_i32_500 : BitVec 32 := 4#32
  let v1277 : BitVec 32 := Scalar.subi v1186 c4_i32_500
  let c0_i32_501 : BitVec 32 := 0#32
  let v1278 : BitVec 32 := Scalar.maxsi v1277 c0_i32_501
  let c128_i32_502 : BitVec 32 := 128#32
  let v1279 : BitVec 32 := Scalar.muli v1278 c128_i32_502
  v1279
@[reducible] def k0_t1_loop (i : grid0.Coords) : Scf.Loop 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_650 : BitVec 32 := 1#32
  ⟨c0_i32_648, v1632, c1_i32_650⟩
def k0_mult5 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  v2562
def k0_mult6 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c0_i32_1089 : BitVec 32 := 0#32
  let v2564 : BitVec 32 := Scalar.addi v2563 c0_i32_1089
  v2564
def k0_off3 (i : grid0.Coords) (k0_t1 : Fin (k0_t1_loop i).trips) (c0_i32_1087 : BitVec 32) (c0_i32_1089 : BitVec 32) : Fin 2 → Nat :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let v2561 : BitVec 32 := Scalar.addi v2560 c0_i32_1087
  let c512_i32_1088 : BitVec 32 := 512#32
  let v2562 : BitVec 32 := Scalar.muli v2561 c512_i32_1088
  let v2563 : BitVec 32 := v2562
  let v2564 : BitVec 32 := Scalar.addi v2563 c0_i32_1089
  let v2565 : BitVec 32 := v2564
  let v2566 : Index := Scalar.indexCast v2565
  let c0_1090 : Index := 0#32
  ![v2566.toNat, 0]
def k0_mult7 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c256_i32 : BitVec 32 := 256#32
  let v2573 : BitVec 32 := Scalar.addi v2563 c256_i32
  v2573
def k0_mult8 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  v2583
def k0_mult9 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c0_i32_1098 : BitVec 32 := 0#32
  let v2585 : BitVec 32 := Scalar.addi v2584 c0_i32_1098
  v2585
def k0_mult10 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c256_i32_1102 : BitVec 32 := 256#32
  let v2594 : BitVec 32 := Scalar.addi v2584 c256_i32_1102
  v2594
def k0_mult11 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  v2604
def k0_mult12 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c0_i32_1108 : BitVec 32 := 0#32
  let v2606 : BitVec 32 := Scalar.addi v2605 c0_i32_1108
  v2606
def k0_mult13 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c256_i32_1112 : BitVec 32 := 256#32
  let v2615 : BitVec 32 := Scalar.addi v2605 c256_i32_1112
  v2615
def k0_mult14 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  v2625
def k0_mult15 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c0_i32_1118 : BitVec 32 := 0#32
  let v2627 : BitVec 32 := Scalar.addi v2626 c0_i32_1118
  v2627
def k0_mult16 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c256_i32_1122 : BitVec 32 := 256#32
  let v2636 : BitVec 32 := Scalar.addi v2626 c256_i32_1122
  v2636
def k0_mult17 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  v2646
def k0_mult18 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c0_i32_1128 : BitVec 32 := 0#32
  let v2648 : BitVec 32 := Scalar.addi v2647 c0_i32_1128
  v2648
def k0_mult19 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c256_i32_1132 : BitVec 32 := 256#32
  let v2657 : BitVec 32 := Scalar.addi v2647 c256_i32_1132
  v2657
def k0_mult20 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  v2667
def k0_mult21 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c0_i32_1138 : BitVec 32 := 0#32
  let v2669 : BitVec 32 := Scalar.addi v2668 c0_i32_1138
  v2669
def k0_mult22 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c256_i32_1142 : BitVec 32 := 256#32
  let v2678 : BitVec 32 := Scalar.addi v2668 c256_i32_1142
  v2678
def k0_mult23 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  v2688
def k0_mult24 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c0_i32_1148 : BitVec 32 := 0#32
  let v2690 : BitVec 32 := Scalar.addi v2689 c0_i32_1148
  v2690
def k0_mult25 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c256_i32_1152 : BitVec 32 := 256#32
  let v2699 : BitVec 32 := Scalar.addi v2689 c256_i32_1152
  v2699
def k0_mult26 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  v2709
def k0_mult27 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c0_i32_1158 : BitVec 32 := 0#32
  let v2711 : BitVec 32 := Scalar.addi v2710 c0_i32_1158
  v2711
def k0_mult28 (i : grid0.Coords) (k0_t1 : Fin (k0_t1_loop i).trips) : BitVec 32 :=
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c256_i32_1162 : BitVec 32 := 256#32
  let v2720 : BitVec 32 := Scalar.addi v2710 c256_i32_1162
  v2720
def k0_off4 (i : grid0.Coords) (k0_t1 : Fin (k0_t1_loop i).trips) (c0_i32_1166 : BitVec 32) (c0_i32_1168 : BitVec 32) (c0_i32_1169 : BitVec 32) : Fin 5 → Nat :=
  let c0_1170 : Index := 0#32
  let c0_1171 : Index := 0#32
  let c0_i32_648 : BitVec 32 := 0#32
  let c1_i32_650 : BitVec 32 := 1#32
  let arg16 : BitVec 32 := Scf.iv c0_i32_648 c1_i32_650 k0_t1
  let c4_i32_1086 : BitVec 32 := 4#32
  let v2560 : BitVec 32 := Scalar.muli arg16 c4_i32_1086
  let v2729 : BitVec 32 := Scalar.addi v2560 c0_i32_1166
  let c4_i32_1167 : BitVec 32 := 4#32
  let v2730 : BitVec 32 := Scalar.muli v2729 c4_i32_1167
  let v2731 : BitVec 32 := Scalar.addi v2730 c0_i32_1168
  let v2732 : BitVec 32 := Scalar.addi v2731 c0_i32_1169
  let v2733 : Index := Scalar.indexCast v2732
  let c0_1172 : Index := 0#32
  let c0_1173 : Index := 0#32
  ![0, 0, v2733.toNat, 0, 0]
@[reducible] def k0_t2_loop (i : grid0.Coords) : Scf.Loop 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let v1629 : BitVec 32 := Scalar.addi c0_i32_648 v1628
  let c1_i32_651 : BitVec 32 := 1#32
  ⟨v1632, v1629, c1_i32_651⟩
def k0_mult29 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  v2562
def k0_mult30 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c0_i32_1089 : BitVec 32 := 0#32
  let v2564 : BitVec 32 := Scalar.addi v2563 c0_i32_1089
  v2564
def k0_off5 (i : grid0.Coords) (k0_t2 : Fin (k0_t2_loop i).trips) (c0_i32_1087 : BitVec 32) (c0_i32_1089 : BitVec 32) : Fin 2 → Nat :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let v2561 : BitVec 32 := Scalar.addi v2560 c0_i32_1087
  let c512_i32_1088 : BitVec 32 := 512#32
  let v2562 : BitVec 32 := Scalar.muli v2561 c512_i32_1088
  let v2563 : BitVec 32 := v2562
  let v2564 : BitVec 32 := Scalar.addi v2563 c0_i32_1089
  let v2565 : BitVec 32 := v2564
  let v2566 : Index := Scalar.indexCast v2565
  let c0_1090 : Index := 0#32
  ![v2566.toNat, 0]
def k0_mult31 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c256_i32 : BitVec 32 := 256#32
  let v2573 : BitVec 32 := Scalar.addi v2563 c256_i32
  v2573
def k0_mult32 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  v2583
def k0_mult33 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c0_i32_1098 : BitVec 32 := 0#32
  let v2585 : BitVec 32 := Scalar.addi v2584 c0_i32_1098
  v2585
def k0_mult34 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c256_i32_1102 : BitVec 32 := 256#32
  let v2594 : BitVec 32 := Scalar.addi v2584 c256_i32_1102
  v2594
def k0_mult35 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  v2604
def k0_mult36 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c0_i32_1108 : BitVec 32 := 0#32
  let v2606 : BitVec 32 := Scalar.addi v2605 c0_i32_1108
  v2606
def k0_mult37 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c256_i32_1112 : BitVec 32 := 256#32
  let v2615 : BitVec 32 := Scalar.addi v2605 c256_i32_1112
  v2615
def k0_mult38 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  v2625
def k0_mult39 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c0_i32_1118 : BitVec 32 := 0#32
  let v2627 : BitVec 32 := Scalar.addi v2626 c0_i32_1118
  v2627
def k0_mult40 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c256_i32_1122 : BitVec 32 := 256#32
  let v2636 : BitVec 32 := Scalar.addi v2626 c256_i32_1122
  v2636
def k0_mult41 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  v2646
def k0_mult42 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c0_i32_1128 : BitVec 32 := 0#32
  let v2648 : BitVec 32 := Scalar.addi v2647 c0_i32_1128
  v2648
def k0_mult43 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c256_i32_1132 : BitVec 32 := 256#32
  let v2657 : BitVec 32 := Scalar.addi v2647 c256_i32_1132
  v2657
def k0_mult44 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  v2667
def k0_mult45 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c0_i32_1138 : BitVec 32 := 0#32
  let v2669 : BitVec 32 := Scalar.addi v2668 c0_i32_1138
  v2669
def k0_mult46 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c256_i32_1142 : BitVec 32 := 256#32
  let v2678 : BitVec 32 := Scalar.addi v2668 c256_i32_1142
  v2678
def k0_mult47 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  v2688
def k0_mult48 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c0_i32_1148 : BitVec 32 := 0#32
  let v2690 : BitVec 32 := Scalar.addi v2689 c0_i32_1148
  v2690
def k0_mult49 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c256_i32_1152 : BitVec 32 := 256#32
  let v2699 : BitVec 32 := Scalar.addi v2689 c256_i32_1152
  v2699
def k0_mult50 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  v2709
def k0_mult51 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c0_i32_1158 : BitVec 32 := 0#32
  let v2711 : BitVec 32 := Scalar.addi v2710 c0_i32_1158
  v2711
def k0_mult52 (i : grid0.Coords) (k0_t2 : Fin (k0_t2_loop i).trips) : BitVec 32 :=
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c256_i32_1162 : BitVec 32 := 256#32
  let v2720 : BitVec 32 := Scalar.addi v2710 c256_i32_1162
  v2720
def k0_off6 (i : grid0.Coords) (k0_t2 : Fin (k0_t2_loop i).trips) (c0_i32_1166 : BitVec 32) (c0_i32_1168 : BitVec 32) (c0_i32_1169 : BitVec 32) : Fin 5 → Nat :=
  let c0_1170 : Index := 0#32
  let c0_1171 : Index := 0#32
  let c0_i32_648 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let v1628 : BitVec 32 := Scalar.subi v1621 c0_i32_648
  let c1_i32_649 : BitVec 32 := 1#32
  let v1630 : BitVec 32 := Scalar.divsi v1628 c1_i32_649
  let v1631 : BitVec 32 := Scalar.muli v1630 c1_i32_649
  let v1632 : BitVec 32 := Scalar.addi c0_i32_648 v1631
  let c1_i32_651 : BitVec 32 := 1#32
  let arg16 : BitVec 32 := Scf.iv v1632 c1_i32_651 k0_t2
  let c4_i32_1086 : BitVec 32 := 4#32
  let v2560 : BitVec 32 := Scalar.muli arg16 c4_i32_1086
  let v2729 : BitVec 32 := Scalar.addi v2560 c0_i32_1166
  let c4_i32_1167 : BitVec 32 := 4#32
  let v2730 : BitVec 32 := Scalar.muli v2729 c4_i32_1167
  let v2731 : BitVec 32 := Scalar.addi v2730 c0_i32_1168
  let v2732 : BitVec 32 := Scalar.addi v2731 c0_i32_1169
  let v2733 : Index := Scalar.indexCast v2732
  let c0_1172 : Index := 0#32
  let c0_1173 : Index := 0#32
  ![0, 0, v2733.toNat, 0, 0]
def k0_cond1 (i : grid0.Coords) : BitVec 1 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_643 : BitVec 32 := 4#32
  let v1622 : BitVec 32 := Scalar.muli v1621 c4_i32_643
  let v1623 : BitVec 32 := Scalar.subi v1603 v1622
  let c1_i32_656 : BitVec 32 := 1#32
  let v1639 : BitVec 32 := Scalar.subi v1623 c1_i32_656
  let c0_i32_657 : BitVec 32 := 0#32
  let v1640 : BitVec 32 := Scalar.maxsi v1639 c0_i32_657
  let c3_i32_658 : BitVec 32 := 3#32
  let v1641 : BitVec 32 := Scalar.minsi v1640 c3_i32_658
  let c0_i32_659 : BitVec 32 := 0#32
  let v1642 : BitVec 1 := Scalar.cmpi .ne v1641 c0_i32_659
  v1642

def k0_cond2 (i : grid0.Coords) : BitVec 1 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_643 : BitVec 32 := 4#32
  let v1622 : BitVec 32 := Scalar.muli v1621 c4_i32_643
  let v1623 : BitVec 32 := Scalar.subi v1603 v1622
  let c1_i32_656 : BitVec 32 := 1#32
  let v1639 : BitVec 32 := Scalar.subi v1623 c1_i32_656
  let c0_i32_657 : BitVec 32 := 0#32
  let v1640 : BitVec 32 := Scalar.maxsi v1639 c0_i32_657
  let c3_i32_658 : BitVec 32 := 3#32
  let v1641 : BitVec 32 := Scalar.minsi v1640 c3_i32_658
  let c1_i32_1086 : BitVec 32 := 1#32
  let v2560 : BitVec 32 := Scalar.subi v1641 c1_i32_1086
  let c0_i32_1087 : BitVec 32 := 0#32
  let v2561 : BitVec 1 := Scalar.cmpi .ne v2560 c0_i32_1087
  v2561

def k0_cond3 (i : grid0.Coords) : BitVec 1 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_643 : BitVec 32 := 4#32
  let v1622 : BitVec 32 := Scalar.muli v1621 c4_i32_643
  let v1623 : BitVec 32 := Scalar.subi v1603 v1622
  let c1_i32_656 : BitVec 32 := 1#32
  let v1639 : BitVec 32 := Scalar.subi v1623 c1_i32_656
  let c0_i32_657 : BitVec 32 := 0#32
  let v1640 : BitVec 32 := Scalar.maxsi v1639 c0_i32_657
  let c3_i32_658 : BitVec 32 := 3#32
  let v1641 : BitVec 32 := Scalar.minsi v1640 c3_i32_658
  let c1_i32_1086 : BitVec 32 := 1#32
  let v2560 : BitVec 32 := Scalar.subi v1641 c1_i32_1086
  let c1_i32_1088 : BitVec 32 := 1#32
  let v2563 : BitVec 32 := Scalar.subi v2560 c1_i32_1088
  let c0_i32_1089 : BitVec 32 := 0#32
  let v2564 : BitVec 1 := Scalar.cmpi .ne v2563 c0_i32_1089
  v2564

def k0_mult53 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c0_i32_1090 : BitVec 32 := 0#32
  let v2566 : BitVec 32 := Scalar.addi v1638 c0_i32_1090
  let c512_i32_1091 : BitVec 32 := 512#32
  let v2567 : BitVec 32 := Scalar.muli v2566 c512_i32_1091
  v2567
def k0_mult54 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c0_i32_1090 : BitVec 32 := 0#32
  let v2566 : BitVec 32 := Scalar.addi v1638 c0_i32_1090
  let c512_i32_1091 : BitVec 32 := 512#32
  let v2567 : BitVec 32 := Scalar.muli v2566 c512_i32_1091
  let v2568 : BitVec 32 := v2567
  let c0_i32_1092 : BitVec 32 := 0#32
  let v2569 : BitVec 32 := Scalar.addi v2568 c0_i32_1092
  v2569
def k0_off7 (i : grid0.Coords) (c0_i32_1090 : BitVec 32) (c0_i32_1092 : BitVec 32) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let v2566 : BitVec 32 := Scalar.addi v1638 c0_i32_1090
  let c512_i32_1091 : BitVec 32 := 512#32
  let v2567 : BitVec 32 := Scalar.muli v2566 c512_i32_1091
  let v2568 : BitVec 32 := v2567
  let v2569 : BitVec 32 := Scalar.addi v2568 c0_i32_1092
  let v2570 : BitVec 32 := v2569
  let v2571 : Index := Scalar.indexCast v2570
  let c0_1093 : Index := 0#32
  ![v2571.toNat, 0]
def k0_mult55 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c0_i32_1090 : BitVec 32 := 0#32
  let v2566 : BitVec 32 := Scalar.addi v1638 c0_i32_1090
  let c512_i32_1091 : BitVec 32 := 512#32
  let v2567 : BitVec 32 := Scalar.muli v2566 c512_i32_1091
  let v2568 : BitVec 32 := v2567
  let c256_i32 : BitVec 32 := 256#32
  let v2578 : BitVec 32 := Scalar.addi v2568 c256_i32
  v2578
def k0_mult56 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c1_i32_1099 : BitVec 32 := 1#32
  let v2587 : BitVec 32 := Scalar.addi v1638 c1_i32_1099
  let c512_i32_1100 : BitVec 32 := 512#32
  let v2588 : BitVec 32 := Scalar.muli v2587 c512_i32_1100
  v2588
def k0_mult57 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c1_i32_1099 : BitVec 32 := 1#32
  let v2587 : BitVec 32 := Scalar.addi v1638 c1_i32_1099
  let c512_i32_1100 : BitVec 32 := 512#32
  let v2588 : BitVec 32 := Scalar.muli v2587 c512_i32_1100
  let v2589 : BitVec 32 := v2588
  let c0_i32_1101 : BitVec 32 := 0#32
  let v2590 : BitVec 32 := Scalar.addi v2589 c0_i32_1101
  v2590
def k0_mult58 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c1_i32_1099 : BitVec 32 := 1#32
  let v2587 : BitVec 32 := Scalar.addi v1638 c1_i32_1099
  let c512_i32_1100 : BitVec 32 := 512#32
  let v2588 : BitVec 32 := Scalar.muli v2587 c512_i32_1100
  let v2589 : BitVec 32 := v2588
  let c256_i32_1105 : BitVec 32 := 256#32
  let v2599 : BitVec 32 := Scalar.addi v2589 c256_i32_1105
  v2599
def k0_mult59 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c2_i32_1109 : BitVec 32 := 2#32
  let v2608 : BitVec 32 := Scalar.addi v1638 c2_i32_1109
  let c512_i32_1110 : BitVec 32 := 512#32
  let v2609 : BitVec 32 := Scalar.muli v2608 c512_i32_1110
  v2609
def k0_mult60 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c2_i32_1109 : BitVec 32 := 2#32
  let v2608 : BitVec 32 := Scalar.addi v1638 c2_i32_1109
  let c512_i32_1110 : BitVec 32 := 512#32
  let v2609 : BitVec 32 := Scalar.muli v2608 c512_i32_1110
  let v2610 : BitVec 32 := v2609
  let c0_i32_1111 : BitVec 32 := 0#32
  let v2611 : BitVec 32 := Scalar.addi v2610 c0_i32_1111
  v2611
def k0_mult61 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c2_i32_1109 : BitVec 32 := 2#32
  let v2608 : BitVec 32 := Scalar.addi v1638 c2_i32_1109
  let c512_i32_1110 : BitVec 32 := 512#32
  let v2609 : BitVec 32 := Scalar.muli v2608 c512_i32_1110
  let v2610 : BitVec 32 := v2609
  let c256_i32_1115 : BitVec 32 := 256#32
  let v2620 : BitVec 32 := Scalar.addi v2610 c256_i32_1115
  v2620
def k0_mult62 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c3_i32_1119 : BitVec 32 := 3#32
  let v2629 : BitVec 32 := Scalar.addi v1638 c3_i32_1119
  let c512_i32_1120 : BitVec 32 := 512#32
  let v2630 : BitVec 32 := Scalar.muli v2629 c512_i32_1120
  v2630
def k0_mult63 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c3_i32_1119 : BitVec 32 := 3#32
  let v2629 : BitVec 32 := Scalar.addi v1638 c3_i32_1119
  let c512_i32_1120 : BitVec 32 := 512#32
  let v2630 : BitVec 32 := Scalar.muli v2629 c512_i32_1120
  let v2631 : BitVec 32 := v2630
  let c0_i32_1121 : BitVec 32 := 0#32
  let v2632 : BitVec 32 := Scalar.addi v2631 c0_i32_1121
  v2632
def k0_mult64 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c3_i32_1119 : BitVec 32 := 3#32
  let v2629 : BitVec 32 := Scalar.addi v1638 c3_i32_1119
  let c512_i32_1120 : BitVec 32 := 512#32
  let v2630 : BitVec 32 := Scalar.muli v2629 c512_i32_1120
  let v2631 : BitVec 32 := v2630
  let c256_i32_1127 : BitVec 32 := 256#32
  let v2649 : BitVec 32 := Scalar.addi v2631 c256_i32_1127
  v2649
def k0_mult65 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c0_i32_1133 : BitVec 32 := 0#32
  let v2666 : BitVec 32 := Scalar.addi v1638 c0_i32_1133
  let c512_i32_1134 : BitVec 32 := 512#32
  let v2667 : BitVec 32 := Scalar.muli v2666 c512_i32_1134
  v2667
def k0_mult66 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c0_i32_1133 : BitVec 32 := 0#32
  let v2666 : BitVec 32 := Scalar.addi v1638 c0_i32_1133
  let c512_i32_1134 : BitVec 32 := 512#32
  let v2667 : BitVec 32 := Scalar.muli v2666 c512_i32_1134
  let v2668 : BitVec 32 := v2667
  let c0_i32_1135 : BitVec 32 := 0#32
  let v2669 : BitVec 32 := Scalar.addi v2668 c0_i32_1135
  v2669
def k0_mult67 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c0_i32_1133 : BitVec 32 := 0#32
  let v2666 : BitVec 32 := Scalar.addi v1638 c0_i32_1133
  let c512_i32_1134 : BitVec 32 := 512#32
  let v2667 : BitVec 32 := Scalar.muli v2666 c512_i32_1134
  let v2668 : BitVec 32 := v2667
  let c256_i32_1139 : BitVec 32 := 256#32
  let v2678 : BitVec 32 := Scalar.addi v2668 c256_i32_1139
  v2678
def k0_mult68 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c1_i32_1143 : BitVec 32 := 1#32
  let v2687 : BitVec 32 := Scalar.addi v1638 c1_i32_1143
  let c512_i32_1144 : BitVec 32 := 512#32
  let v2688 : BitVec 32 := Scalar.muli v2687 c512_i32_1144
  v2688
def k0_mult69 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c1_i32_1143 : BitVec 32 := 1#32
  let v2687 : BitVec 32 := Scalar.addi v1638 c1_i32_1143
  let c512_i32_1144 : BitVec 32 := 512#32
  let v2688 : BitVec 32 := Scalar.muli v2687 c512_i32_1144
  let v2689 : BitVec 32 := v2688
  let c0_i32_1145 : BitVec 32 := 0#32
  let v2690 : BitVec 32 := Scalar.addi v2689 c0_i32_1145
  v2690
def k0_mult70 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c1_i32_1143 : BitVec 32 := 1#32
  let v2687 : BitVec 32 := Scalar.addi v1638 c1_i32_1143
  let c512_i32_1144 : BitVec 32 := 512#32
  let v2688 : BitVec 32 := Scalar.muli v2687 c512_i32_1144
  let v2689 : BitVec 32 := v2688
  let c256_i32_1149 : BitVec 32 := 256#32
  let v2699 : BitVec 32 := Scalar.addi v2689 c256_i32_1149
  v2699
def k0_mult71 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c2_i32_1153 : BitVec 32 := 2#32
  let v2708 : BitVec 32 := Scalar.addi v1638 c2_i32_1153
  let c512_i32_1154 : BitVec 32 := 512#32
  let v2709 : BitVec 32 := Scalar.muli v2708 c512_i32_1154
  v2709
def k0_mult72 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c2_i32_1153 : BitVec 32 := 2#32
  let v2708 : BitVec 32 := Scalar.addi v1638 c2_i32_1153
  let c512_i32_1154 : BitVec 32 := 512#32
  let v2709 : BitVec 32 := Scalar.muli v2708 c512_i32_1154
  let v2710 : BitVec 32 := v2709
  let c0_i32_1155 : BitVec 32 := 0#32
  let v2711 : BitVec 32 := Scalar.addi v2710 c0_i32_1155
  v2711
def k0_mult73 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c2_i32_1153 : BitVec 32 := 2#32
  let v2708 : BitVec 32 := Scalar.addi v1638 c2_i32_1153
  let c512_i32_1154 : BitVec 32 := 512#32
  let v2709 : BitVec 32 := Scalar.muli v2708 c512_i32_1154
  let v2710 : BitVec 32 := v2709
  let c256_i32_1159 : BitVec 32 := 256#32
  let v2720 : BitVec 32 := Scalar.addi v2710 c256_i32_1159
  v2720
def k0_mult74 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c3_i32_1163 : BitVec 32 := 3#32
  let v2729 : BitVec 32 := Scalar.addi v1638 c3_i32_1163
  let c512_i32_1164 : BitVec 32 := 512#32
  let v2730 : BitVec 32 := Scalar.muli v2729 c512_i32_1164
  v2730
def k0_mult75 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c3_i32_1163 : BitVec 32 := 3#32
  let v2729 : BitVec 32 := Scalar.addi v1638 c3_i32_1163
  let c512_i32_1164 : BitVec 32 := 512#32
  let v2730 : BitVec 32 := Scalar.muli v2729 c512_i32_1164
  let v2731 : BitVec 32 := v2730
  let c0_i32_1165 : BitVec 32 := 0#32
  let v2732 : BitVec 32 := Scalar.addi v2731 c0_i32_1165
  v2732
def k0_mult76 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let c3_i32_1163 : BitVec 32 := 3#32
  let v2729 : BitVec 32 := Scalar.addi v1638 c3_i32_1163
  let c512_i32_1164 : BitVec 32 := 512#32
  let v2730 : BitVec 32 := Scalar.muli v2729 c512_i32_1164
  let v2731 : BitVec 32 := v2730
  let c256_i32_1171 : BitVec 32 := 256#32
  let v2749 : BitVec 32 := Scalar.addi v2731 c256_i32_1171
  v2749
def k0_off8 (i : grid0.Coords) (c0_i32_1177 : BitVec 32) (c0_i32_1179 : BitVec 32) (c0_i32_1180 : BitVec 32) : Fin 5 → Nat :=
  let c0_1181 : Index := 0#32
  let c0_1182 : Index := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_655 : BitVec 32 := 4#32
  let v1638 : BitVec 32 := Scalar.muli v1621 c4_i32_655
  let v2766 : BitVec 32 := Scalar.addi v1638 c0_i32_1177
  let c4_i32_1178 : BitVec 32 := 4#32
  let v2767 : BitVec 32 := Scalar.muli v2766 c4_i32_1178
  let v2768 : BitVec 32 := Scalar.addi v2767 c0_i32_1179
  let v2769 : BitVec 32 := Scalar.addi v2768 c0_i32_1180
  let v2770 : Index := Scalar.indexCast v2769
  let c0_1183 : Index := 0#32
  let c0_1184 : Index := 0#32
  ![0, 0, v2770.toNat, 0, 0]
def k0_mult77 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c0_i32_1090 : BitVec 32 := 0#32
  let v2566 : BitVec 32 := Scalar.addi v1637 c0_i32_1090
  let c512_i32_1091 : BitVec 32 := 512#32
  let v2567 : BitVec 32 := Scalar.muli v2566 c512_i32_1091
  v2567
def k0_mult78 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c0_i32_1090 : BitVec 32 := 0#32
  let v2566 : BitVec 32 := Scalar.addi v1637 c0_i32_1090
  let c512_i32_1091 : BitVec 32 := 512#32
  let v2567 : BitVec 32 := Scalar.muli v2566 c512_i32_1091
  let v2568 : BitVec 32 := v2567
  let c0_i32_1092 : BitVec 32 := 0#32
  let v2569 : BitVec 32 := Scalar.addi v2568 c0_i32_1092
  v2569
def k0_off9 (i : grid0.Coords) (c0_i32_1090 : BitVec 32) (c0_i32_1092 : BitVec 32) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let v2566 : BitVec 32 := Scalar.addi v1637 c0_i32_1090
  let c512_i32_1091 : BitVec 32 := 512#32
  let v2567 : BitVec 32 := Scalar.muli v2566 c512_i32_1091
  let v2568 : BitVec 32 := v2567
  let v2569 : BitVec 32 := Scalar.addi v2568 c0_i32_1092
  let v2570 : BitVec 32 := v2569
  let v2571 : Index := Scalar.indexCast v2570
  let c0_1093 : Index := 0#32
  ![v2571.toNat, 0]
def k0_mult79 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c0_i32_1090 : BitVec 32 := 0#32
  let v2566 : BitVec 32 := Scalar.addi v1637 c0_i32_1090
  let c512_i32_1091 : BitVec 32 := 512#32
  let v2567 : BitVec 32 := Scalar.muli v2566 c512_i32_1091
  let v2568 : BitVec 32 := v2567
  let c256_i32 : BitVec 32 := 256#32
  let v2578 : BitVec 32 := Scalar.addi v2568 c256_i32
  v2578
def k0_mult80 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c1_i32_1099 : BitVec 32 := 1#32
  let v2587 : BitVec 32 := Scalar.addi v1637 c1_i32_1099
  let c512_i32_1100 : BitVec 32 := 512#32
  let v2588 : BitVec 32 := Scalar.muli v2587 c512_i32_1100
  v2588
def k0_mult81 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c1_i32_1099 : BitVec 32 := 1#32
  let v2587 : BitVec 32 := Scalar.addi v1637 c1_i32_1099
  let c512_i32_1100 : BitVec 32 := 512#32
  let v2588 : BitVec 32 := Scalar.muli v2587 c512_i32_1100
  let v2589 : BitVec 32 := v2588
  let c0_i32_1101 : BitVec 32 := 0#32
  let v2590 : BitVec 32 := Scalar.addi v2589 c0_i32_1101
  v2590
def k0_mult82 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c1_i32_1099 : BitVec 32 := 1#32
  let v2587 : BitVec 32 := Scalar.addi v1637 c1_i32_1099
  let c512_i32_1100 : BitVec 32 := 512#32
  let v2588 : BitVec 32 := Scalar.muli v2587 c512_i32_1100
  let v2589 : BitVec 32 := v2588
  let c256_i32_1105 : BitVec 32 := 256#32
  let v2599 : BitVec 32 := Scalar.addi v2589 c256_i32_1105
  v2599
def k0_mult83 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c2_i32_1109 : BitVec 32 := 2#32
  let v2608 : BitVec 32 := Scalar.addi v1637 c2_i32_1109
  let c512_i32_1110 : BitVec 32 := 512#32
  let v2609 : BitVec 32 := Scalar.muli v2608 c512_i32_1110
  v2609
def k0_mult84 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c2_i32_1109 : BitVec 32 := 2#32
  let v2608 : BitVec 32 := Scalar.addi v1637 c2_i32_1109
  let c512_i32_1110 : BitVec 32 := 512#32
  let v2609 : BitVec 32 := Scalar.muli v2608 c512_i32_1110
  let v2610 : BitVec 32 := v2609
  let c0_i32_1111 : BitVec 32 := 0#32
  let v2611 : BitVec 32 := Scalar.addi v2610 c0_i32_1111
  v2611
def k0_mult85 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c2_i32_1109 : BitVec 32 := 2#32
  let v2608 : BitVec 32 := Scalar.addi v1637 c2_i32_1109
  let c512_i32_1110 : BitVec 32 := 512#32
  let v2609 : BitVec 32 := Scalar.muli v2608 c512_i32_1110
  let v2610 : BitVec 32 := v2609
  let c256_i32_1117 : BitVec 32 := 256#32
  let v2628 : BitVec 32 := Scalar.addi v2610 c256_i32_1117
  v2628
def k0_mult86 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c0_i32_1123 : BitVec 32 := 0#32
  let v2645 : BitVec 32 := Scalar.addi v1637 c0_i32_1123
  let c512_i32_1124 : BitVec 32 := 512#32
  let v2646 : BitVec 32 := Scalar.muli v2645 c512_i32_1124
  v2646
def k0_mult87 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c0_i32_1123 : BitVec 32 := 0#32
  let v2645 : BitVec 32 := Scalar.addi v1637 c0_i32_1123
  let c512_i32_1124 : BitVec 32 := 512#32
  let v2646 : BitVec 32 := Scalar.muli v2645 c512_i32_1124
  let v2647 : BitVec 32 := v2646
  let c0_i32_1125 : BitVec 32 := 0#32
  let v2648 : BitVec 32 := Scalar.addi v2647 c0_i32_1125
  v2648
def k0_mult88 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c0_i32_1123 : BitVec 32 := 0#32
  let v2645 : BitVec 32 := Scalar.addi v1637 c0_i32_1123
  let c512_i32_1124 : BitVec 32 := 512#32
  let v2646 : BitVec 32 := Scalar.muli v2645 c512_i32_1124
  let v2647 : BitVec 32 := v2646
  let c256_i32_1129 : BitVec 32 := 256#32
  let v2657 : BitVec 32 := Scalar.addi v2647 c256_i32_1129
  v2657
def k0_mult89 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c1_i32_1133 : BitVec 32 := 1#32
  let v2666 : BitVec 32 := Scalar.addi v1637 c1_i32_1133
  let c512_i32_1134 : BitVec 32 := 512#32
  let v2667 : BitVec 32 := Scalar.muli v2666 c512_i32_1134
  v2667
def k0_mult90 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c1_i32_1133 : BitVec 32 := 1#32
  let v2666 : BitVec 32 := Scalar.addi v1637 c1_i32_1133
  let c512_i32_1134 : BitVec 32 := 512#32
  let v2667 : BitVec 32 := Scalar.muli v2666 c512_i32_1134
  let v2668 : BitVec 32 := v2667
  let c0_i32_1135 : BitVec 32 := 0#32
  let v2669 : BitVec 32 := Scalar.addi v2668 c0_i32_1135
  v2669
def k0_mult91 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c1_i32_1133 : BitVec 32 := 1#32
  let v2666 : BitVec 32 := Scalar.addi v1637 c1_i32_1133
  let c512_i32_1134 : BitVec 32 := 512#32
  let v2667 : BitVec 32 := Scalar.muli v2666 c512_i32_1134
  let v2668 : BitVec 32 := v2667
  let c256_i32_1139 : BitVec 32 := 256#32
  let v2678 : BitVec 32 := Scalar.addi v2668 c256_i32_1139
  v2678
def k0_mult92 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c2_i32_1143 : BitVec 32 := 2#32
  let v2687 : BitVec 32 := Scalar.addi v1637 c2_i32_1143
  let c512_i32_1144 : BitVec 32 := 512#32
  let v2688 : BitVec 32 := Scalar.muli v2687 c512_i32_1144
  v2688
def k0_mult93 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c2_i32_1143 : BitVec 32 := 2#32
  let v2687 : BitVec 32 := Scalar.addi v1637 c2_i32_1143
  let c512_i32_1144 : BitVec 32 := 512#32
  let v2688 : BitVec 32 := Scalar.muli v2687 c512_i32_1144
  let v2689 : BitVec 32 := v2688
  let c0_i32_1145 : BitVec 32 := 0#32
  let v2690 : BitVec 32 := Scalar.addi v2689 c0_i32_1145
  v2690
def k0_mult94 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let c2_i32_1143 : BitVec 32 := 2#32
  let v2687 : BitVec 32 := Scalar.addi v1637 c2_i32_1143
  let c512_i32_1144 : BitVec 32 := 512#32
  let v2688 : BitVec 32 := Scalar.muli v2687 c512_i32_1144
  let v2689 : BitVec 32 := v2688
  let c256_i32_1151 : BitVec 32 := 256#32
  let v2707 : BitVec 32 := Scalar.addi v2689 c256_i32_1151
  v2707
def k0_off10 (i : grid0.Coords) (c0_i32_1157 : BitVec 32) (c0_i32_1159 : BitVec 32) (c0_i32_1160 : BitVec 32) : Fin 5 → Nat :=
  let c0_1161 : Index := 0#32
  let c0_1162 : Index := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_654 : BitVec 32 := 4#32
  let v1637 : BitVec 32 := Scalar.muli v1621 c4_i32_654
  let v2724 : BitVec 32 := Scalar.addi v1637 c0_i32_1157
  let c4_i32_1158 : BitVec 32 := 4#32
  let v2725 : BitVec 32 := Scalar.muli v2724 c4_i32_1158
  let v2726 : BitVec 32 := Scalar.addi v2725 c0_i32_1159
  let v2727 : BitVec 32 := Scalar.addi v2726 c0_i32_1160
  let v2728 : Index := Scalar.indexCast v2727
  let c0_1163 : Index := 0#32
  let c0_1164 : Index := 0#32
  ![0, 0, v2728.toNat, 0, 0]
def k0_mult95 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c0_i32_1088 : BitVec 32 := 0#32
  let v2563 : BitVec 32 := Scalar.addi v1636 c0_i32_1088
  let c512_i32_1089 : BitVec 32 := 512#32
  let v2564 : BitVec 32 := Scalar.muli v2563 c512_i32_1089
  v2564
def k0_mult96 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c0_i32_1088 : BitVec 32 := 0#32
  let v2563 : BitVec 32 := Scalar.addi v1636 c0_i32_1088
  let c512_i32_1089 : BitVec 32 := 512#32
  let v2564 : BitVec 32 := Scalar.muli v2563 c512_i32_1089
  let v2565 : BitVec 32 := v2564
  let c0_i32_1090 : BitVec 32 := 0#32
  let v2566 : BitVec 32 := Scalar.addi v2565 c0_i32_1090
  v2566
def k0_off11 (i : grid0.Coords) (c0_i32_1088 : BitVec 32) (c0_i32_1090 : BitVec 32) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let v2563 : BitVec 32 := Scalar.addi v1636 c0_i32_1088
  let c512_i32_1089 : BitVec 32 := 512#32
  let v2564 : BitVec 32 := Scalar.muli v2563 c512_i32_1089
  let v2565 : BitVec 32 := v2564
  let v2566 : BitVec 32 := Scalar.addi v2565 c0_i32_1090
  let v2567 : BitVec 32 := v2566
  let v2568 : Index := Scalar.indexCast v2567
  let c0_1091 : Index := 0#32
  ![v2568.toNat, 0]
def k0_mult97 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c0_i32_1088 : BitVec 32 := 0#32
  let v2563 : BitVec 32 := Scalar.addi v1636 c0_i32_1088
  let c512_i32_1089 : BitVec 32 := 512#32
  let v2564 : BitVec 32 := Scalar.muli v2563 c512_i32_1089
  let v2565 : BitVec 32 := v2564
  let c256_i32 : BitVec 32 := 256#32
  let v2575 : BitVec 32 := Scalar.addi v2565 c256_i32
  v2575
def k0_mult98 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c1_i32_1097 : BitVec 32 := 1#32
  let v2584 : BitVec 32 := Scalar.addi v1636 c1_i32_1097
  let c512_i32_1098 : BitVec 32 := 512#32
  let v2585 : BitVec 32 := Scalar.muli v2584 c512_i32_1098
  v2585
def k0_mult99 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c1_i32_1097 : BitVec 32 := 1#32
  let v2584 : BitVec 32 := Scalar.addi v1636 c1_i32_1097
  let c512_i32_1098 : BitVec 32 := 512#32
  let v2585 : BitVec 32 := Scalar.muli v2584 c512_i32_1098
  let v2586 : BitVec 32 := v2585
  let c0_i32_1099 : BitVec 32 := 0#32
  let v2587 : BitVec 32 := Scalar.addi v2586 c0_i32_1099
  v2587
def k0_mult100 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c1_i32_1097 : BitVec 32 := 1#32
  let v2584 : BitVec 32 := Scalar.addi v1636 c1_i32_1097
  let c512_i32_1098 : BitVec 32 := 512#32
  let v2585 : BitVec 32 := Scalar.muli v2584 c512_i32_1098
  let v2586 : BitVec 32 := v2585
  let c256_i32_1105 : BitVec 32 := 256#32
  let v2604 : BitVec 32 := Scalar.addi v2586 c256_i32_1105
  v2604
def k0_mult101 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c0_i32_1111 : BitVec 32 := 0#32
  let v2621 : BitVec 32 := Scalar.addi v1636 c0_i32_1111
  let c512_i32_1112 : BitVec 32 := 512#32
  let v2622 : BitVec 32 := Scalar.muli v2621 c512_i32_1112
  v2622
def k0_mult102 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c0_i32_1111 : BitVec 32 := 0#32
  let v2621 : BitVec 32 := Scalar.addi v1636 c0_i32_1111
  let c512_i32_1112 : BitVec 32 := 512#32
  let v2622 : BitVec 32 := Scalar.muli v2621 c512_i32_1112
  let v2623 : BitVec 32 := v2622
  let c0_i32_1113 : BitVec 32 := 0#32
  let v2624 : BitVec 32 := Scalar.addi v2623 c0_i32_1113
  v2624
def k0_mult103 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c0_i32_1111 : BitVec 32 := 0#32
  let v2621 : BitVec 32 := Scalar.addi v1636 c0_i32_1111
  let c512_i32_1112 : BitVec 32 := 512#32
  let v2622 : BitVec 32 := Scalar.muli v2621 c512_i32_1112
  let v2623 : BitVec 32 := v2622
  let c256_i32_1117 : BitVec 32 := 256#32
  let v2633 : BitVec 32 := Scalar.addi v2623 c256_i32_1117
  v2633
def k0_mult104 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c1_i32_1121 : BitVec 32 := 1#32
  let v2642 : BitVec 32 := Scalar.addi v1636 c1_i32_1121
  let c512_i32_1122 : BitVec 32 := 512#32
  let v2643 : BitVec 32 := Scalar.muli v2642 c512_i32_1122
  v2643
def k0_mult105 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c1_i32_1121 : BitVec 32 := 1#32
  let v2642 : BitVec 32 := Scalar.addi v1636 c1_i32_1121
  let c512_i32_1122 : BitVec 32 := 512#32
  let v2643 : BitVec 32 := Scalar.muli v2642 c512_i32_1122
  let v2644 : BitVec 32 := v2643
  let c0_i32_1123 : BitVec 32 := 0#32
  let v2645 : BitVec 32 := Scalar.addi v2644 c0_i32_1123
  v2645
def k0_mult106 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let c1_i32_1121 : BitVec 32 := 1#32
  let v2642 : BitVec 32 := Scalar.addi v1636 c1_i32_1121
  let c512_i32_1122 : BitVec 32 := 512#32
  let v2643 : BitVec 32 := Scalar.muli v2642 c512_i32_1122
  let v2644 : BitVec 32 := v2643
  let c256_i32_1129 : BitVec 32 := 256#32
  let v2662 : BitVec 32 := Scalar.addi v2644 c256_i32_1129
  v2662
def k0_off12 (i : grid0.Coords) (c0_i32_1135 : BitVec 32) (c0_i32_1137 : BitVec 32) (c0_i32_1138 : BitVec 32) : Fin 5 → Nat :=
  let c0_1139 : Index := 0#32
  let c0_1140 : Index := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_653 : BitVec 32 := 4#32
  let v1636 : BitVec 32 := Scalar.muli v1621 c4_i32_653
  let v2679 : BitVec 32 := Scalar.addi v1636 c0_i32_1135
  let c4_i32_1136 : BitVec 32 := 4#32
  let v2680 : BitVec 32 := Scalar.muli v2679 c4_i32_1136
  let v2681 : BitVec 32 := Scalar.addi v2680 c0_i32_1137
  let v2682 : BitVec 32 := Scalar.addi v2681 c0_i32_1138
  let v2683 : Index := Scalar.indexCast v2682
  let c0_1141 : Index := 0#32
  let c0_1142 : Index := 0#32
  ![0, 0, v2683.toNat, 0, 0]
def k0_mult107 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_652 : BitVec 32 := 4#32
  let v1635 : BitVec 32 := Scalar.muli v1621 c4_i32_652
  let c0_i32_1086 : BitVec 32 := 0#32
  let v2560 : BitVec 32 := Scalar.addi v1635 c0_i32_1086
  let c512_i32_1087 : BitVec 32 := 512#32
  let v2561 : BitVec 32 := Scalar.muli v2560 c512_i32_1087
  v2561
def k0_mult108 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_652 : BitVec 32 := 4#32
  let v1635 : BitVec 32 := Scalar.muli v1621 c4_i32_652
  let c0_i32_1086 : BitVec 32 := 0#32
  let v2560 : BitVec 32 := Scalar.addi v1635 c0_i32_1086
  let c512_i32_1087 : BitVec 32 := 512#32
  let v2561 : BitVec 32 := Scalar.muli v2560 c512_i32_1087
  let v2562 : BitVec 32 := v2561
  let c0_i32_1088 : BitVec 32 := 0#32
  let v2563 : BitVec 32 := Scalar.addi v2562 c0_i32_1088
  v2563
def k0_off13 (i : grid0.Coords) (c0_i32_1088 : BitVec 32) : Fin 2 → Nat :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_652 : BitVec 32 := 4#32
  let v1635 : BitVec 32 := Scalar.muli v1621 c4_i32_652
  let c0_i32_1086 : BitVec 32 := 0#32
  let v2560 : BitVec 32 := Scalar.addi v1635 c0_i32_1086
  let c512_i32_1087 : BitVec 32 := 512#32
  let v2561 : BitVec 32 := Scalar.muli v2560 c512_i32_1087
  let v2562 : BitVec 32 := v2561
  let v2563 : BitVec 32 := Scalar.addi v2562 c0_i32_1088
  let v2564 : BitVec 32 := v2563
  let v2565 : Index := Scalar.indexCast v2564
  let c0_1089 : Index := 0#32
  ![v2565.toNat, 0]
def k0_mult109 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_652 : BitVec 32 := 4#32
  let v1635 : BitVec 32 := Scalar.muli v1621 c4_i32_652
  let c0_i32_1086 : BitVec 32 := 0#32
  let v2560 : BitVec 32 := Scalar.addi v1635 c0_i32_1086
  let c512_i32_1087 : BitVec 32 := 512#32
  let v2561 : BitVec 32 := Scalar.muli v2560 c512_i32_1087
  let v2562 : BitVec 32 := v2561
  let c256_i32 : BitVec 32 := 256#32
  let v2580 : BitVec 32 := Scalar.addi v2562 c256_i32
  v2580
def k0_mult110 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_652 : BitVec 32 := 4#32
  let v1635 : BitVec 32 := Scalar.muli v1621 c4_i32_652
  let c0_i32_1099 : BitVec 32 := 0#32
  let v2597 : BitVec 32 := Scalar.addi v1635 c0_i32_1099
  let c512_i32_1100 : BitVec 32 := 512#32
  let v2598 : BitVec 32 := Scalar.muli v2597 c512_i32_1100
  v2598
def k0_mult111 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_652 : BitVec 32 := 4#32
  let v1635 : BitVec 32 := Scalar.muli v1621 c4_i32_652
  let c0_i32_1099 : BitVec 32 := 0#32
  let v2597 : BitVec 32 := Scalar.addi v1635 c0_i32_1099
  let c512_i32_1100 : BitVec 32 := 512#32
  let v2598 : BitVec 32 := Scalar.muli v2597 c512_i32_1100
  let v2599 : BitVec 32 := v2598
  let c0_i32_1101 : BitVec 32 := 0#32
  let v2600 : BitVec 32 := Scalar.addi v2599 c0_i32_1101
  v2600
def k0_mult112 (i : grid0.Coords) : BitVec 32 :=
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_652 : BitVec 32 := 4#32
  let v1635 : BitVec 32 := Scalar.muli v1621 c4_i32_652
  let c0_i32_1099 : BitVec 32 := 0#32
  let v2597 : BitVec 32 := Scalar.addi v1635 c0_i32_1099
  let c512_i32_1100 : BitVec 32 := 512#32
  let v2598 : BitVec 32 := Scalar.muli v2597 c512_i32_1100
  let v2599 : BitVec 32 := v2598
  let c256_i32_1107 : BitVec 32 := 256#32
  let v2617 : BitVec 32 := Scalar.addi v2599 c256_i32_1107
  v2617
def k0_off14 (i : grid0.Coords) (c0_i32_1115 : BitVec 32) (c0_i32_1116 : BitVec 32) : Fin 5 → Nat :=
  let c0_1117 : Index := 0#32
  let c0_1118 : Index := 0#32
  let arg2 : BitVec 32 := BitVec.ofNat 32 (i 2).val
  let c4_i32 : BitVec 32 := 4#32
  let v0 : BitVec 32 := Scalar.muli arg2 c4_i32
  let c0_i32 : BitVec 32 := 0#32
  let v1 : BitVec 32 := Scalar.addi v0 c0_i32
  let c128_i32 : BitVec 32 := 128#32
  let v2 : BitVec 32 := Scalar.muli v1 c128_i32
  let c128_i32_625 : BitVec 32 := 128#32
  let v1584 : BitVec 32 := Scalar.addi v2 c128_i32_625
  let c512_i32_626 : BitVec 32 := 512#32
  let v1585 : BitVec 32 := Scalar.addi v1584 c512_i32_626
  let c1_i32_627 : BitVec 32 := 1#32
  let v1586 : BitVec 32 := Scalar.subi v1585 c1_i32_627
  let c0_i32_629 : BitVec 32 := 0#32
  let v1588 : BitVec 1 := Scalar.cmpi .sgt v1586 c0_i32_629
  let v1589 : BitVec 32 := Scalar.extui v1588
  let c0_i32_630 : BitVec 32 := 0#32
  let v1590 : BitVec 1 := Scalar.cmpi .slt v1586 c0_i32_630
  let v1591 : BitVec 32 := Scalar.extui v1590
  let v1592 : BitVec 32 := Scalar.subi v1589 v1591
  let c512_i32_628 : BitVec 32 := 512#32
  let c0_i32_631 : BitVec 32 := 0#32
  let v1593 : BitVec 1 := Scalar.cmpi .sgt c512_i32_628 c0_i32_631
  let v1594 : BitVec 32 := Scalar.extui v1593
  let c0_i32_632 : BitVec 32 := 0#32
  let v1595 : BitVec 1 := Scalar.cmpi .slt c512_i32_628 c0_i32_632
  let v1596 : BitVec 32 := Scalar.extui v1595
  let v1597 : BitVec 32 := Scalar.subi v1594 v1596
  let v1598 : BitVec 1 := Scalar.cmpi .ne v1592 v1597
  let v1599 : BitVec 32 := Scalar.remsi v1586 c512_i32_628
  let c0_i32_633 : BitVec 32 := 0#32
  let v1600 : BitVec 1 := Scalar.cmpi .ne v1599 c0_i32_633
  let v1601 : BitVec 1 := Scalar.andi v1598 v1600
  let v1587 : BitVec 32 := Scalar.divsi v1586 c512_i32_628
  let c1_i32_634 : BitVec 32 := 1#32
  let v1602 : BitVec 32 := Scalar.subi v1587 c1_i32_634
  let v1603 : BitVec 32 := Scalar.select v1601 v1602 v1587
  let c1_i32_635 : BitVec 32 := 1#32
  let v1604 : BitVec 32 := Scalar.subi v1603 c1_i32_635
  let c0_i32_637 : BitVec 32 := 0#32
  let v1606 : BitVec 1 := Scalar.cmpi .sgt v1604 c0_i32_637
  let v1607 : BitVec 32 := Scalar.extui v1606
  let c0_i32_638 : BitVec 32 := 0#32
  let v1608 : BitVec 1 := Scalar.cmpi .slt v1604 c0_i32_638
  let v1609 : BitVec 32 := Scalar.extui v1608
  let v1610 : BitVec 32 := Scalar.subi v1607 v1609
  let c4_i32_636 : BitVec 32 := 4#32
  let c0_i32_639 : BitVec 32 := 0#32
  let v1611 : BitVec 1 := Scalar.cmpi .sgt c4_i32_636 c0_i32_639
  let v1612 : BitVec 32 := Scalar.extui v1611
  let c0_i32_640 : BitVec 32 := 0#32
  let v1613 : BitVec 1 := Scalar.cmpi .slt c4_i32_636 c0_i32_640
  let v1614 : BitVec 32 := Scalar.extui v1613
  let v1615 : BitVec 32 := Scalar.subi v1612 v1614
  let v1616 : BitVec 1 := Scalar.cmpi .ne v1610 v1615
  let v1617 : BitVec 32 := Scalar.remsi v1604 c4_i32_636
  let c0_i32_641 : BitVec 32 := 0#32
  let v1618 : BitVec 1 := Scalar.cmpi .ne v1617 c0_i32_641
  let v1619 : BitVec 1 := Scalar.andi v1616 v1618
  let v1605 : BitVec 32 := Scalar.divsi v1604 c4_i32_636
  let c1_i32_642 : BitVec 32 := 1#32
  let v1620 : BitVec 32 := Scalar.subi v1605 c1_i32_642
  let v1621 : BitVec 32 := Scalar.select v1619 v1620 v1605
  let c4_i32_652 : BitVec 32 := 4#32
  let v1635 : BitVec 32 := Scalar.muli v1621 c4_i32_652
  let c0_i32_1113 : BitVec 32 := 0#32
  let v2634 : BitVec 32 := Scalar.addi v1635 c0_i32_1113
  let c4_i32_1114 : BitVec 32 := 4#32
  let v2635 : BitVec 32 := Scalar.muli v2634 c4_i32_1114
  let v2636 : BitVec 32 := Scalar.addi v2635 c0_i32_1115
  let v2637 : BitVec 32 := Scalar.addi v2636 c0_i32_1116
  let v2638 : Index := Scalar.indexCast v2637
  let c0_1119 : Index := 0#32
  let c0_1120 : Index := 0#32
  ![0, 0, v2638.toNat, 0, 0]
@[reducible] def k0_t3_loop (i : grid0.Coords) : Scf.Loop 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_688 : BitVec 32 := 1#32
  ⟨c0_i32_686, v1707, c1_i32_688⟩
def k0_mult113 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  v2562
def k0_mult114 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c0_i32_1089 : BitVec 32 := 0#32
  let v2564 : BitVec 32 := Scalar.addi v2563 c0_i32_1089
  v2564
def k0_off15 (i : grid0.Coords) (k0_t3 : Fin (k0_t3_loop i).trips) (c0_i32_1087 : BitVec 32) (c0_i32_1089 : BitVec 32) : Fin 2 → Nat :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let v2561 : BitVec 32 := Scalar.addi v2560 c0_i32_1087
  let c512_i32_1088 : BitVec 32 := 512#32
  let v2562 : BitVec 32 := Scalar.muli v2561 c512_i32_1088
  let v2563 : BitVec 32 := v2562
  let v2564 : BitVec 32 := Scalar.addi v2563 c0_i32_1089
  let v2565 : BitVec 32 := v2564
  let v2566 : Index := Scalar.indexCast v2565
  let c0_1090 : Index := 0#32
  ![v2566.toNat, 0]
def k0_mult115 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c256_i32 : BitVec 32 := 256#32
  let v2573 : BitVec 32 := Scalar.addi v2563 c256_i32
  v2573
def k0_mult116 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  v2583
def k0_mult117 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c0_i32_1098 : BitVec 32 := 0#32
  let v2585 : BitVec 32 := Scalar.addi v2584 c0_i32_1098
  v2585
def k0_mult118 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c256_i32_1102 : BitVec 32 := 256#32
  let v2594 : BitVec 32 := Scalar.addi v2584 c256_i32_1102
  v2594
def k0_mult119 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  v2604
def k0_mult120 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c0_i32_1108 : BitVec 32 := 0#32
  let v2606 : BitVec 32 := Scalar.addi v2605 c0_i32_1108
  v2606
def k0_mult121 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c256_i32_1112 : BitVec 32 := 256#32
  let v2615 : BitVec 32 := Scalar.addi v2605 c256_i32_1112
  v2615
def k0_mult122 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  v2625
def k0_mult123 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c0_i32_1118 : BitVec 32 := 0#32
  let v2627 : BitVec 32 := Scalar.addi v2626 c0_i32_1118
  v2627
def k0_mult124 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c256_i32_1122 : BitVec 32 := 256#32
  let v2636 : BitVec 32 := Scalar.addi v2626 c256_i32_1122
  v2636
def k0_mult125 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  v2646
def k0_mult126 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c0_i32_1128 : BitVec 32 := 0#32
  let v2648 : BitVec 32 := Scalar.addi v2647 c0_i32_1128
  v2648
def k0_mult127 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c256_i32_1132 : BitVec 32 := 256#32
  let v2657 : BitVec 32 := Scalar.addi v2647 c256_i32_1132
  v2657
def k0_mult128 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  v2667
def k0_mult129 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c0_i32_1138 : BitVec 32 := 0#32
  let v2669 : BitVec 32 := Scalar.addi v2668 c0_i32_1138
  v2669
def k0_mult130 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c256_i32_1142 : BitVec 32 := 256#32
  let v2678 : BitVec 32 := Scalar.addi v2668 c256_i32_1142
  v2678
def k0_mult131 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  v2688
def k0_mult132 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c0_i32_1148 : BitVec 32 := 0#32
  let v2690 : BitVec 32 := Scalar.addi v2689 c0_i32_1148
  v2690
def k0_mult133 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c256_i32_1152 : BitVec 32 := 256#32
  let v2699 : BitVec 32 := Scalar.addi v2689 c256_i32_1152
  v2699
def k0_mult134 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  v2709
def k0_mult135 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c0_i32_1158 : BitVec 32 := 0#32
  let v2711 : BitVec 32 := Scalar.addi v2710 c0_i32_1158
  v2711
def k0_mult136 (i : grid0.Coords) (k0_t3 : Fin (k0_t3_loop i).trips) : BitVec 32 :=
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c256_i32_1162 : BitVec 32 := 256#32
  let v2720 : BitVec 32 := Scalar.addi v2710 c256_i32_1162
  v2720
def k0_off16 (i : grid0.Coords) (k0_t3 : Fin (k0_t3_loop i).trips) (c0_i32_1166 : BitVec 32) (c0_i32_1168 : BitVec 32) (c0_i32_1169 : BitVec 32) : Fin 5 → Nat :=
  let c0_1170 : Index := 0#32
  let c0_1171 : Index := 0#32
  let c0_i32_686 : BitVec 32 := 0#32
  let c1_i32_688 : BitVec 32 := 1#32
  let arg16 : BitVec 32 := Scf.iv c0_i32_686 c1_i32_688 k0_t3
  let c4_i32_1086 : BitVec 32 := 4#32
  let v2560 : BitVec 32 := Scalar.muli arg16 c4_i32_1086
  let v2729 : BitVec 32 := Scalar.addi v2560 c0_i32_1166
  let c4_i32_1167 : BitVec 32 := 4#32
  let v2730 : BitVec 32 := Scalar.muli v2729 c4_i32_1167
  let v2731 : BitVec 32 := Scalar.addi v2730 c0_i32_1168
  let v2732 : BitVec 32 := Scalar.addi v2731 c0_i32_1169
  let v2733 : Index := Scalar.indexCast v2732
  let c0_1172 : Index := 0#32
  let c0_1173 : Index := 0#32
  ![0, 0, v2733.toNat, 0, 0]
@[reducible] def k0_t4_loop (i : grid0.Coords) : Scf.Loop 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let v1704 : BitVec 32 := Scalar.addi c0_i32_686 v1703
  let c1_i32_689 : BitVec 32 := 1#32
  ⟨v1707, v1704, c1_i32_689⟩
def k0_mult137 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  v2562
def k0_mult138 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c0_i32_1089 : BitVec 32 := 0#32
  let v2564 : BitVec 32 := Scalar.addi v2563 c0_i32_1089
  v2564
def k0_off17 (i : grid0.Coords) (k0_t4 : Fin (k0_t4_loop i).trips) (c0_i32_1087 : BitVec 32) (c0_i32_1089 : BitVec 32) : Fin 2 → Nat :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let v2561 : BitVec 32 := Scalar.addi v2560 c0_i32_1087
  let c512_i32_1088 : BitVec 32 := 512#32
  let v2562 : BitVec 32 := Scalar.muli v2561 c512_i32_1088
  let v2563 : BitVec 32 := v2562
  let v2564 : BitVec 32 := Scalar.addi v2563 c0_i32_1089
  let v2565 : BitVec 32 := v2564
  let v2566 : Index := Scalar.indexCast v2565
  let c0_1090 : Index := 0#32
  ![v2566.toNat, 0]
def k0_mult139 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c256_i32 : BitVec 32 := 256#32
  let v2573 : BitVec 32 := Scalar.addi v2563 c256_i32
  v2573
def k0_mult140 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  v2583
def k0_mult141 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c0_i32_1098 : BitVec 32 := 0#32
  let v2585 : BitVec 32 := Scalar.addi v2584 c0_i32_1098
  v2585
def k0_mult142 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c256_i32_1102 : BitVec 32 := 256#32
  let v2594 : BitVec 32 := Scalar.addi v2584 c256_i32_1102
  v2594
def k0_mult143 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  v2604
def k0_mult144 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c0_i32_1108 : BitVec 32 := 0#32
  let v2606 : BitVec 32 := Scalar.addi v2605 c0_i32_1108
  v2606
def k0_mult145 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c256_i32_1112 : BitVec 32 := 256#32
  let v2615 : BitVec 32 := Scalar.addi v2605 c256_i32_1112
  v2615
def k0_mult146 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  v2625
def k0_mult147 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c0_i32_1118 : BitVec 32 := 0#32
  let v2627 : BitVec 32 := Scalar.addi v2626 c0_i32_1118
  v2627
def k0_mult148 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c256_i32_1122 : BitVec 32 := 256#32
  let v2636 : BitVec 32 := Scalar.addi v2626 c256_i32_1122
  v2636
def k0_mult149 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  v2646
def k0_mult150 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c0_i32_1128 : BitVec 32 := 0#32
  let v2648 : BitVec 32 := Scalar.addi v2647 c0_i32_1128
  v2648
def k0_mult151 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c256_i32_1132 : BitVec 32 := 256#32
  let v2657 : BitVec 32 := Scalar.addi v2647 c256_i32_1132
  v2657
def k0_mult152 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  v2667
def k0_mult153 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c0_i32_1138 : BitVec 32 := 0#32
  let v2669 : BitVec 32 := Scalar.addi v2668 c0_i32_1138
  v2669
def k0_mult154 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c256_i32_1142 : BitVec 32 := 256#32
  let v2678 : BitVec 32 := Scalar.addi v2668 c256_i32_1142
  v2678
def k0_mult155 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  v2688
def k0_mult156 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c0_i32_1148 : BitVec 32 := 0#32
  let v2690 : BitVec 32 := Scalar.addi v2689 c0_i32_1148
  v2690
def k0_mult157 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c256_i32_1152 : BitVec 32 := 256#32
  let v2699 : BitVec 32 := Scalar.addi v2689 c256_i32_1152
  v2699
def k0_mult158 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  v2709
def k0_mult159 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c0_i32_1158 : BitVec 32 := 0#32
  let v2711 : BitVec 32 := Scalar.addi v2710 c0_i32_1158
  v2711
def k0_mult160 (i : grid0.Coords) (k0_t4 : Fin (k0_t4_loop i).trips) : BitVec 32 :=
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c256_i32_1162 : BitVec 32 := 256#32
  let v2720 : BitVec 32 := Scalar.addi v2710 c256_i32_1162
  v2720
def k0_off18 (i : grid0.Coords) (k0_t4 : Fin (k0_t4_loop i).trips) (c0_i32_1166 : BitVec 32) (c0_i32_1168 : BitVec 32) (c0_i32_1169 : BitVec 32) : Fin 5 → Nat :=
  let c0_1170 : Index := 0#32
  let c0_1171 : Index := 0#32
  let c0_i32_686 : BitVec 32 := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let v1703 : BitVec 32 := Scalar.subi v1696 c0_i32_686
  let c1_i32_687 : BitVec 32 := 1#32
  let v1705 : BitVec 32 := Scalar.divsi v1703 c1_i32_687
  let v1706 : BitVec 32 := Scalar.muli v1705 c1_i32_687
  let v1707 : BitVec 32 := Scalar.addi c0_i32_686 v1706
  let c1_i32_689 : BitVec 32 := 1#32
  let arg16 : BitVec 32 := Scf.iv v1707 c1_i32_689 k0_t4
  let c4_i32_1086 : BitVec 32 := 4#32
  let v2560 : BitVec 32 := Scalar.muli arg16 c4_i32_1086
  let v2729 : BitVec 32 := Scalar.addi v2560 c0_i32_1166
  let c4_i32_1167 : BitVec 32 := 4#32
  let v2730 : BitVec 32 := Scalar.muli v2729 c4_i32_1167
  let v2731 : BitVec 32 := Scalar.addi v2730 c0_i32_1168
  let v2732 : BitVec 32 := Scalar.addi v2731 c0_i32_1169
  let v2733 : Index := Scalar.indexCast v2732
  let c0_1172 : Index := 0#32
  let c0_1173 : Index := 0#32
  ![0, 0, v2733.toNat, 0, 0]
def k0_cond4 (i : grid0.Coords) : BitVec 1 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_681 : BitVec 32 := 4#32
  let v1697 : BitVec 32 := Scalar.muli v1696 c4_i32_681
  let v1698 : BitVec 32 := Scalar.subi v1678 v1697
  let c1_i32_694 : BitVec 32 := 1#32
  let v1714 : BitVec 32 := Scalar.subi v1698 c1_i32_694
  let c0_i32_695 : BitVec 32 := 0#32
  let v1715 : BitVec 32 := Scalar.maxsi v1714 c0_i32_695
  let c3_i32_696 : BitVec 32 := 3#32
  let v1716 : BitVec 32 := Scalar.minsi v1715 c3_i32_696
  let c0_i32_697 : BitVec 32 := 0#32
  let v1717 : BitVec 1 := Scalar.cmpi .ne v1716 c0_i32_697
  v1717

def k0_cond5 (i : grid0.Coords) : BitVec 1 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_681 : BitVec 32 := 4#32
  let v1697 : BitVec 32 := Scalar.muli v1696 c4_i32_681
  let v1698 : BitVec 32 := Scalar.subi v1678 v1697
  let c1_i32_694 : BitVec 32 := 1#32
  let v1714 : BitVec 32 := Scalar.subi v1698 c1_i32_694
  let c0_i32_695 : BitVec 32 := 0#32
  let v1715 : BitVec 32 := Scalar.maxsi v1714 c0_i32_695
  let c3_i32_696 : BitVec 32 := 3#32
  let v1716 : BitVec 32 := Scalar.minsi v1715 c3_i32_696
  let c1_i32_1086 : BitVec 32 := 1#32
  let v2560 : BitVec 32 := Scalar.subi v1716 c1_i32_1086
  let c0_i32_1087 : BitVec 32 := 0#32
  let v2561 : BitVec 1 := Scalar.cmpi .ne v2560 c0_i32_1087
  v2561

def k0_cond6 (i : grid0.Coords) : BitVec 1 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_681 : BitVec 32 := 4#32
  let v1697 : BitVec 32 := Scalar.muli v1696 c4_i32_681
  let v1698 : BitVec 32 := Scalar.subi v1678 v1697
  let c1_i32_694 : BitVec 32 := 1#32
  let v1714 : BitVec 32 := Scalar.subi v1698 c1_i32_694
  let c0_i32_695 : BitVec 32 := 0#32
  let v1715 : BitVec 32 := Scalar.maxsi v1714 c0_i32_695
  let c3_i32_696 : BitVec 32 := 3#32
  let v1716 : BitVec 32 := Scalar.minsi v1715 c3_i32_696
  let c1_i32_1086 : BitVec 32 := 1#32
  let v2560 : BitVec 32 := Scalar.subi v1716 c1_i32_1086
  let c1_i32_1088 : BitVec 32 := 1#32
  let v2563 : BitVec 32 := Scalar.subi v2560 c1_i32_1088
  let c0_i32_1089 : BitVec 32 := 0#32
  let v2564 : BitVec 1 := Scalar.cmpi .ne v2563 c0_i32_1089
  v2564

def k0_mult161 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c0_i32_1090 : BitVec 32 := 0#32
  let v2566 : BitVec 32 := Scalar.addi v1713 c0_i32_1090
  let c512_i32_1091 : BitVec 32 := 512#32
  let v2567 : BitVec 32 := Scalar.muli v2566 c512_i32_1091
  v2567
def k0_mult162 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c0_i32_1090 : BitVec 32 := 0#32
  let v2566 : BitVec 32 := Scalar.addi v1713 c0_i32_1090
  let c512_i32_1091 : BitVec 32 := 512#32
  let v2567 : BitVec 32 := Scalar.muli v2566 c512_i32_1091
  let v2568 : BitVec 32 := v2567
  let c0_i32_1092 : BitVec 32 := 0#32
  let v2569 : BitVec 32 := Scalar.addi v2568 c0_i32_1092
  v2569
def k0_off19 (i : grid0.Coords) (c0_i32_1090 : BitVec 32) (c0_i32_1092 : BitVec 32) : Fin 2 → Nat :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let v2566 : BitVec 32 := Scalar.addi v1713 c0_i32_1090
  let c512_i32_1091 : BitVec 32 := 512#32
  let v2567 : BitVec 32 := Scalar.muli v2566 c512_i32_1091
  let v2568 : BitVec 32 := v2567
  let v2569 : BitVec 32 := Scalar.addi v2568 c0_i32_1092
  let v2570 : BitVec 32 := v2569
  let v2571 : Index := Scalar.indexCast v2570
  let c0_1093 : Index := 0#32
  ![v2571.toNat, 0]
def k0_mult163 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c0_i32_1090 : BitVec 32 := 0#32
  let v2566 : BitVec 32 := Scalar.addi v1713 c0_i32_1090
  let c512_i32_1091 : BitVec 32 := 512#32
  let v2567 : BitVec 32 := Scalar.muli v2566 c512_i32_1091
  let v2568 : BitVec 32 := v2567
  let c256_i32 : BitVec 32 := 256#32
  let v2578 : BitVec 32 := Scalar.addi v2568 c256_i32
  v2578
def k0_mult164 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c1_i32_1099 : BitVec 32 := 1#32
  let v2587 : BitVec 32 := Scalar.addi v1713 c1_i32_1099
  let c512_i32_1100 : BitVec 32 := 512#32
  let v2588 : BitVec 32 := Scalar.muli v2587 c512_i32_1100
  v2588
def k0_mult165 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c1_i32_1099 : BitVec 32 := 1#32
  let v2587 : BitVec 32 := Scalar.addi v1713 c1_i32_1099
  let c512_i32_1100 : BitVec 32 := 512#32
  let v2588 : BitVec 32 := Scalar.muli v2587 c512_i32_1100
  let v2589 : BitVec 32 := v2588
  let c0_i32_1101 : BitVec 32 := 0#32
  let v2590 : BitVec 32 := Scalar.addi v2589 c0_i32_1101
  v2590
def k0_mult166 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c1_i32_1099 : BitVec 32 := 1#32
  let v2587 : BitVec 32 := Scalar.addi v1713 c1_i32_1099
  let c512_i32_1100 : BitVec 32 := 512#32
  let v2588 : BitVec 32 := Scalar.muli v2587 c512_i32_1100
  let v2589 : BitVec 32 := v2588
  let c256_i32_1105 : BitVec 32 := 256#32
  let v2599 : BitVec 32 := Scalar.addi v2589 c256_i32_1105
  v2599
def k0_mult167 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c2_i32_1109 : BitVec 32 := 2#32
  let v2608 : BitVec 32 := Scalar.addi v1713 c2_i32_1109
  let c512_i32_1110 : BitVec 32 := 512#32
  let v2609 : BitVec 32 := Scalar.muli v2608 c512_i32_1110
  v2609
def k0_mult168 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c2_i32_1109 : BitVec 32 := 2#32
  let v2608 : BitVec 32 := Scalar.addi v1713 c2_i32_1109
  let c512_i32_1110 : BitVec 32 := 512#32
  let v2609 : BitVec 32 := Scalar.muli v2608 c512_i32_1110
  let v2610 : BitVec 32 := v2609
  let c0_i32_1111 : BitVec 32 := 0#32
  let v2611 : BitVec 32 := Scalar.addi v2610 c0_i32_1111
  v2611
def k0_mult169 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c2_i32_1109 : BitVec 32 := 2#32
  let v2608 : BitVec 32 := Scalar.addi v1713 c2_i32_1109
  let c512_i32_1110 : BitVec 32 := 512#32
  let v2609 : BitVec 32 := Scalar.muli v2608 c512_i32_1110
  let v2610 : BitVec 32 := v2609
  let c256_i32_1115 : BitVec 32 := 256#32
  let v2620 : BitVec 32 := Scalar.addi v2610 c256_i32_1115
  v2620
def k0_mult170 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c3_i32_1119 : BitVec 32 := 3#32
  let v2629 : BitVec 32 := Scalar.addi v1713 c3_i32_1119
  let c512_i32_1120 : BitVec 32 := 512#32
  let v2630 : BitVec 32 := Scalar.muli v2629 c512_i32_1120
  v2630
def k0_mult171 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c3_i32_1119 : BitVec 32 := 3#32
  let v2629 : BitVec 32 := Scalar.addi v1713 c3_i32_1119
  let c512_i32_1120 : BitVec 32 := 512#32
  let v2630 : BitVec 32 := Scalar.muli v2629 c512_i32_1120
  let v2631 : BitVec 32 := v2630
  let c0_i32_1121 : BitVec 32 := 0#32
  let v2632 : BitVec 32 := Scalar.addi v2631 c0_i32_1121
  v2632
def k0_mult172 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c3_i32_1119 : BitVec 32 := 3#32
  let v2629 : BitVec 32 := Scalar.addi v1713 c3_i32_1119
  let c512_i32_1120 : BitVec 32 := 512#32
  let v2630 : BitVec 32 := Scalar.muli v2629 c512_i32_1120
  let v2631 : BitVec 32 := v2630
  let c256_i32_1127 : BitVec 32 := 256#32
  let v2649 : BitVec 32 := Scalar.addi v2631 c256_i32_1127
  v2649
def k0_mult173 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c0_i32_1133 : BitVec 32 := 0#32
  let v2666 : BitVec 32 := Scalar.addi v1713 c0_i32_1133
  let c512_i32_1134 : BitVec 32 := 512#32
  let v2667 : BitVec 32 := Scalar.muli v2666 c512_i32_1134
  v2667
def k0_mult174 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c0_i32_1133 : BitVec 32 := 0#32
  let v2666 : BitVec 32 := Scalar.addi v1713 c0_i32_1133
  let c512_i32_1134 : BitVec 32 := 512#32
  let v2667 : BitVec 32 := Scalar.muli v2666 c512_i32_1134
  let v2668 : BitVec 32 := v2667
  let c0_i32_1135 : BitVec 32 := 0#32
  let v2669 : BitVec 32 := Scalar.addi v2668 c0_i32_1135
  v2669
def k0_mult175 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c0_i32_1133 : BitVec 32 := 0#32
  let v2666 : BitVec 32 := Scalar.addi v1713 c0_i32_1133
  let c512_i32_1134 : BitVec 32 := 512#32
  let v2667 : BitVec 32 := Scalar.muli v2666 c512_i32_1134
  let v2668 : BitVec 32 := v2667
  let c256_i32_1139 : BitVec 32 := 256#32
  let v2678 : BitVec 32 := Scalar.addi v2668 c256_i32_1139
  v2678
def k0_mult176 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c1_i32_1143 : BitVec 32 := 1#32
  let v2687 : BitVec 32 := Scalar.addi v1713 c1_i32_1143
  let c512_i32_1144 : BitVec 32 := 512#32
  let v2688 : BitVec 32 := Scalar.muli v2687 c512_i32_1144
  v2688
def k0_mult177 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c1_i32_1143 : BitVec 32 := 1#32
  let v2687 : BitVec 32 := Scalar.addi v1713 c1_i32_1143
  let c512_i32_1144 : BitVec 32 := 512#32
  let v2688 : BitVec 32 := Scalar.muli v2687 c512_i32_1144
  let v2689 : BitVec 32 := v2688
  let c0_i32_1145 : BitVec 32 := 0#32
  let v2690 : BitVec 32 := Scalar.addi v2689 c0_i32_1145
  v2690
def k0_mult178 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c1_i32_1143 : BitVec 32 := 1#32
  let v2687 : BitVec 32 := Scalar.addi v1713 c1_i32_1143
  let c512_i32_1144 : BitVec 32 := 512#32
  let v2688 : BitVec 32 := Scalar.muli v2687 c512_i32_1144
  let v2689 : BitVec 32 := v2688
  let c256_i32_1149 : BitVec 32 := 256#32
  let v2699 : BitVec 32 := Scalar.addi v2689 c256_i32_1149
  v2699
def k0_mult179 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c2_i32_1153 : BitVec 32 := 2#32
  let v2708 : BitVec 32 := Scalar.addi v1713 c2_i32_1153
  let c512_i32_1154 : BitVec 32 := 512#32
  let v2709 : BitVec 32 := Scalar.muli v2708 c512_i32_1154
  v2709
def k0_mult180 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c2_i32_1153 : BitVec 32 := 2#32
  let v2708 : BitVec 32 := Scalar.addi v1713 c2_i32_1153
  let c512_i32_1154 : BitVec 32 := 512#32
  let v2709 : BitVec 32 := Scalar.muli v2708 c512_i32_1154
  let v2710 : BitVec 32 := v2709
  let c0_i32_1155 : BitVec 32 := 0#32
  let v2711 : BitVec 32 := Scalar.addi v2710 c0_i32_1155
  v2711
def k0_mult181 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c2_i32_1153 : BitVec 32 := 2#32
  let v2708 : BitVec 32 := Scalar.addi v1713 c2_i32_1153
  let c512_i32_1154 : BitVec 32 := 512#32
  let v2709 : BitVec 32 := Scalar.muli v2708 c512_i32_1154
  let v2710 : BitVec 32 := v2709
  let c256_i32_1159 : BitVec 32 := 256#32
  let v2720 : BitVec 32 := Scalar.addi v2710 c256_i32_1159
  v2720
def k0_mult182 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c3_i32_1163 : BitVec 32 := 3#32
  let v2729 : BitVec 32 := Scalar.addi v1713 c3_i32_1163
  let c512_i32_1164 : BitVec 32 := 512#32
  let v2730 : BitVec 32 := Scalar.muli v2729 c512_i32_1164
  v2730
def k0_mult183 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c3_i32_1163 : BitVec 32 := 3#32
  let v2729 : BitVec 32 := Scalar.addi v1713 c3_i32_1163
  let c512_i32_1164 : BitVec 32 := 512#32
  let v2730 : BitVec 32 := Scalar.muli v2729 c512_i32_1164
  let v2731 : BitVec 32 := v2730
  let c0_i32_1165 : BitVec 32 := 0#32
  let v2732 : BitVec 32 := Scalar.addi v2731 c0_i32_1165
  v2732
def k0_mult184 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let c3_i32_1163 : BitVec 32 := 3#32
  let v2729 : BitVec 32 := Scalar.addi v1713 c3_i32_1163
  let c512_i32_1164 : BitVec 32 := 512#32
  let v2730 : BitVec 32 := Scalar.muli v2729 c512_i32_1164
  let v2731 : BitVec 32 := v2730
  let c256_i32_1171 : BitVec 32 := 256#32
  let v2749 : BitVec 32 := Scalar.addi v2731 c256_i32_1171
  v2749
def k0_off20 (i : grid0.Coords) (c0_i32_1177 : BitVec 32) (c0_i32_1179 : BitVec 32) (c0_i32_1180 : BitVec 32) : Fin 5 → Nat :=
  let c0_1181 : Index := 0#32
  let c0_1182 : Index := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_693 : BitVec 32 := 4#32
  let v1713 : BitVec 32 := Scalar.muli v1696 c4_i32_693
  let v2766 : BitVec 32 := Scalar.addi v1713 c0_i32_1177
  let c4_i32_1178 : BitVec 32 := 4#32
  let v2767 : BitVec 32 := Scalar.muli v2766 c4_i32_1178
  let v2768 : BitVec 32 := Scalar.addi v2767 c0_i32_1179
  let v2769 : BitVec 32 := Scalar.addi v2768 c0_i32_1180
  let v2770 : Index := Scalar.indexCast v2769
  let c0_1183 : Index := 0#32
  let c0_1184 : Index := 0#32
  ![0, 0, v2770.toNat, 0, 0]
def k0_mult185 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c0_i32_1090 : BitVec 32 := 0#32
  let v2566 : BitVec 32 := Scalar.addi v1712 c0_i32_1090
  let c512_i32_1091 : BitVec 32 := 512#32
  let v2567 : BitVec 32 := Scalar.muli v2566 c512_i32_1091
  v2567
def k0_mult186 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c0_i32_1090 : BitVec 32 := 0#32
  let v2566 : BitVec 32 := Scalar.addi v1712 c0_i32_1090
  let c512_i32_1091 : BitVec 32 := 512#32
  let v2567 : BitVec 32 := Scalar.muli v2566 c512_i32_1091
  let v2568 : BitVec 32 := v2567
  let c0_i32_1092 : BitVec 32 := 0#32
  let v2569 : BitVec 32 := Scalar.addi v2568 c0_i32_1092
  v2569
def k0_off21 (i : grid0.Coords) (c0_i32_1090 : BitVec 32) (c0_i32_1092 : BitVec 32) : Fin 2 → Nat :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let v2566 : BitVec 32 := Scalar.addi v1712 c0_i32_1090
  let c512_i32_1091 : BitVec 32 := 512#32
  let v2567 : BitVec 32 := Scalar.muli v2566 c512_i32_1091
  let v2568 : BitVec 32 := v2567
  let v2569 : BitVec 32 := Scalar.addi v2568 c0_i32_1092
  let v2570 : BitVec 32 := v2569
  let v2571 : Index := Scalar.indexCast v2570
  let c0_1093 : Index := 0#32
  ![v2571.toNat, 0]
def k0_mult187 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c0_i32_1090 : BitVec 32 := 0#32
  let v2566 : BitVec 32 := Scalar.addi v1712 c0_i32_1090
  let c512_i32_1091 : BitVec 32 := 512#32
  let v2567 : BitVec 32 := Scalar.muli v2566 c512_i32_1091
  let v2568 : BitVec 32 := v2567
  let c256_i32 : BitVec 32 := 256#32
  let v2578 : BitVec 32 := Scalar.addi v2568 c256_i32
  v2578
def k0_mult188 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c1_i32_1099 : BitVec 32 := 1#32
  let v2587 : BitVec 32 := Scalar.addi v1712 c1_i32_1099
  let c512_i32_1100 : BitVec 32 := 512#32
  let v2588 : BitVec 32 := Scalar.muli v2587 c512_i32_1100
  v2588
def k0_mult189 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c1_i32_1099 : BitVec 32 := 1#32
  let v2587 : BitVec 32 := Scalar.addi v1712 c1_i32_1099
  let c512_i32_1100 : BitVec 32 := 512#32
  let v2588 : BitVec 32 := Scalar.muli v2587 c512_i32_1100
  let v2589 : BitVec 32 := v2588
  let c0_i32_1101 : BitVec 32 := 0#32
  let v2590 : BitVec 32 := Scalar.addi v2589 c0_i32_1101
  v2590
def k0_mult190 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c1_i32_1099 : BitVec 32 := 1#32
  let v2587 : BitVec 32 := Scalar.addi v1712 c1_i32_1099
  let c512_i32_1100 : BitVec 32 := 512#32
  let v2588 : BitVec 32 := Scalar.muli v2587 c512_i32_1100
  let v2589 : BitVec 32 := v2588
  let c256_i32_1105 : BitVec 32 := 256#32
  let v2599 : BitVec 32 := Scalar.addi v2589 c256_i32_1105
  v2599
def k0_mult191 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c2_i32_1109 : BitVec 32 := 2#32
  let v2608 : BitVec 32 := Scalar.addi v1712 c2_i32_1109
  let c512_i32_1110 : BitVec 32 := 512#32
  let v2609 : BitVec 32 := Scalar.muli v2608 c512_i32_1110
  v2609
def k0_mult192 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c2_i32_1109 : BitVec 32 := 2#32
  let v2608 : BitVec 32 := Scalar.addi v1712 c2_i32_1109
  let c512_i32_1110 : BitVec 32 := 512#32
  let v2609 : BitVec 32 := Scalar.muli v2608 c512_i32_1110
  let v2610 : BitVec 32 := v2609
  let c0_i32_1111 : BitVec 32 := 0#32
  let v2611 : BitVec 32 := Scalar.addi v2610 c0_i32_1111
  v2611
def k0_mult193 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c2_i32_1109 : BitVec 32 := 2#32
  let v2608 : BitVec 32 := Scalar.addi v1712 c2_i32_1109
  let c512_i32_1110 : BitVec 32 := 512#32
  let v2609 : BitVec 32 := Scalar.muli v2608 c512_i32_1110
  let v2610 : BitVec 32 := v2609
  let c256_i32_1117 : BitVec 32 := 256#32
  let v2628 : BitVec 32 := Scalar.addi v2610 c256_i32_1117
  v2628
def k0_mult194 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c0_i32_1123 : BitVec 32 := 0#32
  let v2645 : BitVec 32 := Scalar.addi v1712 c0_i32_1123
  let c512_i32_1124 : BitVec 32 := 512#32
  let v2646 : BitVec 32 := Scalar.muli v2645 c512_i32_1124
  v2646
def k0_mult195 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c0_i32_1123 : BitVec 32 := 0#32
  let v2645 : BitVec 32 := Scalar.addi v1712 c0_i32_1123
  let c512_i32_1124 : BitVec 32 := 512#32
  let v2646 : BitVec 32 := Scalar.muli v2645 c512_i32_1124
  let v2647 : BitVec 32 := v2646
  let c0_i32_1125 : BitVec 32 := 0#32
  let v2648 : BitVec 32 := Scalar.addi v2647 c0_i32_1125
  v2648
def k0_mult196 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c0_i32_1123 : BitVec 32 := 0#32
  let v2645 : BitVec 32 := Scalar.addi v1712 c0_i32_1123
  let c512_i32_1124 : BitVec 32 := 512#32
  let v2646 : BitVec 32 := Scalar.muli v2645 c512_i32_1124
  let v2647 : BitVec 32 := v2646
  let c256_i32_1129 : BitVec 32 := 256#32
  let v2657 : BitVec 32 := Scalar.addi v2647 c256_i32_1129
  v2657
def k0_mult197 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c1_i32_1133 : BitVec 32 := 1#32
  let v2666 : BitVec 32 := Scalar.addi v1712 c1_i32_1133
  let c512_i32_1134 : BitVec 32 := 512#32
  let v2667 : BitVec 32 := Scalar.muli v2666 c512_i32_1134
  v2667
def k0_mult198 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c1_i32_1133 : BitVec 32 := 1#32
  let v2666 : BitVec 32 := Scalar.addi v1712 c1_i32_1133
  let c512_i32_1134 : BitVec 32 := 512#32
  let v2667 : BitVec 32 := Scalar.muli v2666 c512_i32_1134
  let v2668 : BitVec 32 := v2667
  let c0_i32_1135 : BitVec 32 := 0#32
  let v2669 : BitVec 32 := Scalar.addi v2668 c0_i32_1135
  v2669
def k0_mult199 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c1_i32_1133 : BitVec 32 := 1#32
  let v2666 : BitVec 32 := Scalar.addi v1712 c1_i32_1133
  let c512_i32_1134 : BitVec 32 := 512#32
  let v2667 : BitVec 32 := Scalar.muli v2666 c512_i32_1134
  let v2668 : BitVec 32 := v2667
  let c256_i32_1139 : BitVec 32 := 256#32
  let v2678 : BitVec 32 := Scalar.addi v2668 c256_i32_1139
  v2678
def k0_mult200 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c2_i32_1143 : BitVec 32 := 2#32
  let v2687 : BitVec 32 := Scalar.addi v1712 c2_i32_1143
  let c512_i32_1144 : BitVec 32 := 512#32
  let v2688 : BitVec 32 := Scalar.muli v2687 c512_i32_1144
  v2688
def k0_mult201 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c2_i32_1143 : BitVec 32 := 2#32
  let v2687 : BitVec 32 := Scalar.addi v1712 c2_i32_1143
  let c512_i32_1144 : BitVec 32 := 512#32
  let v2688 : BitVec 32 := Scalar.muli v2687 c512_i32_1144
  let v2689 : BitVec 32 := v2688
  let c0_i32_1145 : BitVec 32 := 0#32
  let v2690 : BitVec 32 := Scalar.addi v2689 c0_i32_1145
  v2690
def k0_mult202 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let c2_i32_1143 : BitVec 32 := 2#32
  let v2687 : BitVec 32 := Scalar.addi v1712 c2_i32_1143
  let c512_i32_1144 : BitVec 32 := 512#32
  let v2688 : BitVec 32 := Scalar.muli v2687 c512_i32_1144
  let v2689 : BitVec 32 := v2688
  let c256_i32_1151 : BitVec 32 := 256#32
  let v2707 : BitVec 32 := Scalar.addi v2689 c256_i32_1151
  v2707
def k0_off22 (i : grid0.Coords) (c0_i32_1157 : BitVec 32) (c0_i32_1159 : BitVec 32) (c0_i32_1160 : BitVec 32) : Fin 5 → Nat :=
  let c0_1161 : Index := 0#32
  let c0_1162 : Index := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_692 : BitVec 32 := 4#32
  let v1712 : BitVec 32 := Scalar.muli v1696 c4_i32_692
  let v2724 : BitVec 32 := Scalar.addi v1712 c0_i32_1157
  let c4_i32_1158 : BitVec 32 := 4#32
  let v2725 : BitVec 32 := Scalar.muli v2724 c4_i32_1158
  let v2726 : BitVec 32 := Scalar.addi v2725 c0_i32_1159
  let v2727 : BitVec 32 := Scalar.addi v2726 c0_i32_1160
  let v2728 : Index := Scalar.indexCast v2727
  let c0_1163 : Index := 0#32
  let c0_1164 : Index := 0#32
  ![0, 0, v2728.toNat, 0, 0]
def k0_mult203 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c0_i32_1088 : BitVec 32 := 0#32
  let v2563 : BitVec 32 := Scalar.addi v1711 c0_i32_1088
  let c512_i32_1089 : BitVec 32 := 512#32
  let v2564 : BitVec 32 := Scalar.muli v2563 c512_i32_1089
  v2564
def k0_mult204 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c0_i32_1088 : BitVec 32 := 0#32
  let v2563 : BitVec 32 := Scalar.addi v1711 c0_i32_1088
  let c512_i32_1089 : BitVec 32 := 512#32
  let v2564 : BitVec 32 := Scalar.muli v2563 c512_i32_1089
  let v2565 : BitVec 32 := v2564
  let c0_i32_1090 : BitVec 32 := 0#32
  let v2566 : BitVec 32 := Scalar.addi v2565 c0_i32_1090
  v2566
def k0_off23 (i : grid0.Coords) (c0_i32_1088 : BitVec 32) (c0_i32_1090 : BitVec 32) : Fin 2 → Nat :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let v2563 : BitVec 32 := Scalar.addi v1711 c0_i32_1088
  let c512_i32_1089 : BitVec 32 := 512#32
  let v2564 : BitVec 32 := Scalar.muli v2563 c512_i32_1089
  let v2565 : BitVec 32 := v2564
  let v2566 : BitVec 32 := Scalar.addi v2565 c0_i32_1090
  let v2567 : BitVec 32 := v2566
  let v2568 : Index := Scalar.indexCast v2567
  let c0_1091 : Index := 0#32
  ![v2568.toNat, 0]
def k0_mult205 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c0_i32_1088 : BitVec 32 := 0#32
  let v2563 : BitVec 32 := Scalar.addi v1711 c0_i32_1088
  let c512_i32_1089 : BitVec 32 := 512#32
  let v2564 : BitVec 32 := Scalar.muli v2563 c512_i32_1089
  let v2565 : BitVec 32 := v2564
  let c256_i32 : BitVec 32 := 256#32
  let v2575 : BitVec 32 := Scalar.addi v2565 c256_i32
  v2575
def k0_mult206 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c1_i32_1097 : BitVec 32 := 1#32
  let v2584 : BitVec 32 := Scalar.addi v1711 c1_i32_1097
  let c512_i32_1098 : BitVec 32 := 512#32
  let v2585 : BitVec 32 := Scalar.muli v2584 c512_i32_1098
  v2585
def k0_mult207 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c1_i32_1097 : BitVec 32 := 1#32
  let v2584 : BitVec 32 := Scalar.addi v1711 c1_i32_1097
  let c512_i32_1098 : BitVec 32 := 512#32
  let v2585 : BitVec 32 := Scalar.muli v2584 c512_i32_1098
  let v2586 : BitVec 32 := v2585
  let c0_i32_1099 : BitVec 32 := 0#32
  let v2587 : BitVec 32 := Scalar.addi v2586 c0_i32_1099
  v2587
def k0_mult208 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c1_i32_1097 : BitVec 32 := 1#32
  let v2584 : BitVec 32 := Scalar.addi v1711 c1_i32_1097
  let c512_i32_1098 : BitVec 32 := 512#32
  let v2585 : BitVec 32 := Scalar.muli v2584 c512_i32_1098
  let v2586 : BitVec 32 := v2585
  let c256_i32_1105 : BitVec 32 := 256#32
  let v2604 : BitVec 32 := Scalar.addi v2586 c256_i32_1105
  v2604
def k0_mult209 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c0_i32_1111 : BitVec 32 := 0#32
  let v2621 : BitVec 32 := Scalar.addi v1711 c0_i32_1111
  let c512_i32_1112 : BitVec 32 := 512#32
  let v2622 : BitVec 32 := Scalar.muli v2621 c512_i32_1112
  v2622
def k0_mult210 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c0_i32_1111 : BitVec 32 := 0#32
  let v2621 : BitVec 32 := Scalar.addi v1711 c0_i32_1111
  let c512_i32_1112 : BitVec 32 := 512#32
  let v2622 : BitVec 32 := Scalar.muli v2621 c512_i32_1112
  let v2623 : BitVec 32 := v2622
  let c0_i32_1113 : BitVec 32 := 0#32
  let v2624 : BitVec 32 := Scalar.addi v2623 c0_i32_1113
  v2624
def k0_mult211 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c0_i32_1111 : BitVec 32 := 0#32
  let v2621 : BitVec 32 := Scalar.addi v1711 c0_i32_1111
  let c512_i32_1112 : BitVec 32 := 512#32
  let v2622 : BitVec 32 := Scalar.muli v2621 c512_i32_1112
  let v2623 : BitVec 32 := v2622
  let c256_i32_1117 : BitVec 32 := 256#32
  let v2633 : BitVec 32 := Scalar.addi v2623 c256_i32_1117
  v2633
def k0_mult212 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c1_i32_1121 : BitVec 32 := 1#32
  let v2642 : BitVec 32 := Scalar.addi v1711 c1_i32_1121
  let c512_i32_1122 : BitVec 32 := 512#32
  let v2643 : BitVec 32 := Scalar.muli v2642 c512_i32_1122
  v2643
def k0_mult213 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c1_i32_1121 : BitVec 32 := 1#32
  let v2642 : BitVec 32 := Scalar.addi v1711 c1_i32_1121
  let c512_i32_1122 : BitVec 32 := 512#32
  let v2643 : BitVec 32 := Scalar.muli v2642 c512_i32_1122
  let v2644 : BitVec 32 := v2643
  let c0_i32_1123 : BitVec 32 := 0#32
  let v2645 : BitVec 32 := Scalar.addi v2644 c0_i32_1123
  v2645
def k0_mult214 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let c1_i32_1121 : BitVec 32 := 1#32
  let v2642 : BitVec 32 := Scalar.addi v1711 c1_i32_1121
  let c512_i32_1122 : BitVec 32 := 512#32
  let v2643 : BitVec 32 := Scalar.muli v2642 c512_i32_1122
  let v2644 : BitVec 32 := v2643
  let c256_i32_1129 : BitVec 32 := 256#32
  let v2662 : BitVec 32 := Scalar.addi v2644 c256_i32_1129
  v2662
def k0_off24 (i : grid0.Coords) (c0_i32_1135 : BitVec 32) (c0_i32_1137 : BitVec 32) (c0_i32_1138 : BitVec 32) : Fin 5 → Nat :=
  let c0_1139 : Index := 0#32
  let c0_1140 : Index := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_691 : BitVec 32 := 4#32
  let v1711 : BitVec 32 := Scalar.muli v1696 c4_i32_691
  let v2679 : BitVec 32 := Scalar.addi v1711 c0_i32_1135
  let c4_i32_1136 : BitVec 32 := 4#32
  let v2680 : BitVec 32 := Scalar.muli v2679 c4_i32_1136
  let v2681 : BitVec 32 := Scalar.addi v2680 c0_i32_1137
  let v2682 : BitVec 32 := Scalar.addi v2681 c0_i32_1138
  let v2683 : Index := Scalar.indexCast v2682
  let c0_1141 : Index := 0#32
  let c0_1142 : Index := 0#32
  ![0, 0, v2683.toNat, 0, 0]
def k0_mult215 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_690 : BitVec 32 := 4#32
  let v1710 : BitVec 32 := Scalar.muli v1696 c4_i32_690
  let c0_i32_1086 : BitVec 32 := 0#32
  let v2560 : BitVec 32 := Scalar.addi v1710 c0_i32_1086
  let c512_i32_1087 : BitVec 32 := 512#32
  let v2561 : BitVec 32 := Scalar.muli v2560 c512_i32_1087
  v2561
def k0_mult216 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_690 : BitVec 32 := 4#32
  let v1710 : BitVec 32 := Scalar.muli v1696 c4_i32_690
  let c0_i32_1086 : BitVec 32 := 0#32
  let v2560 : BitVec 32 := Scalar.addi v1710 c0_i32_1086
  let c512_i32_1087 : BitVec 32 := 512#32
  let v2561 : BitVec 32 := Scalar.muli v2560 c512_i32_1087
  let v2562 : BitVec 32 := v2561
  let c0_i32_1088 : BitVec 32 := 0#32
  let v2563 : BitVec 32 := Scalar.addi v2562 c0_i32_1088
  v2563
def k0_off25 (i : grid0.Coords) (c0_i32_1088 : BitVec 32) : Fin 2 → Nat :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_690 : BitVec 32 := 4#32
  let v1710 : BitVec 32 := Scalar.muli v1696 c4_i32_690
  let c0_i32_1086 : BitVec 32 := 0#32
  let v2560 : BitVec 32 := Scalar.addi v1710 c0_i32_1086
  let c512_i32_1087 : BitVec 32 := 512#32
  let v2561 : BitVec 32 := Scalar.muli v2560 c512_i32_1087
  let v2562 : BitVec 32 := v2561
  let v2563 : BitVec 32 := Scalar.addi v2562 c0_i32_1088
  let v2564 : BitVec 32 := v2563
  let v2565 : Index := Scalar.indexCast v2564
  let c0_1089 : Index := 0#32
  ![v2565.toNat, 0]
def k0_mult217 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_690 : BitVec 32 := 4#32
  let v1710 : BitVec 32 := Scalar.muli v1696 c4_i32_690
  let c0_i32_1086 : BitVec 32 := 0#32
  let v2560 : BitVec 32 := Scalar.addi v1710 c0_i32_1086
  let c512_i32_1087 : BitVec 32 := 512#32
  let v2561 : BitVec 32 := Scalar.muli v2560 c512_i32_1087
  let v2562 : BitVec 32 := v2561
  let c256_i32 : BitVec 32 := 256#32
  let v2580 : BitVec 32 := Scalar.addi v2562 c256_i32
  v2580
def k0_mult218 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_690 : BitVec 32 := 4#32
  let v1710 : BitVec 32 := Scalar.muli v1696 c4_i32_690
  let c0_i32_1099 : BitVec 32 := 0#32
  let v2597 : BitVec 32 := Scalar.addi v1710 c0_i32_1099
  let c512_i32_1100 : BitVec 32 := 512#32
  let v2598 : BitVec 32 := Scalar.muli v2597 c512_i32_1100
  v2598
def k0_mult219 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_690 : BitVec 32 := 4#32
  let v1710 : BitVec 32 := Scalar.muli v1696 c4_i32_690
  let c0_i32_1099 : BitVec 32 := 0#32
  let v2597 : BitVec 32 := Scalar.addi v1710 c0_i32_1099
  let c512_i32_1100 : BitVec 32 := 512#32
  let v2598 : BitVec 32 := Scalar.muli v2597 c512_i32_1100
  let v2599 : BitVec 32 := v2598
  let c0_i32_1101 : BitVec 32 := 0#32
  let v2600 : BitVec 32 := Scalar.addi v2599 c0_i32_1101
  v2600
def k0_mult220 (i : grid0.Coords) : BitVec 32 :=
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_690 : BitVec 32 := 4#32
  let v1710 : BitVec 32 := Scalar.muli v1696 c4_i32_690
  let c0_i32_1099 : BitVec 32 := 0#32
  let v2597 : BitVec 32 := Scalar.addi v1710 c0_i32_1099
  let c512_i32_1100 : BitVec 32 := 512#32
  let v2598 : BitVec 32 := Scalar.muli v2597 c512_i32_1100
  let v2599 : BitVec 32 := v2598
  let c256_i32_1107 : BitVec 32 := 256#32
  let v2617 : BitVec 32 := Scalar.addi v2599 c256_i32_1107
  v2617
def k0_off26 (i : grid0.Coords) (c0_i32_1115 : BitVec 32) (c0_i32_1116 : BitVec 32) : Fin 5 → Nat :=
  let c0_1117 : Index := 0#32
  let c0_1118 : Index := 0#32
  let arg2 : BitVec 32 := BitVec.ofNat 32 (i 2).val
  let c4_i32_148 : BitVec 32 := 4#32
  let v395 : BitVec 32 := Scalar.muli arg2 c4_i32_148
  let c1_i32_149 : BitVec 32 := 1#32
  let v396 : BitVec 32 := Scalar.addi v395 c1_i32_149
  let c128_i32_150 : BitVec 32 := 128#32
  let v397 : BitVec 32 := Scalar.muli v396 c128_i32_150
  let c128_i32_663 : BitVec 32 := 128#32
  let v1659 : BitVec 32 := Scalar.addi v397 c128_i32_663
  let c512_i32_664 : BitVec 32 := 512#32
  let v1660 : BitVec 32 := Scalar.addi v1659 c512_i32_664
  let c1_i32_665 : BitVec 32 := 1#32
  let v1661 : BitVec 32 := Scalar.subi v1660 c1_i32_665
  let c0_i32_667 : BitVec 32 := 0#32
  let v1663 : BitVec 1 := Scalar.cmpi .sgt v1661 c0_i32_667
  let v1664 : BitVec 32 := Scalar.extui v1663
  let c0_i32_668 : BitVec 32 := 0#32
  let v1665 : BitVec 1 := Scalar.cmpi .slt v1661 c0_i32_668
  let v1666 : BitVec 32 := Scalar.extui v1665
  let v1667 : BitVec 32 := Scalar.subi v1664 v1666
  let c512_i32_666 : BitVec 32 := 512#32
  let c0_i32_669 : BitVec 32 := 0#32
  let v1668 : BitVec 1 := Scalar.cmpi .sgt c512_i32_666 c0_i32_669
  let v1669 : BitVec 32 := Scalar.extui v1668
  let c0_i32_670 : BitVec 32 := 0#32
  let v1670 : BitVec 1 := Scalar.cmpi .slt c512_i32_666 c0_i32_670
  let v1671 : BitVec 32 := Scalar.extui v1670
  let v1672 : BitVec 32 := Scalar.subi v1669 v1671
  let v1673 : BitVec 1 := Scalar.cmpi .ne v1667 v1672
  let v1674 : BitVec 32 := Scalar.remsi v1661 c512_i32_666
  let c0_i32_671 : BitVec 32 := 0#32
  let v1675 : BitVec 1 := Scalar.cmpi .ne v1674 c0_i32_671
  let v1676 : BitVec 1 := Scalar.andi v1673 v1675
  let v1662 : BitVec 32 := Scalar.divsi v1661 c512_i32_666
  let c1_i32_672 : BitVec 32 := 1#32
  let v1677 : BitVec 32 := Scalar.subi v1662 c1_i32_672
  let v1678 : BitVec 32 := Scalar.select v1676 v1677 v1662
  let c1_i32_673 : BitVec 32 := 1#32
  let v1679 : BitVec 32 := Scalar.subi v1678 c1_i32_673
  let c0_i32_675 : BitVec 32 := 0#32
  let v1681 : BitVec 1 := Scalar.cmpi .sgt v1679 c0_i32_675
  let v1682 : BitVec 32 := Scalar.extui v1681
  let c0_i32_676 : BitVec 32 := 0#32
  let v1683 : BitVec 1 := Scalar.cmpi .slt v1679 c0_i32_676
  let v1684 : BitVec 32 := Scalar.extui v1683
  let v1685 : BitVec 32 := Scalar.subi v1682 v1684
  let c4_i32_674 : BitVec 32 := 4#32
  let c0_i32_677 : BitVec 32 := 0#32
  let v1686 : BitVec 1 := Scalar.cmpi .sgt c4_i32_674 c0_i32_677
  let v1687 : BitVec 32 := Scalar.extui v1686
  let c0_i32_678 : BitVec 32 := 0#32
  let v1688 : BitVec 1 := Scalar.cmpi .slt c4_i32_674 c0_i32_678
  let v1689 : BitVec 32 := Scalar.extui v1688
  let v1690 : BitVec 32 := Scalar.subi v1687 v1689
  let v1691 : BitVec 1 := Scalar.cmpi .ne v1685 v1690
  let v1692 : BitVec 32 := Scalar.remsi v1679 c4_i32_674
  let c0_i32_679 : BitVec 32 := 0#32
  let v1693 : BitVec 1 := Scalar.cmpi .ne v1692 c0_i32_679
  let v1694 : BitVec 1 := Scalar.andi v1691 v1693
  let v1680 : BitVec 32 := Scalar.divsi v1679 c4_i32_674
  let c1_i32_680 : BitVec 32 := 1#32
  let v1695 : BitVec 32 := Scalar.subi v1680 c1_i32_680
  let v1696 : BitVec 32 := Scalar.select v1694 v1695 v1680
  let c4_i32_690 : BitVec 32 := 4#32
  let v1710 : BitVec 32 := Scalar.muli v1696 c4_i32_690
  let c0_i32_1113 : BitVec 32 := 0#32
  let v2634 : BitVec 32 := Scalar.addi v1710 c0_i32_1113
  let c4_i32_1114 : BitVec 32 := 4#32
  let v2635 : BitVec 32 := Scalar.muli v2634 c4_i32_1114
  let v2636 : BitVec 32 := Scalar.addi v2635 c0_i32_1115
  let v2637 : BitVec 32 := Scalar.addi v2636 c0_i32_1116
  let v2638 : Index := Scalar.indexCast v2637
  let c0_1119 : Index := 0#32
  let c0_1120 : Index := 0#32
  ![0, 0, v2638.toNat, 0, 0]
@[reducible] def k0_t5_loop (i : grid0.Coords) : Scf.Loop 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_726 : BitVec 32 := 1#32
  ⟨c0_i32_724, v1782, c1_i32_726⟩
def k0_mult221 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  v2562
def k0_mult222 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c0_i32_1089 : BitVec 32 := 0#32
  let v2564 : BitVec 32 := Scalar.addi v2563 c0_i32_1089
  v2564
def k0_off27 (i : grid0.Coords) (k0_t5 : Fin (k0_t5_loop i).trips) (c0_i32_1087 : BitVec 32) (c0_i32_1089 : BitVec 32) : Fin 2 → Nat :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let v2561 : BitVec 32 := Scalar.addi v2560 c0_i32_1087
  let c512_i32_1088 : BitVec 32 := 512#32
  let v2562 : BitVec 32 := Scalar.muli v2561 c512_i32_1088
  let v2563 : BitVec 32 := v2562
  let v2564 : BitVec 32 := Scalar.addi v2563 c0_i32_1089
  let v2565 : BitVec 32 := v2564
  let v2566 : Index := Scalar.indexCast v2565
  let c0_1090 : Index := 0#32
  ![v2566.toNat, 0]
def k0_mult223 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c256_i32 : BitVec 32 := 256#32
  let v2573 : BitVec 32 := Scalar.addi v2563 c256_i32
  v2573
def k0_mult224 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  v2583
def k0_mult225 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c0_i32_1098 : BitVec 32 := 0#32
  let v2585 : BitVec 32 := Scalar.addi v2584 c0_i32_1098
  v2585
def k0_mult226 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c256_i32_1102 : BitVec 32 := 256#32
  let v2594 : BitVec 32 := Scalar.addi v2584 c256_i32_1102
  v2594
def k0_mult227 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  v2604
def k0_mult228 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c0_i32_1108 : BitVec 32 := 0#32
  let v2606 : BitVec 32 := Scalar.addi v2605 c0_i32_1108
  v2606
def k0_mult229 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c256_i32_1112 : BitVec 32 := 256#32
  let v2615 : BitVec 32 := Scalar.addi v2605 c256_i32_1112
  v2615
def k0_mult230 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  v2625
def k0_mult231 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c0_i32_1118 : BitVec 32 := 0#32
  let v2627 : BitVec 32 := Scalar.addi v2626 c0_i32_1118
  v2627
def k0_mult232 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c256_i32_1122 : BitVec 32 := 256#32
  let v2636 : BitVec 32 := Scalar.addi v2626 c256_i32_1122
  v2636
def k0_mult233 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  v2646
def k0_mult234 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c0_i32_1128 : BitVec 32 := 0#32
  let v2648 : BitVec 32 := Scalar.addi v2647 c0_i32_1128
  v2648
def k0_mult235 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c256_i32_1132 : BitVec 32 := 256#32
  let v2657 : BitVec 32 := Scalar.addi v2647 c256_i32_1132
  v2657
def k0_mult236 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  v2667
def k0_mult237 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c0_i32_1138 : BitVec 32 := 0#32
  let v2669 : BitVec 32 := Scalar.addi v2668 c0_i32_1138
  v2669
def k0_mult238 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c256_i32_1142 : BitVec 32 := 256#32
  let v2678 : BitVec 32 := Scalar.addi v2668 c256_i32_1142
  v2678
def k0_mult239 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  v2688
def k0_mult240 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c0_i32_1148 : BitVec 32 := 0#32
  let v2690 : BitVec 32 := Scalar.addi v2689 c0_i32_1148
  v2690
def k0_mult241 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c256_i32_1152 : BitVec 32 := 256#32
  let v2699 : BitVec 32 := Scalar.addi v2689 c256_i32_1152
  v2699
def k0_mult242 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  v2709
def k0_mult243 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c0_i32_1158 : BitVec 32 := 0#32
  let v2711 : BitVec 32 := Scalar.addi v2710 c0_i32_1158
  v2711
def k0_mult244 (i : grid0.Coords) (k0_t5 : Fin (k0_t5_loop i).trips) : BitVec 32 :=
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c256_i32_1162 : BitVec 32 := 256#32
  let v2720 : BitVec 32 := Scalar.addi v2710 c256_i32_1162
  v2720
def k0_off28 (i : grid0.Coords) (k0_t5 : Fin (k0_t5_loop i).trips) (c0_i32_1166 : BitVec 32) (c0_i32_1168 : BitVec 32) (c0_i32_1169 : BitVec 32) : Fin 5 → Nat :=
  let c0_1170 : Index := 0#32
  let c0_1171 : Index := 0#32
  let c0_i32_724 : BitVec 32 := 0#32
  let c1_i32_726 : BitVec 32 := 1#32
  let arg16 : BitVec 32 := Scf.iv c0_i32_724 c1_i32_726 k0_t5
  let c4_i32_1086 : BitVec 32 := 4#32
  let v2560 : BitVec 32 := Scalar.muli arg16 c4_i32_1086
  let v2729 : BitVec 32 := Scalar.addi v2560 c0_i32_1166
  let c4_i32_1167 : BitVec 32 := 4#32
  let v2730 : BitVec 32 := Scalar.muli v2729 c4_i32_1167
  let v2731 : BitVec 32 := Scalar.addi v2730 c0_i32_1168
  let v2732 : BitVec 32 := Scalar.addi v2731 c0_i32_1169
  let v2733 : Index := Scalar.indexCast v2732
  let c0_1172 : Index := 0#32
  let c0_1173 : Index := 0#32
  ![0, 0, v2733.toNat, 0, 0]
@[reducible] def k0_t6_loop (i : grid0.Coords) : Scf.Loop 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let v1779 : BitVec 32 := Scalar.addi c0_i32_724 v1778
  let c1_i32_727 : BitVec 32 := 1#32
  ⟨v1782, v1779, c1_i32_727⟩
def k0_mult245 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  v2562
def k0_mult246 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c0_i32_1089 : BitVec 32 := 0#32
  let v2564 : BitVec 32 := Scalar.addi v2563 c0_i32_1089
  v2564
def k0_off29 (i : grid0.Coords) (k0_t6 : Fin (k0_t6_loop i).trips) (c0_i32_1087 : BitVec 32) (c0_i32_1089 : BitVec 32) : Fin 2 → Nat :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let v2561 : BitVec 32 := Scalar.addi v2560 c0_i32_1087
  let c512_i32_1088 : BitVec 32 := 512#32
  let v2562 : BitVec 32 := Scalar.muli v2561 c512_i32_1088
  let v2563 : BitVec 32 := v2562
  let v2564 : BitVec 32 := Scalar.addi v2563 c0_i32_1089
  let v2565 : BitVec 32 := v2564
  let v2566 : Index := Scalar.indexCast v2565
  let c0_1090 : Index := 0#32
  ![v2566.toNat, 0]
def k0_mult247 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c256_i32 : BitVec 32 := 256#32
  let v2573 : BitVec 32 := Scalar.addi v2563 c256_i32
  v2573
def k0_mult248 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  v2583
def k0_mult249 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c0_i32_1098 : BitVec 32 := 0#32
  let v2585 : BitVec 32 := Scalar.addi v2584 c0_i32_1098
  v2585
def k0_mult250 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c256_i32_1102 : BitVec 32 := 256#32
  let v2594 : BitVec 32 := Scalar.addi v2584 c256_i32_1102
  v2594
def k0_mult251 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  v2604
def k0_mult252 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c0_i32_1108 : BitVec 32 := 0#32
  let v2606 : BitVec 32 := Scalar.addi v2605 c0_i32_1108
  v2606
def k0_mult253 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c256_i32_1112 : BitVec 32 := 256#32
  let v2615 : BitVec 32 := Scalar.addi v2605 c256_i32_1112
  v2615
def k0_mult254 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  v2625
def k0_mult255 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c0_i32_1118 : BitVec 32 := 0#32
  let v2627 : BitVec 32 := Scalar.addi v2626 c0_i32_1118
  v2627
def k0_mult256 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c256_i32_1122 : BitVec 32 := 256#32
  let v2636 : BitVec 32 := Scalar.addi v2626 c256_i32_1122
  v2636
def k0_mult257 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  v2646
def k0_mult258 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c0_i32_1128 : BitVec 32 := 0#32
  let v2648 : BitVec 32 := Scalar.addi v2647 c0_i32_1128
  v2648
def k0_mult259 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c256_i32_1132 : BitVec 32 := 256#32
  let v2657 : BitVec 32 := Scalar.addi v2647 c256_i32_1132
  v2657
def k0_mult260 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  v2667
def k0_mult261 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c0_i32_1138 : BitVec 32 := 0#32
  let v2669 : BitVec 32 := Scalar.addi v2668 c0_i32_1138
  v2669
def k0_mult262 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c256_i32_1142 : BitVec 32 := 256#32
  let v2678 : BitVec 32 := Scalar.addi v2668 c256_i32_1142
  v2678
def k0_mult263 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  v2688
def k0_mult264 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c0_i32_1148 : BitVec 32 := 0#32
  let v2690 : BitVec 32 := Scalar.addi v2689 c0_i32_1148
  v2690
def k0_mult265 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c256_i32_1152 : BitVec 32 := 256#32
  let v2699 : BitVec 32 := Scalar.addi v2689 c256_i32_1152
  v2699
def k0_mult266 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  v2709
def k0_mult267 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c0_i32_1158 : BitVec 32 := 0#32
  let v2711 : BitVec 32 := Scalar.addi v2710 c0_i32_1158
  v2711
def k0_mult268 (i : grid0.Coords) (k0_t6 : Fin (k0_t6_loop i).trips) : BitVec 32 :=
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c256_i32_1162 : BitVec 32 := 256#32
  let v2720 : BitVec 32 := Scalar.addi v2710 c256_i32_1162
  v2720
def k0_off30 (i : grid0.Coords) (k0_t6 : Fin (k0_t6_loop i).trips) (c0_i32_1166 : BitVec 32) (c0_i32_1168 : BitVec 32) (c0_i32_1169 : BitVec 32) : Fin 5 → Nat :=
  let c0_1170 : Index := 0#32
  let c0_1171 : Index := 0#32
  let c0_i32_724 : BitVec 32 := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let v1778 : BitVec 32 := Scalar.subi v1771 c0_i32_724
  let c1_i32_725 : BitVec 32 := 1#32
  let v1780 : BitVec 32 := Scalar.divsi v1778 c1_i32_725
  let v1781 : BitVec 32 := Scalar.muli v1780 c1_i32_725
  let v1782 : BitVec 32 := Scalar.addi c0_i32_724 v1781
  let c1_i32_727 : BitVec 32 := 1#32
  let arg16 : BitVec 32 := Scf.iv v1782 c1_i32_727 k0_t6
  let c4_i32_1086 : BitVec 32 := 4#32
  let v2560 : BitVec 32 := Scalar.muli arg16 c4_i32_1086
  let v2729 : BitVec 32 := Scalar.addi v2560 c0_i32_1166
  let c4_i32_1167 : BitVec 32 := 4#32
  let v2730 : BitVec 32 := Scalar.muli v2729 c4_i32_1167
  let v2731 : BitVec 32 := Scalar.addi v2730 c0_i32_1168
  let v2732 : BitVec 32 := Scalar.addi v2731 c0_i32_1169
  let v2733 : Index := Scalar.indexCast v2732
  let c0_1172 : Index := 0#32
  let c0_1173 : Index := 0#32
  ![0, 0, v2733.toNat, 0, 0]
def k0_cond7 (i : grid0.Coords) : BitVec 1 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_719 : BitVec 32 := 4#32
  let v1772 : BitVec 32 := Scalar.muli v1771 c4_i32_719
  let v1773 : BitVec 32 := Scalar.subi v1753 v1772
  let c1_i32_732 : BitVec 32 := 1#32
  let v1789 : BitVec 32 := Scalar.subi v1773 c1_i32_732
  let c0_i32_733 : BitVec 32 := 0#32
  let v1790 : BitVec 32 := Scalar.maxsi v1789 c0_i32_733
  let c3_i32_734 : BitVec 32 := 3#32
  let v1791 : BitVec 32 := Scalar.minsi v1790 c3_i32_734
  let c0_i32_735 : BitVec 32 := 0#32
  let v1792 : BitVec 1 := Scalar.cmpi .ne v1791 c0_i32_735
  v1792

def k0_cond8 (i : grid0.Coords) : BitVec 1 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_719 : BitVec 32 := 4#32
  let v1772 : BitVec 32 := Scalar.muli v1771 c4_i32_719
  let v1773 : BitVec 32 := Scalar.subi v1753 v1772
  let c1_i32_732 : BitVec 32 := 1#32
  let v1789 : BitVec 32 := Scalar.subi v1773 c1_i32_732
  let c0_i32_733 : BitVec 32 := 0#32
  let v1790 : BitVec 32 := Scalar.maxsi v1789 c0_i32_733
  let c3_i32_734 : BitVec 32 := 3#32
  let v1791 : BitVec 32 := Scalar.minsi v1790 c3_i32_734
  let c1_i32_1086 : BitVec 32 := 1#32
  let v2560 : BitVec 32 := Scalar.subi v1791 c1_i32_1086
  let c0_i32_1087 : BitVec 32 := 0#32
  let v2561 : BitVec 1 := Scalar.cmpi .ne v2560 c0_i32_1087
  v2561

def k0_cond9 (i : grid0.Coords) : BitVec 1 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_719 : BitVec 32 := 4#32
  let v1772 : BitVec 32 := Scalar.muli v1771 c4_i32_719
  let v1773 : BitVec 32 := Scalar.subi v1753 v1772
  let c1_i32_732 : BitVec 32 := 1#32
  let v1789 : BitVec 32 := Scalar.subi v1773 c1_i32_732
  let c0_i32_733 : BitVec 32 := 0#32
  let v1790 : BitVec 32 := Scalar.maxsi v1789 c0_i32_733
  let c3_i32_734 : BitVec 32 := 3#32
  let v1791 : BitVec 32 := Scalar.minsi v1790 c3_i32_734
  let c1_i32_1086 : BitVec 32 := 1#32
  let v2560 : BitVec 32 := Scalar.subi v1791 c1_i32_1086
  let c1_i32_1088 : BitVec 32 := 1#32
  let v2563 : BitVec 32 := Scalar.subi v2560 c1_i32_1088
  let c0_i32_1089 : BitVec 32 := 0#32
  let v2564 : BitVec 1 := Scalar.cmpi .ne v2563 c0_i32_1089
  v2564

def k0_mult269 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c0_i32_1090 : BitVec 32 := 0#32
  let v2566 : BitVec 32 := Scalar.addi v1788 c0_i32_1090
  let c512_i32_1091 : BitVec 32 := 512#32
  let v2567 : BitVec 32 := Scalar.muli v2566 c512_i32_1091
  v2567
def k0_mult270 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c0_i32_1090 : BitVec 32 := 0#32
  let v2566 : BitVec 32 := Scalar.addi v1788 c0_i32_1090
  let c512_i32_1091 : BitVec 32 := 512#32
  let v2567 : BitVec 32 := Scalar.muli v2566 c512_i32_1091
  let v2568 : BitVec 32 := v2567
  let c0_i32_1092 : BitVec 32 := 0#32
  let v2569 : BitVec 32 := Scalar.addi v2568 c0_i32_1092
  v2569
def k0_off31 (i : grid0.Coords) (c0_i32_1090 : BitVec 32) (c0_i32_1092 : BitVec 32) : Fin 2 → Nat :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let v2566 : BitVec 32 := Scalar.addi v1788 c0_i32_1090
  let c512_i32_1091 : BitVec 32 := 512#32
  let v2567 : BitVec 32 := Scalar.muli v2566 c512_i32_1091
  let v2568 : BitVec 32 := v2567
  let v2569 : BitVec 32 := Scalar.addi v2568 c0_i32_1092
  let v2570 : BitVec 32 := v2569
  let v2571 : Index := Scalar.indexCast v2570
  let c0_1093 : Index := 0#32
  ![v2571.toNat, 0]
def k0_mult271 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c0_i32_1090 : BitVec 32 := 0#32
  let v2566 : BitVec 32 := Scalar.addi v1788 c0_i32_1090
  let c512_i32_1091 : BitVec 32 := 512#32
  let v2567 : BitVec 32 := Scalar.muli v2566 c512_i32_1091
  let v2568 : BitVec 32 := v2567
  let c256_i32 : BitVec 32 := 256#32
  let v2578 : BitVec 32 := Scalar.addi v2568 c256_i32
  v2578
def k0_mult272 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c1_i32_1099 : BitVec 32 := 1#32
  let v2587 : BitVec 32 := Scalar.addi v1788 c1_i32_1099
  let c512_i32_1100 : BitVec 32 := 512#32
  let v2588 : BitVec 32 := Scalar.muli v2587 c512_i32_1100
  v2588
def k0_mult273 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c1_i32_1099 : BitVec 32 := 1#32
  let v2587 : BitVec 32 := Scalar.addi v1788 c1_i32_1099
  let c512_i32_1100 : BitVec 32 := 512#32
  let v2588 : BitVec 32 := Scalar.muli v2587 c512_i32_1100
  let v2589 : BitVec 32 := v2588
  let c0_i32_1101 : BitVec 32 := 0#32
  let v2590 : BitVec 32 := Scalar.addi v2589 c0_i32_1101
  v2590
def k0_mult274 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c1_i32_1099 : BitVec 32 := 1#32
  let v2587 : BitVec 32 := Scalar.addi v1788 c1_i32_1099
  let c512_i32_1100 : BitVec 32 := 512#32
  let v2588 : BitVec 32 := Scalar.muli v2587 c512_i32_1100
  let v2589 : BitVec 32 := v2588
  let c256_i32_1105 : BitVec 32 := 256#32
  let v2599 : BitVec 32 := Scalar.addi v2589 c256_i32_1105
  v2599
def k0_mult275 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c2_i32_1109 : BitVec 32 := 2#32
  let v2608 : BitVec 32 := Scalar.addi v1788 c2_i32_1109
  let c512_i32_1110 : BitVec 32 := 512#32
  let v2609 : BitVec 32 := Scalar.muli v2608 c512_i32_1110
  v2609
def k0_mult276 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c2_i32_1109 : BitVec 32 := 2#32
  let v2608 : BitVec 32 := Scalar.addi v1788 c2_i32_1109
  let c512_i32_1110 : BitVec 32 := 512#32
  let v2609 : BitVec 32 := Scalar.muli v2608 c512_i32_1110
  let v2610 : BitVec 32 := v2609
  let c0_i32_1111 : BitVec 32 := 0#32
  let v2611 : BitVec 32 := Scalar.addi v2610 c0_i32_1111
  v2611
def k0_mult277 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c2_i32_1109 : BitVec 32 := 2#32
  let v2608 : BitVec 32 := Scalar.addi v1788 c2_i32_1109
  let c512_i32_1110 : BitVec 32 := 512#32
  let v2609 : BitVec 32 := Scalar.muli v2608 c512_i32_1110
  let v2610 : BitVec 32 := v2609
  let c256_i32_1115 : BitVec 32 := 256#32
  let v2620 : BitVec 32 := Scalar.addi v2610 c256_i32_1115
  v2620
def k0_mult278 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c3_i32_1119 : BitVec 32 := 3#32
  let v2629 : BitVec 32 := Scalar.addi v1788 c3_i32_1119
  let c512_i32_1120 : BitVec 32 := 512#32
  let v2630 : BitVec 32 := Scalar.muli v2629 c512_i32_1120
  v2630
def k0_mult279 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c3_i32_1119 : BitVec 32 := 3#32
  let v2629 : BitVec 32 := Scalar.addi v1788 c3_i32_1119
  let c512_i32_1120 : BitVec 32 := 512#32
  let v2630 : BitVec 32 := Scalar.muli v2629 c512_i32_1120
  let v2631 : BitVec 32 := v2630
  let c0_i32_1121 : BitVec 32 := 0#32
  let v2632 : BitVec 32 := Scalar.addi v2631 c0_i32_1121
  v2632
def k0_mult280 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c3_i32_1119 : BitVec 32 := 3#32
  let v2629 : BitVec 32 := Scalar.addi v1788 c3_i32_1119
  let c512_i32_1120 : BitVec 32 := 512#32
  let v2630 : BitVec 32 := Scalar.muli v2629 c512_i32_1120
  let v2631 : BitVec 32 := v2630
  let c256_i32_1127 : BitVec 32 := 256#32
  let v2649 : BitVec 32 := Scalar.addi v2631 c256_i32_1127
  v2649
def k0_mult281 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c0_i32_1133 : BitVec 32 := 0#32
  let v2666 : BitVec 32 := Scalar.addi v1788 c0_i32_1133
  let c512_i32_1134 : BitVec 32 := 512#32
  let v2667 : BitVec 32 := Scalar.muli v2666 c512_i32_1134
  v2667
def k0_mult282 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c0_i32_1133 : BitVec 32 := 0#32
  let v2666 : BitVec 32 := Scalar.addi v1788 c0_i32_1133
  let c512_i32_1134 : BitVec 32 := 512#32
  let v2667 : BitVec 32 := Scalar.muli v2666 c512_i32_1134
  let v2668 : BitVec 32 := v2667
  let c0_i32_1135 : BitVec 32 := 0#32
  let v2669 : BitVec 32 := Scalar.addi v2668 c0_i32_1135
  v2669
def k0_mult283 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c0_i32_1133 : BitVec 32 := 0#32
  let v2666 : BitVec 32 := Scalar.addi v1788 c0_i32_1133
  let c512_i32_1134 : BitVec 32 := 512#32
  let v2667 : BitVec 32 := Scalar.muli v2666 c512_i32_1134
  let v2668 : BitVec 32 := v2667
  let c256_i32_1139 : BitVec 32 := 256#32
  let v2678 : BitVec 32 := Scalar.addi v2668 c256_i32_1139
  v2678
def k0_mult284 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c1_i32_1143 : BitVec 32 := 1#32
  let v2687 : BitVec 32 := Scalar.addi v1788 c1_i32_1143
  let c512_i32_1144 : BitVec 32 := 512#32
  let v2688 : BitVec 32 := Scalar.muli v2687 c512_i32_1144
  v2688
def k0_mult285 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c1_i32_1143 : BitVec 32 := 1#32
  let v2687 : BitVec 32 := Scalar.addi v1788 c1_i32_1143
  let c512_i32_1144 : BitVec 32 := 512#32
  let v2688 : BitVec 32 := Scalar.muli v2687 c512_i32_1144
  let v2689 : BitVec 32 := v2688
  let c0_i32_1145 : BitVec 32 := 0#32
  let v2690 : BitVec 32 := Scalar.addi v2689 c0_i32_1145
  v2690
def k0_mult286 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c1_i32_1143 : BitVec 32 := 1#32
  let v2687 : BitVec 32 := Scalar.addi v1788 c1_i32_1143
  let c512_i32_1144 : BitVec 32 := 512#32
  let v2688 : BitVec 32 := Scalar.muli v2687 c512_i32_1144
  let v2689 : BitVec 32 := v2688
  let c256_i32_1149 : BitVec 32 := 256#32
  let v2699 : BitVec 32 := Scalar.addi v2689 c256_i32_1149
  v2699
def k0_mult287 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c2_i32_1153 : BitVec 32 := 2#32
  let v2708 : BitVec 32 := Scalar.addi v1788 c2_i32_1153
  let c512_i32_1154 : BitVec 32 := 512#32
  let v2709 : BitVec 32 := Scalar.muli v2708 c512_i32_1154
  v2709
def k0_mult288 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c2_i32_1153 : BitVec 32 := 2#32
  let v2708 : BitVec 32 := Scalar.addi v1788 c2_i32_1153
  let c512_i32_1154 : BitVec 32 := 512#32
  let v2709 : BitVec 32 := Scalar.muli v2708 c512_i32_1154
  let v2710 : BitVec 32 := v2709
  let c0_i32_1155 : BitVec 32 := 0#32
  let v2711 : BitVec 32 := Scalar.addi v2710 c0_i32_1155
  v2711
def k0_mult289 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c2_i32_1153 : BitVec 32 := 2#32
  let v2708 : BitVec 32 := Scalar.addi v1788 c2_i32_1153
  let c512_i32_1154 : BitVec 32 := 512#32
  let v2709 : BitVec 32 := Scalar.muli v2708 c512_i32_1154
  let v2710 : BitVec 32 := v2709
  let c256_i32_1159 : BitVec 32 := 256#32
  let v2720 : BitVec 32 := Scalar.addi v2710 c256_i32_1159
  v2720
def k0_mult290 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c3_i32_1163 : BitVec 32 := 3#32
  let v2729 : BitVec 32 := Scalar.addi v1788 c3_i32_1163
  let c512_i32_1164 : BitVec 32 := 512#32
  let v2730 : BitVec 32 := Scalar.muli v2729 c512_i32_1164
  v2730
def k0_mult291 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c3_i32_1163 : BitVec 32 := 3#32
  let v2729 : BitVec 32 := Scalar.addi v1788 c3_i32_1163
  let c512_i32_1164 : BitVec 32 := 512#32
  let v2730 : BitVec 32 := Scalar.muli v2729 c512_i32_1164
  let v2731 : BitVec 32 := v2730
  let c0_i32_1165 : BitVec 32 := 0#32
  let v2732 : BitVec 32 := Scalar.addi v2731 c0_i32_1165
  v2732
def k0_mult292 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let c3_i32_1163 : BitVec 32 := 3#32
  let v2729 : BitVec 32 := Scalar.addi v1788 c3_i32_1163
  let c512_i32_1164 : BitVec 32 := 512#32
  let v2730 : BitVec 32 := Scalar.muli v2729 c512_i32_1164
  let v2731 : BitVec 32 := v2730
  let c256_i32_1171 : BitVec 32 := 256#32
  let v2749 : BitVec 32 := Scalar.addi v2731 c256_i32_1171
  v2749
def k0_off32 (i : grid0.Coords) (c0_i32_1177 : BitVec 32) (c0_i32_1179 : BitVec 32) (c0_i32_1180 : BitVec 32) : Fin 5 → Nat :=
  let c0_1181 : Index := 0#32
  let c0_1182 : Index := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_731 : BitVec 32 := 4#32
  let v1788 : BitVec 32 := Scalar.muli v1771 c4_i32_731
  let v2766 : BitVec 32 := Scalar.addi v1788 c0_i32_1177
  let c4_i32_1178 : BitVec 32 := 4#32
  let v2767 : BitVec 32 := Scalar.muli v2766 c4_i32_1178
  let v2768 : BitVec 32 := Scalar.addi v2767 c0_i32_1179
  let v2769 : BitVec 32 := Scalar.addi v2768 c0_i32_1180
  let v2770 : Index := Scalar.indexCast v2769
  let c0_1183 : Index := 0#32
  let c0_1184 : Index := 0#32
  ![0, 0, v2770.toNat, 0, 0]
def k0_mult293 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c0_i32_1090 : BitVec 32 := 0#32
  let v2566 : BitVec 32 := Scalar.addi v1787 c0_i32_1090
  let c512_i32_1091 : BitVec 32 := 512#32
  let v2567 : BitVec 32 := Scalar.muli v2566 c512_i32_1091
  v2567
def k0_mult294 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c0_i32_1090 : BitVec 32 := 0#32
  let v2566 : BitVec 32 := Scalar.addi v1787 c0_i32_1090
  let c512_i32_1091 : BitVec 32 := 512#32
  let v2567 : BitVec 32 := Scalar.muli v2566 c512_i32_1091
  let v2568 : BitVec 32 := v2567
  let c0_i32_1092 : BitVec 32 := 0#32
  let v2569 : BitVec 32 := Scalar.addi v2568 c0_i32_1092
  v2569
def k0_off33 (i : grid0.Coords) (c0_i32_1090 : BitVec 32) (c0_i32_1092 : BitVec 32) : Fin 2 → Nat :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let v2566 : BitVec 32 := Scalar.addi v1787 c0_i32_1090
  let c512_i32_1091 : BitVec 32 := 512#32
  let v2567 : BitVec 32 := Scalar.muli v2566 c512_i32_1091
  let v2568 : BitVec 32 := v2567
  let v2569 : BitVec 32 := Scalar.addi v2568 c0_i32_1092
  let v2570 : BitVec 32 := v2569
  let v2571 : Index := Scalar.indexCast v2570
  let c0_1093 : Index := 0#32
  ![v2571.toNat, 0]
def k0_mult295 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c0_i32_1090 : BitVec 32 := 0#32
  let v2566 : BitVec 32 := Scalar.addi v1787 c0_i32_1090
  let c512_i32_1091 : BitVec 32 := 512#32
  let v2567 : BitVec 32 := Scalar.muli v2566 c512_i32_1091
  let v2568 : BitVec 32 := v2567
  let c256_i32 : BitVec 32 := 256#32
  let v2578 : BitVec 32 := Scalar.addi v2568 c256_i32
  v2578
def k0_mult296 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c1_i32_1099 : BitVec 32 := 1#32
  let v2587 : BitVec 32 := Scalar.addi v1787 c1_i32_1099
  let c512_i32_1100 : BitVec 32 := 512#32
  let v2588 : BitVec 32 := Scalar.muli v2587 c512_i32_1100
  v2588
def k0_mult297 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c1_i32_1099 : BitVec 32 := 1#32
  let v2587 : BitVec 32 := Scalar.addi v1787 c1_i32_1099
  let c512_i32_1100 : BitVec 32 := 512#32
  let v2588 : BitVec 32 := Scalar.muli v2587 c512_i32_1100
  let v2589 : BitVec 32 := v2588
  let c0_i32_1101 : BitVec 32 := 0#32
  let v2590 : BitVec 32 := Scalar.addi v2589 c0_i32_1101
  v2590
def k0_mult298 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c1_i32_1099 : BitVec 32 := 1#32
  let v2587 : BitVec 32 := Scalar.addi v1787 c1_i32_1099
  let c512_i32_1100 : BitVec 32 := 512#32
  let v2588 : BitVec 32 := Scalar.muli v2587 c512_i32_1100
  let v2589 : BitVec 32 := v2588
  let c256_i32_1105 : BitVec 32 := 256#32
  let v2599 : BitVec 32 := Scalar.addi v2589 c256_i32_1105
  v2599
def k0_mult299 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c2_i32_1109 : BitVec 32 := 2#32
  let v2608 : BitVec 32 := Scalar.addi v1787 c2_i32_1109
  let c512_i32_1110 : BitVec 32 := 512#32
  let v2609 : BitVec 32 := Scalar.muli v2608 c512_i32_1110
  v2609
def k0_mult300 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c2_i32_1109 : BitVec 32 := 2#32
  let v2608 : BitVec 32 := Scalar.addi v1787 c2_i32_1109
  let c512_i32_1110 : BitVec 32 := 512#32
  let v2609 : BitVec 32 := Scalar.muli v2608 c512_i32_1110
  let v2610 : BitVec 32 := v2609
  let c0_i32_1111 : BitVec 32 := 0#32
  let v2611 : BitVec 32 := Scalar.addi v2610 c0_i32_1111
  v2611
def k0_mult301 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c2_i32_1109 : BitVec 32 := 2#32
  let v2608 : BitVec 32 := Scalar.addi v1787 c2_i32_1109
  let c512_i32_1110 : BitVec 32 := 512#32
  let v2609 : BitVec 32 := Scalar.muli v2608 c512_i32_1110
  let v2610 : BitVec 32 := v2609
  let c256_i32_1117 : BitVec 32 := 256#32
  let v2628 : BitVec 32 := Scalar.addi v2610 c256_i32_1117
  v2628
def k0_mult302 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c0_i32_1123 : BitVec 32 := 0#32
  let v2645 : BitVec 32 := Scalar.addi v1787 c0_i32_1123
  let c512_i32_1124 : BitVec 32 := 512#32
  let v2646 : BitVec 32 := Scalar.muli v2645 c512_i32_1124
  v2646
def k0_mult303 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c0_i32_1123 : BitVec 32 := 0#32
  let v2645 : BitVec 32 := Scalar.addi v1787 c0_i32_1123
  let c512_i32_1124 : BitVec 32 := 512#32
  let v2646 : BitVec 32 := Scalar.muli v2645 c512_i32_1124
  let v2647 : BitVec 32 := v2646
  let c0_i32_1125 : BitVec 32 := 0#32
  let v2648 : BitVec 32 := Scalar.addi v2647 c0_i32_1125
  v2648
def k0_mult304 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c0_i32_1123 : BitVec 32 := 0#32
  let v2645 : BitVec 32 := Scalar.addi v1787 c0_i32_1123
  let c512_i32_1124 : BitVec 32 := 512#32
  let v2646 : BitVec 32 := Scalar.muli v2645 c512_i32_1124
  let v2647 : BitVec 32 := v2646
  let c256_i32_1129 : BitVec 32 := 256#32
  let v2657 : BitVec 32 := Scalar.addi v2647 c256_i32_1129
  v2657
def k0_mult305 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c1_i32_1133 : BitVec 32 := 1#32
  let v2666 : BitVec 32 := Scalar.addi v1787 c1_i32_1133
  let c512_i32_1134 : BitVec 32 := 512#32
  let v2667 : BitVec 32 := Scalar.muli v2666 c512_i32_1134
  v2667
def k0_mult306 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c1_i32_1133 : BitVec 32 := 1#32
  let v2666 : BitVec 32 := Scalar.addi v1787 c1_i32_1133
  let c512_i32_1134 : BitVec 32 := 512#32
  let v2667 : BitVec 32 := Scalar.muli v2666 c512_i32_1134
  let v2668 : BitVec 32 := v2667
  let c0_i32_1135 : BitVec 32 := 0#32
  let v2669 : BitVec 32 := Scalar.addi v2668 c0_i32_1135
  v2669
def k0_mult307 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c1_i32_1133 : BitVec 32 := 1#32
  let v2666 : BitVec 32 := Scalar.addi v1787 c1_i32_1133
  let c512_i32_1134 : BitVec 32 := 512#32
  let v2667 : BitVec 32 := Scalar.muli v2666 c512_i32_1134
  let v2668 : BitVec 32 := v2667
  let c256_i32_1139 : BitVec 32 := 256#32
  let v2678 : BitVec 32 := Scalar.addi v2668 c256_i32_1139
  v2678
def k0_mult308 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c2_i32_1143 : BitVec 32 := 2#32
  let v2687 : BitVec 32 := Scalar.addi v1787 c2_i32_1143
  let c512_i32_1144 : BitVec 32 := 512#32
  let v2688 : BitVec 32 := Scalar.muli v2687 c512_i32_1144
  v2688
def k0_mult309 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c2_i32_1143 : BitVec 32 := 2#32
  let v2687 : BitVec 32 := Scalar.addi v1787 c2_i32_1143
  let c512_i32_1144 : BitVec 32 := 512#32
  let v2688 : BitVec 32 := Scalar.muli v2687 c512_i32_1144
  let v2689 : BitVec 32 := v2688
  let c0_i32_1145 : BitVec 32 := 0#32
  let v2690 : BitVec 32 := Scalar.addi v2689 c0_i32_1145
  v2690
def k0_mult310 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let c2_i32_1143 : BitVec 32 := 2#32
  let v2687 : BitVec 32 := Scalar.addi v1787 c2_i32_1143
  let c512_i32_1144 : BitVec 32 := 512#32
  let v2688 : BitVec 32 := Scalar.muli v2687 c512_i32_1144
  let v2689 : BitVec 32 := v2688
  let c256_i32_1151 : BitVec 32 := 256#32
  let v2707 : BitVec 32 := Scalar.addi v2689 c256_i32_1151
  v2707
def k0_off34 (i : grid0.Coords) (c0_i32_1157 : BitVec 32) (c0_i32_1159 : BitVec 32) (c0_i32_1160 : BitVec 32) : Fin 5 → Nat :=
  let c0_1161 : Index := 0#32
  let c0_1162 : Index := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_730 : BitVec 32 := 4#32
  let v1787 : BitVec 32 := Scalar.muli v1771 c4_i32_730
  let v2724 : BitVec 32 := Scalar.addi v1787 c0_i32_1157
  let c4_i32_1158 : BitVec 32 := 4#32
  let v2725 : BitVec 32 := Scalar.muli v2724 c4_i32_1158
  let v2726 : BitVec 32 := Scalar.addi v2725 c0_i32_1159
  let v2727 : BitVec 32 := Scalar.addi v2726 c0_i32_1160
  let v2728 : Index := Scalar.indexCast v2727
  let c0_1163 : Index := 0#32
  let c0_1164 : Index := 0#32
  ![0, 0, v2728.toNat, 0, 0]
def k0_mult311 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c0_i32_1088 : BitVec 32 := 0#32
  let v2563 : BitVec 32 := Scalar.addi v1786 c0_i32_1088
  let c512_i32_1089 : BitVec 32 := 512#32
  let v2564 : BitVec 32 := Scalar.muli v2563 c512_i32_1089
  v2564
def k0_mult312 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c0_i32_1088 : BitVec 32 := 0#32
  let v2563 : BitVec 32 := Scalar.addi v1786 c0_i32_1088
  let c512_i32_1089 : BitVec 32 := 512#32
  let v2564 : BitVec 32 := Scalar.muli v2563 c512_i32_1089
  let v2565 : BitVec 32 := v2564
  let c0_i32_1090 : BitVec 32 := 0#32
  let v2566 : BitVec 32 := Scalar.addi v2565 c0_i32_1090
  v2566
def k0_off35 (i : grid0.Coords) (c0_i32_1088 : BitVec 32) (c0_i32_1090 : BitVec 32) : Fin 2 → Nat :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let v2563 : BitVec 32 := Scalar.addi v1786 c0_i32_1088
  let c512_i32_1089 : BitVec 32 := 512#32
  let v2564 : BitVec 32 := Scalar.muli v2563 c512_i32_1089
  let v2565 : BitVec 32 := v2564
  let v2566 : BitVec 32 := Scalar.addi v2565 c0_i32_1090
  let v2567 : BitVec 32 := v2566
  let v2568 : Index := Scalar.indexCast v2567
  let c0_1091 : Index := 0#32
  ![v2568.toNat, 0]
def k0_mult313 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c0_i32_1088 : BitVec 32 := 0#32
  let v2563 : BitVec 32 := Scalar.addi v1786 c0_i32_1088
  let c512_i32_1089 : BitVec 32 := 512#32
  let v2564 : BitVec 32 := Scalar.muli v2563 c512_i32_1089
  let v2565 : BitVec 32 := v2564
  let c256_i32 : BitVec 32 := 256#32
  let v2575 : BitVec 32 := Scalar.addi v2565 c256_i32
  v2575
def k0_mult314 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c1_i32_1097 : BitVec 32 := 1#32
  let v2584 : BitVec 32 := Scalar.addi v1786 c1_i32_1097
  let c512_i32_1098 : BitVec 32 := 512#32
  let v2585 : BitVec 32 := Scalar.muli v2584 c512_i32_1098
  v2585
def k0_mult315 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c1_i32_1097 : BitVec 32 := 1#32
  let v2584 : BitVec 32 := Scalar.addi v1786 c1_i32_1097
  let c512_i32_1098 : BitVec 32 := 512#32
  let v2585 : BitVec 32 := Scalar.muli v2584 c512_i32_1098
  let v2586 : BitVec 32 := v2585
  let c0_i32_1099 : BitVec 32 := 0#32
  let v2587 : BitVec 32 := Scalar.addi v2586 c0_i32_1099
  v2587
def k0_mult316 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c1_i32_1097 : BitVec 32 := 1#32
  let v2584 : BitVec 32 := Scalar.addi v1786 c1_i32_1097
  let c512_i32_1098 : BitVec 32 := 512#32
  let v2585 : BitVec 32 := Scalar.muli v2584 c512_i32_1098
  let v2586 : BitVec 32 := v2585
  let c256_i32_1105 : BitVec 32 := 256#32
  let v2604 : BitVec 32 := Scalar.addi v2586 c256_i32_1105
  v2604
def k0_mult317 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c0_i32_1111 : BitVec 32 := 0#32
  let v2621 : BitVec 32 := Scalar.addi v1786 c0_i32_1111
  let c512_i32_1112 : BitVec 32 := 512#32
  let v2622 : BitVec 32 := Scalar.muli v2621 c512_i32_1112
  v2622
def k0_mult318 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c0_i32_1111 : BitVec 32 := 0#32
  let v2621 : BitVec 32 := Scalar.addi v1786 c0_i32_1111
  let c512_i32_1112 : BitVec 32 := 512#32
  let v2622 : BitVec 32 := Scalar.muli v2621 c512_i32_1112
  let v2623 : BitVec 32 := v2622
  let c0_i32_1113 : BitVec 32 := 0#32
  let v2624 : BitVec 32 := Scalar.addi v2623 c0_i32_1113
  v2624
def k0_mult319 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c0_i32_1111 : BitVec 32 := 0#32
  let v2621 : BitVec 32 := Scalar.addi v1786 c0_i32_1111
  let c512_i32_1112 : BitVec 32 := 512#32
  let v2622 : BitVec 32 := Scalar.muli v2621 c512_i32_1112
  let v2623 : BitVec 32 := v2622
  let c256_i32_1117 : BitVec 32 := 256#32
  let v2633 : BitVec 32 := Scalar.addi v2623 c256_i32_1117
  v2633
def k0_mult320 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c1_i32_1121 : BitVec 32 := 1#32
  let v2642 : BitVec 32 := Scalar.addi v1786 c1_i32_1121
  let c512_i32_1122 : BitVec 32 := 512#32
  let v2643 : BitVec 32 := Scalar.muli v2642 c512_i32_1122
  v2643
def k0_mult321 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c1_i32_1121 : BitVec 32 := 1#32
  let v2642 : BitVec 32 := Scalar.addi v1786 c1_i32_1121
  let c512_i32_1122 : BitVec 32 := 512#32
  let v2643 : BitVec 32 := Scalar.muli v2642 c512_i32_1122
  let v2644 : BitVec 32 := v2643
  let c0_i32_1123 : BitVec 32 := 0#32
  let v2645 : BitVec 32 := Scalar.addi v2644 c0_i32_1123
  v2645
def k0_mult322 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let c1_i32_1121 : BitVec 32 := 1#32
  let v2642 : BitVec 32 := Scalar.addi v1786 c1_i32_1121
  let c512_i32_1122 : BitVec 32 := 512#32
  let v2643 : BitVec 32 := Scalar.muli v2642 c512_i32_1122
  let v2644 : BitVec 32 := v2643
  let c256_i32_1129 : BitVec 32 := 256#32
  let v2662 : BitVec 32 := Scalar.addi v2644 c256_i32_1129
  v2662
def k0_off36 (i : grid0.Coords) (c0_i32_1135 : BitVec 32) (c0_i32_1137 : BitVec 32) (c0_i32_1138 : BitVec 32) : Fin 5 → Nat :=
  let c0_1139 : Index := 0#32
  let c0_1140 : Index := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_729 : BitVec 32 := 4#32
  let v1786 : BitVec 32 := Scalar.muli v1771 c4_i32_729
  let v2679 : BitVec 32 := Scalar.addi v1786 c0_i32_1135
  let c4_i32_1136 : BitVec 32 := 4#32
  let v2680 : BitVec 32 := Scalar.muli v2679 c4_i32_1136
  let v2681 : BitVec 32 := Scalar.addi v2680 c0_i32_1137
  let v2682 : BitVec 32 := Scalar.addi v2681 c0_i32_1138
  let v2683 : Index := Scalar.indexCast v2682
  let c0_1141 : Index := 0#32
  let c0_1142 : Index := 0#32
  ![0, 0, v2683.toNat, 0, 0]
def k0_mult323 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_728 : BitVec 32 := 4#32
  let v1785 : BitVec 32 := Scalar.muli v1771 c4_i32_728
  let c0_i32_1086 : BitVec 32 := 0#32
  let v2560 : BitVec 32 := Scalar.addi v1785 c0_i32_1086
  let c512_i32_1087 : BitVec 32 := 512#32
  let v2561 : BitVec 32 := Scalar.muli v2560 c512_i32_1087
  v2561
def k0_mult324 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_728 : BitVec 32 := 4#32
  let v1785 : BitVec 32 := Scalar.muli v1771 c4_i32_728
  let c0_i32_1086 : BitVec 32 := 0#32
  let v2560 : BitVec 32 := Scalar.addi v1785 c0_i32_1086
  let c512_i32_1087 : BitVec 32 := 512#32
  let v2561 : BitVec 32 := Scalar.muli v2560 c512_i32_1087
  let v2562 : BitVec 32 := v2561
  let c0_i32_1088 : BitVec 32 := 0#32
  let v2563 : BitVec 32 := Scalar.addi v2562 c0_i32_1088
  v2563
def k0_off37 (i : grid0.Coords) (c0_i32_1088 : BitVec 32) : Fin 2 → Nat :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_728 : BitVec 32 := 4#32
  let v1785 : BitVec 32 := Scalar.muli v1771 c4_i32_728
  let c0_i32_1086 : BitVec 32 := 0#32
  let v2560 : BitVec 32 := Scalar.addi v1785 c0_i32_1086
  let c512_i32_1087 : BitVec 32 := 512#32
  let v2561 : BitVec 32 := Scalar.muli v2560 c512_i32_1087
  let v2562 : BitVec 32 := v2561
  let v2563 : BitVec 32 := Scalar.addi v2562 c0_i32_1088
  let v2564 : BitVec 32 := v2563
  let v2565 : Index := Scalar.indexCast v2564
  let c0_1089 : Index := 0#32
  ![v2565.toNat, 0]
def k0_mult325 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_728 : BitVec 32 := 4#32
  let v1785 : BitVec 32 := Scalar.muli v1771 c4_i32_728
  let c0_i32_1086 : BitVec 32 := 0#32
  let v2560 : BitVec 32 := Scalar.addi v1785 c0_i32_1086
  let c512_i32_1087 : BitVec 32 := 512#32
  let v2561 : BitVec 32 := Scalar.muli v2560 c512_i32_1087
  let v2562 : BitVec 32 := v2561
  let c256_i32 : BitVec 32 := 256#32
  let v2580 : BitVec 32 := Scalar.addi v2562 c256_i32
  v2580
def k0_mult326 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_728 : BitVec 32 := 4#32
  let v1785 : BitVec 32 := Scalar.muli v1771 c4_i32_728
  let c0_i32_1099 : BitVec 32 := 0#32
  let v2597 : BitVec 32 := Scalar.addi v1785 c0_i32_1099
  let c512_i32_1100 : BitVec 32 := 512#32
  let v2598 : BitVec 32 := Scalar.muli v2597 c512_i32_1100
  v2598
def k0_mult327 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_728 : BitVec 32 := 4#32
  let v1785 : BitVec 32 := Scalar.muli v1771 c4_i32_728
  let c0_i32_1099 : BitVec 32 := 0#32
  let v2597 : BitVec 32 := Scalar.addi v1785 c0_i32_1099
  let c512_i32_1100 : BitVec 32 := 512#32
  let v2598 : BitVec 32 := Scalar.muli v2597 c512_i32_1100
  let v2599 : BitVec 32 := v2598
  let c0_i32_1101 : BitVec 32 := 0#32
  let v2600 : BitVec 32 := Scalar.addi v2599 c0_i32_1101
  v2600
def k0_mult328 (i : grid0.Coords) : BitVec 32 :=
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_728 : BitVec 32 := 4#32
  let v1785 : BitVec 32 := Scalar.muli v1771 c4_i32_728
  let c0_i32_1099 : BitVec 32 := 0#32
  let v2597 : BitVec 32 := Scalar.addi v1785 c0_i32_1099
  let c512_i32_1100 : BitVec 32 := 512#32
  let v2598 : BitVec 32 := Scalar.muli v2597 c512_i32_1100
  let v2599 : BitVec 32 := v2598
  let c256_i32_1107 : BitVec 32 := 256#32
  let v2617 : BitVec 32 := Scalar.addi v2599 c256_i32_1107
  v2617
def k0_off38 (i : grid0.Coords) (c0_i32_1115 : BitVec 32) (c0_i32_1116 : BitVec 32) : Fin 5 → Nat :=
  let c0_1117 : Index := 0#32
  let c0_1118 : Index := 0#32
  let arg2 : BitVec 32 := BitVec.ofNat 32 (i 2).val
  let c4_i32_307 : BitVec 32 := 4#32
  let v790 : BitVec 32 := Scalar.muli arg2 c4_i32_307
  let c2_i32_308 : BitVec 32 := 2#32
  let v791 : BitVec 32 := Scalar.addi v790 c2_i32_308
  let c128_i32_309 : BitVec 32 := 128#32
  let v792 : BitVec 32 := Scalar.muli v791 c128_i32_309
  let c128_i32_701 : BitVec 32 := 128#32
  let v1734 : BitVec 32 := Scalar.addi v792 c128_i32_701
  let c512_i32_702 : BitVec 32 := 512#32
  let v1735 : BitVec 32 := Scalar.addi v1734 c512_i32_702
  let c1_i32_703 : BitVec 32 := 1#32
  let v1736 : BitVec 32 := Scalar.subi v1735 c1_i32_703
  let c0_i32_705 : BitVec 32 := 0#32
  let v1738 : BitVec 1 := Scalar.cmpi .sgt v1736 c0_i32_705
  let v1739 : BitVec 32 := Scalar.extui v1738
  let c0_i32_706 : BitVec 32 := 0#32
  let v1740 : BitVec 1 := Scalar.cmpi .slt v1736 c0_i32_706
  let v1741 : BitVec 32 := Scalar.extui v1740
  let v1742 : BitVec 32 := Scalar.subi v1739 v1741
  let c512_i32_704 : BitVec 32 := 512#32
  let c0_i32_707 : BitVec 32 := 0#32
  let v1743 : BitVec 1 := Scalar.cmpi .sgt c512_i32_704 c0_i32_707
  let v1744 : BitVec 32 := Scalar.extui v1743
  let c0_i32_708 : BitVec 32 := 0#32
  let v1745 : BitVec 1 := Scalar.cmpi .slt c512_i32_704 c0_i32_708
  let v1746 : BitVec 32 := Scalar.extui v1745
  let v1747 : BitVec 32 := Scalar.subi v1744 v1746
  let v1748 : BitVec 1 := Scalar.cmpi .ne v1742 v1747
  let v1749 : BitVec 32 := Scalar.remsi v1736 c512_i32_704
  let c0_i32_709 : BitVec 32 := 0#32
  let v1750 : BitVec 1 := Scalar.cmpi .ne v1749 c0_i32_709
  let v1751 : BitVec 1 := Scalar.andi v1748 v1750
  let v1737 : BitVec 32 := Scalar.divsi v1736 c512_i32_704
  let c1_i32_710 : BitVec 32 := 1#32
  let v1752 : BitVec 32 := Scalar.subi v1737 c1_i32_710
  let v1753 : BitVec 32 := Scalar.select v1751 v1752 v1737
  let c1_i32_711 : BitVec 32 := 1#32
  let v1754 : BitVec 32 := Scalar.subi v1753 c1_i32_711
  let c0_i32_713 : BitVec 32 := 0#32
  let v1756 : BitVec 1 := Scalar.cmpi .sgt v1754 c0_i32_713
  let v1757 : BitVec 32 := Scalar.extui v1756
  let c0_i32_714 : BitVec 32 := 0#32
  let v1758 : BitVec 1 := Scalar.cmpi .slt v1754 c0_i32_714
  let v1759 : BitVec 32 := Scalar.extui v1758
  let v1760 : BitVec 32 := Scalar.subi v1757 v1759
  let c4_i32_712 : BitVec 32 := 4#32
  let c0_i32_715 : BitVec 32 := 0#32
  let v1761 : BitVec 1 := Scalar.cmpi .sgt c4_i32_712 c0_i32_715
  let v1762 : BitVec 32 := Scalar.extui v1761
  let c0_i32_716 : BitVec 32 := 0#32
  let v1763 : BitVec 1 := Scalar.cmpi .slt c4_i32_712 c0_i32_716
  let v1764 : BitVec 32 := Scalar.extui v1763
  let v1765 : BitVec 32 := Scalar.subi v1762 v1764
  let v1766 : BitVec 1 := Scalar.cmpi .ne v1760 v1765
  let v1767 : BitVec 32 := Scalar.remsi v1754 c4_i32_712
  let c0_i32_717 : BitVec 32 := 0#32
  let v1768 : BitVec 1 := Scalar.cmpi .ne v1767 c0_i32_717
  let v1769 : BitVec 1 := Scalar.andi v1766 v1768
  let v1755 : BitVec 32 := Scalar.divsi v1754 c4_i32_712
  let c1_i32_718 : BitVec 32 := 1#32
  let v1770 : BitVec 32 := Scalar.subi v1755 c1_i32_718
  let v1771 : BitVec 32 := Scalar.select v1769 v1770 v1755
  let c4_i32_728 : BitVec 32 := 4#32
  let v1785 : BitVec 32 := Scalar.muli v1771 c4_i32_728
  let c0_i32_1113 : BitVec 32 := 0#32
  let v2634 : BitVec 32 := Scalar.addi v1785 c0_i32_1113
  let c4_i32_1114 : BitVec 32 := 4#32
  let v2635 : BitVec 32 := Scalar.muli v2634 c4_i32_1114
  let v2636 : BitVec 32 := Scalar.addi v2635 c0_i32_1115
  let v2637 : BitVec 32 := Scalar.addi v2636 c0_i32_1116
  let v2638 : Index := Scalar.indexCast v2637
  let c0_1119 : Index := 0#32
  let c0_1120 : Index := 0#32
  ![0, 0, v2638.toNat, 0, 0]
@[reducible] def k0_t7_loop (i : grid0.Coords) : Scf.Loop 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_764 : BitVec 32 := 1#32
  ⟨c0_i32_762, v1857, c1_i32_764⟩
def k0_mult329 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  v2562
def k0_mult330 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c0_i32_1089 : BitVec 32 := 0#32
  let v2564 : BitVec 32 := Scalar.addi v2563 c0_i32_1089
  v2564
def k0_off39 (i : grid0.Coords) (k0_t7 : Fin (k0_t7_loop i).trips) (c0_i32_1087 : BitVec 32) (c0_i32_1089 : BitVec 32) : Fin 2 → Nat :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let v2561 : BitVec 32 := Scalar.addi v2560 c0_i32_1087
  let c512_i32_1088 : BitVec 32 := 512#32
  let v2562 : BitVec 32 := Scalar.muli v2561 c512_i32_1088
  let v2563 : BitVec 32 := v2562
  let v2564 : BitVec 32 := Scalar.addi v2563 c0_i32_1089
  let v2565 : BitVec 32 := v2564
  let v2566 : Index := Scalar.indexCast v2565
  let c0_1090 : Index := 0#32
  ![v2566.toNat, 0]
def k0_mult331 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c256_i32 : BitVec 32 := 256#32
  let v2573 : BitVec 32 := Scalar.addi v2563 c256_i32
  v2573
def k0_mult332 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  v2583
def k0_mult333 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c0_i32_1098 : BitVec 32 := 0#32
  let v2585 : BitVec 32 := Scalar.addi v2584 c0_i32_1098
  v2585
def k0_mult334 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c256_i32_1102 : BitVec 32 := 256#32
  let v2594 : BitVec 32 := Scalar.addi v2584 c256_i32_1102
  v2594
def k0_mult335 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  v2604
def k0_mult336 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c0_i32_1108 : BitVec 32 := 0#32
  let v2606 : BitVec 32 := Scalar.addi v2605 c0_i32_1108
  v2606
def k0_mult337 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c256_i32_1112 : BitVec 32 := 256#32
  let v2615 : BitVec 32 := Scalar.addi v2605 c256_i32_1112
  v2615
def k0_mult338 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  v2625
def k0_mult339 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c0_i32_1118 : BitVec 32 := 0#32
  let v2627 : BitVec 32 := Scalar.addi v2626 c0_i32_1118
  v2627
def k0_mult340 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c256_i32_1122 : BitVec 32 := 256#32
  let v2636 : BitVec 32 := Scalar.addi v2626 c256_i32_1122
  v2636
def k0_mult341 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  v2646
def k0_mult342 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c0_i32_1128 : BitVec 32 := 0#32
  let v2648 : BitVec 32 := Scalar.addi v2647 c0_i32_1128
  v2648
def k0_mult343 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c256_i32_1132 : BitVec 32 := 256#32
  let v2657 : BitVec 32 := Scalar.addi v2647 c256_i32_1132
  v2657
def k0_mult344 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  v2667
def k0_mult345 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c0_i32_1138 : BitVec 32 := 0#32
  let v2669 : BitVec 32 := Scalar.addi v2668 c0_i32_1138
  v2669
def k0_mult346 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c256_i32_1142 : BitVec 32 := 256#32
  let v2678 : BitVec 32 := Scalar.addi v2668 c256_i32_1142
  v2678
def k0_mult347 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  v2688
def k0_mult348 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c0_i32_1148 : BitVec 32 := 0#32
  let v2690 : BitVec 32 := Scalar.addi v2689 c0_i32_1148
  v2690
def k0_mult349 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c256_i32_1152 : BitVec 32 := 256#32
  let v2699 : BitVec 32 := Scalar.addi v2689 c256_i32_1152
  v2699
def k0_mult350 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  v2709
def k0_mult351 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c0_i32_1158 : BitVec 32 := 0#32
  let v2711 : BitVec 32 := Scalar.addi v2710 c0_i32_1158
  v2711
def k0_mult352 (i : grid0.Coords) (k0_t7 : Fin (k0_t7_loop i).trips) : BitVec 32 :=
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c256_i32_1162 : BitVec 32 := 256#32
  let v2720 : BitVec 32 := Scalar.addi v2710 c256_i32_1162
  v2720
def k0_off40 (i : grid0.Coords) (k0_t7 : Fin (k0_t7_loop i).trips) (c0_i32_1166 : BitVec 32) (c0_i32_1168 : BitVec 32) (c0_i32_1169 : BitVec 32) : Fin 5 → Nat :=
  let c0_1170 : Index := 0#32
  let c0_1171 : Index := 0#32
  let c0_i32_762 : BitVec 32 := 0#32
  let c1_i32_764 : BitVec 32 := 1#32
  let arg16 : BitVec 32 := Scf.iv c0_i32_762 c1_i32_764 k0_t7
  let c4_i32_1086 : BitVec 32 := 4#32
  let v2560 : BitVec 32 := Scalar.muli arg16 c4_i32_1086
  let v2729 : BitVec 32 := Scalar.addi v2560 c0_i32_1166
  let c4_i32_1167 : BitVec 32 := 4#32
  let v2730 : BitVec 32 := Scalar.muli v2729 c4_i32_1167
  let v2731 : BitVec 32 := Scalar.addi v2730 c0_i32_1168
  let v2732 : BitVec 32 := Scalar.addi v2731 c0_i32_1169
  let v2733 : Index := Scalar.indexCast v2732
  let c0_1172 : Index := 0#32
  let c0_1173 : Index := 0#32
  ![0, 0, v2733.toNat, 0, 0]
@[reducible] def k0_t8_loop (i : grid0.Coords) : Scf.Loop 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let v1854 : BitVec 32 := Scalar.addi c0_i32_762 v1853
  let c1_i32_765 : BitVec 32 := 1#32
  ⟨v1857, v1854, c1_i32_765⟩
def k0_mult353 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  v2562
def k0_mult354 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c0_i32_1089 : BitVec 32 := 0#32
  let v2564 : BitVec 32 := Scalar.addi v2563 c0_i32_1089
  v2564
def k0_off41 (i : grid0.Coords) (k0_t8 : Fin (k0_t8_loop i).trips) (c0_i32_1087 : BitVec 32) (c0_i32_1089 : BitVec 32) : Fin 2 → Nat :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let v2561 : BitVec 32 := Scalar.addi v2560 c0_i32_1087
  let c512_i32_1088 : BitVec 32 := 512#32
  let v2562 : BitVec 32 := Scalar.muli v2561 c512_i32_1088
  let v2563 : BitVec 32 := v2562
  let v2564 : BitVec 32 := Scalar.addi v2563 c0_i32_1089
  let v2565 : BitVec 32 := v2564
  let v2566 : Index := Scalar.indexCast v2565
  let c0_1090 : Index := 0#32
  ![v2566.toNat, 0]
def k0_mult355 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c0_i32_1087 : BitVec 32 := 0#32
  let v2561 : BitVec 32 := Scalar.addi v2560 c0_i32_1087
  let c512_i32_1088 : BitVec 32 := 512#32
  let v2562 : BitVec 32 := Scalar.muli v2561 c512_i32_1088
  let v2563 : BitVec 32 := v2562
  let c256_i32 : BitVec 32 := 256#32
  let v2573 : BitVec 32 := Scalar.addi v2563 c256_i32
  v2573
def k0_mult356 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  v2583
def k0_mult357 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c0_i32_1098 : BitVec 32 := 0#32
  let v2585 : BitVec 32 := Scalar.addi v2584 c0_i32_1098
  v2585
def k0_mult358 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c1_i32_1096 : BitVec 32 := 1#32
  let v2582 : BitVec 32 := Scalar.addi v2560 c1_i32_1096
  let c512_i32_1097 : BitVec 32 := 512#32
  let v2583 : BitVec 32 := Scalar.muli v2582 c512_i32_1097
  let v2584 : BitVec 32 := v2583
  let c256_i32_1102 : BitVec 32 := 256#32
  let v2594 : BitVec 32 := Scalar.addi v2584 c256_i32_1102
  v2594
def k0_mult359 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  v2604
def k0_mult360 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c0_i32_1108 : BitVec 32 := 0#32
  let v2606 : BitVec 32 := Scalar.addi v2605 c0_i32_1108
  v2606
def k0_mult361 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c2_i32_1106 : BitVec 32 := 2#32
  let v2603 : BitVec 32 := Scalar.addi v2560 c2_i32_1106
  let c512_i32_1107 : BitVec 32 := 512#32
  let v2604 : BitVec 32 := Scalar.muli v2603 c512_i32_1107
  let v2605 : BitVec 32 := v2604
  let c256_i32_1112 : BitVec 32 := 256#32
  let v2615 : BitVec 32 := Scalar.addi v2605 c256_i32_1112
  v2615
def k0_mult362 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  v2625
def k0_mult363 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c0_i32_1118 : BitVec 32 := 0#32
  let v2627 : BitVec 32 := Scalar.addi v2626 c0_i32_1118
  v2627
def k0_mult364 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c3_i32_1116 : BitVec 32 := 3#32
  let v2624 : BitVec 32 := Scalar.addi v2560 c3_i32_1116
  let c512_i32_1117 : BitVec 32 := 512#32
  let v2625 : BitVec 32 := Scalar.muli v2624 c512_i32_1117
  let v2626 : BitVec 32 := v2625
  let c256_i32_1122 : BitVec 32 := 256#32
  let v2636 : BitVec 32 := Scalar.addi v2626 c256_i32_1122
  v2636
def k0_mult365 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  v2646
def k0_mult366 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c0_i32_1128 : BitVec 32 := 0#32
  let v2648 : BitVec 32 := Scalar.addi v2647 c0_i32_1128
  v2648
def k0_mult367 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c0_i32_1126 : BitVec 32 := 0#32
  let v2645 : BitVec 32 := Scalar.addi v2560 c0_i32_1126
  let c512_i32_1127 : BitVec 32 := 512#32
  let v2646 : BitVec 32 := Scalar.muli v2645 c512_i32_1127
  let v2647 : BitVec 32 := v2646
  let c256_i32_1132 : BitVec 32 := 256#32
  let v2657 : BitVec 32 := Scalar.addi v2647 c256_i32_1132
  v2657
def k0_mult368 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  v2667
def k0_mult369 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c0_i32_1138 : BitVec 32 := 0#32
  let v2669 : BitVec 32 := Scalar.addi v2668 c0_i32_1138
  v2669
def k0_mult370 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c1_i32_1136 : BitVec 32 := 1#32
  let v2666 : BitVec 32 := Scalar.addi v2560 c1_i32_1136
  let c512_i32_1137 : BitVec 32 := 512#32
  let v2667 : BitVec 32 := Scalar.muli v2666 c512_i32_1137
  let v2668 : BitVec 32 := v2667
  let c256_i32_1142 : BitVec 32 := 256#32
  let v2678 : BitVec 32 := Scalar.addi v2668 c256_i32_1142
  v2678
def k0_mult371 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  v2688
def k0_mult372 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c0_i32_1148 : BitVec 32 := 0#32
  let v2690 : BitVec 32 := Scalar.addi v2689 c0_i32_1148
  v2690
def k0_mult373 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c2_i32_1146 : BitVec 32 := 2#32
  let v2687 : BitVec 32 := Scalar.addi v2560 c2_i32_1146
  let c512_i32_1147 : BitVec 32 := 512#32
  let v2688 : BitVec 32 := Scalar.muli v2687 c512_i32_1147
  let v2689 : BitVec 32 := v2688
  let c256_i32_1152 : BitVec 32 := 256#32
  let v2699 : BitVec 32 := Scalar.addi v2689 c256_i32_1152
  v2699
def k0_mult374 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  v2709
def k0_mult375 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c0_i32_1158 : BitVec 32 := 0#32
  let v2711 : BitVec 32 := Scalar.addi v2710 c0_i32_1158
  v2711
def k0_mult376 (i : grid0.Coords) (k0_t8 : Fin (k0_t8_loop i).trips) : BitVec 32 :=
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let c3_i32_1156 : BitVec 32 := 3#32
  let v2708 : BitVec 32 := Scalar.addi v2560 c3_i32_1156
  let c512_i32_1157 : BitVec 32 := 512#32
  let v2709 : BitVec 32 := Scalar.muli v2708 c512_i32_1157
  let v2710 : BitVec 32 := v2709
  let c256_i32_1162 : BitVec 32 := 256#32
  let v2720 : BitVec 32 := Scalar.addi v2710 c256_i32_1162
  v2720
def k0_off42 (i : grid0.Coords) (k0_t8 : Fin (k0_t8_loop i).trips) (c0_i32_1166 : BitVec 32) (c0_i32_1168 : BitVec 32) (c0_i32_1169 : BitVec 32) : Fin 5 → Nat :=
  let c0_1170 : Index := 0#32
  let c0_1171 : Index := 0#32
  let c0_i32_762 : BitVec 32 := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let v1853 : BitVec 32 := Scalar.subi v1846 c0_i32_762
  let c1_i32_763 : BitVec 32 := 1#32
  let v1855 : BitVec 32 := Scalar.divsi v1853 c1_i32_763
  let v1856 : BitVec 32 := Scalar.muli v1855 c1_i32_763
  let v1857 : BitVec 32 := Scalar.addi c0_i32_762 v1856
  let c1_i32_765 : BitVec 32 := 1#32
  let arg16 : BitVec 32 := Scf.iv v1857 c1_i32_765 k0_t8
  let c4_i32_1086 : BitVec 32 := 4#32
  let v2560 : BitVec 32 := Scalar.muli arg16 c4_i32_1086
  let v2729 : BitVec 32 := Scalar.addi v2560 c0_i32_1166
  let c4_i32_1167 : BitVec 32 := 4#32
  let v2730 : BitVec 32 := Scalar.muli v2729 c4_i32_1167
  let v2731 : BitVec 32 := Scalar.addi v2730 c0_i32_1168
  let v2732 : BitVec 32 := Scalar.addi v2731 c0_i32_1169
  let v2733 : Index := Scalar.indexCast v2732
  let c0_1172 : Index := 0#32
  let c0_1173 : Index := 0#32
  ![0, 0, v2733.toNat, 0, 0]
def k0_cond10 (i : grid0.Coords) : BitVec 1 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_757 : BitVec 32 := 4#32
  let v1847 : BitVec 32 := Scalar.muli v1846 c4_i32_757
  let v1848 : BitVec 32 := Scalar.subi v1828 v1847
  let c1_i32_770 : BitVec 32 := 1#32
  let v1864 : BitVec 32 := Scalar.subi v1848 c1_i32_770
  let c0_i32_771 : BitVec 32 := 0#32
  let v1865 : BitVec 32 := Scalar.maxsi v1864 c0_i32_771
  let c3_i32_772 : BitVec 32 := 3#32
  let v1866 : BitVec 32 := Scalar.minsi v1865 c3_i32_772
  let c0_i32_773 : BitVec 32 := 0#32
  let v1867 : BitVec 1 := Scalar.cmpi .ne v1866 c0_i32_773
  v1867

def k0_cond11 (i : grid0.Coords) : BitVec 1 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_757 : BitVec 32 := 4#32
  let v1847 : BitVec 32 := Scalar.muli v1846 c4_i32_757
  let v1848 : BitVec 32 := Scalar.subi v1828 v1847
  let c1_i32_770 : BitVec 32 := 1#32
  let v1864 : BitVec 32 := Scalar.subi v1848 c1_i32_770
  let c0_i32_771 : BitVec 32 := 0#32
  let v1865 : BitVec 32 := Scalar.maxsi v1864 c0_i32_771
  let c3_i32_772 : BitVec 32 := 3#32
  let v1866 : BitVec 32 := Scalar.minsi v1865 c3_i32_772
  let c1_i32_1086 : BitVec 32 := 1#32
  let v2560 : BitVec 32 := Scalar.subi v1866 c1_i32_1086
  let c0_i32_1087 : BitVec 32 := 0#32
  let v2561 : BitVec 1 := Scalar.cmpi .ne v2560 c0_i32_1087
  v2561

def k0_cond12 (i : grid0.Coords) : BitVec 1 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_757 : BitVec 32 := 4#32
  let v1847 : BitVec 32 := Scalar.muli v1846 c4_i32_757
  let v1848 : BitVec 32 := Scalar.subi v1828 v1847
  let c1_i32_770 : BitVec 32 := 1#32
  let v1864 : BitVec 32 := Scalar.subi v1848 c1_i32_770
  let c0_i32_771 : BitVec 32 := 0#32
  let v1865 : BitVec 32 := Scalar.maxsi v1864 c0_i32_771
  let c3_i32_772 : BitVec 32 := 3#32
  let v1866 : BitVec 32 := Scalar.minsi v1865 c3_i32_772
  let c1_i32_1086 : BitVec 32 := 1#32
  let v2560 : BitVec 32 := Scalar.subi v1866 c1_i32_1086
  let c1_i32_1088 : BitVec 32 := 1#32
  let v2563 : BitVec 32 := Scalar.subi v2560 c1_i32_1088
  let c0_i32_1089 : BitVec 32 := 0#32
  let v2564 : BitVec 1 := Scalar.cmpi .ne v2563 c0_i32_1089
  v2564

def k0_mult377 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c0_i32_1090 : BitVec 32 := 0#32
  let v2566 : BitVec 32 := Scalar.addi v1863 c0_i32_1090
  let c512_i32_1091 : BitVec 32 := 512#32
  let v2567 : BitVec 32 := Scalar.muli v2566 c512_i32_1091
  v2567
def k0_mult378 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c0_i32_1090 : BitVec 32 := 0#32
  let v2566 : BitVec 32 := Scalar.addi v1863 c0_i32_1090
  let c512_i32_1091 : BitVec 32 := 512#32
  let v2567 : BitVec 32 := Scalar.muli v2566 c512_i32_1091
  let v2568 : BitVec 32 := v2567
  let c0_i32_1092 : BitVec 32 := 0#32
  let v2569 : BitVec 32 := Scalar.addi v2568 c0_i32_1092
  v2569
def k0_off43 (i : grid0.Coords) (c0_i32_1090 : BitVec 32) (c0_i32_1092 : BitVec 32) : Fin 2 → Nat :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let v2566 : BitVec 32 := Scalar.addi v1863 c0_i32_1090
  let c512_i32_1091 : BitVec 32 := 512#32
  let v2567 : BitVec 32 := Scalar.muli v2566 c512_i32_1091
  let v2568 : BitVec 32 := v2567
  let v2569 : BitVec 32 := Scalar.addi v2568 c0_i32_1092
  let v2570 : BitVec 32 := v2569
  let v2571 : Index := Scalar.indexCast v2570
  let c0_1093 : Index := 0#32
  ![v2571.toNat, 0]
def k0_mult379 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c0_i32_1090 : BitVec 32 := 0#32
  let v2566 : BitVec 32 := Scalar.addi v1863 c0_i32_1090
  let c512_i32_1091 : BitVec 32 := 512#32
  let v2567 : BitVec 32 := Scalar.muli v2566 c512_i32_1091
  let v2568 : BitVec 32 := v2567
  let c256_i32 : BitVec 32 := 256#32
  let v2578 : BitVec 32 := Scalar.addi v2568 c256_i32
  v2578
def k0_mult380 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c1_i32_1099 : BitVec 32 := 1#32
  let v2587 : BitVec 32 := Scalar.addi v1863 c1_i32_1099
  let c512_i32_1100 : BitVec 32 := 512#32
  let v2588 : BitVec 32 := Scalar.muli v2587 c512_i32_1100
  v2588
def k0_mult381 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c1_i32_1099 : BitVec 32 := 1#32
  let v2587 : BitVec 32 := Scalar.addi v1863 c1_i32_1099
  let c512_i32_1100 : BitVec 32 := 512#32
  let v2588 : BitVec 32 := Scalar.muli v2587 c512_i32_1100
  let v2589 : BitVec 32 := v2588
  let c0_i32_1101 : BitVec 32 := 0#32
  let v2590 : BitVec 32 := Scalar.addi v2589 c0_i32_1101
  v2590
def k0_mult382 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c1_i32_1099 : BitVec 32 := 1#32
  let v2587 : BitVec 32 := Scalar.addi v1863 c1_i32_1099
  let c512_i32_1100 : BitVec 32 := 512#32
  let v2588 : BitVec 32 := Scalar.muli v2587 c512_i32_1100
  let v2589 : BitVec 32 := v2588
  let c256_i32_1105 : BitVec 32 := 256#32
  let v2599 : BitVec 32 := Scalar.addi v2589 c256_i32_1105
  v2599
def k0_mult383 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c2_i32_1109 : BitVec 32 := 2#32
  let v2608 : BitVec 32 := Scalar.addi v1863 c2_i32_1109
  let c512_i32_1110 : BitVec 32 := 512#32
  let v2609 : BitVec 32 := Scalar.muli v2608 c512_i32_1110
  v2609
def k0_mult384 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c2_i32_1109 : BitVec 32 := 2#32
  let v2608 : BitVec 32 := Scalar.addi v1863 c2_i32_1109
  let c512_i32_1110 : BitVec 32 := 512#32
  let v2609 : BitVec 32 := Scalar.muli v2608 c512_i32_1110
  let v2610 : BitVec 32 := v2609
  let c0_i32_1111 : BitVec 32 := 0#32
  let v2611 : BitVec 32 := Scalar.addi v2610 c0_i32_1111
  v2611
def k0_mult385 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c2_i32_1109 : BitVec 32 := 2#32
  let v2608 : BitVec 32 := Scalar.addi v1863 c2_i32_1109
  let c512_i32_1110 : BitVec 32 := 512#32
  let v2609 : BitVec 32 := Scalar.muli v2608 c512_i32_1110
  let v2610 : BitVec 32 := v2609
  let c256_i32_1115 : BitVec 32 := 256#32
  let v2620 : BitVec 32 := Scalar.addi v2610 c256_i32_1115
  v2620
def k0_mult386 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c3_i32_1119 : BitVec 32 := 3#32
  let v2629 : BitVec 32 := Scalar.addi v1863 c3_i32_1119
  let c512_i32_1120 : BitVec 32 := 512#32
  let v2630 : BitVec 32 := Scalar.muli v2629 c512_i32_1120
  v2630
def k0_mult387 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c3_i32_1119 : BitVec 32 := 3#32
  let v2629 : BitVec 32 := Scalar.addi v1863 c3_i32_1119
  let c512_i32_1120 : BitVec 32 := 512#32
  let v2630 : BitVec 32 := Scalar.muli v2629 c512_i32_1120
  let v2631 : BitVec 32 := v2630
  let c0_i32_1121 : BitVec 32 := 0#32
  let v2632 : BitVec 32 := Scalar.addi v2631 c0_i32_1121
  v2632
def k0_mult388 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c3_i32_1119 : BitVec 32 := 3#32
  let v2629 : BitVec 32 := Scalar.addi v1863 c3_i32_1119
  let c512_i32_1120 : BitVec 32 := 512#32
  let v2630 : BitVec 32 := Scalar.muli v2629 c512_i32_1120
  let v2631 : BitVec 32 := v2630
  let c256_i32_1127 : BitVec 32 := 256#32
  let v2649 : BitVec 32 := Scalar.addi v2631 c256_i32_1127
  v2649
def k0_mult389 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c0_i32_1133 : BitVec 32 := 0#32
  let v2666 : BitVec 32 := Scalar.addi v1863 c0_i32_1133
  let c512_i32_1134 : BitVec 32 := 512#32
  let v2667 : BitVec 32 := Scalar.muli v2666 c512_i32_1134
  v2667
def k0_mult390 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c0_i32_1133 : BitVec 32 := 0#32
  let v2666 : BitVec 32 := Scalar.addi v1863 c0_i32_1133
  let c512_i32_1134 : BitVec 32 := 512#32
  let v2667 : BitVec 32 := Scalar.muli v2666 c512_i32_1134
  let v2668 : BitVec 32 := v2667
  let c0_i32_1135 : BitVec 32 := 0#32
  let v2669 : BitVec 32 := Scalar.addi v2668 c0_i32_1135
  v2669
def k0_mult391 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c0_i32_1133 : BitVec 32 := 0#32
  let v2666 : BitVec 32 := Scalar.addi v1863 c0_i32_1133
  let c512_i32_1134 : BitVec 32 := 512#32
  let v2667 : BitVec 32 := Scalar.muli v2666 c512_i32_1134
  let v2668 : BitVec 32 := v2667
  let c256_i32_1139 : BitVec 32 := 256#32
  let v2678 : BitVec 32 := Scalar.addi v2668 c256_i32_1139
  v2678
def k0_mult392 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c1_i32_1143 : BitVec 32 := 1#32
  let v2687 : BitVec 32 := Scalar.addi v1863 c1_i32_1143
  let c512_i32_1144 : BitVec 32 := 512#32
  let v2688 : BitVec 32 := Scalar.muli v2687 c512_i32_1144
  v2688
def k0_mult393 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c1_i32_1143 : BitVec 32 := 1#32
  let v2687 : BitVec 32 := Scalar.addi v1863 c1_i32_1143
  let c512_i32_1144 : BitVec 32 := 512#32
  let v2688 : BitVec 32 := Scalar.muli v2687 c512_i32_1144
  let v2689 : BitVec 32 := v2688
  let c0_i32_1145 : BitVec 32 := 0#32
  let v2690 : BitVec 32 := Scalar.addi v2689 c0_i32_1145
  v2690
def k0_mult394 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c1_i32_1143 : BitVec 32 := 1#32
  let v2687 : BitVec 32 := Scalar.addi v1863 c1_i32_1143
  let c512_i32_1144 : BitVec 32 := 512#32
  let v2688 : BitVec 32 := Scalar.muli v2687 c512_i32_1144
  let v2689 : BitVec 32 := v2688
  let c256_i32_1149 : BitVec 32 := 256#32
  let v2699 : BitVec 32 := Scalar.addi v2689 c256_i32_1149
  v2699
def k0_mult395 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c2_i32_1153 : BitVec 32 := 2#32
  let v2708 : BitVec 32 := Scalar.addi v1863 c2_i32_1153
  let c512_i32_1154 : BitVec 32 := 512#32
  let v2709 : BitVec 32 := Scalar.muli v2708 c512_i32_1154
  v2709
def k0_mult396 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c2_i32_1153 : BitVec 32 := 2#32
  let v2708 : BitVec 32 := Scalar.addi v1863 c2_i32_1153
  let c512_i32_1154 : BitVec 32 := 512#32
  let v2709 : BitVec 32 := Scalar.muli v2708 c512_i32_1154
  let v2710 : BitVec 32 := v2709
  let c0_i32_1155 : BitVec 32 := 0#32
  let v2711 : BitVec 32 := Scalar.addi v2710 c0_i32_1155
  v2711
def k0_mult397 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c2_i32_1153 : BitVec 32 := 2#32
  let v2708 : BitVec 32 := Scalar.addi v1863 c2_i32_1153
  let c512_i32_1154 : BitVec 32 := 512#32
  let v2709 : BitVec 32 := Scalar.muli v2708 c512_i32_1154
  let v2710 : BitVec 32 := v2709
  let c256_i32_1159 : BitVec 32 := 256#32
  let v2720 : BitVec 32 := Scalar.addi v2710 c256_i32_1159
  v2720
def k0_mult398 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c3_i32_1163 : BitVec 32 := 3#32
  let v2729 : BitVec 32 := Scalar.addi v1863 c3_i32_1163
  let c512_i32_1164 : BitVec 32 := 512#32
  let v2730 : BitVec 32 := Scalar.muli v2729 c512_i32_1164
  v2730
def k0_mult399 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c3_i32_1163 : BitVec 32 := 3#32
  let v2729 : BitVec 32 := Scalar.addi v1863 c3_i32_1163
  let c512_i32_1164 : BitVec 32 := 512#32
  let v2730 : BitVec 32 := Scalar.muli v2729 c512_i32_1164
  let v2731 : BitVec 32 := v2730
  let c0_i32_1165 : BitVec 32 := 0#32
  let v2732 : BitVec 32 := Scalar.addi v2731 c0_i32_1165
  v2732
def k0_mult400 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let c3_i32_1163 : BitVec 32 := 3#32
  let v2729 : BitVec 32 := Scalar.addi v1863 c3_i32_1163
  let c512_i32_1164 : BitVec 32 := 512#32
  let v2730 : BitVec 32 := Scalar.muli v2729 c512_i32_1164
  let v2731 : BitVec 32 := v2730
  let c256_i32_1171 : BitVec 32 := 256#32
  let v2749 : BitVec 32 := Scalar.addi v2731 c256_i32_1171
  v2749
def k0_off44 (i : grid0.Coords) (c0_i32_1177 : BitVec 32) (c0_i32_1179 : BitVec 32) (c0_i32_1180 : BitVec 32) : Fin 5 → Nat :=
  let c0_1181 : Index := 0#32
  let c0_1182 : Index := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_769 : BitVec 32 := 4#32
  let v1863 : BitVec 32 := Scalar.muli v1846 c4_i32_769
  let v2766 : BitVec 32 := Scalar.addi v1863 c0_i32_1177
  let c4_i32_1178 : BitVec 32 := 4#32
  let v2767 : BitVec 32 := Scalar.muli v2766 c4_i32_1178
  let v2768 : BitVec 32 := Scalar.addi v2767 c0_i32_1179
  let v2769 : BitVec 32 := Scalar.addi v2768 c0_i32_1180
  let v2770 : Index := Scalar.indexCast v2769
  let c0_1183 : Index := 0#32
  let c0_1184 : Index := 0#32
  ![0, 0, v2770.toNat, 0, 0]
def k0_mult401 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c0_i32_1090 : BitVec 32 := 0#32
  let v2566 : BitVec 32 := Scalar.addi v1862 c0_i32_1090
  let c512_i32_1091 : BitVec 32 := 512#32
  let v2567 : BitVec 32 := Scalar.muli v2566 c512_i32_1091
  v2567
def k0_mult402 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c0_i32_1090 : BitVec 32 := 0#32
  let v2566 : BitVec 32 := Scalar.addi v1862 c0_i32_1090
  let c512_i32_1091 : BitVec 32 := 512#32
  let v2567 : BitVec 32 := Scalar.muli v2566 c512_i32_1091
  let v2568 : BitVec 32 := v2567
  let c0_i32_1092 : BitVec 32 := 0#32
  let v2569 : BitVec 32 := Scalar.addi v2568 c0_i32_1092
  v2569
def k0_off45 (i : grid0.Coords) (c0_i32_1090 : BitVec 32) (c0_i32_1092 : BitVec 32) : Fin 2 → Nat :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let v2566 : BitVec 32 := Scalar.addi v1862 c0_i32_1090
  let c512_i32_1091 : BitVec 32 := 512#32
  let v2567 : BitVec 32 := Scalar.muli v2566 c512_i32_1091
  let v2568 : BitVec 32 := v2567
  let v2569 : BitVec 32 := Scalar.addi v2568 c0_i32_1092
  let v2570 : BitVec 32 := v2569
  let v2571 : Index := Scalar.indexCast v2570
  let c0_1093 : Index := 0#32
  ![v2571.toNat, 0]
def k0_mult403 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c0_i32_1090 : BitVec 32 := 0#32
  let v2566 : BitVec 32 := Scalar.addi v1862 c0_i32_1090
  let c512_i32_1091 : BitVec 32 := 512#32
  let v2567 : BitVec 32 := Scalar.muli v2566 c512_i32_1091
  let v2568 : BitVec 32 := v2567
  let c256_i32 : BitVec 32 := 256#32
  let v2578 : BitVec 32 := Scalar.addi v2568 c256_i32
  v2578
def k0_mult404 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c1_i32_1099 : BitVec 32 := 1#32
  let v2587 : BitVec 32 := Scalar.addi v1862 c1_i32_1099
  let c512_i32_1100 : BitVec 32 := 512#32
  let v2588 : BitVec 32 := Scalar.muli v2587 c512_i32_1100
  v2588
def k0_mult405 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c1_i32_1099 : BitVec 32 := 1#32
  let v2587 : BitVec 32 := Scalar.addi v1862 c1_i32_1099
  let c512_i32_1100 : BitVec 32 := 512#32
  let v2588 : BitVec 32 := Scalar.muli v2587 c512_i32_1100
  let v2589 : BitVec 32 := v2588
  let c0_i32_1101 : BitVec 32 := 0#32
  let v2590 : BitVec 32 := Scalar.addi v2589 c0_i32_1101
  v2590
def k0_mult406 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c1_i32_1099 : BitVec 32 := 1#32
  let v2587 : BitVec 32 := Scalar.addi v1862 c1_i32_1099
  let c512_i32_1100 : BitVec 32 := 512#32
  let v2588 : BitVec 32 := Scalar.muli v2587 c512_i32_1100
  let v2589 : BitVec 32 := v2588
  let c256_i32_1105 : BitVec 32 := 256#32
  let v2599 : BitVec 32 := Scalar.addi v2589 c256_i32_1105
  v2599
def k0_mult407 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c2_i32_1109 : BitVec 32 := 2#32
  let v2608 : BitVec 32 := Scalar.addi v1862 c2_i32_1109
  let c512_i32_1110 : BitVec 32 := 512#32
  let v2609 : BitVec 32 := Scalar.muli v2608 c512_i32_1110
  v2609
def k0_mult408 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c2_i32_1109 : BitVec 32 := 2#32
  let v2608 : BitVec 32 := Scalar.addi v1862 c2_i32_1109
  let c512_i32_1110 : BitVec 32 := 512#32
  let v2609 : BitVec 32 := Scalar.muli v2608 c512_i32_1110
  let v2610 : BitVec 32 := v2609
  let c0_i32_1111 : BitVec 32 := 0#32
  let v2611 : BitVec 32 := Scalar.addi v2610 c0_i32_1111
  v2611
def k0_mult409 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c2_i32_1109 : BitVec 32 := 2#32
  let v2608 : BitVec 32 := Scalar.addi v1862 c2_i32_1109
  let c512_i32_1110 : BitVec 32 := 512#32
  let v2609 : BitVec 32 := Scalar.muli v2608 c512_i32_1110
  let v2610 : BitVec 32 := v2609
  let c256_i32_1117 : BitVec 32 := 256#32
  let v2628 : BitVec 32 := Scalar.addi v2610 c256_i32_1117
  v2628
def k0_mult410 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c0_i32_1123 : BitVec 32 := 0#32
  let v2645 : BitVec 32 := Scalar.addi v1862 c0_i32_1123
  let c512_i32_1124 : BitVec 32 := 512#32
  let v2646 : BitVec 32 := Scalar.muli v2645 c512_i32_1124
  v2646
def k0_mult411 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c0_i32_1123 : BitVec 32 := 0#32
  let v2645 : BitVec 32 := Scalar.addi v1862 c0_i32_1123
  let c512_i32_1124 : BitVec 32 := 512#32
  let v2646 : BitVec 32 := Scalar.muli v2645 c512_i32_1124
  let v2647 : BitVec 32 := v2646
  let c0_i32_1125 : BitVec 32 := 0#32
  let v2648 : BitVec 32 := Scalar.addi v2647 c0_i32_1125
  v2648
def k0_mult412 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c0_i32_1123 : BitVec 32 := 0#32
  let v2645 : BitVec 32 := Scalar.addi v1862 c0_i32_1123
  let c512_i32_1124 : BitVec 32 := 512#32
  let v2646 : BitVec 32 := Scalar.muli v2645 c512_i32_1124
  let v2647 : BitVec 32 := v2646
  let c256_i32_1129 : BitVec 32 := 256#32
  let v2657 : BitVec 32 := Scalar.addi v2647 c256_i32_1129
  v2657
def k0_mult413 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c1_i32_1133 : BitVec 32 := 1#32
  let v2666 : BitVec 32 := Scalar.addi v1862 c1_i32_1133
  let c512_i32_1134 : BitVec 32 := 512#32
  let v2667 : BitVec 32 := Scalar.muli v2666 c512_i32_1134
  v2667
def k0_mult414 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c1_i32_1133 : BitVec 32 := 1#32
  let v2666 : BitVec 32 := Scalar.addi v1862 c1_i32_1133
  let c512_i32_1134 : BitVec 32 := 512#32
  let v2667 : BitVec 32 := Scalar.muli v2666 c512_i32_1134
  let v2668 : BitVec 32 := v2667
  let c0_i32_1135 : BitVec 32 := 0#32
  let v2669 : BitVec 32 := Scalar.addi v2668 c0_i32_1135
  v2669
def k0_mult415 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c1_i32_1133 : BitVec 32 := 1#32
  let v2666 : BitVec 32 := Scalar.addi v1862 c1_i32_1133
  let c512_i32_1134 : BitVec 32 := 512#32
  let v2667 : BitVec 32 := Scalar.muli v2666 c512_i32_1134
  let v2668 : BitVec 32 := v2667
  let c256_i32_1139 : BitVec 32 := 256#32
  let v2678 : BitVec 32 := Scalar.addi v2668 c256_i32_1139
  v2678
def k0_mult416 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c2_i32_1143 : BitVec 32 := 2#32
  let v2687 : BitVec 32 := Scalar.addi v1862 c2_i32_1143
  let c512_i32_1144 : BitVec 32 := 512#32
  let v2688 : BitVec 32 := Scalar.muli v2687 c512_i32_1144
  v2688
def k0_mult417 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c2_i32_1143 : BitVec 32 := 2#32
  let v2687 : BitVec 32 := Scalar.addi v1862 c2_i32_1143
  let c512_i32_1144 : BitVec 32 := 512#32
  let v2688 : BitVec 32 := Scalar.muli v2687 c512_i32_1144
  let v2689 : BitVec 32 := v2688
  let c0_i32_1145 : BitVec 32 := 0#32
  let v2690 : BitVec 32 := Scalar.addi v2689 c0_i32_1145
  v2690
def k0_mult418 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let c2_i32_1143 : BitVec 32 := 2#32
  let v2687 : BitVec 32 := Scalar.addi v1862 c2_i32_1143
  let c512_i32_1144 : BitVec 32 := 512#32
  let v2688 : BitVec 32 := Scalar.muli v2687 c512_i32_1144
  let v2689 : BitVec 32 := v2688
  let c256_i32_1151 : BitVec 32 := 256#32
  let v2707 : BitVec 32 := Scalar.addi v2689 c256_i32_1151
  v2707
def k0_off46 (i : grid0.Coords) (c0_i32_1157 : BitVec 32) (c0_i32_1159 : BitVec 32) (c0_i32_1160 : BitVec 32) : Fin 5 → Nat :=
  let c0_1161 : Index := 0#32
  let c0_1162 : Index := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_768 : BitVec 32 := 4#32
  let v1862 : BitVec 32 := Scalar.muli v1846 c4_i32_768
  let v2724 : BitVec 32 := Scalar.addi v1862 c0_i32_1157
  let c4_i32_1158 : BitVec 32 := 4#32
  let v2725 : BitVec 32 := Scalar.muli v2724 c4_i32_1158
  let v2726 : BitVec 32 := Scalar.addi v2725 c0_i32_1159
  let v2727 : BitVec 32 := Scalar.addi v2726 c0_i32_1160
  let v2728 : Index := Scalar.indexCast v2727
  let c0_1163 : Index := 0#32
  let c0_1164 : Index := 0#32
  ![0, 0, v2728.toNat, 0, 0]
def k0_mult419 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c0_i32_1088 : BitVec 32 := 0#32
  let v2563 : BitVec 32 := Scalar.addi v1861 c0_i32_1088
  let c512_i32_1089 : BitVec 32 := 512#32
  let v2564 : BitVec 32 := Scalar.muli v2563 c512_i32_1089
  v2564
def k0_mult420 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c0_i32_1088 : BitVec 32 := 0#32
  let v2563 : BitVec 32 := Scalar.addi v1861 c0_i32_1088
  let c512_i32_1089 : BitVec 32 := 512#32
  let v2564 : BitVec 32 := Scalar.muli v2563 c512_i32_1089
  let v2565 : BitVec 32 := v2564
  let c0_i32_1090 : BitVec 32 := 0#32
  let v2566 : BitVec 32 := Scalar.addi v2565 c0_i32_1090
  v2566
def k0_off47 (i : grid0.Coords) (c0_i32_1088 : BitVec 32) (c0_i32_1090 : BitVec 32) : Fin 2 → Nat :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let v2563 : BitVec 32 := Scalar.addi v1861 c0_i32_1088
  let c512_i32_1089 : BitVec 32 := 512#32
  let v2564 : BitVec 32 := Scalar.muli v2563 c512_i32_1089
  let v2565 : BitVec 32 := v2564
  let v2566 : BitVec 32 := Scalar.addi v2565 c0_i32_1090
  let v2567 : BitVec 32 := v2566
  let v2568 : Index := Scalar.indexCast v2567
  let c0_1091 : Index := 0#32
  ![v2568.toNat, 0]
def k0_mult421 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c0_i32_1088 : BitVec 32 := 0#32
  let v2563 : BitVec 32 := Scalar.addi v1861 c0_i32_1088
  let c512_i32_1089 : BitVec 32 := 512#32
  let v2564 : BitVec 32 := Scalar.muli v2563 c512_i32_1089
  let v2565 : BitVec 32 := v2564
  let c256_i32 : BitVec 32 := 256#32
  let v2575 : BitVec 32 := Scalar.addi v2565 c256_i32
  v2575
def k0_mult422 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c1_i32_1097 : BitVec 32 := 1#32
  let v2584 : BitVec 32 := Scalar.addi v1861 c1_i32_1097
  let c512_i32_1098 : BitVec 32 := 512#32
  let v2585 : BitVec 32 := Scalar.muli v2584 c512_i32_1098
  v2585
def k0_mult423 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c1_i32_1097 : BitVec 32 := 1#32
  let v2584 : BitVec 32 := Scalar.addi v1861 c1_i32_1097
  let c512_i32_1098 : BitVec 32 := 512#32
  let v2585 : BitVec 32 := Scalar.muli v2584 c512_i32_1098
  let v2586 : BitVec 32 := v2585
  let c0_i32_1099 : BitVec 32 := 0#32
  let v2587 : BitVec 32 := Scalar.addi v2586 c0_i32_1099
  v2587
def k0_mult424 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c1_i32_1097 : BitVec 32 := 1#32
  let v2584 : BitVec 32 := Scalar.addi v1861 c1_i32_1097
  let c512_i32_1098 : BitVec 32 := 512#32
  let v2585 : BitVec 32 := Scalar.muli v2584 c512_i32_1098
  let v2586 : BitVec 32 := v2585
  let c256_i32_1105 : BitVec 32 := 256#32
  let v2604 : BitVec 32 := Scalar.addi v2586 c256_i32_1105
  v2604
def k0_mult425 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c0_i32_1111 : BitVec 32 := 0#32
  let v2621 : BitVec 32 := Scalar.addi v1861 c0_i32_1111
  let c512_i32_1112 : BitVec 32 := 512#32
  let v2622 : BitVec 32 := Scalar.muli v2621 c512_i32_1112
  v2622
def k0_mult426 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c0_i32_1111 : BitVec 32 := 0#32
  let v2621 : BitVec 32 := Scalar.addi v1861 c0_i32_1111
  let c512_i32_1112 : BitVec 32 := 512#32
  let v2622 : BitVec 32 := Scalar.muli v2621 c512_i32_1112
  let v2623 : BitVec 32 := v2622
  let c0_i32_1113 : BitVec 32 := 0#32
  let v2624 : BitVec 32 := Scalar.addi v2623 c0_i32_1113
  v2624
def k0_mult427 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c0_i32_1111 : BitVec 32 := 0#32
  let v2621 : BitVec 32 := Scalar.addi v1861 c0_i32_1111
  let c512_i32_1112 : BitVec 32 := 512#32
  let v2622 : BitVec 32 := Scalar.muli v2621 c512_i32_1112
  let v2623 : BitVec 32 := v2622
  let c256_i32_1117 : BitVec 32 := 256#32
  let v2633 : BitVec 32 := Scalar.addi v2623 c256_i32_1117
  v2633
def k0_mult428 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c1_i32_1121 : BitVec 32 := 1#32
  let v2642 : BitVec 32 := Scalar.addi v1861 c1_i32_1121
  let c512_i32_1122 : BitVec 32 := 512#32
  let v2643 : BitVec 32 := Scalar.muli v2642 c512_i32_1122
  v2643
def k0_mult429 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c1_i32_1121 : BitVec 32 := 1#32
  let v2642 : BitVec 32 := Scalar.addi v1861 c1_i32_1121
  let c512_i32_1122 : BitVec 32 := 512#32
  let v2643 : BitVec 32 := Scalar.muli v2642 c512_i32_1122
  let v2644 : BitVec 32 := v2643
  let c0_i32_1123 : BitVec 32 := 0#32
  let v2645 : BitVec 32 := Scalar.addi v2644 c0_i32_1123
  v2645
def k0_mult430 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let c1_i32_1121 : BitVec 32 := 1#32
  let v2642 : BitVec 32 := Scalar.addi v1861 c1_i32_1121
  let c512_i32_1122 : BitVec 32 := 512#32
  let v2643 : BitVec 32 := Scalar.muli v2642 c512_i32_1122
  let v2644 : BitVec 32 := v2643
  let c256_i32_1129 : BitVec 32 := 256#32
  let v2662 : BitVec 32 := Scalar.addi v2644 c256_i32_1129
  v2662
def k0_off48 (i : grid0.Coords) (c0_i32_1135 : BitVec 32) (c0_i32_1137 : BitVec 32) (c0_i32_1138 : BitVec 32) : Fin 5 → Nat :=
  let c0_1139 : Index := 0#32
  let c0_1140 : Index := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_767 : BitVec 32 := 4#32
  let v1861 : BitVec 32 := Scalar.muli v1846 c4_i32_767
  let v2679 : BitVec 32 := Scalar.addi v1861 c0_i32_1135
  let c4_i32_1136 : BitVec 32 := 4#32
  let v2680 : BitVec 32 := Scalar.muli v2679 c4_i32_1136
  let v2681 : BitVec 32 := Scalar.addi v2680 c0_i32_1137
  let v2682 : BitVec 32 := Scalar.addi v2681 c0_i32_1138
  let v2683 : Index := Scalar.indexCast v2682
  let c0_1141 : Index := 0#32
  let c0_1142 : Index := 0#32
  ![0, 0, v2683.toNat, 0, 0]
def k0_mult431 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_766 : BitVec 32 := 4#32
  let v1860 : BitVec 32 := Scalar.muli v1846 c4_i32_766
  let c0_i32_1086 : BitVec 32 := 0#32
  let v2560 : BitVec 32 := Scalar.addi v1860 c0_i32_1086
  let c512_i32_1087 : BitVec 32 := 512#32
  let v2561 : BitVec 32 := Scalar.muli v2560 c512_i32_1087
  v2561
def k0_mult432 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_766 : BitVec 32 := 4#32
  let v1860 : BitVec 32 := Scalar.muli v1846 c4_i32_766
  let c0_i32_1086 : BitVec 32 := 0#32
  let v2560 : BitVec 32 := Scalar.addi v1860 c0_i32_1086
  let c512_i32_1087 : BitVec 32 := 512#32
  let v2561 : BitVec 32 := Scalar.muli v2560 c512_i32_1087
  let v2562 : BitVec 32 := v2561
  let c0_i32_1088 : BitVec 32 := 0#32
  let v2563 : BitVec 32 := Scalar.addi v2562 c0_i32_1088
  v2563
def k0_off49 (i : grid0.Coords) (c0_i32_1088 : BitVec 32) : Fin 2 → Nat :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_766 : BitVec 32 := 4#32
  let v1860 : BitVec 32 := Scalar.muli v1846 c4_i32_766
  let c0_i32_1086 : BitVec 32 := 0#32
  let v2560 : BitVec 32 := Scalar.addi v1860 c0_i32_1086
  let c512_i32_1087 : BitVec 32 := 512#32
  let v2561 : BitVec 32 := Scalar.muli v2560 c512_i32_1087
  let v2562 : BitVec 32 := v2561
  let v2563 : BitVec 32 := Scalar.addi v2562 c0_i32_1088
  let v2564 : BitVec 32 := v2563
  let v2565 : Index := Scalar.indexCast v2564
  let c0_1089 : Index := 0#32
  ![v2565.toNat, 0]
def k0_mult433 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_766 : BitVec 32 := 4#32
  let v1860 : BitVec 32 := Scalar.muli v1846 c4_i32_766
  let c0_i32_1086 : BitVec 32 := 0#32
  let v2560 : BitVec 32 := Scalar.addi v1860 c0_i32_1086
  let c512_i32_1087 : BitVec 32 := 512#32
  let v2561 : BitVec 32 := Scalar.muli v2560 c512_i32_1087
  let v2562 : BitVec 32 := v2561
  let c256_i32 : BitVec 32 := 256#32
  let v2580 : BitVec 32 := Scalar.addi v2562 c256_i32
  v2580
def k0_mult434 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_766 : BitVec 32 := 4#32
  let v1860 : BitVec 32 := Scalar.muli v1846 c4_i32_766
  let c0_i32_1099 : BitVec 32 := 0#32
  let v2597 : BitVec 32 := Scalar.addi v1860 c0_i32_1099
  let c512_i32_1100 : BitVec 32 := 512#32
  let v2598 : BitVec 32 := Scalar.muli v2597 c512_i32_1100
  v2598
def k0_mult435 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_766 : BitVec 32 := 4#32
  let v1860 : BitVec 32 := Scalar.muli v1846 c4_i32_766
  let c0_i32_1099 : BitVec 32 := 0#32
  let v2597 : BitVec 32 := Scalar.addi v1860 c0_i32_1099
  let c512_i32_1100 : BitVec 32 := 512#32
  let v2598 : BitVec 32 := Scalar.muli v2597 c512_i32_1100
  let v2599 : BitVec 32 := v2598
  let c0_i32_1101 : BitVec 32 := 0#32
  let v2600 : BitVec 32 := Scalar.addi v2599 c0_i32_1101
  v2600
def k0_mult436 (i : grid0.Coords) : BitVec 32 :=
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_766 : BitVec 32 := 4#32
  let v1860 : BitVec 32 := Scalar.muli v1846 c4_i32_766
  let c0_i32_1099 : BitVec 32 := 0#32
  let v2597 : BitVec 32 := Scalar.addi v1860 c0_i32_1099
  let c512_i32_1100 : BitVec 32 := 512#32
  let v2598 : BitVec 32 := Scalar.muli v2597 c512_i32_1100
  let v2599 : BitVec 32 := v2598
  let c256_i32_1107 : BitVec 32 := 256#32
  let v2617 : BitVec 32 := Scalar.addi v2599 c256_i32_1107
  v2617
def k0_off50 (i : grid0.Coords) (c0_i32_1115 : BitVec 32) (c0_i32_1116 : BitVec 32) : Fin 5 → Nat :=
  let c0_1117 : Index := 0#32
  let c0_1118 : Index := 0#32
  let arg2 : BitVec 32 := BitVec.ofNat 32 (i 2).val
  let c4_i32_466 : BitVec 32 := 4#32
  let v1185 : BitVec 32 := Scalar.muli arg2 c4_i32_466
  let c3_i32_467 : BitVec 32 := 3#32
  let v1186 : BitVec 32 := Scalar.addi v1185 c3_i32_467
  let c128_i32_468 : BitVec 32 := 128#32
  let v1187 : BitVec 32 := Scalar.muli v1186 c128_i32_468
  let c128_i32_739 : BitVec 32 := 128#32
  let v1809 : BitVec 32 := Scalar.addi v1187 c128_i32_739
  let c512_i32_740 : BitVec 32 := 512#32
  let v1810 : BitVec 32 := Scalar.addi v1809 c512_i32_740
  let c1_i32_741 : BitVec 32 := 1#32
  let v1811 : BitVec 32 := Scalar.subi v1810 c1_i32_741
  let c0_i32_743 : BitVec 32 := 0#32
  let v1813 : BitVec 1 := Scalar.cmpi .sgt v1811 c0_i32_743
  let v1814 : BitVec 32 := Scalar.extui v1813
  let c0_i32_744 : BitVec 32 := 0#32
  let v1815 : BitVec 1 := Scalar.cmpi .slt v1811 c0_i32_744
  let v1816 : BitVec 32 := Scalar.extui v1815
  let v1817 : BitVec 32 := Scalar.subi v1814 v1816
  let c512_i32_742 : BitVec 32 := 512#32
  let c0_i32_745 : BitVec 32 := 0#32
  let v1818 : BitVec 1 := Scalar.cmpi .sgt c512_i32_742 c0_i32_745
  let v1819 : BitVec 32 := Scalar.extui v1818
  let c0_i32_746 : BitVec 32 := 0#32
  let v1820 : BitVec 1 := Scalar.cmpi .slt c512_i32_742 c0_i32_746
  let v1821 : BitVec 32 := Scalar.extui v1820
  let v1822 : BitVec 32 := Scalar.subi v1819 v1821
  let v1823 : BitVec 1 := Scalar.cmpi .ne v1817 v1822
  let v1824 : BitVec 32 := Scalar.remsi v1811 c512_i32_742
  let c0_i32_747 : BitVec 32 := 0#32
  let v1825 : BitVec 1 := Scalar.cmpi .ne v1824 c0_i32_747
  let v1826 : BitVec 1 := Scalar.andi v1823 v1825
  let v1812 : BitVec 32 := Scalar.divsi v1811 c512_i32_742
  let c1_i32_748 : BitVec 32 := 1#32
  let v1827 : BitVec 32 := Scalar.subi v1812 c1_i32_748
  let v1828 : BitVec 32 := Scalar.select v1826 v1827 v1812
  let c1_i32_749 : BitVec 32 := 1#32
  let v1829 : BitVec 32 := Scalar.subi v1828 c1_i32_749
  let c0_i32_751 : BitVec 32 := 0#32
  let v1831 : BitVec 1 := Scalar.cmpi .sgt v1829 c0_i32_751
  let v1832 : BitVec 32 := Scalar.extui v1831
  let c0_i32_752 : BitVec 32 := 0#32
  let v1833 : BitVec 1 := Scalar.cmpi .slt v1829 c0_i32_752
  let v1834 : BitVec 32 := Scalar.extui v1833
  let v1835 : BitVec 32 := Scalar.subi v1832 v1834
  let c4_i32_750 : BitVec 32 := 4#32
  let c0_i32_753 : BitVec 32 := 0#32
  let v1836 : BitVec 1 := Scalar.cmpi .sgt c4_i32_750 c0_i32_753
  let v1837 : BitVec 32 := Scalar.extui v1836
  let c0_i32_754 : BitVec 32 := 0#32
  let v1838 : BitVec 1 := Scalar.cmpi .slt c4_i32_750 c0_i32_754
  let v1839 : BitVec 32 := Scalar.extui v1838
  let v1840 : BitVec 32 := Scalar.subi v1837 v1839
  let v1841 : BitVec 1 := Scalar.cmpi .ne v1835 v1840
  let v1842 : BitVec 32 := Scalar.remsi v1829 c4_i32_750
  let c0_i32_755 : BitVec 32 := 0#32
  let v1843 : BitVec 1 := Scalar.cmpi .ne v1842 c0_i32_755
  let v1844 : BitVec 1 := Scalar.andi v1841 v1843
  let v1830 : BitVec 32 := Scalar.divsi v1829 c4_i32_750
  let c1_i32_756 : BitVec 32 := 1#32
  let v1845 : BitVec 32 := Scalar.subi v1830 c1_i32_756
  let v1846 : BitVec 32 := Scalar.select v1844 v1845 v1830
  let c4_i32_766 : BitVec 32 := 4#32
  let v1860 : BitVec 32 := Scalar.muli v1846 c4_i32_766
  let c0_i32_1113 : BitVec 32 := 0#32
  let v2634 : BitVec 32 := Scalar.addi v1860 c0_i32_1113
  let c4_i32_1114 : BitVec 32 := 4#32
  let v2635 : BitVec 32 := Scalar.muli v2634 c4_i32_1114
  let v2636 : BitVec 32 := Scalar.addi v2635 c0_i32_1115
  let v2637 : BitVec 32 := Scalar.addi v2636 c0_i32_1116
  let v2638 : Index := Scalar.indexCast v2637
  let c0_1119 : Index := 0#32
  let c0_1120 : Index := 0#32
  ![0, 0, v2638.toNat, 0, 0]
def k0_off51 (i : grid0.Coords) (c0_i32_788 : BitVec 32) (c0_i32_790 : BitVec 32) : Fin 3 → Nat :=
  let c0_791 : Index := 0#32
  let arg1 : BitVec 32 := BitVec.ofNat 32 (i 1).val
  let c4_i32_787 : BitVec 32 := 4#32
  let v1894 : BitVec 32 := Scalar.muli arg1 c4_i32_787
  let v1895 : BitVec 32 := Scalar.addi v1894 c0_i32_788
  let c3_i32_789 : BitVec 32 := 3#32
  let v1896 : BitVec 32 := Scalar.muli v1895 c3_i32_789
  let v1897 : BitVec 32 := Scalar.addi v1896 c0_i32_790
  let v1898 : Index := Scalar.indexCast v1897
  let c0_792 : Index := 0#32
  ![0, v1898.toNat, 0]
def k0_off52 (i : grid0.Coords) (c0_i32_865 : BitVec 32) (c0_i32_867 : BitVec 32) : Fin 3 → Nat :=
  let c1_868 : Index := 1#32
  let arg1 : BitVec 32 := BitVec.ofNat 32 (i 1).val
  let c4_i32_864 : BitVec 32 := 4#32
  let v2064 : BitVec 32 := Scalar.muli arg1 c4_i32_864
  let v2065 : BitVec 32 := Scalar.addi v2064 c0_i32_865
  let c3_i32_866 : BitVec 32 := 3#32
  let v2066 : BitVec 32 := Scalar.muli v2065 c3_i32_866
  let v2067 : BitVec 32 := Scalar.addi v2066 c0_i32_867
  let v2068 : Index := Scalar.indexCast v2067
  let c0_869 : Index := 0#32
  ![1, v2068.toNat, 0]
def k0_off53 (i : grid0.Coords) (c0_i32_942 : BitVec 32) (c0_i32_944 : BitVec 32) : Fin 3 → Nat :=
  let c2_945 : Index := 2#32
  let arg1 : BitVec 32 := BitVec.ofNat 32 (i 1).val
  let c4_i32_941 : BitVec 32 := 4#32
  let v2234 : BitVec 32 := Scalar.muli arg1 c4_i32_941
  let v2235 : BitVec 32 := Scalar.addi v2234 c0_i32_942
  let c3_i32_943 : BitVec 32 := 3#32
  let v2236 : BitVec 32 := Scalar.muli v2235 c3_i32_943
  let v2237 : BitVec 32 := Scalar.addi v2236 c0_i32_944
  let v2238 : Index := Scalar.indexCast v2237
  let c0_946 : Index := 0#32
  ![2, v2238.toNat, 0]
def k0_off54 (i : grid0.Coords) (c0_i32_1019 : BitVec 32) (c0_i32_1021 : BitVec 32) : Fin 3 → Nat :=
  let c3_1022 : Index := 3#32
  let arg1 : BitVec 32 := BitVec.ofNat 32 (i 1).val
  let c4_i32_1018 : BitVec 32 := 4#32
  let v2404 : BitVec 32 := Scalar.muli arg1 c4_i32_1018
  let v2405 : BitVec 32 := Scalar.addi v2404 c0_i32_1019
  let c3_i32_1020 : BitVec 32 := 3#32
  let v2406 : BitVec 32 := Scalar.muli v2405 c3_i32_1020
  let v2407 : BitVec 32 := Scalar.addi v2406 c0_i32_1021
  let v2408 : Index := Scalar.indexCast v2407
  let c0_1023 : Index := 0#32
  ![3, v2408.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c88_i32 : BitVec 32 := 88#32
  let v0 : BitVec 32 := Scalar.addi c88_i32 arg1
  let c0_i32 : BitVec 32 := 0#32
  ![arg0.toNat, v0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c96_i32 : BitVec 32 := 96#32
  let v0 : BitVec 32 := Scalar.addi c96_i32 arg1
  let c0_i32 : BitVec 32 := 0#32
  ![arg0.toNat, v0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x64x144x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x64x144x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S8192x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== OutProject.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 4
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x2048, .bf16⟩
  | .local _ .vmem, ⟨5, _⟩ => ⟨S1024x2048, .bf16⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutReferenceIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .bf16⟩
  | .hbm, ⟨4, _⟩ => ⟨S16384x4096, .f32⟩
  | .hbm, ⟨5, _⟩ => ⟨S16384x4096, .f32⟩
  | .hbm, ⟨6, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Project.lean ====
abbrev S2x8192x4096 : Shape := ⟨3, ![2, 8192, 4096]⟩
abbrev S4096x13376 : Shape := ⟨2, ![4096, 13376]⟩
abbrev S26 : Shape := ⟨1, ![26]⟩
abbrev S4096x5120 : Shape := ⟨2, ![4096, 5120]⟩
abbrev S4096x6144 : Shape := ⟨2, ![4096, 6144]⟩
abbrev S4096x2048 : Shape := ⟨2, ![4096, 2048]⟩
abbrev S4096x13312 : Shape := ⟨2, ![4096, 13312]⟩
abbrev S2x1x8192x4096 : Shape := ⟨4, ![2, 1, 8192, 4096]⟩
abbrev S8192 : Shape := ⟨1, ![8192]⟩
abbrev S1x8192 : Shape := ⟨2, ![1, 8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1024x128 : Shape := ⟨2, ![1024, 128]⟩
abbrev S18432x128 : Shape := ⟨2, ![18432, 128]⟩
abbrev S2x1x8192x13312 : Shape := ⟨4, ![2, 1, 8192, 13312]⟩
abbrev S1x1x1024x4096 : Shape := ⟨4, ![1, 1, 1024, 4096]⟩
abbrev S4096x512 : Shape := ⟨2, ![4096, 512]⟩
abbrev S1 : Shape := ⟨1, ![1]⟩
abbrev S1x1x1024x512 : Shape := ⟨4, ![1, 1, 1024, 512]⟩
abbrev S1x1x256x4096 : Shape := ⟨4, ![1, 1, 256, 4096]⟩
abbrev S256x4096 : Shape := ⟨2, ![256, 4096]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 54
  | .vmem => 10
  | .smem => 3
  | _ => 0

abbrev bufTy : (tb : Table) → Fin (tcTables nBuf tb) → BufTy
  | .hbm, ⟨0, _⟩ => ⟨S2x8192x4096, .f32⟩
  | .hbm, ⟨1, _⟩ => ⟨S4096x13376, .f32⟩
  | .hbm, ⟨2, _⟩ => ⟨S4096x13376, .bf16⟩
  | .hbm, ⟨3, _⟩ => ⟨S4096x5120, .bf16⟩
  | .hbm, ⟨4, _⟩ => ⟨S4096x6144, .bf16⟩
  | .hbm, ⟨5, _⟩ => ⟨S4096x2048, .bf16⟩
  | .hbm, ⟨6, _⟩ => ⟨S4096x13312, .bf16⟩
  | .hbm, ⟨7, _⟩ => ⟨S2x8192x4096, .bf16⟩
  | .hbm, ⟨8, _⟩ => ⟨S2x1x8192x4096, .bf16⟩
  | .hbm, ⟨9, _⟩ => ⟨S8192, .i32⟩
  | .hbm, ⟨10, _⟩ => ⟨S1x8192, .i32⟩
  | .hbm, ⟨11, _⟩ => ⟨S8192, .i32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S8192, .f32⟩
  | .hbm, ⟨21, _⟩ => ⟨S8192x1, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x128, .f32⟩
  | .hbm, ⟨29, _⟩ => ⟨S8192x64, .f32⟩
  | .hbm, ⟨30, _⟩ => ⟨S8192x128, .f32⟩
  | .hbm, ⟨31, _⟩ => ⟨S_, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S_, .f32⟩
  | .hbm, ⟨36, _⟩ => ⟨S1024x128, .f32⟩
  | .hbm, ⟨37, _⟩ => ⟨S_, .f32⟩
  | .hbm, ⟨38, _⟩ => ⟨S1024x128, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S_, .f32⟩
  | .hbm, ⟨46, _⟩ => ⟨S8192x128, .f32⟩
  | .hbm, ⟨47, _⟩ => ⟨S8192x128, .f32⟩
  | .hbm, ⟨48, _⟩ => ⟨S_, .f32⟩
  | .hbm, ⟨49, _⟩ => ⟨S8192x128, .f32⟩
  | .hbm, ⟨50, _⟩ => ⟨S8192x128, .f32⟩
  | .hbm, ⟨51, _⟩ => ⟨S18432x128, .f32⟩
  | .hbm, ⟨52, _⟩ => ⟨S18432x128, .f32⟩
  | .hbm, ⟨53, _⟩ => ⟨S2x1x8192x13312, .bf16⟩
  | .local _ .vmem, ⟨0, _⟩ => ⟨S1x1x1024x4096, .bf16⟩
  | .local _ .vmem, ⟨1, _⟩ => ⟨S1x1x1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1x1024x512, .bf16⟩
  | .local _ .vmem, ⟨9, _⟩ => ⟨S1x1x1024x512, .bf16⟩
  | .local _ .smem, ⟨0, _⟩ => ⟨S26, .i32⟩
  | .local _ .smem, ⟨1, _⟩ => ⟨S26, .i32⟩
  | .local _ .smem, ⟨2, _⟩ => ⟨S26, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_2 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_3 : Ref sig .tc := ⟨.hbm, 31, rfl⟩
abbrev main_v27 : Ref sig .tc := ⟨.hbm, 32, rfl⟩
abbrev main_cst_4 : Ref sig .tc := ⟨.hbm, 33, rfl⟩
abbrev main_v28 : Ref sig .tc := ⟨.hbm, 34, rfl⟩
abbrev main_cst_5 : Ref sig .tc := ⟨.hbm, 35, rfl⟩
abbrev main_v29 : Ref sig .tc := ⟨.hbm, 36, rfl⟩
abbrev main_cst_6 : Ref sig .tc := ⟨.hbm, 37, rfl⟩
abbrev main_v30 : Ref sig .tc := ⟨.hbm, 38, rfl⟩
abbrev main_cst_7 : Ref sig .tc := ⟨.hbm, 39, rfl⟩
abbrev main_v31 : Ref sig .tc := ⟨.hbm, 40, rfl⟩
abbrev main_v32 : Ref sig .tc := ⟨.hbm, 41, rfl⟩
abbrev main_cst_8 : Ref sig .tc := ⟨.hbm, 42, rfl⟩
abbrev main_v33 : Ref sig .tc := ⟨.hbm, 43, rfl⟩
abbrev main_v34 : Ref sig .tc := ⟨.hbm, 44, rfl⟩
abbrev main_cst_9 : Ref sig .tc := ⟨.hbm, 45, rfl⟩
abbrev main_v35 : Ref sig .tc := ⟨.hbm, 46, rfl⟩
abbrev main_v36 : Ref sig .tc := ⟨.hbm, 47, rfl⟩
abbrev main_cst_10 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 26], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.divsi arg0 c8_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c8_i32_4 c0_i32_7
  let v24 : BitVec 32 := Scalar.extui v23
  let c0_i32_8 : BitVec 32 := 0#32
  let v25 : BitVec 1 := Scalar.cmpi .slt c8_i32_4 c0_i32_8
  let v26 : BitVec 32 := Scalar.extui v25
  let v27 : BitVec 32 := Scalar.subi v24 v26
  let v28 : BitVec 1 := Scalar.cmpi .ne v22 v27
  let v29 : BitVec 32 := Scalar.remsi arg0 c8_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v43.toNat, v53.toNat, c0_i32_23.toNat]

def cc0_transform_1 (k0_off1_inb : ∀ i : grid0.Coords, ∀ a, (k0_off1 i) a + S1.size a ≤ S26.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S26) ![v0.toNat] S1.size (k0_off1_inb i)) numel1_S1
  let c0_i32 : BitVec 32 := 0#32
  let c0_i32_0 : BitVec 32 := 0#32
  ![c0_i32.toNat, v1.toNat]

def cc0_transform_2 (k0_off1_inb : ∀ i : grid0.Coords, ∀ a, (k0_off1 i) a + S1.size a ≤ S26.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.divsi arg0 c8_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c8_i32_4 c0_i32_7
  let v24 : BitVec 32 := Scalar.extui v23
  let c0_i32_8 : BitVec 32 := 0#32
  let v25 : BitVec 1 := Scalar.cmpi .slt c8_i32_4 c0_i32_8
  let v26 : BitVec 32 := Scalar.extui v25
  let v27 : BitVec 32 := Scalar.subi v24 v26
  let v28 : BitVec 1 := Scalar.cmpi .ne v22 v27
  let v29 : BitVec 32 := Scalar.remsi arg0 c8_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let v54 : Index := Scalar.indexCast arg1
  let v55 : BitVec 32 := pf.at 1 (Rect.unit (s := S26) ![v54.toNat] S1.size (k0_off1_inb i)) numel1_S1
  let v56 : Index := Scalar.indexCast arg1
  let v57 : BitVec 32 := pf.at 2 (Rect.unit (s := S26) ![v56.toNat] S1.size (k0_off1_inb i)) numel1_S1
  let c8_i32_23 : BitVec 32 := 8#32
  let v58 : BitVec 32 := Scalar.muli v43 c8_i32_23
  let v59 : BitVec 32 := Scalar.addi v58 v53
  let v60 : BitVec 32 := Scalar.muli v57 v59
  let v61 : BitVec 32 := Scalar.addi v55 v60
  let c0_i32_24 : BitVec 32 := 0#32
  let c0_i32_25 : BitVec 32 := 0#32
  ![v61.toNat, c0_i32_24.toNat]

def cc0_transform_3 (k0_off1_inb : ∀ i : grid0.Coords, ∀ a, (k0_off1 i) a + S1.size a ≤ S26.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.divsi arg0 c8_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c8_i32_4 c0_i32_7
  let v24 : BitVec 32 := Scalar.extui v23
  let c0_i32_8 : BitVec 32 := 0#32
  let v25 : BitVec 1 := Scalar.cmpi .slt c8_i32_4 c0_i32_8
  let v26 : BitVec 32 := Scalar.extui v25
  let v27 : BitVec 32 := Scalar.subi v24 v26
  let v28 : BitVec 1 := Scalar.cmpi .ne v22 v27
  let v29 : BitVec 32 := Scalar.remsi arg0 c8_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let v54 : Index := Scalar.indexCast arg1
  let v55 : BitVec 32 := pf.at 1 (Rect.unit (s := S26) ![v54.toNat] S1.size (k0_off1_inb i)) numel1_S1
  let v56 : Index := Scalar.indexCast arg1
  let v57 : BitVec 32 := pf.at 2 (Rect.unit (s := S26) ![v56.toNat] S1.size (k0_off1_inb i)) numel1_S1
  let c8_i32_23 : BitVec 32 := 8#32
  let v58 : BitVec 32 := Scalar.muli v43 c8_i32_23
  let v59 : BitVec 32 := Scalar.addi v58 v53
  let v60 : BitVec 32 := Scalar.muli v57 v59
  let v61 : BitVec 32 := Scalar.addi v55 v60
  let c0_i32_24 : BitVec 32 := 0#32
  let c0_i32_25 : BitVec 32 := 0#32
  ![v61.toNat, c0_i32_24.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.divsi arg0 c8_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c8_i32_4 c0_i32_7
  let v24 : BitVec 32 := Scalar.extui v23
  let c0_i32_8 : BitVec 32 := 0#32
  let v25 : BitVec 1 := Scalar.cmpi .slt c8_i32_4 c0_i32_8
  let v26 : BitVec 32 := Scalar.extui v25
  let v27 : BitVec 32 := Scalar.subi v24 v26
  let v28 : BitVec 1 := Scalar.cmpi .ne v22 v27
  let v29 : BitVec 32 := Scalar.remsi arg0 c8_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v43.toNat, v53.toNat, arg1.toNat]

abbrev stage0_0 : Fin 2 → Memref sig .tc .vmem S1x1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjectReferenceIdeal.lean ====
abbrev S2x8192x4096 : Shape := ⟨3, ![2, 8192, 4096]⟩
abbrev S4096x13376 : Shape := ⟨2, ![4096, 13376]⟩
abbrev S2x8192x13376 : Shape := ⟨3, ![2, 8192, 13376]⟩
abbrev S2x8192x2048 : Shape := ⟨3, ![2, 8192, 2048]⟩
abbrev S2x8192x3072 : Shape := ⟨3, ![2, 8192, 3072]⟩
abbrev S2x8192x48 : Shape := ⟨3, ![2, 8192, 48]⟩
abbrev S2x8192x1024 : Shape := ⟨3, ![2, 8192, 1024]⟩
abbrev S2x8192x16 : Shape := ⟨3, ![2, 8192, 16]⟩
abbrev S8192 : Shape := ⟨1, ![8192]⟩
abbrev S2x8192x512 : Shape := ⟨3, ![2, 8192, 512]⟩
abbrev S_ : Shape := ⟨0, ![]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x16x128 : Shape := ⟨4, ![2, 8192, 16, 128]⟩
abbrev S2x8192x16x64 : Shape := ⟨4, ![2, 8192, 16, 64]⟩
abbrev S1x8192x1x64 : Shape := ⟨4, ![1, 8192, 1, 64]⟩
abbrev S2x8192x4x128 : Shape := ⟨4, ![2, 8192, 4, 128]⟩
abbrev S2x8192x4x64 : Shape := ⟨4, ![2, 8192, 4, 64]⟩
abbrev S2x8192x13312 : Shape := ⟨3, ![2, 8192, 13312]⟩
abbrev S2x1x8192x13312 : Shape := ⟨4, ![2, 1, 8192, 13312]⟩

abbrev nBuf : Space → Nat
  | .hbm => 139
  | .vmem => 0
  | .smem => 0
  | _ => 0

abbrev hbmTy0_0 (i : Nat) : BufTy := match i % 128 with
  | 0 => ⟨S2x8192x4096, .f32⟩
  | 1 => ⟨S4096x13376, .f32⟩
  | 2 => ⟨S2x8192x13376, .f32⟩
  | 3 => ⟨S2x8192x2048, .f32⟩
  | 4 => ⟨S2x8192x3072, .f32⟩
  | 5 => ⟨S2x8192x48, .f32⟩
  | 6 => ⟨S2x8192x2048, .f32⟩
  | 7 => ⟨S2x8192x1024, .f32⟩
  | 8 => ⟨S2x8192x1024, .f32⟩
  | 9 => ⟨S2x8192x2048, .f32⟩
  | 10 => ⟨S2x8192x16, .f32⟩
  | 11 => ⟨S2x8192x2048, .f32⟩
  | 12 => ⟨S8192, .i32⟩
  | 13 => ⟨S2x8192x512, .f32⟩
  | 14 => ⟨S2x8192x512, .f32⟩
  | 15 => ⟨S2x8192x512, .f32⟩
  | 16 => ⟨S2x8192x512, .f32⟩
  | 17 => ⟨S2x8192x512, .f32⟩
  | 18 => ⟨S2x8192x512, .f32⟩
  | 19 => ⟨S_, .f32⟩
  | 20 => ⟨S2x8192x2048, .f32⟩
  | 21 => ⟨S2x8192x2048, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S8192, .f32⟩
  | 31 => ⟨S8192x1, .f32⟩
  | 32 => ⟨S1x64, .f32⟩
  | 33 => ⟨S8192x64, .f32⟩
  | 34 => ⟨S8192x64, .f32⟩
  | 35 => ⟨S8192x64, .f32⟩
  | 36 => ⟨S8192x64, .f32⟩
  | 37 => ⟨S8192x1x64, .f32⟩
  | 38 => ⟨S8192x64, .f32⟩
  | 39 => ⟨S8192x1x64, .f32⟩
  | 40 => ⟨S2x8192x16x128, .f32⟩
  | 41 => ⟨S2x8192x16x64, .f32⟩
  | 42 => ⟨S2x8192x16x64, .f32⟩
  | 43 => ⟨S1x8192x1x64, .f32⟩
  | 44 => ⟨S2x8192x16x64, .f32⟩
  | 45 => ⟨S2x8192x16x64, .f32⟩
  | 46 => ⟨S1x8192x1x64, .f32⟩
  | 47 => ⟨S2x8192x16x64, .f32⟩
  | 48 => ⟨S2x8192x16x64, .f32⟩
  | 49 => ⟨S2x8192x16x64, .f32⟩
  | 50 => ⟨S1x8192x1x64, .f32⟩
  | 51 => ⟨S2x8192x16x64, .f32⟩
  | 52 => ⟨S2x8192x16x64, .f32⟩
  | 53 => ⟨S1x8192x1x64, .f32⟩
  | 54 => ⟨S2x8192x16x64, .f32⟩
  | 55 => ⟨S2x8192x16x64, .f32⟩
  | 56 => ⟨S2x8192x16x64, .f32⟩
  | 57 => ⟨S2x8192x16x128, .f32⟩
  | 58 => ⟨S2x8192x2048, .f32⟩
  | 59 => ⟨S_, .f32⟩
  | 60 => ⟨S2x8192x1024, .f32⟩
  | 61 => ⟨S2x8192x1024, .f32⟩
  | 62 => ⟨S64, .f32⟩
  | 63 => ⟨S64, .f32⟩
  | 64 => ⟨S_, .f32⟩
  | 65 => ⟨S64, .f32⟩
  | 66 => ⟨S64, .f32⟩
  | 67 => ⟨S_, .f32⟩
  | 68 => ⟨S64, .f32⟩
  | 69 => ⟨S64, .f32⟩
  | 70 => ⟨S8192, .f32⟩
  | 71 => ⟨S8192x1, .f32⟩
  | 72 => ⟨S1x64, .f32⟩
  | 73 => ⟨S8192x64, .f32⟩
  | 74 => ⟨S8192x64, .f32⟩
  | 75 => ⟨S8192x64, .f32⟩
  | 76 => ⟨S8192x64, .f32⟩
  | 77 => ⟨S8192x1x64, .f32⟩
  | 78 => ⟨S8192x64, .f32⟩
  | 79 => ⟨S8192x1x64, .f32⟩
  | 80 => ⟨S2x8192x4x128, .f32⟩
  | 81 => ⟨S2x8192x4x64, .f32⟩
  | 82 => ⟨S2x8192x4x64, .f32⟩
  | 83 => ⟨S1x8192x1x64, .f32⟩
  | 84 => ⟨S2x8192x4x64, .f32⟩
  | 85 => ⟨S2x8192x4x64, .f32⟩
  | 86 => ⟨S1x8192x1x64, .f32⟩
  | 87 => ⟨S2x8192x4x64, .f32⟩
  | 88 => ⟨S2x8192x4x64, .f32⟩
  | 89 => ⟨S2x8192x4x64, .f32⟩
  | 90 => ⟨S1x8192x1x64, .f32⟩
  | 91 => ⟨S2x8192x4x64, .f32⟩
  | 92 => ⟨S2x8192x4x64, .f32⟩
  | 93 => ⟨S1x8192x1x64, .f32⟩
  | 94 => ⟨S2x8192x4x64, .f32⟩
  | 95 => ⟨S2x8192x4x64, .f32⟩
  | 96 => ⟨S2x8192x4x64, .f32⟩
  | 97 => ⟨S2x8192x4x128, .f32⟩
  | 98 => ⟨S2x8192x512, .f32⟩
  | 99 => ⟨S64, .f32⟩
  | 100 => ⟨S64, .f32⟩
  | 101 => ⟨S_, .f32⟩
  | 102 => ⟨S64, .f32⟩
  | 103 => ⟨S64, .f32⟩
  | 104 => ⟨S_, .f32⟩
  | 105 => ⟨S64, .f32⟩
  | 106 => ⟨S64, .f32⟩
  | 107 => ⟨S8192, .f32⟩
  | 108 => ⟨S8192x1, .f32⟩
  | 109 => ⟨S1x64, .f32⟩
  | 110 => ⟨S8192x64, .f32⟩
  | 111 => ⟨S8192x64, .f32⟩
  | 112 => ⟨S8192x64, .f32⟩
  | 113 => ⟨S8192x64, .f32⟩
  | 114 => ⟨S8192x1x64, .f32⟩
  | 115 => ⟨S8192x64, .f32⟩
  | 116 => ⟨S8192x1x64, .f32⟩
  | 117 => ⟨S2x8192x4x128, .f32⟩
  | 118 => ⟨S2x8192x4x64, .f32⟩
  | 119 => ⟨S2x8192x4x64, .f32⟩
  | 120 => ⟨S1x8192x1x64, .f32⟩
  | 121 => ⟨S2x8192x4x64, .f32⟩
  | 122 => ⟨S2x8192x4x64, .f32⟩
  | 123 => ⟨S1x8192x1x64, .f32⟩
  | 124 => ⟨S2x8192x4x64, .f32⟩
  | 125 => ⟨S2x8192x4x64, .f32⟩
  | 126 => ⟨S2x8192x4x64, .f32⟩
  | 127 => ⟨S1x8192x1x64, .f32⟩
  | _ => ⟨S2x8192x4096, .f32⟩

abbrev hbmTy0_1 (i : Nat) : BufTy := match i % 128 with
  | 0 => ⟨S2x8192x4x64, .f32⟩
  | 1 => ⟨S2x8192x4x64, .f32⟩
  | 2 => ⟨S1x8192x1x64, .f32⟩
  | 3 => ⟨S2x8192x4x64, .f32⟩
  | 4 => ⟨S2x8192x4x64, .f32⟩
  | 5 => ⟨S2x8192x4x64, .f32⟩
  | 6 => ⟨S2x8192x4x128, .f32⟩
  | 7 => ⟨S2x8192x512, .f32⟩
  | 8 => ⟨S2x8192x13312, .f32⟩
  | 9 => ⟨S2x8192x13312, .bf16⟩
  | 10 => ⟨S2x1x8192x13312, .bf16⟩
  | _ => ⟨S2x8192x4096, .f32⟩

abbrev hbmTy (i : Nat) : BufTy := match i / 128 with
  | 0 => hbmTy0_0 i
  | 1 => hbmTy0_1 i
  | _ => ⟨S2x8192x4096, .f32⟩

abbrev bufTy : (tb : Table) → Fin (tcTables nBuf tb) → BufTy
  | .hbm, ⟨i, _⟩ => hbmTy i
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_cst_2 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_3 : Ref sig .tc := ⟨.hbm, 64, rfl⟩
abbrev main_v58 : Ref sig .tc := ⟨.hbm, 65, rfl⟩
abbrev main_v59 : Ref sig .tc := ⟨.hbm, 66, rfl⟩
abbrev main_cst_4 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_cst_5 : Ref sig .tc := ⟨.hbm, 101, rfl⟩
abbrev main_v93 : Ref sig .tc := ⟨.hbm, 102, rfl⟩
abbrev main_v94 : Ref sig .tc := ⟨.hbm, 103, rfl⟩
abbrev main_cst_6 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩

abbrev nD : Nat := 1
abbrev τ : Topo := Topo.v7x

variable {F : FTy → Type} [FloatOps F]
-- ==== Dilated.lean ====
abbrev S2x8192x4096 : Shape := ⟨3, ![2, 8192, 4096]⟩
abbrev S4096x20480 : Shape := ⟨2, ![4096, 20480]⟩
abbrev S16 : Shape := ⟨1, ![16]⟩
abbrev S2x1x8192x4096 : Shape := ⟨4, ![2, 1, 8192, 4096]⟩
abbrev S8192 : Shape := ⟨1, ![8192]⟩
abbrev S8192x1 : Shape := ⟨2, ![8192, 1]⟩
abbrev S1x8192 : Shape := ⟨2, ![1, 8192]⟩
abbrev S64 : Shape := ⟨1, ![64]⟩
abbrev S_ : Shape := ⟨0, ![]⟩
abbrev S1x64 : Shape := ⟨2, ![1, 64]⟩
abbrev S8192x64 : Shape := ⟨2, ![8192, 64]⟩
abbrev S8192x128 : Shape := ⟨2, ![8192, 128]⟩
abbrev S1024x128 : Shape := ⟨2, ![1024, 128]⟩
abbrev S17408x128 : Shape := ⟨2, ![17408, 128]⟩
abbrev S2x1x8192x8192 : Shape := ⟨4, ![2, 1, 8192, 8192]⟩
abbrev S1x1x1024x4096 : Shape := ⟨4, ![1, 1, 1024, 4096]⟩
abbrev S4096x512 : Shape := ⟨2, ![4096, 512]⟩
abbrev S1 : Shape := ⟨1, ![1]⟩
abbrev S1x1x1024x512 : Shape := ⟨4, ![1, 1, 1024, 512]⟩
abbrev S1x1x256x4096 : Shape := ⟨4, ![1, 1, 256, 4096]⟩
abbrev S256x4096 : Shape := ⟨2, ![256, 4096]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 46
  | .vmem => 10
  | .smem => 3
  | _ => 0

abbrev bufTy : (tb : Table) → Fin (tcTables nBuf tb) → BufTy
  | .hbm, ⟨0, _⟩ => ⟨S2x8192x4096, .f32⟩
  | .hbm, ⟨1, _⟩ => ⟨S4096x20480, .f32⟩
  | .hbm, ⟨2, _⟩ => ⟨S2x8192x4096, .bf16⟩
  | .hbm, ⟨3, _⟩ => ⟨S2x1x8192x4096, .bf16⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192, .i32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x128, .f32⟩
  | .hbm, ⟨25, _⟩ => ⟨S8192x64, .f32⟩
  | .hbm, ⟨26, _⟩ => ⟨S8192x128, .f32⟩
  | .hbm, ⟨27, _⟩ => ⟨S_, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S_, .f32⟩
  | .hbm, ⟨41, _⟩ => ⟨S8192x128, .f32⟩
  | .hbm, ⟨42, _⟩ => ⟨S8192x128, .f32⟩
  | .hbm, ⟨43, _⟩ => ⟨S17408x128, .f32⟩
  | .hbm, ⟨44, _⟩ => ⟨S17408x128, .f32⟩
  | .hbm, ⟨45, _⟩ => ⟨S2x1x8192x8192, .bf16⟩
  | .local _ .vmem, ⟨0, _⟩ => ⟨S1x1x1024x4096, .bf16⟩
  | .local _ .vmem, ⟨1, _⟩ => ⟨S1x1x1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1x1024x512, .bf16⟩
  | .local _ .vmem, ⟨9, _⟩ => ⟨S1x1x1024x512, .bf16⟩
  | .local _ .smem, ⟨0, _⟩ => ⟨S16, .i32⟩
  | .local _ .smem, ⟨1, _⟩ => ⟨S16, .i32⟩
  | .local _ .smem, ⟨2, _⟩ => ⟨S16, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_2 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_3 : Ref sig .tc := ⟨.hbm, 27, rfl⟩
abbrev main_v23 : Ref sig .tc := ⟨.hbm, 28, rfl⟩
abbrev main_cst_4 : Ref sig .tc := ⟨.hbm, 29, rfl⟩
abbrev main_v24 : Ref sig .tc := ⟨.hbm, 30, rfl⟩
abbrev main_cst_5 : Ref sig .tc := ⟨.hbm, 31, rfl⟩
abbrev main_v25 : Ref sig .tc := ⟨.hbm, 32, rfl⟩
abbrev main_v26 : Ref sig .tc := ⟨.hbm, 33, rfl⟩
abbrev main_cst_6 : Ref sig .tc := ⟨.hbm, 34, rfl⟩
abbrev main_v27 : Ref sig .tc := ⟨.hbm, 35, rfl⟩
abbrev main_v28 : Ref sig .tc := ⟨.hbm, 36, rfl⟩
abbrev main_cst_7 : Ref sig .tc := ⟨.hbm, 37, rfl⟩
abbrev main_v29 : Ref sig .tc := ⟨.hbm, 38, rfl⟩
abbrev main_v30 : Ref sig .tc := ⟨.hbm, 39, rfl⟩
abbrev main_cst_8 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.divsi arg0 c8_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c8_i32_4 c0_i32_7
  let v24 : BitVec 32 := Scalar.extui v23
  let c0_i32_8 : BitVec 32 := 0#32
  let v25 : BitVec 1 := Scalar.cmpi .slt c8_i32_4 c0_i32_8
  let v26 : BitVec 32 := Scalar.extui v25
  let v27 : BitVec 32 := Scalar.subi v24 v26
  let v28 : BitVec 1 := Scalar.cmpi .ne v22 v27
  let v29 : BitVec 32 := Scalar.remsi arg0 c8_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v43.toNat, v53.toNat, c0_i32_23.toNat]

def cc0_transform_1 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let c0_i32_0 : BitVec 32 := 0#32
  ![c0_i32.toNat, v1.toNat]

def cc0_transform_2 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.divsi arg0 c8_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c8_i32_4 c0_i32_7
  let v24 : BitVec 32 := Scalar.extui v23
  let c0_i32_8 : BitVec 32 := 0#32
  let v25 : BitVec 1 := Scalar.cmpi .slt c8_i32_4 c0_i32_8
  let v26 : BitVec 32 := Scalar.extui v25
  let v27 : BitVec 32 := Scalar.subi v24 v26
  let v28 : BitVec 1 := Scalar.cmpi .ne v22 v27
  let v29 : BitVec 32 := Scalar.remsi arg0 c8_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let v54 : Index := Scalar.indexCast arg1
  let v55 : BitVec 32 := pf.at 1 (Rect.unit (s := S16) ![v54.toNat] S1.size (k0_off1_inb i)) numel1_S1
  let v56 : Index := Scalar.indexCast arg1
  let v57 : BitVec 32 := pf.at 2 (Rect.unit (s := S16) ![v56.toNat] S1.size (k0_off1_inb i)) numel1_S1
  let c8_i32_23 : BitVec 32 := 8#32
  let v58 : BitVec 32 := Scalar.muli v43 c8_i32_23
  let v59 : BitVec 32 := Scalar.addi v58 v53
  let v60 : BitVec 32 := Scalar.muli v57 v59
  let v61 : BitVec 32 := Scalar.addi v55 v60
  let c0_i32_24 : BitVec 32 := 0#32
  let c0_i32_25 : BitVec 32 := 0#32
  ![v61.toNat, c0_i32_24.toNat]

def cc0_transform_3 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.divsi arg0 c8_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c8_i32_4 c0_i32_7
  let v24 : BitVec 32 := Scalar.extui v23
  let c0_i32_8 : BitVec 32 := 0#32
  let v25 : BitVec 1 := Scalar.cmpi .slt c8_i32_4 c0_i32_8
  let v26 : BitVec 32 := Scalar.extui v25
  let v27 : BitVec 32 := Scalar.subi v24 v26
  let v28 : BitVec 1 := Scalar.cmpi .ne v22 v27
  let v29 : BitVec 32 := Scalar.remsi arg0 c8_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let v54 : Index := Scalar.indexCast arg1
  let v55 : BitVec 32 := pf.at 1 (Rect.unit (s := S16) ![v54.toNat] S1.size (k0_off1_inb i)) numel1_S1
  let v56 : Index := Scalar.indexCast arg1
  let v57 : BitVec 32 := pf.at 2 (Rect.unit (s := S16) ![v56.toNat] S1.size (k0_off1_inb i)) numel1_S1
  let c8_i32_23 : BitVec 32 := 8#32
  let v58 : BitVec 32 := Scalar.muli v43 c8_i32_23
  let v59 : BitVec 32 := Scalar.addi v58 v53
  let v60 : BitVec 32 := Scalar.muli v57 v59
  let v61 : BitVec 32 := Scalar.addi v55 v60
  let c0_i32_24 : BitVec 32 := 0#32
  let c0_i32_25 : BitVec 32 := 0#32
  ![v61.toNat, c0_i32_24.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let v17 : BitVec 32 := Scalar.divsi arg0 c8_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c8_i32_4 c0_i32_7
  let v24 : BitVec 32 := Scalar.extui v23
  let c0_i32_8 : BitVec 32 := 0#32
  let v25 : BitVec 1 := Scalar.cmpi .slt c8_i32_4 c0_i32_8
  let v26 : BitVec 32 := Scalar.extui v25
  let v27 : BitVec 32 := Scalar.subi v24 v26
  let v28 : BitVec 1 := Scalar.cmpi .ne v22 v27
  let v29 : BitVec 32 := Scalar.remsi arg0 c8_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c1_i32_11 : BitVec 32 := 1#32
  let c0_i32_12 : BitVec 32 := 0#32
  let v34 : BitVec 1 := Scalar.cmpi .eq c1_i32_11 c0_i32_12
  let c1_i32_13 : BitVec 32 := 1#32
  let v35 : BitVec 32 := Scalar.select v34 c1_i32_13 c1_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c8_i32_17 : BitVec 32 := 8#32
  let c0_i32_18 : BitVec 32 := 0#32
  let v44 : BitVec 1 := Scalar.cmpi .eq c8_i32_17 c0_i32_18
  let c1_i32_19 : BitVec 32 := 1#32
  let v45 : BitVec 32 := Scalar.select v44 c1_i32_19 c8_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v43.toNat, v53.toNat, arg1.toNat]

abbrev stage0_0 : Fin 2 → Memref sig .tc .vmem S1x1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DilatedReferenceIdeal.lean ====
abbrev S2x8192x4096 : Shape := ⟨3, ![2, 8192, 4096]⟩
abbrev S4096x20480 : Shape := ⟨2, ![4096, 20480]⟩
abbrev S2x8192x20480 : Shape := ⟨3, ![2, 8192, 20480]⟩
abbrev S2x8192x6144 : Shape := ⟨3, ![2, 8192, 6144]⟩
abbrev S2x8192x2048 : Shape := ⟨3, ![2, 8192, 2048]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x16x128 : Shape := ⟨4, ![2, 8192, 16, 128]⟩
abbrev S2x8192x16x64 : Shape := ⟨4, ![2, 8192, 16, 64]⟩
abbrev S1x8192x1x64 : Shape := ⟨4, ![1, 8192, 1, 64]⟩
abbrev S2x8192x8192 : Shape := ⟨3, ![2, 8192, 8192]⟩
abbrev S2x1x8192x8192 : Shape := ⟨4, ![2, 1, 8192, 8192]⟩

abbrev nBuf : Space → Nat
  | .hbm => 91
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x20480, .f32⟩
  | .hbm, ⟨2, _⟩ => ⟨S2x8192x20480, .f32⟩
  | .hbm, ⟨3, _⟩ => ⟨S2x8192x6144, .f32⟩
  | .hbm, ⟨4, _⟩ => ⟨S2x8192x6144, .f32⟩
  | .hbm, ⟨5, _⟩ => ⟨S2x8192x6144, .f32⟩
  | .hbm, ⟨6, _⟩ => ⟨S2x8192x2048, .f32⟩
  | .hbm, ⟨7, _⟩ => ⟨S8192, .i32⟩
  | .hbm, ⟨8, _⟩ => ⟨S2x8192x2048, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x1x64, .f32⟩
  | .hbm, ⟨25, _⟩ => ⟨S8192x64, .f32⟩
  | .hbm, ⟨26, _⟩ => ⟨S8192x1x64, .f32⟩
  | .hbm, ⟨27, _⟩ => ⟨S2x8192x16x128, .f32⟩
  | .hbm, ⟨28, _⟩ => ⟨S2x8192x16x64, .f32⟩
  | .hbm, ⟨29, _⟩ => ⟨S2x8192x16x64, .f32⟩
  | .hbm, ⟨30, _⟩ => ⟨S1x8192x1x64, .f32⟩
  | .hbm, ⟨31, _⟩ => ⟨S2x8192x16x64, .f32⟩
  | .hbm, ⟨32, _⟩ => ⟨S2x8192x16x64, .f32⟩
  | .hbm, ⟨33, _⟩ => ⟨S1x8192x1x64, .f32⟩
  | .hbm, ⟨34, _⟩ => ⟨S2x8192x16x64, .f32⟩
  | .hbm, ⟨35, _⟩ => ⟨S2x8192x16x64, .f32⟩
  | .hbm, ⟨36, _⟩ => ⟨S2x8192x16x64, .f32⟩
  | .hbm, ⟨37, _⟩ => ⟨S1x8192x1x64, .f32⟩
  | .hbm, ⟨38, _⟩ => ⟨S2x8192x16x64, .f32⟩
  | .hbm, ⟨39, _⟩ => ⟨S2x8192x16x64, .f32⟩
  | .hbm, ⟨40, _⟩ => ⟨S1x8192x1x64, .f32⟩
  | .hbm, ⟨41, _⟩ => ⟨S2x8192x16x64, .f32⟩
  | .hbm, ⟨42, _⟩ => ⟨S2x8192x16x64, .f32⟩
  | .hbm, ⟨43, _⟩ => ⟨S2x8192x16x64, .f32⟩
  | .hbm, ⟨44, _⟩ => ⟨S2x8192x16x128, .f32⟩
  | .hbm, ⟨45, _⟩ => ⟨S2x8192x2048, .f32⟩
  | .hbm, ⟨46, _⟩ => ⟨S_, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S8192, .f32⟩
  | .hbm, ⟨59, _⟩ => ⟨S8192x1, .f32⟩
  | .hbm, ⟨60, _⟩ => ⟨S1x64, .f32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x1x64, .f32⟩
  | .hbm, ⟨66, _⟩ => ⟨S8192x64, .f32⟩
  | .hbm, ⟨67, _⟩ => ⟨S8192x1x64, .f32⟩
  | .hbm, ⟨68, _⟩ => ⟨S2x8192x16x128, .f32⟩
  | .hbm, ⟨69, _⟩ => ⟨S2x8192x16x64, .f32⟩
  | .hbm, ⟨70, _⟩ => ⟨S2x8192x16x64, .f32⟩
  | .hbm, ⟨71, _⟩ => ⟨S1x8192x1x64, .f32⟩
  | .hbm, ⟨72, _⟩ => ⟨S2x8192x16x64, .f32⟩
  | .hbm, ⟨73, _⟩ => ⟨S2x8192x16x64, .f32⟩
  | .hbm, ⟨74, _⟩ => ⟨S1x8192x1x64, .f32⟩
  | .hbm, ⟨75, _⟩ => ⟨S2x8192x16x64, .f32⟩
  | .hbm, ⟨76, _⟩ => ⟨S2x8192x16x64, .f32⟩
  | .hbm, ⟨77, _⟩ => ⟨S2x8192x16x64, .f32⟩
  | .hbm, ⟨78, _⟩ => ⟨S1x8192x1x64, .f32⟩
  | .hbm, ⟨79, _⟩ => ⟨S2x8192x16x64, .f32⟩
  | .hbm, ⟨80, _⟩ => ⟨S2x8192x16x64, .f32⟩
  | .hbm, ⟨81, _⟩ => ⟨S1x8192x1x64, .f32⟩
  | .hbm, ⟨82, _⟩ => ⟨S2x8192x16x64, .f32⟩
  | .hbm, ⟨83, _⟩ => ⟨S2x8192x16x64, .f32⟩
  | .hbm, ⟨84, _⟩ => ⟨S2x8192x16x64, .f32⟩
  | .hbm, ⟨85, _⟩ => ⟨S2x8192x16x128, .f32⟩
  | .hbm, ⟨86, _⟩ => ⟨S2x8192x2048, .f32⟩
  | .hbm, ⟨87, _⟩ => ⟨S2x8192x2048, .f32⟩
  | .hbm, ⟨88, _⟩ => ⟨S2x8192x8192, .f32⟩
  | .hbm, ⟨89, _⟩ => ⟨S2x8192x8192, .bf16⟩
  | .hbm, ⟨90, _⟩ => ⟨S2x1x8192x8192, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_cst_3 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩

abbrev nD : Nat := 1
abbrev τ : Topo := Topo.v7x

variable {F : FTy → Type} [FloatOps F]
-- ==== Spread.lean ====
abbrev S2x8192x4096 : Shape := ⟨3, ![2, 8192, 4096]⟩
abbrev S4096x20480 : Shape := ⟨2, ![4096, 20480]⟩
abbrev S12 : Shape := ⟨1, ![12]⟩
abbrev S2x2048x4x4096 : Shape := ⟨4, ![2, 2048, 4, 4096]⟩
abbrev S2x4x2048x4096 : Shape := ⟨4, ![2, 4, 2048, 4096]⟩
abbrev S8192 : Shape := ⟨1, ![8192]⟩
abbrev S2048x4 : Shape := ⟨2, ![2048, 4]⟩
abbrev S4x2048 : Shape := ⟨2, ![4, 2048]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1024x128 : Shape := ⟨2, ![1024, 128]⟩
abbrev S17408x128 : Shape := ⟨2, ![17408, 128]⟩
abbrev S2x4x2048x6144 : Shape := ⟨4, ![2, 4, 2048, 6144]⟩
abbrev S1x1x1024x4096 : Shape := ⟨4, ![1, 1, 1024, 4096]⟩
abbrev S4096x512 : Shape := ⟨2, ![4096, 512]⟩
abbrev S1 : Shape := ⟨1, ![1]⟩
abbrev S1x1x1024x512 : Shape := ⟨4, ![1, 1, 1024, 512]⟩
abbrev S1x1x256x4096 : Shape := ⟨4, ![1, 1, 256, 4096]⟩
abbrev S256x4096 : Shape := ⟨2, ![256, 4096]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 47
  | .vmem => 10
  | .smem => 3
  | _ => 0

abbrev bufTy : (tb : Table) → Fin (tcTables nBuf tb) → BufTy
  | .hbm, ⟨0, _⟩ => ⟨S2x8192x4096, .f32⟩
  | .hbm, ⟨1, _⟩ => ⟨S4096x20480, .f32⟩
  | .hbm, ⟨2, _⟩ => ⟨S2x8192x4096, .bf16⟩
  | .hbm, ⟨3, _⟩ => ⟨S2x2048x4x4096, .bf16⟩
  | .hbm, ⟨4, _⟩ => ⟨S2x4x2048x4096, .bf16⟩
  | .hbm, ⟨5, _⟩ => ⟨S8192, .i32⟩
  | .hbm, ⟨6, _⟩ => ⟨S2048x4, .i32⟩
  | .hbm, ⟨7, _⟩ => ⟨S4x2048, .i32⟩
  | .hbm, ⟨8, _⟩ => ⟨S8192, .i32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x128, .f32⟩
  | .hbm, ⟨26, _⟩ => ⟨S8192x64, .f32⟩
  | .hbm, ⟨27, _⟩ => ⟨S8192x128, .f32⟩
  | .hbm, ⟨28, _⟩ => ⟨S_, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S17408x128, .f32⟩
  | .hbm, ⟨45, _⟩ => ⟨S17408x128, .f32⟩
  | .hbm, ⟨46, _⟩ => ⟨S2x4x2048x6144, .bf16⟩
  | .local _ .vmem, ⟨0, _⟩ => ⟨S1x1x1024x4096, .bf16⟩
  | .local _ .vmem, ⟨1, _⟩ => ⟨S1x1x1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x1x1024x512, .bf16⟩
  | .local _ .vmem, ⟨9, _⟩ => ⟨S1x1x1024x512, .bf16⟩
  | .local _ .smem, ⟨0, _⟩ => ⟨S12, .i32⟩
  | .local _ .smem, ⟨1, _⟩ => ⟨S12, .i32⟩
  | .local _ .smem, ⟨2, _⟩ => ⟨S12, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_2 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_3 : Ref sig .tc := ⟨.hbm, 28, rfl⟩
abbrev main_v24 : Ref sig .tc := ⟨.hbm, 29, rfl⟩
abbrev main_cst_4 : Ref sig .tc := ⟨.hbm, 30, rfl⟩
abbrev main_v25 : Ref sig .tc := ⟨.hbm, 31, rfl⟩
abbrev main_cst_5 : Ref sig .tc := ⟨.hbm, 32, rfl⟩
abbrev main_v26 : Ref sig .tc := ⟨.hbm, 33, rfl⟩
abbrev main_v27 : Ref sig .tc := ⟨.hbm, 34, rfl⟩
abbrev main_cst_6 : Ref sig .tc := ⟨.hbm, 35, rfl⟩
abbrev main_v28 : Ref sig .tc := ⟨.hbm, 36, rfl⟩
abbrev main_v29 : Ref sig .tc := ⟨.hbm, 37, rfl⟩
abbrev main_cst_7 : Ref sig .tc := ⟨.hbm, 38, rfl⟩
abbrev main_v30 : Ref sig .tc := ⟨.hbm, 39, rfl⟩
abbrev main_v31 : Ref sig .tc := ⟨.hbm, 40, rfl⟩
abbrev main_cst_8 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 12], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  let c0_i32_22 : BitVec 32 := 0#32
  ![v16.toNat, v43.toNat, v53.toNat, c0_i32_21.toNat]

def cc0_transform_1 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S12) ![v0.toNat] S1.size (k0_off1_inb i)) numel1_S1
  let c0_i32 : BitVec 32 := 0#32
  let c0_i32_0 : BitVec 32 := 0#32
  ![c0_i32.toNat, v1.toNat]

def cc0_transform_2 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let v54 : Index := Scalar.indexCast arg1
  let v55 : BitVec 32 := pf.at 1 (Rect.unit (s := S12) ![v54.toNat] S1.size (k0_off1_inb i)) numel1_S1
  let v56 : Index := Scalar.indexCast arg1
  let v57 : BitVec 32 := pf.at 2 (Rect.unit (s := S12) ![v56.toNat] S1.size (k0_off1_inb i)) numel1_S1
  let c2_i32_21 : BitVec 32 := 2#32
  let v58 : BitVec 32 := Scalar.muli v43 c2_i32_21
  let v59 : BitVec 32 := Scalar.addi v58 v53
  let v60 : BitVec 32 := Scalar.muli v57 v59
  let v61 : BitVec 32 := Scalar.addi v55 v60
  let c0_i32_22 : BitVec 32 := 0#32
  let c0_i32_23 : BitVec 32 := 0#32
  ![v61.toNat, c0_i32_22.toNat]

def cc0_transform_3 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let v54 : Index := Scalar.indexCast arg1
  let v55 : BitVec 32 := pf.at 1 (Rect.unit (s := S12) ![v54.toNat] S1.size (k0_off1_inb i)) numel1_S1
  let v56 : Index := Scalar.indexCast arg1
  let v57 : BitVec 32 := pf.at 2 (Rect.unit (s := S12) ![v56.toNat] S1.size (k0_off1_inb i)) numel1_S1
  let c2_i32_21 : BitVec 32 := 2#32
  let v58 : BitVec 32 := Scalar.muli v43 c2_i32_21
  let v59 : BitVec 32 := Scalar.addi v58 v53
  let v60 : BitVec 32 := Scalar.muli v57 v59
  let v61 : BitVec 32 := Scalar.addi v55 v60
  let c0_i32_22 : BitVec 32 := 0#32
  let c0_i32_23 : BitVec 32 := 0#32
  ![v61.toNat, c0_i32_22.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.divsi arg0 c2_i32
  let c0_i32_4 : BitVec 32 := 0#32
  let v18 : BitVec 1 := Scalar.cmpi .sgt arg0 c0_i32_4
  let v19 : BitVec 32 := Scalar.extui v18
  let c0_i32_5 : BitVec 32 := 0#32
  let v20 : BitVec 1 := Scalar.cmpi .slt arg0 c0_i32_5
  let v21 : BitVec 32 := Scalar.extui v20
  let v22 : BitVec 32 := Scalar.subi v19 v21
  let c0_i32_6 : BitVec 32 := 0#32
  let v23 : BitVec 1 := Scalar.cmpi .sgt c2_i32 c0_i32_6
  let v24 : BitVec 32 := Scalar.extui v23
  let c0_i32_7 : BitVec 32 := 0#32
  let v25 : BitVec 1 := Scalar.cmpi .slt c2_i32 c0_i32_7
  let v26 : BitVec 32 := Scalar.extui v25
  let v27 : BitVec 32 := Scalar.subi v24 v26
  let v28 : BitVec 1 := Scalar.cmpi .ne v22 v27
  let v29 : BitVec 32 := Scalar.remsi arg0 c2_i32
  let c0_i32_8 : BitVec 32 := 0#32
  let v30 : BitVec 1 := Scalar.cmpi .ne v29 c0_i32_8
  let v31 : BitVec 1 := Scalar.andi v28 v30
  let c1_i32_9 : BitVec 32 := 1#32
  let v32 : BitVec 32 := Scalar.subi v17 c1_i32_9
  let v33 : BitVec 32 := Scalar.select v31 v32 v17
  let c4_i32 : BitVec 32 := 4#32
  let c0_i32_10 : BitVec 32 := 0#32
  let v34 : BitVec 1 := Scalar.cmpi .eq c4_i32 c0_i32_10
  let c1_i32_11 : BitVec 32 := 1#32
  let v35 : BitVec 32 := Scalar.select v34 c1_i32_11 c4_i32
  let v36 : BitVec 32 := Scalar.remsi v33 v35
  let c0_i32_12 : BitVec 32 := 0#32
  let v37 : BitVec 1 := Scalar.cmpi .ne v36 c0_i32_12
  let c0_i32_13 : BitVec 32 := 0#32
  let v38 : BitVec 1 := Scalar.cmpi .slt v36 c0_i32_13
  let c0_i32_14 : BitVec 32 := 0#32
  let v39 : BitVec 1 := Scalar.cmpi .slt v35 c0_i32_14
  let v40 : BitVec 1 := Scalar.xori v38 v39
  let v41 : BitVec 1 := Scalar.andi v40 v37
  let v42 : BitVec 32 := Scalar.addi v36 v35
  let v43 : BitVec 32 := Scalar.select v41 v42 v36
  let c2_i32_15 : BitVec 32 := 2#32
  let c0_i32_16 : BitVec 32 := 0#32
  let v44 : BitVec 1 := Scalar.cmpi .eq c2_i32_15 c0_i32_16
  let c1_i32_17 : BitVec 32 := 1#32
  let v45 : BitVec 32 := Scalar.select v44 c1_i32_17 c2_i32_15
  let v46 : BitVec 32 := Scalar.remsi arg0 v45
  let c0_i32_18 : BitVec 32 := 0#32
  let v47 : BitVec 1 := Scalar.cmpi .ne v46 c0_i32_18
  let c0_i32_19 : BitVec 32 := 0#32
  let v48 : BitVec 1 := Scalar.cmpi .slt v46 c0_i32_19
  let c0_i32_20 : BitVec 32 := 0#32
  let v49 : BitVec 1 := Scalar.cmpi .slt v45 c0_i32_20
  let v50 : BitVec 1 := Scalar.xori v48 v49
  let v51 : BitVec 1 := Scalar.andi v50 v47
  let v52 : BitVec 32 := Scalar.addi v46 v45
  let v53 : BitVec 32 := Scalar.select v51 v52 v46
  let c0_i32_21 : BitVec 32 := 0#32
  ![v16.toNat, v43.toNat, v53.toNat, arg1.toNat]

abbrev stage0_0 : Fin 2 → Memref sig .tc .vmem S1x1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SpreadReferenceIdeal.lean ====
abbrev S2x8192x4096 : Shape := ⟨3, ![2, 8192, 4096]⟩
abbrev S4096x20480 : Shape := ⟨2, ![4096, 20480]⟩
abbrev S2x8192x20480 : Shape := ⟨3, ![2, 8192, 20480]⟩
abbrev S2x8192x6144 : Shape := ⟨3, ![2, 8192, 6144]⟩
abbrev S2x8192x2048 : Shape := ⟨3, ![2, 8192, 2048]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x16x128 : Shape := ⟨4, ![2, 8192, 16, 128]⟩
abbrev S2x8192x16x64 : Shape := ⟨4, ![2, 8192, 16, 64]⟩
abbrev S1x8192x1x64 : Shape := ⟨4, ![1, 8192, 1, 64]⟩
abbrev S2x2048x4x6144 : Shape := ⟨4, ![2, 2048, 4, 6144]⟩
abbrev S2x4x2048x6144 : Shape := ⟨4, ![2, 4, 2048, 6144]⟩

abbrev nBuf : Space → Nat
  | .hbm => 92
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x20480, .f32⟩
  | .hbm, ⟨2, _⟩ => ⟨S2x8192x20480, .f32⟩
  | .hbm, ⟨3, _⟩ => ⟨S2x8192x6144, .f32⟩
  | .hbm, ⟨4, _⟩ => ⟨S2x8192x6144, .f32⟩
  | .hbm, ⟨5, _⟩ => ⟨S2x8192x6144, .f32⟩
  | .hbm, ⟨6, _⟩ => ⟨S2x8192x2048, .f32⟩
  | .hbm, ⟨7, _⟩ => ⟨S8192, .i32⟩
  | .hbm, ⟨8, _⟩ => ⟨S2x8192x2048, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x1x64, .f32⟩
  | .hbm, ⟨25, _⟩ => ⟨S8192x64, .f32⟩
  | .hbm, ⟨26, _⟩ => ⟨S8192x1x64, .f32⟩
  | .hbm, ⟨27, _⟩ => ⟨S2x8192x16x128, .f32⟩
  | .hbm, ⟨28, _⟩ => ⟨S2x8192x16x64, .f32⟩
  | .hbm, ⟨29, _⟩ => ⟨S2x8192x16x64, .f32⟩
  | .hbm, ⟨30, _⟩ => ⟨S1x8192x1x64, .f32⟩
  | .hbm, ⟨31, _⟩ => ⟨S2x8192x16x64, .f32⟩
  | .hbm, ⟨32, _⟩ => ⟨S2x8192x16x64, .f32⟩
  | .hbm, ⟨33, _⟩ => ⟨S1x8192x1x64, .f32⟩
  | .hbm, ⟨34, _⟩ => ⟨S2x8192x16x64, .f32⟩
  | .hbm, ⟨35, _⟩ => ⟨S2x8192x16x64, .f32⟩
  | .hbm, ⟨36, _⟩ => ⟨S2x8192x16x64, .f32⟩
  | .hbm, ⟨37, _⟩ => ⟨S1x8192x1x64, .f32⟩
  | .hbm, ⟨38, _⟩ => ⟨S2x8192x16x64, .f32⟩
  | .hbm, ⟨39, _⟩ => ⟨S2x8192x16x64, .f32⟩
  | .hbm, ⟨40, _⟩ => ⟨S1x8192x1x64, .f32⟩
  | .hbm, ⟨41, _⟩ => ⟨S2x8192x16x64, .f32⟩
  | .hbm, ⟨42, _⟩ => ⟨S2x8192x16x64, .f32⟩
  | .hbm, ⟨43, _⟩ => ⟨S2x8192x16x64, .f32⟩
  | .hbm, ⟨44, _⟩ => ⟨S2x8192x16x128, .f32⟩
  | .hbm, ⟨45, _⟩ => ⟨S2x8192x2048, .f32⟩
  | .hbm, ⟨46, _⟩ => ⟨S_, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S8192, .f32⟩
  | .hbm, ⟨59, _⟩ => ⟨S8192x1, .f32⟩
  | .hbm, ⟨60, _⟩ => ⟨S1x64, .f32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x1x64, .f32⟩
  | .hbm, ⟨66, _⟩ => ⟨S8192x64, .f32⟩
  | .hbm, ⟨67, _⟩ => ⟨S8192x1x64, .f32⟩
  | .hbm, ⟨68, _⟩ => ⟨S2x8192x16x128, .f32⟩
  | .hbm, ⟨69, _⟩ => ⟨S2x8192x16x64, .f32⟩
  | .hbm, ⟨70, _⟩ => ⟨S2x8192x16x64, .f32⟩
  | .hbm, ⟨71, _⟩ => ⟨S1x8192x1x64, .f32⟩
  | .hbm, ⟨72, _⟩ => ⟨S2x8192x16x64, .f32⟩
  | .hbm, ⟨73, _⟩ => ⟨S2x8192x16x64, .f32⟩
  | .hbm, ⟨74, _⟩ => ⟨S1x8192x1x64, .f32⟩
  | .hbm, ⟨75, _⟩ => ⟨S2x8192x16x64, .f32⟩
  | .hbm, ⟨76, _⟩ => ⟨S2x8192x16x64, .f32⟩
  | .hbm, ⟨77, _⟩ => ⟨S2x8192x16x64, .f32⟩
  | .hbm, ⟨78, _⟩ => ⟨S1x8192x1x64, .f32⟩
  | .hbm, ⟨79, _⟩ => ⟨S2x8192x16x64, .f32⟩
  | .hbm, ⟨80, _⟩ => ⟨S2x8192x16x64, .f32⟩
  | .hbm, ⟨81, _⟩ => ⟨S1x8192x1x64, .f32⟩
  | .hbm, ⟨82, _⟩ => ⟨S2x8192x16x64, .f32⟩
  | .hbm, ⟨83, _⟩ => ⟨S2x8192x16x64, .f32⟩
  | .hbm, ⟨84, _⟩ => ⟨S2x8192x16x64, .f32⟩
  | .hbm, ⟨85, _⟩ => ⟨S2x8192x16x128, .f32⟩
  | .hbm, ⟨86, _⟩ => ⟨S2x8192x2048, .f32⟩
  | .hbm, ⟨87, _⟩ => ⟨S2x8192x2048, .f32⟩
  | .hbm, ⟨88, _⟩ => ⟨S2x8192x6144, .f32⟩
  | .hbm, ⟨89, _⟩ => ⟨S2x8192x6144, .bf16⟩
  | .hbm, ⟨90, _⟩ => ⟨S2x2048x4x6144, .bf16⟩
  | .hbm, ⟨91, _⟩ => ⟨S2x4x2048x6144, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_cst_3 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩

abbrev nD : Nat := 1
abbrev τ : Topo := Topo.v7x

variable {F : FTy → Type} [FloatOps F]
-- ==== Last.lean ====
abbrev S16384x2048 : Shape := ⟨2, ![16384, 2048]⟩
abbrev S2048x4096 : Shape := ⟨2, ![2048, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LastReferenceIdeal.lean ====
abbrev S16384x2048 : Shape := ⟨2, ![16384, 2048]⟩
abbrev S2048x4096 : Shape := ⟨2, ![2048, 4096]⟩
abbrev S16384x4096 : Shape := ⟨2, ![16384, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .f32⟩
  | .hbm, ⟨2, _⟩ => ⟨S16384x2048, .f32⟩
  | .hbm, ⟨3, _⟩ => ⟨S16384x4096, .f32⟩
  | .hbm, ⟨4, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Far.lean ====
abbrev S2x8192x4096 : Shape := ⟨3, ![2, 8192, 4096]⟩
abbrev S4096x20480 : Shape := ⟨2, ![4096, 20480]⟩
abbrev S12 : Shape := ⟨1, ![12]⟩
abbrev S2x512x16x4096 : Shape := ⟨4, ![2, 512, 16, 4096]⟩
abbrev S2x16x512x4096 : Shape := ⟨4, ![2, 16, 512, 4096]⟩
abbrev S8192 : Shape := ⟨1, ![8192]⟩
abbrev S512x16 : Shape := ⟨2, ![512, 16]⟩
abbrev S16x512 : Shape := ⟨2, ![16, 512]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1024x128 : Shape := ⟨2, ![1024, 128]⟩
abbrev S17408x128 : Shape := ⟨2, ![17408, 128]⟩
abbrev S2x16x512x6144 : Shape := ⟨4, ![2, 16, 512, 6144]⟩
abbrev S1x2x512x4096 : Shape := ⟨4, ![1, 2, 512, 4096]⟩
abbrev S4096x512 : Shape := ⟨2, ![4096, 512]⟩
abbrev S1 : Shape := ⟨1, ![1]⟩
abbrev S1x2x512x512 : Shape := ⟨4, ![1, 2, 512, 512]⟩
abbrev S1x1x256x4096 : Shape := ⟨4, ![1, 1, 256, 4096]⟩
abbrev S256x4096 : Shape := ⟨2, ![256, 4096]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 47
  | .vmem => 10
  | .smem => 3
  | _ => 0

abbrev bufTy : (tb : Table) → Fin (tcTables nBuf tb) → BufTy
  | .hbm, ⟨0, _⟩ => ⟨S2x8192x4096, .f32⟩
  | .hbm, ⟨1, _⟩ => ⟨S4096x20480, .f32⟩
  | .hbm, ⟨2, _⟩ => ⟨S2x8192x4096, .bf16⟩
  | .hbm, ⟨3, _⟩ => ⟨S2x512x16x4096, .bf16⟩
  | .hbm, ⟨4, _⟩ => ⟨S2x16x512x4096, .bf16⟩
  | .hbm, ⟨5, _⟩ => ⟨S8192, .i32⟩
  | .hbm, ⟨6, _⟩ => ⟨S512x16, .i32⟩
  | .hbm, ⟨7, _⟩ => ⟨S16x512, .i32⟩
  | .hbm, ⟨8, _⟩ => ⟨S8192, .i32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x128, .f32⟩
  | .hbm, ⟨26, _⟩ => ⟨S8192x64, .f32⟩
  | .hbm, ⟨27, _⟩ => ⟨S8192x128, .f32⟩
  | .hbm, ⟨28, _⟩ => ⟨S_, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192x128, .f32⟩
  | .hbm, ⟨40, _⟩ => ⟨S8192x128, .f32⟩
  | .hbm, ⟨41, _⟩ => ⟨S_, .f32⟩
  | .hbm, ⟨42, _⟩ => ⟨S8192x128, .f32⟩
  | .hbm, ⟨43, _⟩ => ⟨S8192x128, .f32⟩
  | .hbm, ⟨44, _⟩ => ⟨S17408x128, .f32⟩
  | .hbm, ⟨45, _⟩ => ⟨S17408x128, .f32⟩
  | .hbm, ⟨46, _⟩ => ⟨S2x16x512x6144, .bf16⟩
  | .local _ .vmem, ⟨0, _⟩ => ⟨S1x2x512x4096, .bf16⟩
  | .local _ .vmem, ⟨1, _⟩ => ⟨S1x2x512x4096, .bf16⟩
  | .local _ .vmem, ⟨2, _⟩ => ⟨S4096x512, .f32⟩
  | .local _ .vmem, ⟨3, _⟩ => ⟨S4096x512, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x2x512x512, .bf16⟩
  | .local _ .vmem, ⟨9, _⟩ => ⟨S1x2x512x512, .bf16⟩
  | .local _ .smem, ⟨0, _⟩ => ⟨S12, .i32⟩
  | .local _ .smem, ⟨1, _⟩ => ⟨S12, .i32⟩
  | .local _ .smem, ⟨2, _⟩ => ⟨S12, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_2 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_3 : Ref sig .tc := ⟨.hbm, 28, rfl⟩
abbrev main_v24 : Ref sig .tc := ⟨.hbm, 29, rfl⟩
abbrev main_cst_4 : Ref sig .tc := ⟨.hbm, 30, rfl⟩
abbrev main_v25 : Ref sig .tc := ⟨.hbm, 31, rfl⟩
abbrev main_cst_5 : Ref sig .tc := ⟨.hbm, 32, rfl⟩
abbrev main_v26 : Ref sig .tc := ⟨.hbm, 33, rfl⟩
abbrev main_v27 : Ref sig .tc := ⟨.hbm, 34, rfl⟩
abbrev main_cst_6 : Ref sig .tc := ⟨.hbm, 35, rfl⟩
abbrev main_v28 : Ref sig .tc := ⟨.hbm, 36, rfl⟩
abbrev main_v29 : Ref sig .tc := ⟨.hbm, 37, rfl⟩
abbrev main_cst_7 : Ref sig .tc := ⟨.hbm, 38, rfl⟩
abbrev main_v30 : Ref sig .tc := ⟨.hbm, 39, rfl⟩
abbrev main_v31 : Ref sig .tc := ⟨.hbm, 40, rfl⟩
abbrev main_cst_8 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 12], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg0 c1_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg0 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c8_i32_11 : BitVec 32 := 8#32
  let c0_i32_12 : BitVec 32 := 0#32
  let v34 : BitVec 1 := Scalar.cmpi .eq c8_i32_11 c0_i32_12
  let c1_i32_13 : BitVec 32 := 1#32
  let v35 : BitVec 32 := Scalar.select v34 c1_i32_13 c8_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, v43.toNat, v53.toNat, c0_i32_23.toNat]

def cc0_transform_1 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S12) ![v0.toNat] S1.size (k0_off1_inb i)) numel1_S1
  let c0_i32 : BitVec 32 := 0#32
  let c0_i32_0 : BitVec 32 := 0#32
  ![c0_i32.toNat, v1.toNat]

def cc0_transform_2 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg0 c1_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg0 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c8_i32_11 : BitVec 32 := 8#32
  let c0_i32_12 : BitVec 32 := 0#32
  let v34 : BitVec 1 := Scalar.cmpi .eq c8_i32_11 c0_i32_12
  let c1_i32_13 : BitVec 32 := 1#32
  let v35 : BitVec 32 := Scalar.select v34 c1_i32_13 c8_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let v54 : Index := Scalar.indexCast arg1
  let v55 : BitVec 32 := pf.at 1 (Rect.unit (s := S12) ![v54.toNat] S1.size (k0_off1_inb i)) numel1_S1
  let v56 : Index := Scalar.indexCast arg1
  let v57 : BitVec 32 := pf.at 2 (Rect.unit (s := S12) ![v56.toNat] S1.size (k0_off1_inb i)) numel1_S1
  let c1_i32_23 : BitVec 32 := 1#32
  let v58 : BitVec 32 := Scalar.muli v43 c1_i32_23
  let v59 : BitVec 32 := Scalar.addi v58 v53
  let v60 : BitVec 32 := Scalar.muli v57 v59
  let v61 : BitVec 32 := Scalar.addi v55 v60
  let c0_i32_24 : BitVec 32 := 0#32
  let c0_i32_25 : BitVec 32 := 0#32
  ![v61.toNat, c0_i32_24.toNat]

def cc0_transform_3 (k0_off1_inb : ∀ i : grid0.Coords, ∀ a, (k0_off1 i) a + S1.size a ≤ S12.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg0 c1_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg0 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c8_i32_11 : BitVec 32 := 8#32
  let c0_i32_12 : BitVec 32 := 0#32
  let v34 : BitVec 1 := Scalar.cmpi .eq c8_i32_11 c0_i32_12
  let c1_i32_13 : BitVec 32 := 1#32
  let v35 : BitVec 32 := Scalar.select v34 c1_i32_13 c8_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let v54 : Index := Scalar.indexCast arg1
  let v55 : BitVec 32 := pf.at 1 (Rect.unit (s := S12) ![v54.toNat] S1.size (k0_off1_inb i)) numel1_S1
  let v56 : Index := Scalar.indexCast arg1
  let v57 : BitVec 32 := pf.at 2 (Rect.unit (s := S12) ![v56.toNat] S1.size (k0_off1_inb i)) numel1_S1
  let c1_i32_23 : BitVec 32 := 1#32
  let v58 : BitVec 32 := Scalar.muli v43 c1_i32_23
  let v59 : BitVec 32 := Scalar.addi v58 v53
  let v60 : BitVec 32 := Scalar.muli v57 v59
  let v61 : BitVec 32 := Scalar.addi v55 v60
  let c0_i32_24 : BitVec 32 := 0#32
  let c0_i32_25 : BitVec 32 := 0#32
  ![v61.toNat, c0_i32_24.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg0 c1_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg0 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c8_i32_11 : BitVec 32 := 8#32
  let c0_i32_12 : BitVec 32 := 0#32
  let v34 : BitVec 1 := Scalar.cmpi .eq c8_i32_11 c0_i32_12
  let c1_i32_13 : BitVec 32 := 1#32
  let v35 : BitVec 32 := Scalar.select v34 c1_i32_13 c8_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v43.toNat, v53.toNat, arg1.toNat]

abbrev stage0_0 : Fin 2 → Memref sig .tc .vmem S1x2x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FarReferenceIdeal.lean ====
abbrev S2x8192x4096 : Shape := ⟨3, ![2, 8192, 4096]⟩
abbrev S4096x20480 : Shape := ⟨2, ![4096, 20480]⟩
abbrev S2x8192x20480 : Shape := ⟨3, ![2, 8192, 20480]⟩
abbrev S2x8192x6144 : Shape := ⟨3, ![2, 8192, 6144]⟩
abbrev S2x8192x2048 : Shape := ⟨3, ![2, 8192, 2048]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x16x128 : Shape := ⟨4, ![2, 8192, 16, 128]⟩
abbrev S2x8192x16x64 : Shape := ⟨4, ![2, 8192, 16, 64]⟩
abbrev S1x8192x1x64 : Shape := ⟨4, ![1, 8192, 1, 64]⟩
abbrev S2x512x16x6144 : Shape := ⟨4, ![2, 512, 16, 6144]⟩
abbrev S2x16x512x6144 : Shape := ⟨4, ![2, 16, 512, 6144]⟩

abbrev nBuf : Space → Nat
  | .hbm => 92
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x20480, .f32⟩
  | .hbm, ⟨2, _⟩ => ⟨S2x8192x20480, .f32⟩
  | .hbm, ⟨3, _⟩ => ⟨S2x8192x6144, .f32⟩
  | .hbm, ⟨4, _⟩ => ⟨S2x8192x6144, .f32⟩
  | .hbm, ⟨5, _⟩ => ⟨S2x8192x6144, .f32⟩
  | .hbm, ⟨6, _⟩ => ⟨S2x8192x2048, .f32⟩
  | .hbm, ⟨7, _⟩ => ⟨S8192, .i32⟩
  | .hbm, ⟨8, _⟩ => ⟨S2x8192x2048, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x1x64, .f32⟩
  | .hbm, ⟨25, _⟩ => ⟨S8192x64, .f32⟩
  | .hbm, ⟨26, _⟩ => ⟨S8192x1x64, .f32⟩
  | .hbm, ⟨27, _⟩ => ⟨S2x8192x16x128, .f32⟩
  | .hbm, ⟨28, _⟩ => ⟨S2x8192x16x64, .f32⟩
  | .hbm, ⟨29, _⟩ => ⟨S2x8192x16x64, .f32⟩
  | .hbm, ⟨30, _⟩ => ⟨S1x8192x1x64, .f32⟩
  | .hbm, ⟨31, _⟩ => ⟨S2x8192x16x64, .f32⟩
  | .hbm, ⟨32, _⟩ => ⟨S2x8192x16x64, .f32⟩
  | .hbm, ⟨33, _⟩ => ⟨S1x8192x1x64, .f32⟩
  | .hbm, ⟨34, _⟩ => ⟨S2x8192x16x64, .f32⟩
  | .hbm, ⟨35, _⟩ => ⟨S2x8192x16x64, .f32⟩
  | .hbm, ⟨36, _⟩ => ⟨S2x8192x16x64, .f32⟩
  | .hbm, ⟨37, _⟩ => ⟨S1x8192x1x64, .f32⟩
  | .hbm, ⟨38, _⟩ => ⟨S2x8192x16x64, .f32⟩
  | .hbm, ⟨39, _⟩ => ⟨S2x8192x16x64, .f32⟩
  | .hbm, ⟨40, _⟩ => ⟨S1x8192x1x64, .f32⟩
  | .hbm, ⟨41, _⟩ => ⟨S2x8192x16x64, .f32⟩
  | .hbm, ⟨42, _⟩ => ⟨S2x8192x16x64, .f32⟩
  | .hbm, ⟨43, _⟩ => ⟨S2x8192x16x64, .f32⟩
  | .hbm, ⟨44, _⟩ => ⟨S2x8192x16x128, .f32⟩
  | .hbm, ⟨45, _⟩ => ⟨S2x8192x2048, .f32⟩
  | .hbm, ⟨46, _⟩ => ⟨S_, .f32⟩
  | .hbm, ⟨47, _⟩ => ⟨S2x8192x2048, .f32⟩
  | .hbm, ⟨48, _⟩ => ⟨S2x8192x2048, .f32⟩
  | .hbm, ⟨49, _⟩ => ⟨S2x8192x2048, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S8192, .f32⟩
  | .hbm, ⟨59, _⟩ => ⟨S8192x1, .f32⟩
  | .hbm, ⟨60, _⟩ => ⟨S1x64, .f32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S8192x1x64, .f32⟩
  | .hbm, ⟨66, _⟩ => ⟨S8192x64, .f32⟩
  | .hbm, ⟨67, _⟩ => ⟨S8192x1x64, .f32⟩
  | .hbm, ⟨68, _⟩ => ⟨S2x8192x16x128, .f32⟩
  | .hbm, ⟨69, _⟩ => ⟨S2x8192x16x64, .f32⟩
  | .hbm, ⟨70, _⟩ => ⟨S2x8192x16x64, .f32⟩
  | .hbm, ⟨71, _⟩ => ⟨S1x8192x1x64, .f32⟩
  | .hbm, ⟨72, _⟩ => ⟨S2x8192x16x64, .f32⟩
  | .hbm, ⟨73, _⟩ => ⟨S2x8192x16x64, .f32⟩
  | .hbm, ⟨74, _⟩ => ⟨S1x8192x1x64, .f32⟩
  | .hbm, ⟨75, _⟩ => ⟨S2x8192x16x64, .f32⟩
  | .hbm, ⟨76, _⟩ => ⟨S2x8192x16x64, .f32⟩
  | .hbm, ⟨77, _⟩ => ⟨S2x8192x16x64, .f32⟩
  | .hbm, ⟨78, _⟩ => ⟨S1x8192x1x64, .f32⟩
  | .hbm, ⟨79, _⟩ => ⟨S2x8192x16x64, .f32⟩
  | .hbm, ⟨80, _⟩ => ⟨S2x8192x16x64, .f32⟩
  | .hbm, ⟨81, _⟩ => ⟨S1x8192x1x64, .f32⟩
  | .hbm, ⟨82, _⟩ => ⟨S2x8192x16x64, .f32⟩
  | .hbm, ⟨83, _⟩ => ⟨S2x8192x16x64, .f32⟩
  | .hbm, ⟨84, _⟩ => ⟨S2x8192x16x64, .f32⟩
  | .hbm, ⟨85, _⟩ => ⟨S2x8192x16x128, .f32⟩
  | .hbm, ⟨86, _⟩ => ⟨S2x8192x2048, .f32⟩
  | .hbm, ⟨87, _⟩ => ⟨S2x8192x2048, .f32⟩
  | .hbm, ⟨88, _⟩ => ⟨S2x8192x6144, .f32⟩
  | .hbm, ⟨89, _⟩ => ⟨S2x8192x6144, .bf16⟩
  | .hbm, ⟨90, _⟩ => ⟨S2x512x16x6144, .bf16⟩
  | .hbm, ⟨91, _⟩ => ⟨S2x16x512x6144, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_cst_3 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩

abbrev nD : Nat := 1
abbrev τ : Topo := Topo.v7x

variable {F : FTy → Type} [FloatOps F]
-- ==== Proof.Walk.lean ====
/-
  A straight-line reading of a TensorCore program that only loads from and stores into buffers it holds whole:
  `ev p s` is what the program `p` returns, and the memory it leaves, from the memory `s` (the contents of every
  buffer of the core). `Runs L p` says that `p`, holding the buffers listed in `L`, runs to exactly that. It passes
  through binds, conditionals and counted loops whatever their condition or trip count, so that a body is walked once
  for all grid points.
-/
module

public import Idealize.ShloMosaic.Lib.Tactic
public import Idealize.ShloMosaic.Lib.Pipeline.Kit

@[expose] public section

noncomputable section

namespace Cert.Proof.Walk

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]

local notation "𝕄" => MT nD τ sig Unit Val ℕ U ℕ

/-- The contents of every buffer of a TensorCore. -/
abbrev St (sig : RefSig) (Val : EltTy → Type) : Type := (b : Ref sig .tc) → b.ty.Contents Val

abbrev Pg (nD : Nat) (τ : Topo) (sig : RefSig) (Val : EltTy → Type) (Λ : Labels) (α : Type) : Type 1 :=
  Prog (TpuEff nD τ sig Val Λ .tc) α

/-- One effect: a load reads, a store writes; of the others nothing is said. -/
def step {β : Type} (e : TpuEff nD τ sig Val Λ .tc β) (s : St sig Val) : Option (β × St sig Val) :=
  match e with
  | .load m r _ => some (m.view.readAt Val r (s m.view.ref), s)
  | .store m r w M _ _ => some (⟨⟩, Function.update s m.view.ref ((m.access r).write Val (s m.view.ref) w M))
  | _ => none

/-- What a program returns and the memory it leaves. -/
def ev {α : Type} : Pg nD τ sig Val Λ α → St sig Val → Option (α × St sig Val)
  | .ret a, s => some (a, s)
  | .op e k, s => (step e s).bind fun x => ev (k x.1) x.2

theorem ev_bind {α β : Type} (p : Pg nD τ sig Val Λ α) (k : α → Pg nD τ sig Val Λ β) (s : St sig Val) :
    ev (p >>= k) s = (ev p s).bind fun x => ev (k x.1) x.2 := by
  induction p generalizing s with
  | ret a => rfl
  | op e c ih =>
    show (step e s).bind (fun x => ev (c x.1 >>= k) x.2) = ((step e s).bind fun x => ev (c x.1) x.2).bind _
    rw [Option.bind_assoc]; congr 1; funext x; exact ih x.1 x.2

/-- The buffers `L`, each whole at its contents in `s`. -/
def held (c : Dev nD) (s : St sig Val) : List (Ref sig .tc) → sProp 𝕄
  | [] => iprop(emp)
  | b :: bs => iprop(((c : Thread nD τ).loc b ↦{fullShare} s b) ∗ held c s bs)

theorem held_congr (c : Dev nD) (s s' : St sig Val) (L : List (Ref sig .tc)) (h : ∀ b ∈ L, s b = s' b) :
    held (τ := τ) (U := U) c s L = held c s' L := by
  induction L with
  | nil => rfl
  | cons b bs ih => simp only [held]; rw [h b (by simp), ih fun b hb => h b (by simp [hb])]

theorem held_take (c : Dev nD) (s : St sig Val) (L : List (Ref sig .tc)) (b : Ref sig .tc) (hb : b ∈ L) :
    held c s L ⊢ iprop(((c : Thread nD τ).loc b ↦{fullShare} s b)
      ∗ (((c : Thread nD τ).loc b ↦{fullShare} s b) -∗ held (U := U) c s L)) := by
  induction L with
  | nil => cases hb
  | cons a l ih =>
    by_cases h : b = a
    · subst h
      simp only [held]
      iintro ⟨H, Hs⟩
      isplitl [H]; · iexact H
      iintro H
      isplitl [H] <;> iassumption
    · have := ih (by simpa [h] using hb)
      simp only [held]
      iintro ⟨H, Hs⟩
      ihave Hs2 := this $$ Hs
      icases Hs2 with ⟨Hb, Hk⟩
      isplitl [Hb]; · iexact Hb
      iintro Hb
      isplitl [H]; · iexact H
      iapply Hk; iexact Hb

theorem held_put (c : Dev nD) (s : St sig Val) (L : List (Ref sig .tc)) (hL : L.Nodup) (b : Ref sig .tc) (hb : b ∈ L)
    (f : b.ty.Contents Val) :
    held c s L ⊢ iprop(((c : Thread nD τ).loc b ↦{fullShare} s b)
      ∗ (((c : Thread nD τ).loc b ↦{fullShare} f) -∗ held (U := U) c (Function.update s b f) L)) := by
  induction L with
  | nil => cases hb
  | cons a l ih =>
    rw [List.nodup_cons] at hL
    by_cases h : b = a
    · subst h
      simp only [held]
      rw [held_congr c (Function.update s b f) s l fun x hx => Function.update_of_ne (fun h => hL.1 (by rw [← h]; exact hx)) _ _, Function.update_self]
      iintro ⟨H, Hs⟩
      isplitl [H]; · iexact H
      iintro H
      isplitl [H] <;> iassumption
    · have := ih hL.2 (by simpa [h] using hb)
      simp only [held]
      rw [Function.update_of_ne (Ne.symm h)]
      iintro ⟨H, Hs⟩
      ihave Hs2 := this $$ Hs
      icases Hs2 with ⟨Hb, Hk⟩
      isplitl [Hb]; · iexact Hb
      iintro Hb
      isplitl [H]; · iexact H
      iapply Hk; iexact Hb

variable (defs : Defs nD τ sig Val Λ) (c : Dev nD) (L : List (Ref sig .tc)) (hL : L.Nodup)

/-- Holding `L`, the program runs to what `ev` says, and stores into the buffers `O` only. -/
def Runs (O : List (Ref sig .tc)) {α : Type} (p : Pg nD τ sig Val Λ α) : Prop :=
  ∀ s : St sig Val, (held (U := U) c s L : sProp 𝕄)
    ⊢ wp frame (wpE defs Variants.none (c : Thread nD τ) none) Set.univ p
        fun a => iprop(∃ s', ⌜ev p s = some (a, s') ∧ ∀ b, b ∉ O → s' b = s b⌝ ∗ held c s' L)

variable {defs c L} {O : List (Ref sig .tc)} {α β : Type}

theorem Runs.ret (a : α) : Runs (U := U) defs c L O (.ret a) := fun s => by
  rw [wp_ret]
  iintro H
  imodintro
  iexists s
  isplitr
  · ipureintro; exact ⟨rfl, fun _ _ => rfl⟩
  iexact H

theorem Runs.pure (a : α) : Runs (U := U) defs c L O (Pure.pure a) := Runs.ret a

theorem Runs.bind {p : Pg nD τ sig Val Λ α} {k : α → Pg nD τ sig Val Λ β} (hp : Runs (U := U) defs c L O p)
    (hk : ∀ a, Runs (U := U) defs c L O (k a)) : Runs (U := U) defs c L O (p >>= k) := fun s => by
  rw [wp_bind]
  refine (hp s).trans (wp_mono _ _ _ fun a => ?_)
  iintro ⟨%s', %h, H⟩
  have hk' := hk a s'
  iapply (wp_wand_r frame _ Set.univ)
  isplitl [H]
  · iapply hk'; iexact H
  iintro %b ⟨%s'', %h', H⟩
  iexists s''
  isplitr
  · ipureintro
    exact ⟨by rw [ev_bind, h.1]; exact h'.1, fun b hb => (h'.2 b hb).trans (h.2 b hb)⟩
  iexact H

theorem Runs.load {cs : CoreSpace} {S : Shape} {e : EltTy} {m : Memref sig .tc cs S e} {r : LoadRect S} {hl : m.view.LoadsAt r}
    (hm : m.view.ref ∈ L) : Runs (U := U) defs c L O (Prog.lift (.load m r hl)) := fun s => by
  have h := held_take (τ := τ) (U := U) c s L _ hm
  iintro H
  ihave H2 := h $$ H
  icases H2 with ⟨Hb, Hk⟩
  iapply (wp_load Variants.none (c : Thread nD τ) none Set.univ (m := m) (r := r) (S := Finset.univ) (Finset.subset_univ _)) $$ Hb
  iintro Hb
  rw [wp_ret]
  imodintro
  iexists s
  isplitr
  · ipureintro; exact ⟨rfl, fun _ _ => rfl⟩
  iapply Hk; iexact Hb

include hL in
theorem Runs.store {cs : CoreSpace} {S : Shape} {e : EltTy} {m : Memref sig .tc cs S e} {r : Rect S} {w : r.shape.Idx → Val e}
    {M : Finset r.shape.Idx} {hx : (m.access r).Stores M} {hmm : M = Finset.univ ∨ ∀ a, r.stride a = 1}
    (hm : m.view.ref ∈ L) (hO : m.view.ref ∈ O) : Runs (U := U) defs c L O (Prog.lift (.store m r w M hx hmm)) := fun s => by
  have h := held_put (τ := τ) (U := U) c s L hL _ hm ((m.access r).write Val (s m.view.ref) w M)
  iintro H
  ihave H2 := h $$ H
  icases H2 with ⟨Hb, Hk⟩
  iapply (wp_store Variants.none (c : Thread nD τ) none Set.univ (m := m) (r := r) (S := Finset.univ) (Finset.subset_univ _)) $$ Hb
  iintro Hb
  rw [wp_ret]
  imodintro
  iexists _
  isplitr
  · ipureintro; exact ⟨rfl, fun b hb => Function.update_of_ne (fun h => hb (by rw [h]; exact hO)) _ _⟩
  iapply Hk; iexact Hb

theorem Runs.dite {P : Prop} [Decidable P] {f : P → Pg nD τ sig Val Λ α} {g : ¬P → Pg nD τ sig Val Λ α}
    (hf : ∀ h, Runs (U := U) defs c L O (f h)) (hg : ∀ h, Runs (U := U) defs c L O (g h)) :
    Runs (U := U) defs c L O (if h : P then f h else g h) := by
  by_cases h : P
  · rw [dif_pos h]; exact hf h
  · rw [dif_neg h]; exact hg h

theorem Runs.forFrom {n : Nat} {body : Fin n → α → Pg nD τ sig Val Λ α} (hb : ∀ k a, Runs (U := U) defs c L O (body k a)) :
    ∀ (ks : List (Fin n)) (a : α), Runs (U := U) defs c L O (Scf.forFrom body ks a)
  | [], a => Runs.ret a
  | k :: ks, a => Runs.bind (hb k a) fun a' => Runs.forFrom hb ks a'

theorem Runs.for {w : Nat} {lb ub st : BitVec w} {hok : Scf.OK lb ub st} {a : α} {body : Fin (Scf.trips lb ub st) → α → Pg nD τ sig Val Λ α}
    (hb : ∀ k a, Runs (U := U) defs c L O (body k a)) : Runs (U := U) defs c L O (Scf.for lb ub st hok a body) := by
  rw [Scf.for_eq]; exact Runs.forFrom hb _ a

end Cert.Proof.Walk

end
-- ==== Proof.Body.lean ====
/-
  The kernel's body walked once, for every grid point, branch of its conditional and trip count.
-/
module

public import proofs.«01_k».proof.KernelIdeal
public import proofs.«01_k».proof.Proof.Walk

@[expose] public section

set_option maxRecDepth 65536

noncomputable section

namespace Cert.Proof.KI

open Cert.KernelIdeal Cert.Proof.Walk

open Idealize.ShloMosaic
open Idealize.ShloMosaic.TcCoe Idealize.ShloMosaic.Tactic
open Idealize.SL Idealize.SL.RA Idealize.SL.BI
open Idealize.SL.Sem

variable {F : FTy → Type} [FloatOps F] [Facts] {U : Type} [URA U]
variable (c : Dev nD) (defs : Defs nD τ sig (Elt F) Λ₀) (i : grid0.Coords) (arg3 : Memref sig .tc .vmem S512x512 .bf16) (harg3 : arg3.IsWhole) (arg4 : Memref sig .tc .vmem S1x512x128 .bf16) (harg4 : arg4.IsWhole) (arg5 : Memref sig .tc .vmem S1x128x512 .bf16) (harg5 : arg5.IsWhole) (arg6 : Memref sig .tc .vmem S8192x128 .bf16) (harg6 : arg6.IsWhole) (arg7 : Memref sig .tc .vmem S1x1x64x144x128 .bf16) (harg7 : arg7.IsWhole) (arg8 : Memref sig .tc .vmem S8192x128 .bf16) (harg8 : arg8.IsWhole) (arg9 : Memref sig .tc .vmem S1x1x64x144x128 .bf16) (harg9 : arg9.IsWhole) (arg10 : Memref sig .tc .vmem S512x128 .f32) (harg10 : arg10.IsWhole) (arg11 : Memref sig .tc .vmem S512x512 .bf16) (harg11 : arg11.IsWhole) (arg12 : Memref sig .tc .vmem S128x512 .bf16) (harg12 : arg12.IsWhole) (arg13 : Memref sig .tc .vmem S8192x128 .bf16) (harg13 : arg13.IsWhole) (arg14 : Memref sig .tc .vmem S512x512 .bf16) (harg14 : arg14.IsWhole) (arg15 : Memref sig .tc .vmem S4x128x128 .f32) (harg15 : arg15.IsWhole)

/-- The buffers the body is handed, in order. -/
abbrev bufs : List (Ref sig .tc) :=
  [arg3.view.ref, arg4.view.ref, arg5.view.ref, arg6.view.ref, arg7.view.ref, arg8.view.ref, arg9.view.ref, arg10.view.ref,
    arg11.view.ref, arg12.view.ref, arg13.view.ref, arg14.view.ref, arg15.view.ref]

set_option maxHeartbeats 0 in
theorem runs (L O : List (Ref sig .tc)) (hL : L.Nodup) (h3 : arg3.view.ref ∈ L) (h4 : arg4.view.ref ∈ L) (h5 : arg5.view.ref ∈ L) (h6 : arg6.view.ref ∈ L)
    (h7 : arg7.view.ref ∈ L) (h8 : arg8.view.ref ∈ L) (h9 : arg9.view.ref ∈ L) (h10 : arg10.view.ref ∈ L) (h11 : arg11.view.ref ∈ L)
    (h12 : arg12.view.ref ∈ L) (h13 : arg13.view.ref ∈ L) (h14 : arg14.view.ref ∈ L) (h15 : arg15.view.ref ∈ L) (o14 : arg14.view.ref ∈ O) (o15 : arg15.view.ref ∈ O) :
    Runs (U := U) defs c L O (cc0_nsa_attention i arg3 harg3 arg4 harg4 arg5 harg5 arg6 harg6 arg7 harg7 arg8 harg8 arg9 harg9 arg10 harg10 arg11 harg11 arg12 harg12 arg13 harg13 arg14 harg14 arg15 harg15) := by
  repeat' first
    | with_reducible exact Runs.load (by assumption)
    | with_reducible exact Runs.pure _
    | with_reducible exact Runs.store hL (by assumption) (by assumption)
    | with_reducible refine Runs.dite (fun _ => ?_) (fun _ => ?_)
    | with_reducible refine Runs.for fun _ _ => ?_
    | refine Runs.bind ?_ fun _ => ?_
    | refine Runs.dite (fun _ => ?_) (fun _ => ?_)
    | refine Runs.for fun _ _ => ?_
    | exact Runs.pure _

end Cert.Proof.KI

end
-- ==== Proof.Own.lean ====
/-
  A program walked by `Runs` from whole memrefs owned at contents: it ends owning them at what the memory it leaves
  reads through them.
-/
module

public import proofs.«01_k».proof.Proof.Walk

@[expose] public section

noncomputable section

namespace Cert.Proof.Walk

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]

local notation "𝕄" => MT nD τ sig Unit Val ℕ U ℕ

/-- A memref with contents. -/
structure Ent (sig : RefSig) (Val : EltTy → Type) where
  {sp : Space}
  {S : Shape}
  {e : EltTy}
  m : Memref sig .tc sp S e
  X : S.Idx → Val e

/-- Its buffer. -/
abbrev Ent.ref (x : Ent sig Val) : Ref sig .tc := x.m.view.ref

/-- The memory holds its contents. -/
def Ent.In (x : Ent sig Val) (s : St sig Val) : Prop := x.m.view.read Val (s x.m.view.ref) = x.X

/-- The same memref with what the memory holds there. -/
abbrev Ent.at (x : Ent sig Val) (s : St sig Val) : Ent sig Val := { x with X := x.m.view.read Val (s x.m.view.ref) }

/-- All owned. -/
def heldE (c : Dev nD) : List (Ent sig Val) → sProp 𝕄
  | [] => iprop(emp)
  | x :: l => iprop(owns (c : Thread nD τ) x.m fullShare x.X ∗ heldE c l)

/-- Owned memrefs on different buffers are buffers held at one memory. -/
theorem held_of_heldE (c : Dev nD) (s₀ : St sig Val) (l : List (Ent sig Val)) (hn : (l.map Ent.ref).Nodup)
    (hw : ∀ x ∈ l, x.m.IsWhole) :
    heldE c l ⊢ (iprop(∃ s, ⌜∀ x ∈ l, x.In s⌝ ∗ held c s (l.map Ent.ref)) : sProp 𝕄) := by
  induction l with
  | nil =>
    simp only [heldE, held, List.map_nil]
    iintro H
    iexists s₀
    isplitr; · ipureintro; exact fun x hx => by cases hx
    iexact H
  | cons x l ih =>
    rw [List.map_cons, List.nodup_cons] at hn
    have ih := ih hn.2 fun y hy => hw y (by simp [hy])
    have hx := hw x (by simp)
    simp only [heldE, held, List.map_cons, owns]
    rw [hx.set_eq_univ]
    iintro ⟨⟨%f, %hf, H⟩, Hs⟩
    ihave Hs2 := ih $$ Hs
    icases Hs2 with ⟨%s, %h, Hs⟩
    have key : ∀ y ∈ l, y.ref ≠ x.ref := fun y hy e => hn.1 (by rw [← e]; exact List.mem_map_of_mem hy)
    iexists Function.update s x.ref f
    isplitr
    · ipureintro
      intro y hy
      rcases List.mem_cons.1 hy with rfl | hy
      · unfold Ent.In; rw [Function.update_self]; exact hf
      · unfold Ent.In; rw [Function.update_of_ne (key y hy)]; exact h y hy
    rw [Function.update_self, held_congr c (Function.update s x.ref f) s (l.map Ent.ref) fun b hb => by
      obtain ⟨y, hy, rfl⟩ := List.mem_map.1 hb
      exact Function.update_of_ne (key y hy) _ _]
    isplitl [H] <;> iassumption

/-- And back. -/
theorem heldE_of_held (c : Dev nD) (s : St sig Val) (l : List (Ent sig Val)) (hw : ∀ x ∈ l, x.m.IsWhole) :
    held c s (l.map Ent.ref) ⊢ (heldE c (l.map fun x => x.at s) : sProp 𝕄) := by
  induction l with
  | nil => exact .rfl
  | cons x l ih =>
    have ih := ih fun y hy => hw y (by simp [hy])
    have hx := hw x (by simp)
    simp only [heldE, held, List.map_cons, owns]
    rw [hx.set_eq_univ]
    iintro ⟨H, Hs⟩
    isplitl [H]
    · iexists _
      isplitr; · ipureintro; rfl
      iexact H
    · iapply ih; iexact Hs

/-- A walked program from owned memrefs. -/
theorem Runs.owned {defs : Defs nD τ sig Val Λ} {c : Dev nD} {O : List (Ref sig .tc)} {α : Type} {p : Pg nD τ sig Val Λ α}
    (s₀ : St sig Val) (l : List (Ent sig Val)) (hn : (l.map Ent.ref).Nodup) (hw : ∀ x ∈ l, x.m.IsWhole)
    (hp : Runs (U := U) defs c (l.map Ent.ref) O p) (𝒱 : Variants) (h𝒱 : 𝒱 = Variants.none) :
    heldE c l ⊢ (wp frame (wpE defs 𝒱 (c : Thread nD τ) none) Set.univ p fun a =>
      iprop(∃ s s', ⌜(∀ x ∈ l, x.In s) ∧ ev p s = some (a, s') ∧ ∀ b, b ∉ O → s' b = s b⌝
        ∗ heldE c (l.map fun x => x.at s')) : sProp 𝕄) := by
  subst h𝒱
  have h := held_of_heldE (nD := nD) (τ := τ) (U := U) c s₀ l hn hw
  iintro H
  ihave H2 := h $$ H
  icases H2 with ⟨%s, %hs, H⟩
  have hp := hp s
  iapply (wp_wand_r frame _ Set.univ)
  isplitl [H]
  · iapply hp; iexact H
  iintro %a ⟨%s', %h', H⟩
  have hb := heldE_of_held (nD := nD) (τ := τ) (U := U) c s' l hw
  iexists s, s'
  isplitr; · ipureintro; exact ⟨hs, h'⟩
  iapply hb; iexact H

end Cert.Proof.Walk

end
-- ==== Proof.FrameRun.lean ====
/-
  The frame of the attention kernel, at any float type: the body's walk at every grid point, the pipeline around it.
-/
module

public import proofs.«01_k».proof.Proof.Body
public import proofs.«01_k».proof.Proof.Own
public import proofs.«01_k».proof.Proof.Gen.KernelIdeal.Frame

@[expose] public section

set_option maxRecDepth 16384

noncomputable section

namespace Cert.Proof.KI

open Cert.KernelIdeal Cert.KernelIdeal.Gen Cert.Proof.Walk

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at a point and the scratch, with contents. -/
def ents (t : Fin cfg0.N) (X0 : Vec F S512x512 .bf16) (X1 : Vec F S1x512x128 .bf16) (X2 : Vec F S1x128x512 .bf16)
    (X3 : Vec F S8192x128 .bf16) (X4 : Vec F S1x1x64x144x128 .bf16) (X5 : Vec F S8192x128 .bf16)
    (X6 : Vec F S1x1x64x144x128 .bf16) (X7 : Vec F S512x128 .f32) (X8 : Vec F S512x512 .bf16) (X9 : Vec F S128x512 .bf16)
    (X10 : Vec F S8192x128 .bf16) (X11 : Vec F S512x512 .bf16) (X12 : Vec F S4x128x128 .f32) : List (Ent sig (Elt F)) :=
  [⟨st0_0 t, X0⟩, ⟨st0_1 t, X1⟩, ⟨st0_2 t, X2⟩, ⟨st0_3 t, X3⟩, ⟨st0_4 t, X4⟩, ⟨st0_5 t, X5⟩, ⟨st0_6 t, X6⟩,
    ⟨st0_7 t, X7⟩, ⟨st0_8 t, X8⟩, ⟨st0_9 t, X9⟩, ⟨st0_10 t, X10⟩, ⟨st0_11 t, X11⟩, ⟨Memref.whole cc0_scratch0, X12⟩]

section
variable (t : Fin cfg0.N) (X0 : Vec F S512x512 .bf16) (X1 : Vec F S1x512x128 .bf16) (X2 : Vec F S1x128x512 .bf16)
    (X3 : Vec F S8192x128 .bf16) (X4 : Vec F S1x1x64x144x128 .bf16) (X5 : Vec F S8192x128 .bf16)
    (X6 : Vec F S1x1x64x144x128 .bf16) (X7 : Vec F S512x128 .f32) (X8 : Vec F S512x512 .bf16) (X9 : Vec F S128x512 .bf16)
    (X10 : Vec F S8192x128 .bf16) (X11 : Vec F S512x512 .bf16) (X12 : Vec F S4x128x128 .f32)

/-- No staging buffer is the scratch. -/
theorem stage_ne : ∀ k, Pipeline.stageRef spec0 k ≠ cc0_scratch0 := by decide

/-- The buffers are pairwise different. -/
theorem nodup_bufs : ((List.finRange 12).map (fun w : Fin 12 => Pipeline.stageRef spec0 ⟨w, cfg0.slots t w⟩) ++ [cc0_scratch0]).Nodup := by
  rw [List.nodup_append]
  refine ⟨(List.nodup_finRange 12).map fun w w' h => ?_, List.nodup_singleton _, ?_⟩
  · exact congrArg Sigma.fst (winFacts₀0.stage_inj h)
  · intro a ha b hb
    obtain ⟨w, -, rfl⟩ := List.mem_map.1 ha
    rw [List.mem_singleton] at hb; subst hb
    exact stage_ne _

theorem ents_map : (ents t X0 X1 X2 X3 X4 X5 X6 X7 X8 X9 X10 X11 X12).map Ent.ref
    = (List.finRange 12).map (fun w : Fin 12 => Pipeline.stageRef spec0 ⟨w, cfg0.slots t w⟩) ++ [cc0_scratch0] := rfl

theorem ents_whole : ∀ x ∈ ents t X0 X1 X2 X3 X4 X5 X6 X7 X8 X9 X10 X11 X12, x.m.IsWhole := by
  intro x hx
  simp only [ents, List.mem_cons, List.not_mem_nil, or_false] at hx
  rcases hx with rfl | rfl | rfl | rfl | rfl | rfl | rfl | rfl | rfl | rfl | rfl | rfl | rfl
  · exact stage_whole0 0 _
  · exact stage_whole0 1 _
  · exact stage_whole0 2 _
  · exact stage_whole0 3 _
  · exact stage_whole0 4 _
  · exact stage_whole0 5 _
  · exact stage_whole0 6 _
  · exact stage_whole0 7 _
  · exact stage_whole0 8 _
  · exact stage_whole0 9 _
  · exact stage_whole0 10 _
  · exact stage_whole0 11 _
  · exact Memref.isWhole_whole _

theorem body_runs (c : Dev nD) : Runs (U := UR sig nD τ) (defs₀ (F := F)) c
    ((ents t X0 X1 X2 X3 X4 X5 X6 X7 X8 X9 X10 X11 X12).map Ent.ref) [(st0_11 t).view.ref, cc0_scratch0] (bodyAt0 t) := by
  have hn : ((ents t X0 X1 X2 X3 X4 X5 X6 X7 X8 X9 X10 X11 X12).map Ent.ref).Nodup := by rw [ents_map]; exact nodup_bufs t
  unfold bodyAt0
  apply runs (hL := hn) <;> simp [ents]

/-- The body from the thirteen buffers it is handed. -/
theorem body_owned (c : Dev nD) :
    heldE c (ents t X0 X1 X2 X3 X4 X5 X6 X7 X8 X9 X10 X11 X12)
      ⊢ (wp frame (wpE (defs₀ (F := F)) Variants.none (c : Thread nD τ) none) Set.univ (bodyAt0 t) fun a =>
      iprop(∃ s s', ⌜(∀ x ∈ ents t X0 X1 X2 X3 X4 X5 X6 X7 X8 X9 X10 X11 X12, x.In s) ∧ ev (bodyAt0 t) s = some (a, s')
          ∧ ∀ b, b ∉ [(st0_11 t).view.ref, cc0_scratch0] → s' b = s b⌝
        ∗ heldE c (ents t X0 X1 X2 X3 X4 X5 X6 X7 X8 X9 X10 ((st0_11 t).view.read (Elt F) (s' (st0_11 t).view.ref))
            ((Memref.whole cc0_scratch0).view.read (Elt F) (s' (Memref.whole cc0_scratch0).view.ref)))) : sProp 𝕄) := by
  have hn : ((ents t X0 X1 X2 X3 X4 X5 X6 X7 X8 X9 X10 X11 X12).map Ent.ref).Nodup := by rw [ents_map]; exact nodup_bufs t
  refine (Runs.owned (fun b => fun _ => Classical.arbitrary _) _ hn (ents_whole t X0 X1 X2 X3 X4 X5 X6 X7 X8 X9 X10 X11 X12)
    (body_runs t X0 X1 X2 X3 X4 X5 X6 X7 X8 X9 X10 X11 X12 c) Variants.none rfl).trans (wp_mono _ _ _ fun a => ?_)
  iintro ⟨%s, %s', %h, H⟩
  iexists s, s'
  isplitr; · ipureintro; exact h
  have key : ∀ w : Fin 12, w ≠ 11 → s' (Pipeline.stageRef spec0 ⟨w, cfg0.slots t w⟩) = s (Pipeline.stageRef spec0 ⟨w, cfg0.slots t w⟩) := by
    intro w hw
    refine h.2.2 _ ?_
    simp only [List.mem_cons, List.not_mem_nil, or_false, not_or]
    exact ⟨fun e => hw (congrArg Sigma.fst (winFacts₀0.stage_inj (a₂ := ⟨(11 : Fin 12), cfg0.slots t 11⟩) e)), stage_ne _⟩
  have e : (ents t X0 X1 X2 X3 X4 X5 X6 X7 X8 X9 X10 X11 X12).map (fun x => x.at s')
      = ents t X0 X1 X2 X3 X4 X5 X6 X7 X8 X9 X10 ((st0_11 t).view.read (Elt F) (s' (st0_11 t).view.ref))
            ((Memref.whole cc0_scratch0).view.read (Elt F) (s' (Memref.whole cc0_scratch0).view.ref)) := by
    have h1 := h.1
    simp only [ents, List.mem_cons, List.not_mem_nil, or_false, forall_eq_or_imp, forall_eq, Ent.In] at h1
    obtain ⟨h0, h1, h2, h3, h4, h5, h6, h7, h8, h9, h10, -, -⟩ := h1
    simp only [ents, List.map_cons, List.map_nil, Ent.at]
    congr 1
    · rw [← h0]; exact congrArg (fun f => (⟨st0_0 t, (st0_0 t).view.read (Elt F) f⟩ : Ent sig (Elt F))) (key 0 (by decide))
    congr 1
    · rw [← h1]; exact congrArg (fun f => (⟨st0_1 t, (st0_1 t).view.read (Elt F) f⟩ : Ent sig (Elt F))) (key 1 (by decide))
    congr 1
    · rw [← h2]; exact congrArg (fun f => (⟨st0_2 t, (st0_2 t).view.read (Elt F) f⟩ : Ent sig (Elt F))) (key 2 (by decide))
    congr 1
    · rw [← h3]; exact congrArg (fun f => (⟨st0_3 t, (st0_3 t).view.read (Elt F) f⟩ : Ent sig (Elt F))) (key 3 (by decide))
    congr 1
    · rw [← h4]; exact congrArg (fun f => (⟨st0_4 t, (st0_4 t).view.read (Elt F) f⟩ : Ent sig (Elt F))) (key 4 (by decide))
    congr 1
    · rw [← h5]; exact congrArg (fun f => (⟨st0_5 t, (st0_5 t).view.read (Elt F) f⟩ : Ent sig (Elt F))) (key 5 (by decide))
    congr 1
    · rw [← h6]; exact congrArg (fun f => (⟨st0_6 t, (st0_6 t).view.read (Elt F) f⟩ : Ent sig (Elt F))) (key 6 (by decide))
    congr 1
    · rw [← h7]; exact congrArg (fun f => (⟨st0_7 t, (st0_7 t).view.read (Elt F) f⟩ : Ent sig (Elt F))) (key 7 (by decide))
    congr 1
    · rw [← h8]; exact congrArg (fun f => (⟨st0_8 t, (st0_8 t).view.read (Elt F) f⟩ : Ent sig (Elt F))) (key 8 (by decide))
    congr 1
    · rw [← h9]; exact congrArg (fun f => (⟨st0_9 t, (st0_9 t).view.read (Elt F) f⟩ : Ent sig (Elt F))) (key 9 (by decide))
    congr 1
    · rw [← h10]; exact congrArg (fun f => (⟨st0_10 t, (st0_10 t).view.read (Elt F) f⟩ : Ent sig (Elt F))) (key 10 (by decide))
  rw [e]
  iexact H

end

/-! ## The pipeline's data: what each window holds, the output's contents not described -/

/-- Which window is left undescribed. -/
def fgt : Fin cfg0.W → Bool := fun w => w == 11

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => iblk m c 10 t
    | 11 => Dat.unnamed 11 t
  Φ _ := Pipeline.ΦA spec0 c
  q w := Pipeline.shareOf spec0 w
  owed _ := 0

theorem A_eq (p : Fin 1) (c : Dev nD) (w : Fin cfg0.W) : (dats m p c).A w = V m c (Pipeline.arrRef spec0 w) := by
  dsimp only [dats]

theorem after_eq (p : Fin 1) (c : Dev nD) (t : Fin cfg0.N) :
    (dats m p c).after 0 t = iblk m c 0 t ∧ (dats m p c).after 1 t = iblk m c 1 t ∧ (dats m p c).after 2 t = iblk m c 2 t
    ∧ (dats m p c).after 3 t = iblk m c 3 t ∧ (dats m p c).after 4 t = iblk m c 4 t ∧ (dats m p c).after 5 t = iblk m c 5 t
    ∧ (dats m p c).after 6 t = iblk m c 6 t ∧ (dats m p c).after 7 t = iblk m c 7 t ∧ (dats m p c).after 8 t = iblk m c 8 t
    ∧ (dats m p c).after 9 t = iblk m c 9 t ∧ (dats m p c).after 10 t = iblk m c 10 t := by
  dsimp only [dats]; exact ⟨rfl, rfl, rfl, rfl, rfl, rfl, rfl, rfl, rfl, rfl, rfl⟩

theorem row (t : Fin cfg0.N) : defs₀ (F := F) .tc cfg0.body (cfg0.bodyArgs t (cfg0.slots t)) = bodyAt0 t := by
  unfold defs₀; rw [Defs.onTc_tc]

theorem scratch_back (c : Dev nD) (X : Vec F S4x128x128 .f32) :
    owns (c : Thread nD τ) (Memref.whole cc0_scratch0) fullShare X
      ⊢ (iprop(∃ f : Buf (Elt F) ((c : Thread nD τ).loc cc0_scratch0), ((c : Thread nD τ).loc cc0_scratch0) ↦{fullShare} f) : sProp 𝕄) := by
  unfold owns
  rw [(Memref.isWhole_whole cc0_scratch0).set_eq_univ]
  iintro ⟨%g, %hg, H⟩
  iexists g; iexact H

/-- The body at a point, its windows one by one. -/
theorem sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ X, owns (c : Thread nD τ) (st0_11 t) fullShare X))
    ⊢ (wp frame (wpE (defs₀ (F := F)) Variants.none (c : Thread nD τ) none) Set.univ (bodyAt0 t) fun _ =>
      iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t)
      ∗ owns (c : Thread nD τ) (st0_7 t) fullShare ((dats m 0 c).after 7 t)
      ∗ owns (c : Thread nD τ) (st0_8 t) fullShare ((dats m 0 c).after 8 t)
      ∗ owns (c : Thread nD τ) (st0_9 t) fullShare ((dats m 0 c).after 9 t)
      ∗ owns (c : Thread nD τ) (st0_10 t) fullShare ((dats m 0 c).after 10 t)
      ∗ (∃ X, owns (c : Thread nD τ) (st0_11 t) fullShare X)) : sProp 𝕄) := by
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  simp only [before0_0_of m (dats m 0 c) (A_eq m 0 c 0) (fun t => (after_eq m 0 c t).1),
    before0_1_of m (dats m 0 c) (A_eq m 0 c 1) (fun t => (after_eq m 0 c t).2.1),
    before0_2_of m (dats m 0 c) (A_eq m 0 c 2) (fun t => (after_eq m 0 c t).2.2.1),
    before0_3_of m (dats m 0 c) (A_eq m 0 c 3) (fun t => (after_eq m 0 c t).2.2.2.1),
    before0_4_of m (dats m 0 c) (A_eq m 0 c 4) (fun t => (after_eq m 0 c t).2.2.2.2.1),
    before0_5_of m (dats m 0 c) (A_eq m 0 c 5) (fun t => (after_eq m 0 c t).2.2.2.2.2.1),
    before0_6_of m (dats m 0 c) (A_eq m 0 c 6) (fun t => (after_eq m 0 c t).2.2.2.2.2.2.1),
    before0_7_of m (dats m 0 c) (A_eq m 0 c 7) (fun t => (after_eq m 0 c t).2.2.2.2.2.2.2.1),
    before0_8_of m (dats m 0 c) (A_eq m 0 c 8) (fun t => (after_eq m 0 c t).2.2.2.2.2.2.2.2.1),
    before0_9_of m (dats m 0 c) (A_eq m 0 c 9) (fun t => (after_eq m 0 c t).2.2.2.2.2.2.2.2.2.1),
    before0_10_of m (dats m 0 c) (A_eq m 0 c 10) (fun t => (after_eq m 0 c t).2.2.2.2.2.2.2.2.2.2)]
  obtain ⟨e0, e1, e2, e3, e4, e5, e6, e7, e8, e9, e10⟩ := after_eq m 0 c t
  rw [e0, e1, e2, e3, e4, e5, e6, e7, e8, e9, e10]
  unfold Pipeline.ΦA
  rw [scopedRest0_eq]
  iintro ⟨⟨⟨%f, Hs⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X, H11⟩⟩
  have hb := body_owned (F := F) t (iblk m c 0 t) (iblk m c 1 t) (iblk m c 2 t) (iblk m c 3 t) (iblk m c 4 t) (iblk m c 5 t)
    (iblk m c 6 t) (iblk m c 7 t) (iblk m c 8 t) (iblk m c 9 t) (iblk m c 10 t) X f c
  iapply (wp_wand_r frame _ Set.univ)
  isplitl [Hs H0 H1 H2 H3 H4 H5 H6 H7 H8 H9 H10 H11]
  · iapply hb
    simp only [ents, heldE]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hs]
    · unfold owns
      iexists f
      isplitr; · ipureintro; rfl
      rw [(Memref.isWhole_whole cc0_scratch0).set_eq_univ]
      iexact Hs
    · iempintro
  iintro %a ⟨%s, %s', %h, H⟩
  have hsb := scratch_back (F := F) c ((Memref.whole cc0_scratch0).view.read (Elt F) (s' (Memref.whole cc0_scratch0).view.ref))
  simp only [ents, heldE]
  icases H with ⟨H0, H1, H2, H3, H4, H5, H6, H7, H8, H9, H10, H11, Hs, -⟩
  isplitl [Hs Hr]
  · isplitl [Hs]
    · iapply hsb; iexact Hs
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; iexact H11

theorem obligation (c : Dev nD) : BodyObligation (dats (F := F) m 0 c) (defs₀ (F := F)) Variants.none () Set.univ fgt := fun t => by
  rw [bigSep_W0, bigSep_W0, row]
  exact triple_restated (sound m c t) rfl .rfl fun _ => .rfl

/-- The run: every argument ends as launched and every counter reads zero. -/
theorem run_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_frame_forget_shared cfgs (dats m) 0 launch₀0 defs₀ Variants.none fgt m ρ main
    (fun c => (obligation m c).loose) (fun c w _ => rfl) (fun c t => rfl) (V m) (hmain m Variants.none) (A_eq m 0) (fun c t => rfl) _ ?_
  intro r h
  refine ⟨fun c => ?_, h.2⟩
  have hw : ∀ w : Fin 12, (cfg0.spec w).isOut = false → w ≠ 11 → r.2.mem (((cfg0.spec w).arr.view.loc (c.tc : Thread nD τ))) = V m c (Pipeline.arrRef spec0 w) := by
    intro w hw hw'
    have := (h.1 c).1 w
    rw [Pipeline.RDat.ArrAt_in _ _ hw] at this
    exact this
  exact ⟨(hw 8 rfl (by decide)).trans (V_main_arg0 m c), (hw 7 rfl (by decide)).trans (V_main_arg1 m c),
    (hw 1 rfl (by decide)).trans (V_main_arg2 m c), (hw 2 rfl (by decide)).trans (V_main_arg3 m c)⟩

end Cert.Proof.KI

end
-- ==== Proof.Same.lean ====
/-
  The attention kernel as printed and its ideal reading are the same program: the same body, table of bodies and host
  operations, so that a run of the one is a run of the other.
-/
module

public import proofs.«01_k».proof.Defs
public import proofs.«01_k».proof.Proof.Gen.Kernel
public import proofs.«01_k».proof.Proof.FrameRun

@[expose] public section

noncomputable section

namespace Cert.Proof

open Idealize.ShloMosaic Idealize.SL.Sem

set_option maxRecDepth 65536
set_option maxHeartbeats 4000000

attribute [local instance] Cert.Kernel.Gen.facts Cert.KernelIdeal.Gen.facts

theorem body_eq : @Cert.Kernel.cc0_nsa_attention Bits _ _ = @Cert.KernelIdeal.cc0_nsa_attention Bits _ _ := rfl

/-- The one label's row, at each grid point and choice of staging buffers. -/
theorem bodies_eq : @Cert.Kernel.defs₀ Bits _ _ = @Cert.KernelIdeal.defs₀ Bits _ _ := by
  unfold Cert.Kernel.defs₀ Cert.KernelIdeal.defs₀
  rw [body_eq]
  refine congrArg Defs.onTc (funext fun l => ?_)
  match l with
  | 0 => exact funext fun ⟨t, s⟩ => rfl

theorem defs_eq : @Cert.Kernel.defs Bits _ _ = @Cert.KernelIdeal.defs Bits _ _ := by
  unfold Cert.Kernel.defs Cert.KernelIdeal.defs
  exact congrArg (Pipeline.defs (Cert.KernelIdeal.pcfgs (F := Bits))) bodies_eq

theorem host_eq : @Cert.Kernel.main Bits _ _ = @Cert.KernelIdeal.main Bits _ _ := rfl

theorem run_Kernel : Cert.quiescent_Kernel (hKernel := Cert.Kernel.Gen.facts) := fun m g _ => by
  have h := Cert.Proof.KI.run_main (F := Bits) m g
  rw [← defs_eq, ← host_eq] at h
  exact h

end Cert.Proof

end
-- ==== Proof.OutValue.lean ====
/-
  The value of the output projection: the array it leaves is, element by element, the sum over the two halves of
  the contraction, and the reference's one product over the joined rows is the same sum.
-/
module

public import proofs.«01_k».proof.Defs
public import proofs.«01_k».proof.Proof.Gen.OutProjectIdeal.Value
public import proofs.«01_k».proof.Proof.Gen.OutReferenceIdeal.Run
public import Idealize.ShloMosaic.Lib.Pointwise
public import Idealize.ShloMosaic.Lib.Pipeline.Value

@[expose] public section

noncomputable section

namespace Cert.OutProjectIdeal.Hand

open Cert.OutProjectIdeal Cert.OutProjectIdeal.Gen
open Idealize.ShloMosaic Idealize.ShloMosaic.TcCoe Idealize.SL.Sem
open Idealize.ShloMosaic.Pipeline (Dat)

/-- One chunk of 256 rows: two products against the two weight halves, added. -/
theorem pay4_apply (u v : Vec Ideal S2048x512 .f32) (a b : Vec Ideal S256x2048 .bf16) (r : Fin 256) (l : Fin 512) :
    k0_pay4 (F := Ideal) u v a b (ix2 r l)
      = (∑ k : Fin 2048, a (ix2 r k) * u (ix2 k l)) + ∑ k : Fin 2048, b (ix2 r k) * v (ix2 k l) := by
  pointwise [k0_pay4, k0_pay2, k0_pay3]
  done

/-- The block the body leaves, at a row and a column of the block. -/
def blockVal (x0 x2 : Vec Ideal S1024x2048 .bf16) (x1 x3 : Vec Ideal S2048x512 .f32) (y : S1024x512.Idx) :
    Elt Ideal .bf16 :=
  show EReal from
  (∑ k : Fin 2048, x0 (ix2 (y 0) k) * x1 (ix2 k (y 1))) + ∑ k : Fin 2048, x2 (ix2 (y 0) k) * x3 (ix2 k (y 1))

theorem out0_4_apply (x0 x2 : Vec Ideal S1024x2048 .bf16) (x1 x3 : Vec Ideal S2048x512 .f32) (y : S1024x512.Idx) :
    out0_4 (F := Ideal) x0 x1 x2 x3 y = blockVal x0 x2 x1 x3 y := by
  refine View.canon_apply_of_pieces (Val := Elt Ideal) (blockVal x0 x2 x1 x3) _ (fun p hp x => ?_) y (cover0_4 _ _ _ _ y)
  simp only [List.mem_cons, List.not_mem_nil, or_false] at hp
  rcases hp with rfl | rfl | rfl | rfl
  · show _ = blockVal x0 x2 x1 x3 (r0_8.toLoadRect.idx x)
    pointwise [k0_pay1, k0_pay2, k0_pay3, blockVal]
  · show _ = blockVal x0 x2 x1 x3 (r0_6.toLoadRect.idx x)
    pointwise [k0_pay6, k0_pay2, k0_pay3, blockVal]
  · show _ = blockVal x0 x2 x1 x3 (r0_4.toLoadRect.idx x)
    pointwise [k0_pay5, k0_pay2, k0_pay3, blockVal]
  · show _ = blockVal x0 x2 x1 x3 (r0_2.toLoadRect.idx x)
    pointwise [k0_pay4, k0_pay2, k0_pay3, blockVal]

variable (m : (ℓ : Loc nD τ sig) → Buf (Elt Ideal) ℓ)

abbrev o1 (c : Dev nD) : Vec Ideal S16384x2048 .bf16 := m ((c : Thread nD τ).loc main_arg0)
abbrev o2 (c : Dev nD) : Vec Ideal S16384x2048 .bf16 := m ((c : Thread nD τ).loc main_arg1)
abbrev w (c : Dev nD) : Vec Ideal S4096x4096 .f32 := m ((c : Thread nD τ).loc main_arg2)

/-- The whole result: both halves of the contraction. -/
def result (c : Dev nD) : Vec Ideal S16384x4096 .bf16 := fun i =>
  (∑ k : Fin 2048, o1 m c (ix2 (i 0) k) * w m c (ix2 (Fin.castAdd 2048 k) (i 1)))
    + ∑ k : Fin 2048, o2 m c (ix2 (i 0) k) * w m c (ix2 (Fin.natAdd 2048 k) (i 1))

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx3 : ∀ t : Fin cfg0.N, win0_3.index t 0 = 1 ∧ win0_3.index t 1 = t.val % 8 :=
  (by decide +kernel : ∀ t : Fin grid0.N, win0_3.index t 0 = 1 ∧ win0_3.index t 1 = t.val % 8)
theorem idx4 : ∀ t : Fin cfg0.N, win0_4.index t 0 = t.val / 8 ∧ win0_4.index t 1 = t.val % 8 :=
  (by decide +kernel : ∀ t : Fin grid0.N, win0_4.index t 0 = t.val / 8 ∧ win0_4.index t 1 = t.val % 8)

theorem blk0 (c : Dev nD) (t : Fin cfg0.N) (r : Fin 1024) (k : Fin 2048) (R : Fin 16384) (hR : R.val = t.val / 8 * 1024 + r.val) :
    (iblk m c 0 t : Vec Ideal S1024x2048 .bf16) (ix2 r k) = o1 m c (ix2 R k) := by
  unfold iblk
  rw [View.read_apply]
  show V m c main_arg0 _ = _
  unfold V
  refine congrArg (o1 m c) (funext fun a => Fin.ext ?_)
  match a with
  | ⟨0, _⟩ => show win0_0.index t 0 * 1024 + 1 * r.val = R.val; rw [(idx0 t).1]; omega
  | ⟨1, _⟩ => show win0_0.index t 1 * 2048 + 1 * k.val = k.val; rw [(idx0 t).2]; omega

theorem blk2 (c : Dev nD) (t : Fin cfg0.N) (r : Fin 1024) (k : Fin 2048) (R : Fin 16384) (hR : R.val = t.val / 8 * 1024 + r.val) :
    (iblk m c 2 t : Vec Ideal S1024x2048 .bf16) (ix2 r k) = o2 m c (ix2 R k) := by
  unfold iblk
  rw [View.read_apply]
  show V m c main_arg1 _ = _
  unfold V
  refine congrArg (o2 m c) (funext fun a => Fin.ext ?_)
  match a with
  | ⟨0, _⟩ => show win0_2.index t 0 * 1024 + 1 * r.val = R.val; rw [(idx2 t).1]; omega
  | ⟨1, _⟩ => show win0_2.index t 1 * 2048 + 1 * k.val = k.val; rw [(idx2 t).2]; omega

theorem blk1 (c : Dev nD) (t : Fin cfg0.N) (k : Fin 2048) (l : Fin 512) (L : Fin 4096) (hL : L.val = t.val % 8 * 512 + l.val) :
    (iblk m c 1 t : Vec Ideal S2048x512 .f32) (ix2 k l) = w m c (ix2 (Fin.castAdd 2048 k) L) := by
  unfold iblk
  rw [View.read_apply]
  show V m c main_arg2 _ = _
  unfold V
  refine congrArg (w m c) (funext fun a => Fin.ext ?_)
  match a with
  | ⟨0, _⟩ => show win0_1.index t 0 * 2048 + 1 * k.val = k.val; rw [(idx1 t).1]; omega
  | ⟨1, _⟩ => show win0_1.index t 1 * 512 + 1 * l.val = L.val; rw [(idx1 t).2]; omega

theorem blk3 (c : Dev nD) (t : Fin cfg0.N) (k : Fin 2048) (l : Fin 512) (L : Fin 4096) (hL : L.val = t.val % 8 * 512 + l.val) :
    (iblk m c 3 t : Vec Ideal S2048x512 .f32) (ix2 k l) = w m c (ix2 (Fin.natAdd 2048 k) L) := by
  unfold iblk
  rw [View.read_apply]
  show V m c main_arg2 _ = _
  unfold V
  refine congrArg (w m c) (funext fun a => Fin.ext ?_)
  match a with
  | ⟨0, _⟩ => show win0_3.index t 0 * 2048 + 1 * k.val = 2048 + k.val; rw [(idx3 t).1]; omega
  | ⟨1, _⟩ => show win0_3.index t 1 * 512 + 1 * l.val = L.val; rw [(idx3 t).2]; omega

theorem flushed_eq (c : Dev nD) (t : Fin cfg0.N) :
    (dats m 0 c).flushed 4 t = ((cfg0.win 4).blk t).view.read (Elt Ideal) (result m c) := by
  rw [Cert.OutProjectIdeal.Value.flushed4]
  funext y
  have e0 : ((((cfg0.win 4).blk t).view.emb y : S16384x4096.Idx) 0).val = t.val / 8 * 1024 + (y 0).val := by
    show win0_4.index t 0 * 1024 + 1 * (y 0).val = _
    rw [(idx4 t).1]; omega
  have e1 : ((((cfg0.win 4).blk t).view.emb y : S16384x4096.Idx) 1).val = t.val % 8 * 512 + (y 1).val := by
    show win0_4.index t 1 * 512 + 1 * (y 1).val = _
    rw [(idx4 t).2]; omega
  rw [View.read_apply]
  refine (out0_4_apply _ _ _ _ _).trans ?_
  refine congrArg₂ (α := EReal) (β := EReal) (γ := EReal) (· + ·)
    (Finset.sum_congr rfl fun k _ => congrArg₂ (α := EReal) (β := EReal) (γ := EReal) (· * ·) ?_ ?_)
    (Finset.sum_congr rfl fun k _ => congrArg₂ (α := EReal) (β := EReal) (γ := EReal) (· * ·) ?_ ?_)
  · exact blk0 m c t _ k _ e0
  · exact blk1 m c t k _ _ e1
  · exact blk2 m c t _ k _ e0
  · exact blk3 m c t k _ _ e1

theorem cover (i : S16384x4096.Idx) :
    ∃ t : Fin cfg0.N, (cfg0.win 4).flush t = true ∧ i ∈ ((cfg0.win 4).blk t).view.set := by
  have h0 : (i 0 : Nat) < 16384 := (i 0).isLt
  have h1 : (i 1 : Nat) < 4096 := (i 1).isLt
  have hN : cfg0.N = 128 := N_0
  let t : Fin cfg0.N := ⟨(i 0 : Nat) / 1024 * 8 + (i 1 : Nat) / 512, by omega⟩
  have q0 : win0_4.index t 0 = (i 0 : Nat) / 1024 := (idx4 t).1.trans (by dsimp only [t]; omega)
  have q1 : win0_4.index t 1 = (i 1 : Nat) / 512 := (idx4 t).2.trans (by dsimp only [t]; omega)
  refine ⟨t, flush0_4 t, ?_⟩
  show i ∈ ((View.whole main_v0).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024
              rw [q0]; omega
  | ⟨1, _⟩ => show win0_4.index t 1 * 512 ≤ (i 1 : Nat) ∧ (i 1 : Nat) < win0_4.index t 1 * 512 + 512
              rw [q1]; omega

theorem final (c : Dev nD) : (dats m 0 c).arrAt 4 cfg0.N = result m c :=
  (dats m 0 c).arrAt_eq_of_cover 4 (result m c) (fun t _ => flushed_eq m c t) cover

/-- The reference's product over the joined rows, split at the join. -/
theorem reference_eq (a b : Vec Ideal S16384x2048 .bf16) (W : Vec Ideal S4096x4096 .f32) (i : S16384x4096.Idx)
    (h : Shape.Concatenates [S16384x2048, S16384x2048] S16384x4096 1) (hb : FTy.bits .bf16 < FTy.bits .f32) :
    (truncf .bf16 (Host.dotGeneral (φ₁ := .f32) (φ₂ := .f32) Cert.OutReferenceIdeal.dot_S16384x4096_S4096x4096_S16384x4096_1_0_0_1_n_n none
      (extf .f32 (concatenate S16384x4096 1 [⟨S16384x2048, a⟩, ⟨S16384x2048, b⟩] h : FVec Ideal S16384x4096 .bf16) hb : FVec Ideal S16384x4096 .f32) (W : FVec Ideal S4096x4096 .f32))
        hb : FVec Ideal S16384x4096 .bf16) i
      = (∑ k : Fin 2048, a (ix2 (i 0) k) * W (ix2 (Fin.castAdd 2048 k) (i 1)))
        + ∑ k : Fin 2048, b (ix2 (i 0) k) * W (ix2 (Fin.natAdd 2048 k) (i 1)) := by
  pointwise
  rfl

/-- Both programs end, the arguments unchanged, with the same product. -/
theorem algebraic : Cert.algebraic_OutProjectIdeal_OutReferenceIdeal (hOutProjectIdeal := Cert.OutProjectIdeal.Gen.facts)
    (hOutReferenceIdeal := Cert.OutReferenceIdeal.Gen.facts) := by
  intro m g m' g' _ hargs
  refine ⟨fun c => result m c, (θ_run _ _ _).mono (fun r h c => ?_) (Cert.OutProjectIdeal.Value.run_blocks (F := Ideal) m g),
    (θ_run _ _ _).mono (fun r h c => ?_) (Cert.OutReferenceIdeal.Value.run (F := Ideal) m' g')⟩
  · obtain ⟨hv, h0⟩ := h c
    exact ⟨hv.trans (final m c), h0⟩
  · obtain ⟨hv, h0⟩ := h c
    refine ⟨hv.trans ?_, h0⟩
    rw [(hargs c).1, (hargs c).2.1, (hargs c).2.2]
    exact funext fun i => reference_eq _ _ _ i _ _

end Cert.OutProjectIdeal.Hand

end
-- ==== Proof.ProjRuns.lean ====
/-
  The projection's run, first part: the arrays at the call, the pipeline at the prefetched tables' contents, and the
  windows' staging buffers.
-/
module

public import proofs.«01_k».proof.Proof.Gen.ProjectIdeal.Launch
public import proofs.«01_k».proof.Proof.Gen.ProjectIdeal.Skeleton
public import proofs.«01_k».proof.Proof.Gen.ProjectIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The run holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S26 .i32 := Memref.whole main_c
abbrev htbM0_0 : tbM0_0.IsWhole := Memref.isWhole_whole _
abbrev tbM0_1 : Memref sig .tc .smem S26 .i32 := Memref.whole main_c_0
abbrev htbM0_1 : tbM0_1.IsWhole := Memref.isWhole_whole _
abbrev tbM0_2 : Memref sig .tc .smem S26 .i32 := Memref.whole main_c_1
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjectIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c)⟩) h

/-! ## The kernel body on any staging memrefs: a subtype the run finds -/

/-- One staging buffer of output window 4, through which its contents are stated (`View.read_writes_of_cover`: the
    choice does not matter). -/
abbrev VO0_4 : View sig .tc .vmem S1x1x1024x512 .bf16 := (Memref.whole cc0_stg4_0 : Memref sig .tc .vmem S1x1x1024x512 .bf16).view
/-- Each window's current staging memref at point `t`, spelled as the pipeline passes it (`bodyAt0`), and its wholeness. -/
abbrev ms0_0 (hO : Ok m) (t : Fin (cfgM m hO).N) : Memref sig .tc .vmem S1x1x1024x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4096x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.ProjectIdeal.Gen

end
-- ==== Proof.ProjRunA.lean ====
/-
  The projection's run, second part: the body walked once, at any grid point.
-/
module

public import proofs.«01_k».proof.Proof.ProjRuns

@[expose] public section

-- membership in a rectangle of production extents (`View.cover_of_tiled`): the elaborator's structural look
-- recurses once per coordinate of the long axes
set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg5 : Memref sig .tc .vmem S1x1x1024x4096 .bf16) (harg5 : arg5.IsWhole) (arg6 : Memref sig .tc .vmem S4096x512 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .bf16) (x2 : Vec F S1024x128 .f32) (x3 : Vec F S1024x128 .f32) (xt0 : TbBuf0 (F := F) c tbM0_0) (xt1 : TbBuf0 (F := F) c tbM0_1) (xt2 : TbBuf0 (F := F) c tbM0_2) :
    { L4 : List (View.Piece (Elt F) S1x1x1024x512 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} arg9.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_proj_d1_n13312 i tbM0_0 htbM0_0 tbM0_1 htbM0_1 tbM0_2 htbM0_2 arg5 harg5 arg6 harg6 arg7 harg7 arg8 harg8 arg9 harg9) K } := by
  refine ⟨?_, fun E K => ?run⟩
  case run =>
    simp only [cc0_proj_d1_n13312_eq_skeleton]; unfold cc0_proj_d1_n13312_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg5.eq_unread hf0; obtain rfl := harg6.eq_unread hf1; obtain rfl := harg7.eq_unread hf2; obtain rfl := harg8.eq_unread hf3
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexists _; iexact H4
    isplitl [HT0]; · iexact HT0
    isplitl [HT1]; · iexact HT1
    iexact HT2

end Cert.ProjectIdeal.Gen

end
-- ==== Proof.ProjFrame.lean ====
/-
  The projection's run, last part: what the output block holds at each grid point, the pipeline's data, the launch, and
  the arguments left unchanged, for prefetched tables that keep every block inside its array.
-/
module

public import proofs.«01_k».proof.Proof.ProjRunA
public import Idealize.ShloMosaic.Lib.Claim

@[expose] public section

-- membership in a rectangle of production extents (`View.cover_of_tiled`): the elaborator's structural look
-- recurses once per coordinate of the long axes
set_option maxRecDepth 16384

noncomputable section

namespace Cert.ProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (16 stores of `S1x1x256x128`, checked by the kernel's evaluation: Lib/Ring.lean `Piece.tiledL`, linear in the pieces, through a loop's `@[irreducible]` trip theorem too), so they cover it. -/
theorem cover0_A_4 (c : Dev nD) (i : grid0.Coords) (arg5 : Memref sig .tc .vmem S1x1x1024x4096 .bf16) (harg5 : arg5.IsWhole) (arg6 : Memref sig .tc .vmem S4096x512 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .bf16) (x2 : Vec F S1024x128 .f32) (x3 : Vec F S1024x128 .f32) (xt0 : TbBuf0 (F := F) c tbM0_0) (xt1 : TbBuf0 (F := F) c tbM0_1) (xt2 : TbBuf0 (F := F) c tbM0_2) (y : S1x1x1024x512.Idx) :
    ∃ pc ∈ (kernelRun0_A c i arg5 harg5 arg6 harg6 arg7 harg7 arg8 harg8 arg9 harg9 x0 x1 x2 x3 xt0 xt1 xt2).1, y ∈ pc.1.set :=
  View.cover_of_tiledL (kernelRun0_A c i arg5 harg5 arg6 harg6 arg7 harg7 arg8 harg8 arg9 harg9 x0 x1 x2 x3 xt0 xt1 xt2).1 S1x1x256x128.size (by sl_kernel_rfl) y

/-- What the run leaves in output 4's staging buffer: its pieces read back over junk. -/
def out0_A_4 (c : Dev nD) (i : grid0.Coords) (arg5 : Memref sig .tc .vmem S1x1x1024x4096 .bf16) (harg5 : arg5.IsWhole) (arg6 : Memref sig .tc .vmem S4096x512 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .bf16) (x2 : Vec F S1024x128 .f32) (x3 : Vec F S1024x128 .f32) (xt0 : TbBuf0 (F := F) c tbM0_0) (xt1 : TbBuf0 (F := F) c tbM0_1) (xt2 : TbBuf0 (F := F) c tbM0_2) : Vec F S1x1x1024x512 .bf16 :=
  VO0_4.read (Elt F) (VO0_4.writes (Elt F) VO0_4.junk (kernelRun0_A c i arg5 harg5 arg6 harg6 arg7 harg7 arg8 harg8 arg9 harg9 x0 x1 x2 x3 xt0 xt1 xt2).1)

/-! ## What the outputs hold after each point -/

/-- What the outputs' staging buffers hold after the body at point `t`: the run's contents at
    the point's memrefs and input blocks. -/
def outsAt0 (hO : Ok m) (c : Dev nD) (t : Fin (cfgM m hO).N) : Vec F S1x1x1024x512 .bf16 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  unfold out0_A_4
  iintro ⟨⟨HΦ, ⟨HT0, HT1, HT2⟩⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m hO c 0 t) (iblk m hO c 1 t) (iblk m hO c 2 t) (iblk m hO c 3 t) (tbl m 0) (tbl m 1) (tbl m 2)).2 Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  isplitl [HT2]; · iexact HT2
  iintro ⟨H0, H1, H2, H3, ⟨%e4, H4⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

/-- The arguments end unchanged and every counter at zero, for any values, under the prefetched tables' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO) ((θ_run defs _ _).mono (fun _ h => h.2) (run_main_quiescent m ρ hO))

end Cert.ProjectIdeal.Gen

end
-- ==== Proof.ProjTables.lean ====
/-
  The projection's three tables hold constants, so every block it asks for lies inside its array.
-/
module

public import proofs.«01_k».proof.Proof.ProjFrame
public import Idealize.ShloMosaic.Lib.Pipeline.Value
public import Idealize.ShloMosaic.PureOps.Ideal.Laws

@[expose] public section

set_option maxRecDepth 16384

noncomputable section

namespace Cert.ProjectIdeal.Hand

open Cert.ProjectIdeal Cert.ProjectIdeal.Gen
open Idealize.ShloMosaic Idealize.ShloMosaic.TcCoe Idealize.SL.Sem
open Idealize.ShloMosaic.StableHlo

variable {F : FTy → Type} [FloatOps F]

/-- The tables' contents: which weight block a tile reads, where its rotary rows start, and whether they move. -/
def words : pre0.Contents (Elt F)
  | ⟨0, _⟩ => fun i : S26.Idx => lit0 (S26.rowMajor i)
  | ⟨1, _⟩ => fun i : S26.Idx => lit1 (S26.rowMajor i)
  | ⟨2, _⟩ => fun i : S26.Idx => lit2 (S26.rowMajor i)

theorem tbl_eq (m : (ℓ : Loc nD τ sig) → Buf (Elt F) ℓ) : tbl m = words := by
  funext j
  match j with
  | ⟨0, _⟩ => show StableHlo.after hostOps0 (fun b => m (0, b)) (Proc.devRef .tc main_c) = _; after_results; rfl
  | ⟨1, _⟩ => show StableHlo.after hostOps0 (fun b => m (0, b)) (Proc.devRef .tc main_c_0) = _; after_results; rfl
  | ⟨2, _⟩ => show StableHlo.after hostOps0 (fun b => m (0, b)) (Proc.devRef .tc main_c_1) = _; after_results; rfl

theorem spot (i : grid0.Coords) (x : (Rect.unit (s := S26) (k0_off1 i) S1.size (k0_off1_inb i)).shape.Idx) :
    S26.rowMajor ((Rect.unit (s := S26) (k0_off1 i) S1.size (k0_off1_inb i)).idx x) = (⟨(i 1).val, (i 1).isLt⟩ : Fin 26) := by
  refine Fin.ext ?_
  have hx : (x 0).val = 0 := by have : (x 0).val < 1 := (x 0).isLt; omega
  have ho : k0_off1 i 0 = (i 1).val := congrFun (k0_off1_eq i) 0
  rw [Shape.rowMajor_val_one]
  show k0_off1 i 0 + 1 * (x 0).val = (i 1).val
  rw [hx, ho]; omega

theorem at0 (i : grid0.Coords) : (words (F := F)).at 0 (Rect.unit (s := S26) (k0_off1 i) S1.size (k0_off1_inb i)) numel1_S1 = lit0 ⟨(i 1).val, (i 1).isLt⟩ :=
  congrArg lit0 (spot i _)
theorem at1 (i : grid0.Coords) : (words (F := F)).at 1 (Rect.unit (s := S26) (k0_off1 i) S1.size (k0_off1_inb i)) numel1_S1 = lit1 ⟨(i 1).val, (i 1).isLt⟩ :=
  congrArg lit1 (spot i _)
theorem at2 (i : grid0.Coords) : (words (F := F)).at 2 (Rect.unit (s := S26) (k0_off1 i) S1.size (k0_off1_inb i)) numel1_S1 = lit2 ⟨(i 1).val, (i 1).isLt⟩ :=
  congrArg lit2 (spot i _)

theorem rowW (i : grid0.Coords) : cc0_transform_1 k0_off1_inb numel1_S1 (words (F := F)) i = ![0, (lit0 ⟨(i 1).val, (i 1).isLt⟩).toNat] := by
  refine Eq.trans ?_ (congrArg (fun v : BitVec 32 => ![0, v.toNat]) (at0 (F := F) i))
  rfl

theorem rowT_ideal : ∀ i : grid0.Coords, cc0_transform_2 k0_off1_inb numel1_S1 (words (F := Ideal)) i
    = ![(lit1 ⟨(i 1).val, (i 1).isLt⟩).toNat + (lit2 ⟨(i 1).val, (i 1).isLt⟩).toNat * ((i 0).val % 8), 0] := by
  decide +kernel

theorem rowT (i : grid0.Coords) : cc0_transform_2 k0_off1_inb numel1_S1 (words (F := F)) i
    = ![(lit1 ⟨(i 1).val, (i 1).isLt⟩).toNat + (lit2 ⟨(i 1).val, (i 1).isLt⟩).toNat * ((i 0).val % 8), 0] :=
  rowT_ideal i

theorem rowT3 (i : grid0.Coords) : cc0_transform_3 k0_off1_inb numel1_S1 (words (F := F)) i
    = ![(lit1 ⟨(i 1).val, (i 1).isLt⟩).toNat + (lit2 ⟨(i 1).val, (i 1).isLt⟩).toNat * ((i 0).val % 8), 0] :=
  rowT_ideal i

theorem wide : ∀ j : Fin 26, (lit0 j).toNat < 26 := by decide +kernel
theorem tall : ∀ j : Fin 26, (lit1 j).toNat + (lit2 j).toNat * 7 < 18 ∧ (lit2 j).toNat ≤ 1 := by decide +kernel

theorem ok (m : (ℓ : Loc nD τ sig) → Buf (Elt F) ℓ) : Ok m := by
  show ok0 (tbl m)
  rw [tbl_eq]
  have hT : ∀ i : grid0.Coords, ∀ a, (cc0_transform_2 k0_off1_inb numel1_S1 (words (F := F)) i a + 1) * S1024x128.size a ≤ S18432x128.size a := by
    intro i
    have h := tall ⟨(i 1).val, (i 1).isLt⟩
    have h' : (i 0).val % 8 ≤ 7 := by omega
    rw [rowT]
    intro a
    match a with
    | ⟨0, _⟩ =>
      show (_ + _ * _ + 1) * 1024 ≤ 18432
      have := Nat.mul_le_mul_left (lit2 ⟨(i 1).val, (i 1).isLt⟩).toNat h'
      omega
    | ⟨1, _⟩ => show (0 + 1) * 128 ≤ 128; omega
  refine ⟨fun i => ⟨?_, .inr (Affine.block_words_dvd (of_decide_eq_true rfl) (by decide))⟩, fun i => ⟨hT i, .inl rfl⟩, fun i => ⟨hT i, .inl rfl⟩⟩
  have h := wide ⟨(i 1).val, (i 1).isLt⟩
  rw [rowW]
  intro a
  match a with
  | ⟨0, _⟩ => show (0 + 1) * 4096 ≤ 4096; omega
  | ⟨1, _⟩ => show ((lit0 ⟨(i 1).val, (i 1).isLt⟩).toNat + 1) * 512 ≤ 13312; omega

end Cert.ProjectIdeal.Hand

end
-- ==== Proof.ProjSame.lean ====
module

public import proofs.«01_k».proof.Defs
public import proofs.«01_k».proof.Proof.Gen.Project
public import proofs.«01_k».proof.Proof.ProjFrame
public import proofs.«01_k».proof.Proof.ProjTables
public import proofs.«01_k».proof.Proof.Gen.ProjectReferenceIdeal.Run

/-!
# The projection as printed and its ideal reading are one program

At words the two printed texts of the projection coincide, so the run proved once, for any values, is the
run of both.
-/

@[expose] public section

noncomputable section

namespace Cert.Projection

open Idealize.ShloMosaic Idealize.SL.Sem

set_option maxRecDepth 65536
set_option maxHeartbeats 4000000

attribute [local instance] Cert.Project.Gen.facts Cert.ProjectIdeal.Gen.facts

theorem body_eq : @Cert.Project.cc0_proj_d1_n13312 Bits _ _ = @Cert.ProjectIdeal.cc0_proj_d1_n13312 Bits _ _ := rfl

theorem rows_eq : @Cert.Project.defs₀ Bits _ _ = @Cert.ProjectIdeal.defs₀ Bits _ _ := by
  unfold Cert.Project.defs₀ Cert.ProjectIdeal.defs₀
  rw [body_eq]
  refine congrArg Defs.onTc (funext fun l => ?_)
  match l with
  | 0 => exact funext fun ⟨t, s⟩ => rfl

theorem defs_eq : @Cert.Project.defs Bits _ _ = @Cert.ProjectIdeal.defs Bits _ _ := by
  unfold Cert.Project.defs Cert.ProjectIdeal.defs
  exact congrArg (Pipeline.defs (Cert.ProjectIdeal.pcfgs (F := Bits))) rows_eq

theorem host_eq : @Cert.Project.main Bits _ _ = @Cert.ProjectIdeal.main Bits _ _ := rfl

/-- The projection at words ends with its arguments unchanged and every counter at zero. -/
theorem run_words : Cert.quiescent_Project (hProject := Cert.Project.Gen.facts) := fun m g _ => by
  have h := Cert.ProjectIdeal.Gen.frame (F := Bits) m g (Cert.ProjectIdeal.Hand.ok m)
  rw [← defs_eq, ← host_eq] at h
  exact h

/-- The same of its ideal reading. -/
theorem run_ideal : Cert.quiescent_ProjectIdeal (hProjectIdeal := Cert.ProjectIdeal.Gen.facts) := fun m g _ =>
  Cert.ProjectIdeal.Gen.frame (F := Ideal) m g (Cert.ProjectIdeal.Hand.ok m)

/-- The reference ends with its arguments unchanged and every counter at zero. -/
theorem run_reference : Cert.quiescent_ProjectReferenceIdeal (hProjectReferenceIdeal := Cert.ProjectReferenceIdeal.Gen.facts) := fun m g _ =>
  (θ_run _ _ _).mono (fun r h => ⟨fun c => (h c).2, Idealize.ShloMosaic.sem_eq_zero_of_no_sems (by decide) r.2⟩)
    (Cert.ProjectReferenceIdeal.Value.run (F := Ideal) m g)

end Cert.Projection

end
-- ==== Proof.ProjBlock.lean ====
/-
  The block the projection's body leaves: each product row and column, times the cosine row, plus the product at the
  column half a head away, times the sine row.
-/
module

public import proofs.«01_k».proof.Proof.ProjTables
public import Idealize.ShloMosaic.Lib.Pointwise
public import Idealize.ShloMosaic.Lib.Pipeline.Value

@[expose] public section

set_option maxRecDepth 16384

noncomputable section

namespace Cert.ProjectIdeal.Hand

open Cert.ProjectIdeal Cert.ProjectIdeal.Gen
open Idealize.ShloMosaic Idealize.ShloMosaic.TcCoe Idealize.SL.Sem

/-- The lane half a head away. -/
def partner (l : Fin 512) : Fin 512 := ⟨l.val / 128 * 128 + (l.val % 128 + 64) % 128, by omega⟩
/-- The lane within a head. -/
def lane (l : Fin 512) : Fin 128 := ⟨l.val % 128, by omega⟩

/-- One row times one column of the blocks. -/
def product (x0 : Vec Ideal S1x1x1024x4096 .bf16) (x1 : Vec Ideal S4096x512 .bf16) (r : Fin 1024) (l : Fin 512) : EReal :=
  ∑ k : Fin 4096, x0 (ix4 0 0 r k) * x1 (ix2 k l)

/-- The block the body leaves. -/
def blockVal (x0 : Vec Ideal S1x1x1024x4096 .bf16) (x1 : Vec Ideal S4096x512 .bf16) (x2 x3 : Vec Ideal S1024x128 .f32)
    (y : S1x1x1024x512.Idx) : Elt Ideal .bf16 :=
  show EReal from
  product x0 x1 (y 2) (y 3) * x2 (ix2 (y 2) (lane (y 3))) + product x0 x1 (y 2) (partner (y 3)) * x3 (ix2 (y 2) (lane (y 3)))

/-- A chunk's element is the block's at its own row and column. -/
theorem fit (x0 : Vec Ideal S1x1x1024x4096 .bf16) (x1 : Vec Ideal S4096x512 .bf16) (x2 x3 : Vec Ideal S1024x128 .f32)
    (y : S1x1x1024x512.Idx) (R : Fin 1024) (L P : Fin 512) (d : Fin 128) (hR : R.val = (y 2).val) (hL : L.val = (y 3).val)
    (hP : P.val = (partner (y 3)).val) (hd : d.val = (lane (y 3)).val) :
    (show EReal from (∑ k : Fin 4096, x0 (ix4 0 0 R k) * x1 (ix2 k L)) * x2 (ix2 R d)
      + (∑ k : Fin 4096, x0 (ix4 0 0 R k) * x1 (ix2 k P)) * x3 (ix2 R d)) = blockVal x0 x1 x2 x3 y := by
  have eR : R = y 2 := Fin.ext hR
  have eL : L = y 3 := Fin.ext hL
  have eP : P = partner (y 3) := Fin.ext hP
  have ed : d = lane (y 3) := Fin.ext hd
  rw [eR, eL, eP, ed]
  rfl

set_option maxHeartbeats 2000000 in
/-- The body's block, at each of its elements. -/
theorem out_apply (c : Dev nD) (i : grid0.Coords) (a5 : Memref sig .tc .vmem S1x1x1024x4096 .bf16) (h5 : a5.IsWhole)
    (a6 : Memref sig .tc .vmem S4096x512 .bf16) (h6 : a6.IsWhole) (a7 : Memref sig .tc .vmem S1024x128 .f32) (h7 : a7.IsWhole)
    (a8 : Memref sig .tc .vmem S1024x128 .f32) (h8 : a8.IsWhole) (a9 : Memref sig .tc .vmem S1x1x1024x512 .bf16) (h9 : a9.IsWhole)
    (x0 : Vec Ideal S1x1x1024x4096 .bf16) (x1 : Vec Ideal S4096x512 .bf16) (x2 x3 : Vec Ideal S1024x128 .f32)
    (t0 : TbBuf0 (F := Ideal) c tbM0_0) (t1 : TbBuf0 (F := Ideal) c tbM0_1) (t2 : TbBuf0 (F := Ideal) c tbM0_2) (y : S1x1x1024x512.Idx) :
    out0_A_4 (F := Ideal) c i a5 h5 a6 h6 a7 h7 a8 h8 a9 h9 x0 x1 x2 x3 t0 t1 t2 y = blockVal x0 x1 x2 x3 y := by
  unfold out0_A_4
  rw [View.read_writes_eq_canon _ _ _ (cover0_A_4 c i a5 h5 a6 h6 a7 h7 a8 h8 a9 h9 x0 x1 x2 x3 t0 t1 t2)]
  refine View.canon_apply_of_pieces (Val := Elt Ideal) (blockVal x0 x1 x2 x3) _ (fun p hp x => ?_) y
    (cover0_A_4 c i a5 h5 a6 h6 a7 h7 a8 h8 a9 h9 x0 x1 x2 x3 t0 t1 t2 y)
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  all_goals
    sl_unfold_words
    simp only [View.readAt_eq_ld, h5.read_unread, h6.read_unread, h7.read_unread, h8.read_unread]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    have hx : (x 3).val < 128 := (x 3).isLt
    exact fit _ _ _ _ _ _ _ _ _ (by simp) (by simp) (by simp [partner] <;> omega) (by simp [lane] <;> omega)

end Cert.ProjectIdeal.Hand

end
-- ==== Proof.ProjSpec.lean ====
/-
  What one output element of the input projection is, in plain numbers: which column of the weights it reads, and
  whether it is turned by a rotary angle or scaled.
-/
module

public import Idealize.ShloMosaic.Lib.Pointwise
public import Idealize.ShloMosaic.PureOps.Ideal.Laws

@[expose] public section

noncomputable section

namespace Cert.Projection

open Idealize.ShloMosaic

/-- One branch of two nested choices at a time. -/
theorem pick {p q : Prop} [Decidable p] [Decidable q] {a b c d : EReal} (h : p ↔ q) (ha : p → a = c) (hb : ¬ p → b = d) :
    (if h : p then a else b) = if q then c else d := by
  by_cases hp : p
  · rw [dif_pos hp, if_pos (h.1 hp), ha hp]
  · rw [dif_neg hp, if_neg (fun hq => hp (h.2 hq)), hb hp]

/-- One row of the activations times column `n` of the weights. -/
def column {K N : Nat} (X : Fin K → EReal) (W : Fin K → Fin N → EReal) (n : Nat) : EReal :=
  if h : n < N then ∑ k, X k * W k ⟨n, h⟩ else 0

theorem column_of {K N : Nat} (X : Fin K → EReal) (W : Fin K → Fin N → EReal) (n : Nat) (h : n < N) :
    ∑ k, X k * W k ⟨n, h⟩ = column X W n := by
  unfold column; rw [dif_pos h]

/-- The rotary angle of position `s` at frequency `q`. -/
def angle (s q : Nat) : EReal :=
  (show EReal from FloatOps.sitofp (F := Ideal) FTy.f32 (BitVec.ofNat 32 s))
    * Ideal.pow (Ideal.ofBits FTy.f32 1176256512#32)
      (Ideal.div (-(show EReal from FloatOps.sitofp (F := Ideal) FTy.f32 (BitVec.ofNat 32 q))) (Ideal.ofBits FTy.f32 1115684864#32))

/-- The element at lane `L % 128` of a head, turned: `C` is its own column. -/
def turned (H : Nat → EReal) (s : Nat) (g : EReal) (C L : Nat) : EReal :=
  if L % 128 < 64 then H C * g * Ideal.cos (angle s (L % 128)) - H (C + 64) * g * Ideal.sin (angle s (L % 128))
  else H (C - 64) * g * Ideal.sin (angle s (L % 128 - 64)) + H C * g * Ideal.cos (angle s (L % 128 - 64))

/-- The scales of the queries: of the sparse attention and of the linear attention. -/
def gain : EReal := Ideal.ofBits FTy.f32 1040356334#32
def gain' : EReal := Ideal.ofBits FTy.f32 1031798784#32

/-- Output column `L` at position `s`. -/
def element (H : Nat → EReal) (s L : Nat) : EReal :=
  if L < 2048 then turned H s gain L L
  else if L < 4096 then H (L + 7216)
  else if L < 6144 then H (L + 7232)
  else if L < 8192 then H (L - 976)
  else if L < 9216 then H (L - 976) * gain'
  else if L < 10240 then H (L - 976)
  else if L < 10752 then H (L - 8192)
  else if L < 11264 then H (L - 8192)
  else if L < 11776 then turned H s 1 (L - 8192) L
  else if L < 12288 then H (L - 8192)
  else if L < 12800 then turned H s 1 (L - 8192) L
  else H (L - 8192)

/-- The rows of the two rotary tables: the cosine of both halves, and the sine, negated in the first half. -/
def cosAt (s d : Nat) : EReal := if d < 64 then Ideal.cos (angle s d) else Ideal.cos (angle s (d - 64))
def sinAt (s d : Nat) : EReal := if d < 64 then -Ideal.sin (angle s d) else Ideal.sin (angle s (d - 64))

/-- Row `r` of the joined tables. -/
def cosTable (r d : Nat) : EReal :=
  if r < 1024 then gain' else if r < 2048 then 1 else if r < 10240 then cosAt (r - 2048) d * gain else cosAt (r - 10240) d
def sinTable (r d : Nat) : EReal :=
  if r < 1024 then 0 else if r < 2048 then 0 else if r < 10240 then sinAt (r - 2048) d * gain else sinAt (r - 10240) d

/-- The column half a head away. -/
def across (L : Nat) : Nat := L / 128 * 128 + (L % 128 + 64) % 128

/-- Which weight tile an output tile reads, and the table row it starts at. -/
def tile (j : Nat) : Nat := if j < 4 then j else if j < 12 then j + 14 else if j < 20 then j - 2 else j - 16
def tableRow (j s : Nat) : Nat :=
  if j < 4 then 2048 + s else if j < 16 then 1024 + s % 1024 else if j < 18 then s % 1024
  else if j = 22 ∨ j = 24 then 10240 + s else 1024 + s % 1024

/-- Where a column of the joined weights lies in the given ones. -/
def given (l : Nat) : Nat := if l < 5120 then l else if l < 11264 then l + 48 else l + 64

/-- The kernel's element: its column times the first table's entry, plus the column across times the second's. -/
def mixed (H : Nat → EReal) (s L : Nat) : EReal :=
  H (given (tile (L / 512) * 512 + L % 512)) * cosTable (tableRow (L / 512) s) (L % 128)
    + H (given (tile (L / 512) * 512 + across (L % 512))) * sinTable (tableRow (L / 512) s) (L % 128)

theorem mixed_turned (H : Nat → EReal) (s L C C' : Nat) (g : EReal) (h : if L % 128 < 64 then C' = C + 64 else C' = C - 64) :
    H C * (cosAt s (L % 128) * g) + H C' * (sinAt s (L % 128) * g) = turned H s g C L := by
  unfold cosAt sinAt turned
  by_cases hl : L % 128 < 64
  · rw [if_pos hl] at h
    rw [if_pos hl, if_pos hl, if_pos hl, h, neg_mul, mul_neg, mul_comm _ g, mul_comm _ g, ← mul_assoc, ← mul_assoc,
      sub_eq_add_neg]
  · rw [if_neg hl] at h
    rw [if_neg hl, if_neg hl, if_neg hl, h, mul_comm _ g, mul_comm _ g, ← mul_assoc, ← mul_assoc, add_comm]

theorem mixed_plain (H : Nat → EReal) (C C' : Nat) (e f a b : EReal) (he : e = a) (hf : f = 0) (hb : H C * a = b) :
    H C * e + H C' * f = b := by
  rw [he, hf, mul_zero, add_zero, hb]

/-- The rows that turn and scale. -/
theorem rows_scaled (s d : Nat) (hs : s < 8192) :
    cosTable (2048 + s) d = cosAt s d * gain ∧ sinTable (2048 + s) d = sinAt s d * gain := by
  unfold cosTable sinTable
  rw [if_neg (by omega), if_neg (by omega), if_pos (by omega), if_neg (by omega), if_neg (by omega), if_pos (by omega),
    show 2048 + s - 2048 = s by omega]
  exact ⟨rfl, rfl⟩

/-- The rows that turn. -/
theorem rows_turned (s d : Nat) :
    cosTable (10240 + s) d = cosAt s d * 1 ∧ sinTable (10240 + s) d = sinAt s d * 1 := by
  unfold cosTable sinTable
  rw [if_neg (by omega), if_neg (by omega), if_neg (by omega), if_neg (by omega), if_neg (by omega), if_neg (by omega),
    show 10240 + s - 10240 = s by omega, mul_one, mul_one]
  exact ⟨rfl, rfl⟩

/-- The rows that leave a column as it is. -/
theorem rows_plain (s d : Nat) : cosTable (1024 + s % 1024) d = 1 ∧ sinTable (1024 + s % 1024) d = 0 := by
  unfold cosTable sinTable
  rw [if_neg (by omega), if_pos (by omega), if_neg (by omega), if_pos (by omega)]
  exact ⟨rfl, rfl⟩

/-- The rows that scale only. -/
theorem rows_gain (s d : Nat) : cosTable (s % 1024) d = gain' ∧ sinTable (s % 1024) d = 0 := by
  unfold cosTable sinTable
  rw [if_pos (by omega), if_pos (by omega)]
  exact ⟨rfl, rfl⟩

/-- The column an output column reads. -/
def source (L : Nat) : Nat :=
  if L < 2048 then L else if L < 4096 then L + 7216 else if L < 6144 then L + 7232 else if L < 10240 then L - 976 else L - 8192

theorem given_source (L : Nat) (hL : L < 13312) : given (tile (L / 512) * 512 + L % 512) = source L := by
  unfold given tile source
  split_ifs <;> omega

theorem given_across (L : Nat) (hL : L < 13312) :
    if L % 128 < 64 then given (tile (L / 512) * 512 + across (L % 512)) = source L + 64
    else given (tile (L / 512) * 512 + across (L % 512)) = source L - 64 := by
  unfold given tile source across
  split <;> split_ifs <;> omega

theorem fall {p : Prop} [Decidable p] {x a b : EReal} (ha : p → x = a) (hb : ¬ p → x = b) : x = if p then a else b := by
  by_cases h : p
  · rw [if_pos h, ha h]
  · rw [if_neg h, hb h]

theorem source_eq (L C : Nat) (h : if L < 2048 then C = L else if L < 4096 then C = L + 7216 else if L < 6144 then C = L + 7232
    else if L < 10240 then C = L - 976 else C = L - 8192) : source L = C := by
  unfold source
  split_ifs at h ⊢ <;> omega

/-- The kernel's element is the reference's. -/
theorem mixed_eq (H : Nat → EReal) (s L : Nat) (hs : s < 8192) (hL : L < 13312) : mixed H s L = element H s L := by
  have hx := given_across L hL
  unfold mixed
  rw [given_source L hL]
  have plain : tableRow (L / 512) s = 1024 + s % 1024 → ∀ C, source L = C →
      H (source L) * cosTable (tableRow (L / 512) s) (L % 128)
        + H (given (tile (L / 512) * 512 + across (L % 512))) * sinTable (tableRow (L / 512) s) (L % 128) = H C := by
    intro hr C hC
    rw [hr, hC]
    exact mixed_plain _ _ _ _ _ _ _ (rows_plain s _).1 (rows_plain s _).2 (mul_one _)
  have keys : tableRow (L / 512) s = 10240 + s → ∀ C, source L = C →
      H (source L) * cosTable (tableRow (L / 512) s) (L % 128)
        + H (given (tile (L / 512) * 512 + across (L % 512))) * sinTable (tableRow (L / 512) s) (L % 128) = turned H s 1 C L := by
    intro hr C hC
    rw [hC] at hx ⊢
    rw [hr, (rows_turned s _).1, (rows_turned s _).2]
    exact mixed_turned H s L C _ 1 hx
  unfold element
  by_cases h1 : L < 2048
  · rw [if_pos h1]
    have hr : tableRow (L / 512) s = 2048 + s := if_pos (by omega)
    have hC : source L = L := if_pos h1
    rw [hC] at hx ⊢
    rw [hr, (rows_scaled s _ hs).1, (rows_scaled s _ hs).2]
    exact mixed_turned H s L L _ gain hx
  refine fall (fun h => absurd h h1) fun _ => ?_
  have far : 10240 ≤ L → source L = L - 8192 := fun h => source_eq L _ (by
    rw [if_neg h1, if_neg (by omega), if_neg (by omega), if_neg (by omega)])
  have near : 6144 ≤ L → L < 10240 → source L = L - 976 := fun h h' => source_eq L _ (by
    rw [if_neg h1, if_neg (by omega), if_neg (by omega), if_pos h'])
  have rest : ¬ (16 ≤ L / 512 ∧ L / 512 < 18) → ¬ (L / 512 = 22 ∨ L / 512 = 24) → tableRow (L / 512) s = 1024 + s % 1024 := by
    intro a b
    unfold tableRow
    rw [if_neg (by omega)]
    by_cases c : L / 512 < 16
    · rw [if_pos c]
    · rw [if_neg c, if_neg (by omega), if_neg b]
  have turn : L / 512 = 22 ∨ L / 512 = 24 → tableRow (L / 512) s = 10240 + s := by
    intro a
    unfold tableRow
    rw [if_neg (by omega), if_neg (by omega), if_neg (by omega), if_pos a]
  refine fall (fun h => plain (rest (by omega) (by omega)) _ (source_eq L _ (by rw [if_neg h1, if_pos h]))) fun h2 => ?_
  refine fall (fun h => plain (rest (by omega) (by omega)) _ (source_eq L _ (by rw [if_neg h1, if_neg h2, if_pos h]))) fun _ => ?_
  refine fall (fun h => plain (rest (by omega) (by omega)) _ (near (by omega) (by omega))) fun _ => ?_
  refine fall (fun h => ?_) fun _ => ?_
  · have hr : tableRow (L / 512) s = s % 1024 := by
      unfold tableRow
      rw [if_neg (by omega), if_neg (by omega), if_pos (by omega)]
    rw [hr, near (by omega) (by omega)]
    exact mixed_plain _ _ _ _ _ _ _ (rows_gain s _).1 (rows_gain s _).2 rfl
  refine fall (fun h => plain (rest (by omega) (by omega)) _ (near (by omega) (by omega))) fun _ => ?_
  refine fall (fun h => plain (rest (by omega) (by omega)) _ (far (by omega))) fun _ => ?_
  refine fall (fun h => plain (rest (by omega) (by omega)) _ (far (by omega))) fun _ => ?_
  refine fall (fun h => keys (turn (by omega)) _ (far (by omega))) fun _ => ?_
  refine fall (fun h => plain (rest (by omega) (by omega)) _ (far (by omega))) fun _ => ?_
  refine fall (fun h => keys (turn (by omega)) _ (far (by omega))) fun _ => ?_
  exact plain (rest (by omega) (by omega)) _ (far (by omega))

end Cert.Projection

end
-- ==== Proof.ProjHost.lean ====
/-
  What the projection's host code leaves in the arrays that its call reads.
-/
module

public import proofs.«01_k».proof.Proof.ProjBlock
public import proofs.«01_k».proof.Proof.ProjSpec

@[expose] public section

set_option maxRecDepth 16384

noncomputable section

namespace Cert.ProjectIdeal.Hand

open Cert.ProjectIdeal Cert.ProjectIdeal.Gen
open Idealize.ShloMosaic Idealize.ShloMosaic.TcCoe Idealize.SL.Sem
open Idealize.ShloMosaic.StableHlo
open Cert.Projection

variable (m : (ℓ : Loc nD τ sig) → Buf (Elt Ideal) ℓ)

abbrev ax (c : Dev nD) : Vec Ideal S2x8192x4096 .f32 := m ((c : Thread nD τ).loc main_arg0)
abbrev aw (c : Dev nD) : Vec Ideal S4096x13376 .f32 := m ((c : Thread nD τ).loc main_arg1)

theorem act_apply (c : Dev nD) (b : Fin 2) (s : Fin 8192) (k : Fin 4096) :
    (V m c main_v6 : Vec Ideal S2x1x8192x4096 .bf16) (ix4 b 0 s k) = ax m c (ix3 b s k) := by
  have e : (V m c main_v6 : Vec Ideal S2x1x8192x4096 .bf16) = broadcastInDim S2x1x8192x4096 ![0, 2, 3] bcast_S2x8192x4096_S2x1x8192x4096_0_2_3 (truncf .bf16 (ax m c) bitsLt_bf16_f32 : FVec Ideal S2x8192x4096 .bf16) := by
    show StableHlo.after hostOps0 (fun b => m (c, b)) (Proc.devRef .tc main_v6) = _
    after_results
  rw [e]
  pointwise

/-- The angles: position times inverse frequency. -/
def angles : FVec Ideal S8192x64 .f32 :=
  mulf (broadcastInDim S8192x64 ![0, 1] bcast_S8192x1_S8192x64_0_1
      (broadcastInDim S8192x1 ![0] bcast_S8192_S8192x1_0
        (sitofp .f32 (shapeCast S8192 (broadcastInDim S1x8192 ![1] bcast_S8192_S1x8192_1 (iotaInDim S8192 32 0 : IVec S8192 32)) shapeCasts_S1x8192_S8192 : IVec S8192 32) : FVec Ideal S8192 .f32)))
    (broadcastInDim S8192x64 ![0, 1] bcast_S1x64_S8192x64_0_1
      (broadcastInDim S1x64 ![1] bcast_S64_S1x64_1
        (Host.powf (broadcastInDim S64 ![] bcast_S_S64 (constant S_ .f32 0x461C4000#32 : FVec Ideal S_ .f32))
          (Host.divf (Host.negf (sitofp .f32 (iotaInDim S64 32 0 : IVec S64 32) : FVec Ideal S64 .f32))
            (broadcastInDim S64 ![] bcast_S_S64 (constant S_ .f32 0x42800000#32 : FVec Ideal S_ .f32))))))

def cosRow : FVec Ideal S8192x128 .f32 :=
  concatenate S8192x128 1 [⟨S8192x64, (Host.cos angles : FVec Ideal S8192x64 .f32)⟩, ⟨S8192x64, (Host.cos angles : FVec Ideal S8192x64 .f32)⟩] concatenates_S8192x64_S8192x64_S8192x128_d1
def sinRow : FVec Ideal S8192x128 .f32 :=
  concatenate S8192x128 1 [⟨S8192x64, (Host.negf (Host.sin angles) : FVec Ideal S8192x64 .f32)⟩, ⟨S8192x64, (Host.sin angles : FVec Ideal S8192x64 .f32)⟩] concatenates_S8192x64_S8192x64_S8192x128_d1

abbrev fill (s : Shape) (h : S_.BroadcastsInDim s ![]) (v : BitVec 32) : FVec Ideal s .f32 := broadcastInDim s ![] h (constant S_ .f32 v : FVec Ideal S_ .f32)

def cosTab : Vec Ideal S18432x128 .f32 :=
  concatenate S18432x128 0 [⟨S1024x128, fill _ bcast_S_S1024x128 0x3D800000#32⟩, ⟨S1024x128, fill _ bcast_S_S1024x128 0x3F800000#32⟩,
    ⟨S8192x128, mulf cosRow (fill _ bcast_S_S8192x128 0x3E0293EE#32)⟩, ⟨S8192x128, mulf cosRow (fill _ bcast_S_S8192x128 0x3F800000#32)⟩]
    concatenates_S1024x128_S1024x128_S8192x128_S8192x128_S18432x128_d0
def sinTab : Vec Ideal S18432x128 .f32 :=
  concatenate S18432x128 0 [⟨S1024x128, fill _ bcast_S_S1024x128 0x00000000#32⟩, ⟨S1024x128, fill _ bcast_S_S1024x128 0x00000000#32⟩,
    ⟨S8192x128, mulf sinRow (fill _ bcast_S_S8192x128 0x3E0293EE#32)⟩, ⟨S8192x128, mulf sinRow (fill _ bcast_S_S8192x128 0x3F800000#32)⟩]
    concatenates_S1024x128_S1024x128_S8192x128_S8192x128_S18432x128_d0

theorem cos_eq (c : Dev nD) : (V m c main_v39 : Vec Ideal S18432x128 .f32) = cosTab := by
  show StableHlo.after hostOps0 (fun b => m (c, b)) (Proc.devRef .tc main_v39) = _
  after_results_simp <;> (try dsimp only [Matrix.cons_val]) <;> (try after_results_simp) <;> rfl

theorem sin_eq (c : Dev nD) : (V m c main_v40 : Vec Ideal S18432x128 .f32) = sinTab := by
  show StableHlo.after hostOps0 (fun b => m (c, b)) (Proc.devRef .tc main_v40) = _
  after_results_simp <;> (try dsimp only [Matrix.cons_val]) <;> (try after_results_simp) <;> rfl

theorem ang_apply (s : Fin 8192) (q : Nat) (h : q < 64) : angles (ix2 s ⟨q, h⟩) = angle s.val q := by
  unfold angles
  pointwise
  rfl

theorem cosRow_apply (s : Fin 8192) (d : Fin 128) : cosRow (ix2 s d) = cosAt s.val d.val := by
  unfold cosRow cosAt
  pointwise
  simp only [ang_apply]
  rfl

theorem sinRow_apply (s : Fin 8192) (d : Fin 128) : sinRow (ix2 s d) = sinAt s.val d.val := by
  unfold sinRow sinAt
  pointwise
  simp only [ang_apply]
  rfl

theorem cosTab_apply (r : Fin 18432) (d : Fin 128) : cosTab (ix2 r d) = cosTable r.val d.val := by
  unfold cosTab cosTable
  pointwise
  simp only [cosRow_apply]
  refine pick Iff.rfl (fun _ => rfl) fun _ => ?_
  refine pick (by omega) (fun _ => rfl) fun _ => ?_
  refine pick (by omega) (fun _ => congrArg (fun n => cosAt n d.val * gain) (by omega)) fun _ => ?_
  exact congrArg (fun n => cosAt n d.val) (by omega)

theorem sinTab_apply (r : Fin 18432) (d : Fin 128) : sinTab (ix2 r d) = sinTable r.val d.val := by
  unfold sinTab sinTable
  pointwise
  simp only [sinRow_apply]
  refine pick Iff.rfl (fun _ => rfl) fun _ => ?_
  refine pick (by omega) (fun _ => rfl) fun _ => ?_
  refine pick (by omega) (fun _ => congrArg (fun n => sinAt n d.val * gain) (by omega)) fun _ => ?_
  exact congrArg (fun n => sinAt n d.val) (by omega)

/-- The given weights, cast. -/
def wide16 (c : Dev nD) : Vec Ideal S4096x13376 .bf16 := (truncf .bf16 (aw m c) bitsLt_bf16_f32 : FVec Ideal S4096x13376 .bf16)
def wMain (c : Dev nD) : Vec Ideal S4096x13312 .bf16 :=
  concatenate S4096x13312 1 [⟨S4096x5120, extractStridedSlice S4096x5120 ![0, 0] (wide16 m c) slices_S4096x13376_S4096x5120_0_0⟩,
    ⟨S4096x6144, extractStridedSlice S4096x6144 ![0, 5168] (wide16 m c) slices_S4096x13376_S4096x6144_0_5168⟩,
    ⟨S4096x2048, extractStridedSlice S4096x2048 ![0, 11328] (wide16 m c) slices_S4096x13376_S4096x2048_0_11328⟩]
    concatenates_S4096x5120_S4096x6144_S4096x2048_S4096x13312_d1

theorem w_eq (c : Dev nD) : (V m c main_v4 : Vec Ideal S4096x13312 .bf16) = wMain m c := by
  show StableHlo.after hostOps0 (fun b => m (c, b)) (Proc.devRef .tc main_v4) = _
  after_results_simp <;> (try dsimp only [Matrix.cons_val]) <;> (try after_results_simp) <;> rfl

theorem given_lt (l : Fin 13312) : given l.val < 13376 := by
  unfold given; split <;> [skip; split] <;> omega

theorem wMain_apply (c : Dev nD) (k : Fin 4096) (l : Fin 13312) :
    wMain m c (ix2 k l) = aw m c (ix2 k ⟨given l.val, given_lt l⟩) := by
  unfold wMain wide16
  pointwise
  have e : ∀ (n : Nat) (h : n < 13376), n = given l.val → aw m c (ix2 k ⟨n, h⟩) = aw m c (ix2 k ⟨given l.val, given_lt l⟩) := by
    intro n h hn; subst hn; rfl
  by_cases h1 : l.val < 5120
  · rw [dif_pos h1]; exact e _ _ (by unfold given; rw [if_pos h1])
  · rw [dif_neg h1]
    by_cases h2 : l.val - 5120 < 6144
    · rw [dif_pos h2]; exact e _ _ (by unfold given; rw [if_neg h1, if_pos (by omega)]; omega)
    · rw [dif_neg h2]; exact e _ _ (by unfold given; rw [if_neg h1, if_neg (by omega)]; omega)

end Cert.ProjectIdeal.Hand

end
-- ==== Proof.ProjRef.lean ====
/-
  What the projection's reference computes, element by element.
-/
module

public import proofs.«01_k».proof.Proof.Gen.ProjectReferenceIdeal.Run
public import proofs.«01_k».proof.Proof.Gen.ProjectReferenceIdeal.Read
public import proofs.«01_k».proof.Proof.ProjSpec
public import Idealize.ShloMosaic.Lib.Pipeline.Value

@[expose] public section

set_option maxRecDepth 16384

noncomputable section

namespace Cert.ProjectReferenceIdeal.Hand

open Cert.ProjectReferenceIdeal Cert.ProjectReferenceIdeal.Read
open Cert.Projection (column column_of angle turned gain gain' element pick)
open Idealize.ShloMosaic Idealize.ShloMosaic.TcCoe Idealize.SL.Sem
open Idealize.ShloMosaic.StableHlo

variable (x0 : Vec Ideal S2x8192x4096 .f32) (x1 : Vec Ideal S4096x13376 .f32)

/-- The columns of the product, for one row of the activations. -/
abbrev cols (b : Fin 2) (s : Fin 8192) : Nat → EReal :=
  column (fun k : Fin 4096 => x0 (ix3 b s k)) (fun (k : Fin 4096) (C : Fin 13376) => x1 (ix2 k C))

theorem dot_apply (b : Fin 2) (s : Fin 8192) (n : Nat) (h : n < 13376) :
    val_main_v0 (F := Ideal) x0 x1 (ix3 b s ⟨n, h⟩) = cols x0 x1 b s n := by
  refine Eq.trans ?_ (column_of _ _ n h)
  pointwise [val_main_v0]

theorem ang_apply (s : Fin 8192) (n : Nat) (h : n < 64) : val_main_v30 (F := Ideal) (ix2 s ⟨n, h⟩) = angle s.val n := by
  pointwise [val_main_v30, val_main_v29, val_main_v28, val_main_v27, val_main_v26, val_main_v25, val_main_v24, val_main_v23,
    val_main_v22, val_main_v21, val_main_v20, val_main_v19, val_main_cst_1, val_main_cst_0, val_main_v10]
  rfl
theorem ang_apply' (s : Fin 8192) (n : Nat) (h : n < 64) : val_main_v67 (F := Ideal) (ix2 s ⟨n, h⟩) = angle s.val n :=
  ang_apply s n h
theorem ang_apply'' (s : Fin 8192) (n : Nat) (h : n < 64) : val_main_v102 (F := Ideal) (ix2 s ⟨n, h⟩) = angle s.val n :=
  ang_apply s n h

/-- A turn written out over the pair's two halves. -/
theorem turn_eq (H : Nat → EReal) (s : Nat) (g : EReal) (C l C0 C1 C2 C3 : Nat)
    (h1 : l % 128 < 64 → C0 = C ∧ C1 = C + 64) (h2 : ¬ l % 128 < 64 → C2 = C - 64 ∧ C3 = C) :
    (if h : l % 128 < 64 then H C0 * g * Ideal.cos (angle s (l % 128)) - H C1 * g * Ideal.sin (angle s (l % 128))
      else H C2 * g * Ideal.sin (angle s (l % 128 - 64)) + H C3 * g * Ideal.cos (angle s (l % 128 - 64)))
      = turned H s g C l := by
  unfold turned
  by_cases h : l % 128 < 64
  · rw [dif_pos h, if_pos h, (h1 h).1, (h1 h).2]
  · rw [dif_neg h, if_neg h, (h2 h).1, (h2 h).2]

theorem turn_one (H : Nat → EReal) (s : Nat) (C l C0 C1 C2 C3 : Nat)
    (h1 : l % 128 < 64 → C0 = C ∧ C1 = C + 64) (h2 : ¬ l % 128 < 64 → C2 = C - 64 ∧ C3 = C) :
    (if h : l % 128 < 64 then H C0 * Ideal.cos (angle s (l % 128)) - H C1 * Ideal.sin (angle s (l % 128))
      else H C2 * Ideal.sin (angle s (l % 128 - 64)) + H C3 * Ideal.cos (angle s (l % 128 - 64)))
      = turned H s 1 C l := by
  rw [← turn_eq H s 1 C l C0 C1 C2 C3 h1 h2]
  simp only [mul_one]

theorem turned_at (H : Nat → EReal) (s : Nat) (g : EReal) {C l C' l' : Nat} (hC : C = C') (hl : l % 128 = l' % 128) :
    turned H s g C l = turned H s g C' l' := by
  subst hC
  unfold turned
  rw [hl]

/-- The sparse attention's queries, scaled and turned. -/
theorem queries (b : Fin 2) (s : Fin 8192) (l : Nat) (hl : l < 2048) :
    val_main_v53 (F := Ideal) x0 x1 (ix3 b s ⟨l, hl⟩) = turned (cols x0 x1 b s) s.val gain l l := by
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v18, val_main_v17, val_main_cst,
    val_main_v1]
  simp only [dot_apply, ang_apply]
  exact turn_eq _ _ _ _ _ _ _ _ _ (by omega) (by omega)

/-- The selected keys, turned. -/
theorem selected (b : Fin 2) (s : Fin 8192) (l : Nat) (hl : l < 512) :
    val_main_v90 (F := Ideal) x0 x1 (ix3 b s ⟨l, hl⟩) = turned (cols x0 x1 b s) s.val 1 (l + 3072) l := by
  pointwise [val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v13, val_main_v2]
  simp only [dot_apply, ang_apply']
  exact turn_one _ _ _ _ _ _ _ _ (by omega) (by omega)

/-- The window's keys, turned. -/
theorem window (b : Fin 2) (s : Fin 8192) (l : Nat) (hl : l < 512) :
    val_main_v125 (F := Ideal) x0 x1 (ix3 b s ⟨l, hl⟩) = turned (cols x0 x1 b s) s.val 1 (l + 4096) l := by
  pointwise [val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v15, val_main_v2]
  simp only [dot_apply, ang_apply'']
  exact turn_one _ _ _ _ _ _ _ _ (by omega) (by omega)

set_option maxHeartbeats 2000000 in
/-- The whole result. -/
theorem result_apply (b : Fin 2) (s : Fin 8192) (L : Fin 13312) :
    val_main_v128 (F := Ideal) x0 x1 (ix4 b 0 s L) = element (cols x0 x1 b s) s.val L.val := by
  pointwise [val_main_v128, val_main_v127, val_main_v126, val_main_v7, val_main_v9, val_main_v4, val_main_v55, val_main_v54,
    val_main_cst_2, val_main_v5, val_main_v6, val_main_v11, val_main_v12, val_main_v14, val_main_v16, val_main_v2]
  simp only [dot_apply, queries, selected, window]
  unfold element
  refine pick (by omega) (fun _ => rfl) fun _ => ?_
  refine pick (by omega) (fun _ => congrArg _ (by omega)) fun _ => ?_
  refine pick (by omega) (fun _ => congrArg _ (by omega)) fun _ => ?_
  refine pick (by omega) (fun _ => congrArg _ (by omega)) fun _ => ?_
  refine pick (by omega) (fun _ => congrArg (fun n => cols x0 x1 b s n * gain') (by omega)) fun _ => ?_
  refine pick (by omega) (fun _ => congrArg _ (by omega)) fun _ => ?_
  refine pick (by omega) (fun _ => congrArg _ (by omega)) fun _ => ?_
  refine pick (by omega) (fun _ => congrArg _ (by omega)) fun _ => ?_
  refine pick (by omega) (fun _ => turned_at _ _ _ (by omega) (by omega)) fun _ => ?_
  refine pick (by omega) (fun _ => congrArg _ (by omega)) fun _ => ?_
  refine pick (by omega) (fun _ => turned_at _ _ _ (by omega) (by omega)) fun _ => ?_
  exact congrArg _ (by omega)

end Cert.ProjectReferenceIdeal.Hand

end
-- ==== Proof.ProjValue.lean ====
/-
  The array the projection leaves: every element is its column of the product, times the first table's entry, plus the
  column across times the second's; and the reference's array is the same.
-/
module

public import proofs.«01_k».proof.Defs
public import proofs.«01_k».proof.Proof.ProjHost
public import proofs.«01_k».proof.Proof.ProjRef

@[expose] public section

set_option maxRecDepth 16384

noncomputable section

namespace Cert.ProjectIdeal.Hand

open Cert.ProjectIdeal Cert.ProjectIdeal.Gen
open Idealize.ShloMosaic Idealize.ShloMosaic.TcCoe Idealize.SL.Sem
open Cert.Projection

variable (m : (ℓ : Loc nD τ sig) → Buf (Elt Ideal) ℓ)

/-- The columns of the product, for one row of the activations. -/
abbrev cols (c : Dev nD) (b : Fin 2) (s : Fin 8192) : Nat → EReal :=
  column (fun k : Fin 4096 => ax m c (ix3 b s k)) (fun (k : Fin 4096) (C : Fin 13376) => aw m c (ix2 k C))

/-- The whole result. -/
def result (c : Dev nD) : Vec Ideal S2x1x8192x13312 .bf16 := fun i =>
  show EReal from mixed (cols m c (i 0) (i 2)) (i 2).val (i 3).val

theorem idx0 : ∀ t : Fin grid0.N, cc0_transform_0 (grid0.coords t) = ![t.val / 208, 0, t.val / 26 % 8, 0] := by decide +kernel
theorem idx4 : ∀ t : Fin grid0.N, cc0_transform_4 (grid0.coords t) = ![t.val / 208, 0, t.val / 26 % 8, t.val % 26] := by decide +kernel
theorem co0 (t : Fin grid0.N) : (grid0.coords t 0).val = t.val / 26 % 16 :=
  Pipeline.Grid.coords_val t 0 (by decide) rfl
theorem co1 (t : Fin grid0.N) : (grid0.coords t 1).val = t.val % 26 := by
  have := Pipeline.Grid.coords_val t 1 (S := 1) (B := 26) (by decide) rfl
  omega

theorem tile_eq : ∀ j : Fin 26, (lit0 j).toNat = tile j.val := by decide +kernel
theorem row_eq : ∀ j : Fin 26, ∀ q : Fin 8, (lit1 j).toNat + (lit2 j).toNat * q.val = tableRow j.val (q.val * 1024) / 1024 := by decide +kernel

theorem tableRow_split (j s r : Nat) (hr : r < 1024) (h : s % 1024 = r) :
    tableRow j s = tableRow j (s / 1024 * 1024) / 1024 * 1024 + r := by
  unfold tableRow
  split_ifs <;> omega

variable (hO : Ok m)

theorem win0 (t : Fin (cfgM m hO).N) : @Eq (Fin 4 → Nat) (((cfgM m hO).win 0).index t) ![t.val / 208, 0, t.val / 26 % 8, 0] := idx0 t
theorem win4 (t : Fin (cfgM m hO).N) : @Eq (Fin 4 → Nat) (((cfgM m hO).win 4).index t) ![t.val / 208, 0, t.val / 26 % 8, t.val % 26] := idx4 t
theorem win1 (t : Fin (cfgM m hO).N) : @Eq (Fin 2 → Nat) (((cfgM m hO).win 1).index t) ![0, tile (t.val % 26)] := by
  show cc0_transform_1 k0_off1_inb numel1_S1 (tbl m) (grid0.coords t) = _
  rw [tbl_eq, rowW, tile_eq]
  show ![0, tile (grid0.coords t 1).val] = _
  rw [co1]
theorem win2 (t : Fin (cfgM m hO).N) : @Eq (Fin 2 → Nat) (((cfgM m hO).win 2).index t) ![tableRow (t.val % 26) (t.val / 26 % 8 * 1024) / 1024, 0] := by
  show cc0_transform_2 k0_off1_inb numel1_S1 (tbl m) (grid0.coords t) = _
  have hq : (grid0.coords t 0).val % 8 = t.val / 26 % 8 := by rw [co0]; omega
  rw [tbl_eq, rowT, row_eq _ ⟨(grid0.coords t 0).val % 8, Nat.mod_lt _ (by decide)⟩]
  show ![tableRow (grid0.coords t 1).val ((grid0.coords t 0).val % 8 * 1024) / 1024, 0] = _
  rw [co1, hq]
theorem win3 (t : Fin (cfgM m hO).N) : @Eq (Fin 2 → Nat) (((cfgM m hO).win 3).index t) ![tableRow (t.val % 26) (t.val / 26 % 8 * 1024) / 1024, 0] :=
  win2 m hO t

def place0 (t : Fin (cfgM m hO).N) (y : S1x1x1024x4096.Idx) : S2x1x8192x4096.Idx := (((cfgM m hO).win 0).blk t).view.emb y

theorem blk0 (c : Dev nD) (t : Fin (cfgM m hO).N) (r : Fin 1024) (k : Fin 4096) (b : Fin 2) (s : Fin 8192)
    (hb : b.val = t.val / 208) (hs : s.val = t.val / 26 % 8 * 1024 + r.val) :
    (iblk m hO c 0 t : Vec Ideal S1x1x1024x4096 .bf16) (ix4 0 0 r k) = ax m c (ix3 b s k) := by
  unfold iblk
  rw [← act_apply]
  show (V m c main_v6 : Vec Ideal S2x1x8192x4096 .bf16) (place0 m hO t (ix4 0 0 r k)) = (V m c main_v6 : Vec Ideal S2x1x8192x4096 .bf16) _
  refine congrArg (V m c main_v6 : Vec Ideal S2x1x8192x4096 .bf16) (funext fun a => Fin.ext ?_)
  have e := win0 m hO t
  match a with
  | ⟨0, _⟩ => show ((cfgM m hO).win 0).index t (0 : Fin 4) * 1 + 1 * 0 = b.val; rw [congrFun e (0 : Fin 4)]; show t.val / 208 * 1 + 1 * 0 = _; omega
  | ⟨1, _⟩ => show ((cfgM m hO).win 0).index t (1 : Fin 4) * 1 + 1 * 0 = 0; rw [congrFun e (1 : Fin 4)]; rfl
  | ⟨2, _⟩ => show ((cfgM m hO).win 0).index t (2 : Fin 4) * 1024 + 1 * r.val = s.val; rw [congrFun e (2 : Fin 4)]; show t.val / 26 % 8 * 1024 + 1 * r.val = _; omega
  | ⟨3, _⟩ => show ((cfgM m hO).win 0).index t (3 : Fin 4) * 4096 + 1 * k.val = k.val; rw [congrFun e (3 : Fin 4)]; show 0 * 4096 + 1 * k.val = _; omega

theorem tile_lt (j : Nat) (hj : j < 26) : tile j < 26 := by
  unfold tile; split_ifs <;> omega

def place1 (t : Fin (cfgM m hO).N) (y : S4096x512.Idx) : S4096x13312.Idx := (((cfgM m hO).win 1).blk t).view.emb y

theorem blk1 (c : Dev nD) (t : Fin (cfgM m hO).N) (k : Fin 4096) (l : Fin 512) (n : Nat) (hn : n < 13376)
    (h : n = given (tile (t.val % 26) * 512 + l.val)) :
    (iblk m hO c 1 t : Vec Ideal S4096x512 .bf16) (ix2 k l) = aw m c (ix2 k ⟨n, hn⟩) := by
  subst h
  have hl : tile (t.val % 26) * 512 + l.val < 13312 := by
    have := tile_lt (t.val % 26) (by omega)
    omega
  unfold iblk
  refine Eq.trans ?_ (wMain_apply m c k ⟨tile (t.val % 26) * 512 + l.val, hl⟩)
  rw [← w_eq]
  show (V m c main_v4 : Vec Ideal S4096x13312 .bf16) (place1 m hO t (ix2 k l)) = (V m c main_v4 : Vec Ideal S4096x13312 .bf16) _
  refine congrArg (V m c main_v4 : Vec Ideal S4096x13312 .bf16) (funext fun a => Fin.ext ?_)
  have e := win1 m hO t
  match a with
  | ⟨0, _⟩ => show ((cfgM m hO).win 1).index t (0 : Fin 2) * 4096 + 1 * k.val = k.val; rw [congrFun e (0 : Fin 2)]; show 0 * 4096 + 1 * k.val = _; omega
  | ⟨1, _⟩ => show ((cfgM m hO).win 1).index t (1 : Fin 2) * 512 + 1 * l.val = tile (t.val % 26) * 512 + l.val; rw [congrFun e (1 : Fin 2)]
              show tile (t.val % 26) * 512 + 1 * l.val = _; omega

theorem tableRow_lt (j s : Nat) (hs : s < 8192) : tableRow j s < 18432 := by
  unfold tableRow; split_ifs <;> omega

def place2 (t : Fin (cfgM m hO).N) (y : S1024x128.Idx) : S18432x128.Idx := (((cfgM m hO).win 2).blk t).view.emb y

theorem blk2 (c : Dev nD) (t : Fin (cfgM m hO).N) (r : Fin 1024) (d : Fin 128) (s : Nat)
    (hs : s = t.val / 26 % 8 * 1024 + r.val) :
    (iblk m hO c 2 t : Vec Ideal S1024x128 .f32) (ix2 r d) = cosTable (tableRow (t.val % 26) s) d.val := by
  unfold iblk
  refine Eq.trans ?_ (cosTab_apply ⟨tableRow (t.val % 26) s, tableRow_lt _ _ (by omega)⟩ d)
  rw [← cos_eq m c]
  show (V m c main_v39 : Vec Ideal S18432x128 .f32) (place2 m hO t (ix2 r d)) = (V m c main_v39 : Vec Ideal S18432x128 .f32) _
  refine congrArg (V m c main_v39 : Vec Ideal S18432x128 .f32) (funext fun a => Fin.ext ?_)
  have e := win2 m hO t
  have h := tableRow_split (t.val % 26) s r.val r.isLt (by omega)
  rw [show s / 1024 = t.val / 26 % 8 by omega] at h
  match a with
  | ⟨0, _⟩ => show ((cfgM m hO).win 2).index t (0 : Fin 2) * 1024 + 1 * r.val = tableRow (t.val % 26) s; rw [congrFun e (0 : Fin 2), h]
              show tableRow (t.val % 26) (t.val / 26 % 8 * 1024) / 1024 * 1024 + 1 * r.val = _; omega
  | ⟨1, _⟩ => show ((cfgM m hO).win 2).index t (1 : Fin 2) * 128 + 1 * d.val = d.val; rw [congrFun e (1 : Fin 2)]; show 0 * 128 + 1 * d.val = _; omega

def place3 (t : Fin (cfgM m hO).N) (y : S1024x128.Idx) : S18432x128.Idx := (((cfgM m hO).win 3).blk t).view.emb y

theorem blk3 (c : Dev nD) (t : Fin (cfgM m hO).N) (r : Fin 1024) (d : Fin 128) (s : Nat)
    (hs : s = t.val / 26 % 8 * 1024 + r.val) :
    (iblk m hO c 3 t : Vec Ideal S1024x128 .f32) (ix2 r d) = sinTable (tableRow (t.val % 26) s) d.val := by
  unfold iblk
  refine Eq.trans ?_ (sinTab_apply ⟨tableRow (t.val % 26) s, tableRow_lt _ _ (by omega)⟩ d)
  rw [← sin_eq m c]
  show (V m c main_v40 : Vec Ideal S18432x128 .f32) (place3 m hO t (ix2 r d)) = (V m c main_v40 : Vec Ideal S18432x128 .f32) _
  refine congrArg (V m c main_v40 : Vec Ideal S18432x128 .f32) (funext fun a => Fin.ext ?_)
  have e := win3 m hO t
  have h := tableRow_split (t.val % 26) s r.val r.isLt (by omega)
  rw [show s / 1024 = t.val / 26 % 8 by omega] at h
  match a with
  | ⟨0, _⟩ => show ((cfgM m hO).win 3).index t (0 : Fin 2) * 1024 + 1 * r.val = tableRow (t.val % 26) s; rw [congrFun e (0 : Fin 2), h]
              show tableRow (t.val % 26) (t.val / 26 % 8 * 1024) / 1024 * 1024 + 1 * r.val = _; omega
  | ⟨1, _⟩ => show ((cfgM m hO).win 3).index t (1 : Fin 2) * 128 + 1 * d.val = d.val; rw [congrFun e (1 : Fin 2)]; show 0 * 128 + 1 * d.val = _; omega

theorem given_lt' (n : Nat) (h : n < 13312) : given n < 13376 := by
  unfold given; split_ifs <;> omega

/-- Where an element of the output block of a grid point lies in the result. -/
def place (t : Fin (cfgM m hO).N) (y : S1x1x1024x512.Idx) : S2x1x8192x13312.Idx := (((cfgM m hO).win 4).blk t).view.emb y

/-- One product over the blocks is a column of the whole product. -/
theorem product_eq (c : Dev nD) (t : Fin (cfgM m hO).N) (r : Fin 1024) (l : Fin 512) (b : Fin 2) (s : Fin 8192)
    (hb : b.val = t.val / 208) (hs : s.val = t.val / 26 % 8 * 1024 + r.val) :
    product (iblk m hO c 0 t) (iblk m hO c 1 t) r l = cols m c b s (given (tile (t.val % 26) * 512 + l.val)) := by
  have hl : tile (t.val % 26) * 512 + l.val < 13312 := by
    have := tile_lt (t.val % 26) (by omega)
    omega
  refine Eq.trans ?_ (column_of _ _ _ (given_lt' _ hl))
  exact Finset.sum_congr rfl fun k _ => congrArg₂ (α := EReal) (β := EReal) (γ := EReal) (· * ·)
    (blk0 m hO c t r k b s hb hs) (blk1 m hO c t k l _ _ rfl)

theorem flushed_eq (c : Dev nD) (t : Fin (cfgM m hO).N) :
    (dats m hO 0 c).flushed 4 t = (((cfgM m hO).win 4).blk t).view.read (Elt Ideal) (result m c) := by
  have hN : (cfgM m hO).N = 416 := N_0
  have e := win4 m hO t
  have f : (dats m hO 0 c).flushed 4 t = outsAt0 m hO c t := by
    show ((cfgM m hO).win 4).cut (grid0.coords t) ((dats m hO 0 c).after 4 t) = _
    rw [after0_4]
    rfl
  rw [f]
  funext y
  have y0 : (y 0 : Nat) < 1 := (y 0).isLt
  have y2 : (y 2 : Nat) < 1024 := (y 2).isLt
  have y3 : (y 3 : Nat) < 512 := (y 3).isLt
  have e0 : (place m hO t y 0).val = t.val / 208 := by
    show ((cfgM m hO).win 4).index t (0 : Fin 4) * 1 + 1 * (y 0).val = _
    rw [congrFun e (0 : Fin 4)]; show t.val / 208 * 1 + 1 * (y 0).val = _; omega
  have e2 : (place m hO t y 2).val = t.val / 26 % 8 * 1024 + (y 2).val := by
    show ((cfgM m hO).win 4).index t (2 : Fin 4) * 1024 + 1 * (y 2).val = _
    rw [congrFun e (2 : Fin 4)]; show t.val / 26 % 8 * 1024 + 1 * (y 2).val = _; omega
  have e3 : (place m hO t y 3).val = t.val % 26 * 512 + (y 3).val := by
    show ((cfgM m hO).win 4).index t (3 : Fin 4) * 512 + 1 * (y 3).val = _
    rw [congrFun e (3 : Fin 4)]; show t.val % 26 * 512 + 1 * (y 3).val = _; omega
  show outsAt0 m hO c t y = result m c (place m hO t y)
  generalize place m hO t y = i at e0 e2 e3 ⊢
  refine (out_apply _ _ _ _ _ _ _ _ _ _ _ _ _ _ _ _ _ _ _ _).trans ?_
  show (show EReal from product _ _ (y 2) (y 3) * _ + product _ _ (y 2) (partner (y 3)) * _) = mixed (cols m c (i 0) (i 2)) (i 2).val (i 3).val
  rw [product_eq m hO c t (y 2) (y 3) (i 0) (i 2) e0 e2, product_eq m hO c t (y 2) (partner (y 3)) (i 0) (i 2) e0 e2,
    blk2 m hO c t (y 2) (lane (y 3)) _ e2, blk3 m hO c t (y 2) (lane (y 3)) _ e2]
  unfold mixed
  rw [show (i 3).val / 512 = t.val % 26 by omega, show (i 3).val % 512 = (y 3).val by omega, show (i 3).val % 128 = (lane (y 3)).val by
    show _ = (y 3).val % 128; omega]
  rfl

theorem cover (i : S2x1x8192x13312.Idx) :
    ∃ t : Fin (cfgM m hO).N, ((cfgM m hO).win 4).flush t = true ∧ i ∈ (((cfgM m hO).win 4).blk t).view.set := by
  have h0 : (i 0 : Nat) < 2 := (i 0).isLt
  have h1 : (i 1 : Nat) < 1 := (i 1).isLt
  have h2 : (i 2 : Nat) < 8192 := (i 2).isLt
  have h3 : (i 3 : Nat) < 13312 := (i 3).isLt
  have hN : (cfgM m hO).N = 416 := N_0
  let t : Fin (cfgM m hO).N := ⟨((i 0 : Nat) * 8 + (i 2 : Nat) / 1024) * 26 + (i 3 : Nat) / 512, by omega⟩
  have e := win4 m hO t
  have q0 : ((cfgM m hO).win 4).index t (0 : Fin 4) = (i 0 : Nat) := (congrFun e (0 : Fin 4)).trans (by show t.val / 208 = _; dsimp only [t]; omega)
  have q1 : ((cfgM m hO).win 4).index t (1 : Fin 4) = 0 := (congrFun e (1 : Fin 4)).trans rfl
  have q2 : ((cfgM m hO).win 4).index t (2 : Fin 4) = (i 2 : Nat) / 1024 := (congrFun e (2 : Fin 4)).trans (by show t.val / 26 % 8 = _; dsimp only [t]; omega)
  have q3 : ((cfgM m hO).win 4).index t (3 : Fin 4) = (i 3 : Nat) / 512 := (congrFun e (3 : Fin 4)).trans (by show t.val % 26 = _; dsimp only [t]; omega)
  refine ⟨t, flush0_4 _ t, ?_⟩
  refine (Finset.ext_iff.mp (View.set_slice_whole main_v41 (((cfgM m hO).win 4).rect t)) i).mpr (Rect.mem_set_unit.mpr fun a => ?_)
  match a with
  | ⟨0, _⟩ => show ((cfgM m hO).win 4).index t (0 : Fin 4) * 1 ≤ (i 0 : Nat) ∧ (i 0 : Nat) < ((cfgM m hO).win 4).index t (0 : Fin 4) * 1 + 1
              rw [q0]; omega
  | ⟨1, _⟩ => show ((cfgM m hO).win 4).index t (1 : Fin 4) * 1 ≤ (i 1 : Nat) ∧ (i 1 : Nat) < ((cfgM m hO).win 4).index t (1 : Fin 4) * 1 + 1
              rw [q1]; omega
  | ⟨2, _⟩ => show ((cfgM m hO).win 4).index t (2 : Fin 4) * 1024 ≤ (i 2 : Nat) ∧ (i 2 : Nat) < ((cfgM m hO).win 4).index t (2 : Fin 4) * 1024 + 1024
              rw [q2]; omega
  | ⟨3, _⟩ => show ((cfgM m hO).win 4).index t (3 : Fin 4) * 512 ≤ (i 3 : Nat) ∧ (i 3 : Nat) < ((cfgM m hO).win 4).index t (3 : Fin 4) * 512 + 512
              rw [q3]; omega

theorem final (c : Dev nD) : (dats m hO 0 c).arrAt 4 (cfgM m hO).N = result m c :=
  (dats m hO 0 c).arrAt_eq_of_cover 4 (result m c) (fun t _ => flushed_eq m hO c t) (cover m hO)

/-- The reference's result is the same array. -/
theorem reference_eq (c : Dev nD) : Cert.ProjectReferenceIdeal.Read.val_main_v128 (ax m c) (aw m c) = result m c := by
  funext i
  have h1 : (i 1).val = 0 := by have : (i 1).val < 1 := (i 1).isLt; omega
  have hi : i = ix4 (i 0) 0 (i 2) (i 3) := funext fun a => match a with
    | ⟨0, _⟩ => rfl
    | ⟨1, _⟩ => Fin.ext h1
    | ⟨2, _⟩ => rfl
    | ⟨3, _⟩ => rfl
  rw [hi]
  refine (Cert.ProjectReferenceIdeal.Hand.result_apply (ax m c) (aw m c) (i 0) (i 2) (i 3)).trans ?_
  exact (mixed_eq (cols m c (i 0) (i 2)) (i 2).val (i 3).val (i 2).isLt (i 3).isLt).symm

/-- Both programs end, the arguments unchanged, with the same projection. -/
theorem algebraic : Cert.algebraic_ProjectIdeal_ProjectReferenceIdeal (hProjectIdeal := Cert.ProjectIdeal.Gen.facts)
    (hProjectReferenceIdeal := Cert.ProjectReferenceIdeal.Gen.facts) := by
  intro m g m' g' _ hargs
  refine ⟨fun c => result m c, (θ_run _ _ _).mono (fun r h c => ?_) (θ_run_and (run_main (F := Ideal) m g (ok m)) (unchanged m g (ok m))),
    (θ_run _ _ _).mono (fun r h c => ?_) (Cert.ProjectReferenceIdeal.Value.run (F := Ideal) m' g')⟩
  · exact ⟨((h.1 c).1 4).trans (final m (ok m) c), h.2 c⟩
  · obtain ⟨hv, h0⟩ := h c
    refine ⟨hv.trans ?_, h0⟩
    rw [Cert.ProjectReferenceIdeal.Read.val_main_v128_eq, (hargs c).1, (hargs c).2]
    exact reference_eq m c

end Cert.ProjectIdeal.Hand

end
-- ==== Proof.DilRuns.lean ====
/-
  The dilated layer's projection's run, first part: the arrays at the call, the pipeline at the prefetched tables'
  contents, and the windows' staging buffers.
-/
module

public import proofs.«01_k».proof.Proof.Gen.DilatedIdeal.Launch
public import proofs.«01_k».proof.Proof.Gen.DilatedIdeal.Skeleton
public import proofs.«01_k».proof.Proof.Gen.DilatedIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DilatedIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The run holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S16 .i32 := Memref.whole main_c
abbrev htbM0_0 : tbM0_0.IsWhole := Memref.isWhole_whole _
abbrev tbM0_1 : Memref sig .tc .smem S16 .i32 := Memref.whole main_c_0
abbrev htbM0_1 : tbM0_1.IsWhole := Memref.isWhole_whole _
abbrev tbM0_2 : Memref sig .tc .smem S16 .i32 := Memref.whole main_c_1
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_DilatedIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (by decide : main_arg0 ∈ Pipeline.restRefs sig spec0)).trans (V_main_arg0 m c),
      ((h c).1 1).trans (((dats 0 c).arrAt_in 1 rfl _).trans ((hA c 1).trans (V_main_arg1 m c)))⟩) h

/-! ## The kernel body on any staging memrefs: a subtype the run finds -/

/-- One staging buffer of output window 4, through which its contents are stated (`View.read_writes_of_cover`: the
    choice does not matter). -/
abbrev VO0_4 : View sig .tc .vmem S1x1x1024x512 .bf16 := (Memref.whole cc0_stg4_0 : Memref sig .tc .vmem S1x1x1024x512 .bf16).view
/-- Each window's current staging memref at point `t`, spelled as the pipeline passes it (`bodyAt0`), and its wholeness. -/
abbrev ms0_0 (hO : Ok m) (t : Fin (cfgM m hO).N) : Memref sig .tc .vmem S1x1x1024x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.DilatedIdeal.Gen

end
-- ==== Proof.DilRunA.lean ====
/-
  The dilated layer's projection's run, second part: the body walked once, at any grid point.
-/
module

public import proofs.«01_k».proof.Proof.DilRuns

@[expose] public section

-- membership in a rectangle of production extents (`View.cover_of_tiled`): the elaborator's structural look
-- recurses once per coordinate of the long axes
set_option maxRecDepth 16384

noncomputable section

namespace Cert.DilatedIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg5 : Memref sig .tc .vmem S1x1x1024x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) :
    { L4 : List (View.Piece (Elt F) S1x1x1024x512 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} arg9.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_proj_d1_n8192 i tbM0_0 htbM0_0 tbM0_1 htbM0_1 tbM0_2 htbM0_2 arg5 harg5 arg6 harg6 arg7 harg7 arg8 harg8 arg9 harg9) K } := by
  refine ⟨?_, fun E K => ?run⟩
  case run =>
    simp only [cc0_proj_d1_n8192_eq_skeleton]; unfold cc0_proj_d1_n8192_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg5.eq_unread hf0; obtain rfl := harg6.eq_unread hf1; obtain rfl := harg7.eq_unread hf2; obtain rfl := harg8.eq_unread hf3
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexists _; iexact H4
    isplitl [HT0]; · iexact HT0
    isplitl [HT1]; · iexact HT1
    iexact HT2

end Cert.DilatedIdeal.Gen

end
-- ==== Proof.DilFrame.lean ====
/-
  The dilated layer's projection's run, last part: what the output block holds at each grid point, the pipeline's data,
  the launch, and the arguments left unchanged, for prefetched tables that keep every block inside its array.
-/
module

public import proofs.«01_k».proof.Proof.DilRunA
public import Idealize.ShloMosaic.Lib.Claim

@[expose] public section

-- membership in a rectangle of production extents (`View.cover_of_tiled`): the elaborator's structural look
-- recurses once per coordinate of the long axes
set_option maxRecDepth 16384

noncomputable section

namespace Cert.DilatedIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (16 stores of `S1x1x256x128`, checked by the kernel's evaluation: Lib/Ring.lean `Piece.tiledL`, linear in the pieces, through a loop's `@[irreducible]` trip theorem too), so they cover it. -/
theorem cover0_A_4 (c : Dev nD) (i : grid0.Coords) (arg5 : Memref sig .tc .vmem S1x1x1024x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) (y : S1x1x1024x512.Idx) :
    ∃ pc ∈ (kernelRun0_A c i arg5 harg5 arg6 harg6 arg7 harg7 arg8 harg8 arg9 harg9 x0 x1 x2 x3 xt0 xt1 xt2).1, y ∈ pc.1.set :=
  View.cover_of_tiledL (kernelRun0_A c i arg5 harg5 arg6 harg6 arg7 harg7 arg8 harg8 arg9 harg9 x0 x1 x2 x3 xt0 xt1 xt2).1 S1x1x256x128.size (by sl_kernel_rfl) y

/-- What the run leaves in output 4's staging buffer: its pieces read back over junk. -/
def out0_A_4 (c : Dev nD) (i : grid0.Coords) (arg5 : Memref sig .tc .vmem S1x1x1024x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) : Vec F S1x1x1024x512 .bf16 :=
  VO0_4.read (Elt F) (VO0_4.writes (Elt F) VO0_4.junk (kernelRun0_A c i arg5 harg5 arg6 harg6 arg7 harg7 arg8 harg8 arg9 harg9 x0 x1 x2 x3 xt0 xt1 xt2).1)

/-! ## What the outputs hold after each point -/

/-- What the outputs' staging buffers hold after the body at point `t`: the run's contents at
    the point's memrefs and input blocks. -/
def outsAt0 (hO : Ok m) (c : Dev nD) (t : Fin (cfgM m hO).N) : Vec F S1x1x1024x512 .bf16 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  unfold out0_A_4
  iintro ⟨⟨HΦ, ⟨HT0, HT1, HT2⟩⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m hO c 0 t) (iblk m hO c 1 t) (iblk m hO c 2 t) (iblk m hO c 3 t) (tbl m 0) (tbl m 1) (tbl m 2)).2 Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  isplitl [HT2]; · iexact HT2
  iintro ⟨H0, H1, H2, H3, ⟨%e4, H4⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

/-- The arguments end unchanged and every counter at zero, for any values, under the prefetched tables' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO) ((θ_run defs _ _).mono (fun _ h => h.2) (run_main_quiescent m ρ hO))

end Cert.DilatedIdeal.Gen

end
-- ==== Proof.DilTables.lean ====
/-
  The dilated layer's projection's three tables hold constants, so every block it asks for lies inside its array.
-/
module

public import proofs.«01_k».proof.Proof.DilFrame
public import Idealize.ShloMosaic.Lib.Pipeline.Value
public import Idealize.ShloMosaic.PureOps.Ideal.Laws

@[expose] public section

set_option maxRecDepth 16384

noncomputable section

namespace Cert.DilatedIdeal.Hand

open Cert.DilatedIdeal Cert.DilatedIdeal.Gen
open Idealize.ShloMosaic Idealize.ShloMosaic.TcCoe Idealize.SL.Sem
open Idealize.ShloMosaic.StableHlo

variable {F : FTy → Type} [FloatOps F]

/-- The tables' contents: which weight block a tile reads, where its rotary rows start, and whether they move. -/
def words : pre0.Contents (Elt F)
  | ⟨0, _⟩ => fun i : S16.Idx => lit0 (S16.rowMajor i)
  | ⟨1, _⟩ => fun i : S16.Idx => lit1 (S16.rowMajor i)
  | ⟨2, _⟩ => fun i : S16.Idx => lit2 (S16.rowMajor i)

theorem tbl_eq (m : (ℓ : Loc nD τ sig) → Buf (Elt F) ℓ) : tbl m = words := by
  funext j
  match j with
  | ⟨0, _⟩ => show StableHlo.after hostOps0 (fun b => m (0, b)) (Proc.devRef .tc main_c) = _; after_results; rfl
  | ⟨1, _⟩ => show StableHlo.after hostOps0 (fun b => m (0, b)) (Proc.devRef .tc main_c_0) = _; after_results; rfl
  | ⟨2, _⟩ => show StableHlo.after hostOps0 (fun b => m (0, b)) (Proc.devRef .tc main_c_1) = _; after_results; rfl

theorem spot (i : grid0.Coords) (x : (Rect.unit (s := S16) (k0_off1 i) S1.size (k0_off1_inb i)).shape.Idx) :
    S16.rowMajor ((Rect.unit (s := S16) (k0_off1 i) S1.size (k0_off1_inb i)).idx x) = (⟨(i 1).val, (i 1).isLt⟩ : Fin 16) := by
  refine Fin.ext ?_
  have hx : (x 0).val = 0 := by have : (x 0).val < 1 := (x 0).isLt; omega
  have ho : k0_off1 i 0 = (i 1).val := congrFun (k0_off1_eq i) 0
  rw [Shape.rowMajor_val_one]
  show k0_off1 i 0 + 1 * (x 0).val = (i 1).val
  rw [hx, ho]; omega

theorem at0 (i : grid0.Coords) : (words (F := F)).at 0 (Rect.unit (s := S16) (k0_off1 i) S1.size (k0_off1_inb i)) numel1_S1 = lit0 ⟨(i 1).val, (i 1).isLt⟩ :=
  congrArg lit0 (spot i _)
theorem at1 (i : grid0.Coords) : (words (F := F)).at 1 (Rect.unit (s := S16) (k0_off1 i) S1.size (k0_off1_inb i)) numel1_S1 = lit1 ⟨(i 1).val, (i 1).isLt⟩ :=
  congrArg lit1 (spot i _)
theorem at2 (i : grid0.Coords) : (words (F := F)).at 2 (Rect.unit (s := S16) (k0_off1 i) S1.size (k0_off1_inb i)) numel1_S1 = lit2 ⟨(i 1).val, (i 1).isLt⟩ :=
  congrArg lit2 (spot i _)

theorem rowW (i : grid0.Coords) : cc0_transform_1 k0_off1_inb numel1_S1 (words (F := F)) i = ![0, (lit0 ⟨(i 1).val, (i 1).isLt⟩).toNat] := by
  refine Eq.trans ?_ (congrArg (fun v : BitVec 32 => ![0, v.toNat]) (at0 (F := F) i))
  rfl

theorem rowT_ideal : ∀ i : grid0.Coords, cc0_transform_2 k0_off1_inb numel1_S1 (words (F := Ideal)) i
    = ![(lit1 ⟨(i 1).val, (i 1).isLt⟩).toNat + (lit2 ⟨(i 1).val, (i 1).isLt⟩).toNat * ((i 0).val % 8), 0] := by
  decide +kernel

theorem rowT (i : grid0.Coords) : cc0_transform_2 k0_off1_inb numel1_S1 (words (F := F)) i
    = ![(lit1 ⟨(i 1).val, (i 1).isLt⟩).toNat + (lit2 ⟨(i 1).val, (i 1).isLt⟩).toNat * ((i 0).val % 8), 0] :=
  rowT_ideal i

theorem rowT3 (i : grid0.Coords) : cc0_transform_3 k0_off1_inb numel1_S1 (words (F := F)) i
    = ![(lit1 ⟨(i 1).val, (i 1).isLt⟩).toNat + (lit2 ⟨(i 1).val, (i 1).isLt⟩).toNat * ((i 0).val % 8), 0] :=
  rowT_ideal i

theorem wide : ∀ j : Fin 16, (lit0 j).toNat < 40 := by decide +kernel
theorem tall : ∀ j : Fin 16, (lit1 j).toNat + (lit2 j).toNat * 7 < 17 ∧ (lit2 j).toNat ≤ 1 := by decide +kernel

theorem ok (m : (ℓ : Loc nD τ sig) → Buf (Elt F) ℓ) : Ok m := by
  show ok0 (tbl m)
  rw [tbl_eq]
  have hT : ∀ i : grid0.Coords, ∀ a, (cc0_transform_2 k0_off1_inb numel1_S1 (words (F := F)) i a + 1) * S1024x128.size a ≤ S17408x128.size a := by
    intro i
    have h := tall ⟨(i 1).val, (i 1).isLt⟩
    have h' : (i 0).val % 8 ≤ 7 := by omega
    rw [rowT]
    intro a
    match a with
    | ⟨0, _⟩ =>
      show (_ + _ * _ + 1) * 1024 ≤ 17408
      have := Nat.mul_le_mul_left (lit2 ⟨(i 1).val, (i 1).isLt⟩).toNat h'
      omega
    | ⟨1, _⟩ => show (0 + 1) * 128 ≤ 128; omega
  refine ⟨fun i => ⟨?_, .inl rfl⟩, fun i => ⟨hT i, .inl rfl⟩, fun i => ⟨hT i, .inl rfl⟩⟩
  have h := wide ⟨(i 1).val, (i 1).isLt⟩
  rw [rowW]
  intro a
  match a with
  | ⟨0, _⟩ => show (0 + 1) * 4096 ≤ 4096; omega
  | ⟨1, _⟩ => show ((lit0 ⟨(i 1).val, (i 1).isLt⟩).toNat + 1) * 512 ≤ 20480; omega

end Cert.DilatedIdeal.Hand

end
-- ==== Proof.DilSame.lean ====
module

public import proofs.«01_k».proof.Defs
public import proofs.«01_k».proof.Proof.Gen.Dilated
public import proofs.«01_k».proof.Proof.DilFrame
public import proofs.«01_k».proof.Proof.DilTables
public import proofs.«01_k».proof.Proof.Gen.DilatedReferenceIdeal.Run

/-!
# The dilated layer's projection as printed and its ideal reading are one program

At words the two printed texts of the projection coincide, so the run proved once, for any values, is the
run of both.
-/

@[expose] public section

noncomputable section

namespace Cert.Streams

open Idealize.ShloMosaic Idealize.SL.Sem

set_option maxRecDepth 65536
set_option maxHeartbeats 4000000

attribute [local instance] Cert.Dilated.Gen.facts Cert.DilatedIdeal.Gen.facts

theorem body_eq : @Cert.Dilated.cc0_proj_d1_n8192 Bits _ _ = @Cert.DilatedIdeal.cc0_proj_d1_n8192 Bits _ _ := rfl

theorem rows_eq : @Cert.Dilated.defs₀ Bits _ _ = @Cert.DilatedIdeal.defs₀ Bits _ _ := by
  unfold Cert.Dilated.defs₀ Cert.DilatedIdeal.defs₀
  rw [body_eq]
  refine congrArg Defs.onTc (funext fun l => ?_)
  match l with
  | 0 => exact funext fun ⟨t, s⟩ => rfl

theorem defs_eq : @Cert.Dilated.defs Bits _ _ = @Cert.DilatedIdeal.defs Bits _ _ := by
  unfold Cert.Dilated.defs Cert.DilatedIdeal.defs
  exact congrArg (Pipeline.defs (Cert.DilatedIdeal.pcfgs (F := Bits))) rows_eq

theorem host_eq : @Cert.Dilated.main Bits _ _ = @Cert.DilatedIdeal.main Bits _ _ := rfl

/-- The projection at words ends with its arguments unchanged and every counter at zero. -/
theorem run_words : Cert.quiescent_Dilated (hDilated := Cert.Dilated.Gen.facts) := fun m g _ => by
  have h := Cert.DilatedIdeal.Gen.frame (F := Bits) m g (Cert.DilatedIdeal.Hand.ok m)
  rw [← defs_eq, ← host_eq] at h
  exact h

/-- The same of its ideal reading. -/
theorem run_ideal : Cert.quiescent_DilatedIdeal (hDilatedIdeal := Cert.DilatedIdeal.Gen.facts) := fun m g _ =>
  Cert.DilatedIdeal.Gen.frame (F := Ideal) m g (Cert.DilatedIdeal.Hand.ok m)

/-- The reference ends with its arguments unchanged and every counter at zero. -/
theorem run_reference : Cert.quiescent_DilatedReferenceIdeal (hDilatedReferenceIdeal := Cert.DilatedReferenceIdeal.Gen.facts) := fun m g _ =>
  (θ_run _ _ _).mono (fun r h => ⟨fun c => (h c).2, Idealize.ShloMosaic.sem_eq_zero_of_no_sems (by decide) r.2⟩)
    (Cert.DilatedReferenceIdeal.Value.run (F := Ideal) m g)

end Cert.Streams

end
-- ==== Proof.DilBlock.lean ====
/-
  The block the dilated layer's projection's body leaves: each product row and column, times the cosine row, plus the product at the
  column half a head away, times the sine row.
-/
module

public import proofs.«01_k».proof.Proof.DilTables
public import proofs.«01_k».proof.Proof.ProjBlock
public import Idealize.ShloMosaic.Lib.Pointwise
public import Idealize.ShloMosaic.Lib.Pipeline.Value

@[expose] public section

set_option maxRecDepth 16384

noncomputable section

namespace Cert.DilatedIdeal.Hand

open Cert.DilatedIdeal Cert.DilatedIdeal.Gen
open Cert.ProjectIdeal.Hand (partner lane)
open Idealize.ShloMosaic Idealize.ShloMosaic.TcCoe Idealize.SL.Sem

/-- One row times one column of the blocks. -/
def product (x0 : Vec Ideal S1x1x1024x4096 .bf16) (x1 : Vec Ideal S4096x512 .f32) (r : Fin 1024) (l : Fin 512) : EReal :=
  ∑ k : Fin 4096, x0 (ix4 0 0 r k) * x1 (ix2 k l)

/-- The block the body leaves. -/
def blockVal (x0 : Vec Ideal S1x1x1024x4096 .bf16) (x1 : Vec Ideal S4096x512 .f32) (x2 x3 : Vec Ideal S1024x128 .f32)
    (y : S1x1x1024x512.Idx) : Elt Ideal .bf16 :=
  show EReal from
  product x0 x1 (y 2) (y 3) * x2 (ix2 (y 2) (lane (y 3))) + product x0 x1 (y 2) (partner (y 3)) * x3 (ix2 (y 2) (lane (y 3)))

/-- A chunk's element is the block's at its own row and column. -/
theorem fit (x0 : Vec Ideal S1x1x1024x4096 .bf16) (x1 : Vec Ideal S4096x512 .f32) (x2 x3 : Vec Ideal S1024x128 .f32)
    (y : S1x1x1024x512.Idx) (R : Fin 1024) (L P : Fin 512) (d : Fin 128) (hR : R.val = (y 2).val) (hL : L.val = (y 3).val)
    (hP : P.val = (partner (y 3)).val) (hd : d.val = (lane (y 3)).val) :
    (show EReal from (∑ k : Fin 4096, x0 (ix4 0 0 R k) * x1 (ix2 k L)) * x2 (ix2 R d)
      + (∑ k : Fin 4096, x0 (ix4 0 0 R k) * x1 (ix2 k P)) * x3 (ix2 R d)) = blockVal x0 x1 x2 x3 y := by
  have eR : R = y 2 := Fin.ext hR
  have eL : L = y 3 := Fin.ext hL
  have eP : P = partner (y 3) := Fin.ext hP
  have ed : d = lane (y 3) := Fin.ext hd
  rw [eR, eL, eP, ed]
  rfl

set_option maxHeartbeats 2000000 in
/-- The body's block, at each of its elements. -/
theorem out_apply (c : Dev nD) (i : grid0.Coords) (a5 : Memref sig .tc .vmem S1x1x1024x4096 .bf16) (h5 : a5.IsWhole)
    (a6 : Memref sig .tc .vmem S4096x512 .f32) (h6 : a6.IsWhole) (a7 : Memref sig .tc .vmem S1024x128 .f32) (h7 : a7.IsWhole)
    (a8 : Memref sig .tc .vmem S1024x128 .f32) (h8 : a8.IsWhole) (a9 : Memref sig .tc .vmem S1x1x1024x512 .bf16) (h9 : a9.IsWhole)
    (x0 : Vec Ideal S1x1x1024x4096 .bf16) (x1 : Vec Ideal S4096x512 .f32) (x2 x3 : Vec Ideal S1024x128 .f32)
    (t0 : TbBuf0 (F := Ideal) c tbM0_0) (t1 : TbBuf0 (F := Ideal) c tbM0_1) (t2 : TbBuf0 (F := Ideal) c tbM0_2) (y : S1x1x1024x512.Idx) :
    out0_A_4 (F := Ideal) c i a5 h5 a6 h6 a7 h7 a8 h8 a9 h9 x0 x1 x2 x3 t0 t1 t2 y = blockVal x0 x1 x2 x3 y := by
  unfold out0_A_4
  rw [View.read_writes_eq_canon _ _ _ (cover0_A_4 c i a5 h5 a6 h6 a7 h7 a8 h8 a9 h9 x0 x1 x2 x3 t0 t1 t2)]
  refine View.canon_apply_of_pieces (Val := Elt Ideal) (blockVal x0 x1 x2 x3) _ (fun p hp x => ?_) y
    (cover0_A_4 c i a5 h5 a6 h6 a7 h7 a8 h8 a9 h9 x0 x1 x2 x3 t0 t1 t2 y)
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  all_goals
    sl_unfold_words
    simp only [View.readAt_eq_ld, h5.read_unread, h6.read_unread, h7.read_unread, h8.read_unread]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    have hx : (x 3).val < 128 := (x 3).isLt
    exact fit _ _ _ _ _ _ _ _ _ (by simp) (by simp) (by simp [partner] <;> omega) (by simp [lane] <;> omega)

end Cert.DilatedIdeal.Hand

end
-- ==== Proof.DilSpec.lean ====
/-
  What one output element of the dilated layer's projection is, in plain numbers.
-/
module

public import proofs.«01_k».proof.Proof.ProjSpec

@[expose] public section

noncomputable section

namespace Cert.Streams

open Idealize.ShloMosaic
open Cert.Projection

/-- The scale of the dilated attention's queries. -/
def scale : EReal := Ideal.ofBits FTy.f32 1035273459#32

theorem scale_real : ∃ r : ℝ, 0 ≤ r ∧ scale = (r : EReal) := by
  refine ⟨11863283 * (2 : ℝ) ^ (-27 : ℤ), by positivity, ?_⟩
  unfold scale
  simp [Ideal.ofBits, Ideal.ieee]

theorem turned_scale (H : Nat → EReal) (s C L : Nat) : turned H s 1 C L * scale = turned H s scale C L := by
  obtain ⟨r, hr, e⟩ := scale_real
  have h0 : (0 : EReal) ≤ scale := by rw [e]; exact_mod_cast hr
  have h1 : scale ≠ ⊤ := by rw [e]; exact EReal.coe_ne_top r
  unfold turned
  split
  · rw [sub_eq_add_neg, sub_eq_add_neg, EReal.right_distrib_of_nonneg_of_ne_top h0 h1, neg_mul, mul_one, mul_one,
      mul_right_comm, mul_right_comm (H (C + 64))]
  · rw [EReal.right_distrib_of_nonneg_of_ne_top h0 h1, mul_one, mul_one, mul_right_comm, mul_right_comm (H C)]

/-- Output column `L` at position `s`: queries, keys, values and gate of the undilated heads. -/
def entry (H : Nat → EReal) (s L : Nat) : EReal :=
  if L < 2048 then turned H s 1 L L * scale
  else if L < 4096 then turned H s 1 (L + 4096) L
  else if L < 6144 then H (L + 8192)
  else H (L + 12288)

/-- Row `r` of the joined tables. -/
def cosines (r d : Nat) : EReal :=
  if r < 1024 then 1 else if r < 9216 then cosAt (r - 1024) d * scale else cosAt (r - 9216) d
def sines (r d : Nat) : EReal :=
  if r < 1024 then 0 else if r < 9216 then sinAt (r - 1024) d * scale else sinAt (r - 9216) d

/-- Which weight tile an output tile reads, and the table row of a position. -/
def source (j : Nat) : Nat := if j < 4 then j else if j < 8 then j + 8 else if j < 12 then j + 16 else j + 24
def row (j s : Nat) : Nat := if j < 4 then 1024 + s else if j < 8 then 9216 + s else s % 1024

theorem row_split (j s r : Nat) (hr : r < 1024) (h : s % 1024 = r) : row j s = row j (s / 1024 * 1024) / 1024 * 1024 + r := by
  unfold row
  split_ifs <;> omega

theorem row_lt (j s : Nat) (hs : s < 8192) : row j s < 17408 := by
  unfold row; split_ifs <;> omega

theorem source_lt (j : Nat) (hj : j < 16) : source j < 40 := by
  unfold source; split_ifs <;> omega

/-- The kernel's element: its column times the first table's entry, plus the column across times the second's. -/
def blend (H : Nat → EReal) (s L : Nat) : EReal :=
  H (source (L / 512) * 512 + L % 512) * cosines (row (L / 512) s) (L % 128)
    + H (source (L / 512) * 512 + across (L % 512)) * sines (row (L / 512) s) (L % 128)

theorem across_source (j L C : Nat) (h : j * 512 + L % 512 = C) :
    if L % 128 < 64 then j * 512 + across (L % 512) = C + 64 else j * 512 + across (L % 512) = C - 64 := by
  unfold across
  split <;> omega

/-- The kernel's element is the reference's. -/
theorem blend_eq (H : Nat → EReal) (s L : Nat) (hs : s < 8192) (hL : L < 8192) : blend H s L = entry H s L := by
  have turn : ∀ (C : Nat) (g : EReal), source (L / 512) * 512 + L % 512 = C →
      cosines (row (L / 512) s) (L % 128) = cosAt s (L % 128) * g → sines (row (L / 512) s) (L % 128) = sinAt s (L % 128) * g →
      blend H s L = turned H s g C L := by
    intro C g hC hc hn
    unfold blend
    rw [hc, hn, hC]
    exact mixed_turned H s L C _ g (across_source _ L C hC)
  have plain : ∀ C : Nat, source (L / 512) * 512 + L % 512 = C → row (L / 512) s < 1024 → blend H s L = H C := by
    intro C hC hr
    unfold blend cosines sines
    rw [if_pos hr, if_pos hr, hC, mul_one, mul_zero, add_zero]
  unfold entry
  refine fall (fun h => ?_) fun h1 => fall (fun h => ?_) fun h2 => fall (fun h => ?_) fun h3 => ?_
  · have hr : row (L / 512) s = 1024 + s := if_pos (by omega)
    rw [turned_scale]
    refine turn L scale (by unfold source; rw [if_pos (by omega)]; omega) ?_ ?_
    · rw [hr, cosines, if_neg (by omega), if_pos (by omega), Nat.add_sub_cancel_left]
    · rw [hr, sines, if_neg (by omega), if_pos (by omega), Nat.add_sub_cancel_left]
  · have hr : row (L / 512) s = 9216 + s := by unfold row; rw [if_neg (by omega), if_pos (by omega)]
    refine turn (L + 4096) 1 (by unfold source; rw [if_neg (by omega), if_pos (by omega)]; omega) ?_ ?_
    · rw [hr, cosines, if_neg (by omega), if_neg (by omega), Nat.add_sub_cancel_left, mul_one]
    · rw [hr, sines, if_neg (by omega), if_neg (by omega), Nat.add_sub_cancel_left, mul_one]
  · refine plain (L + 8192) (by unfold source; rw [if_neg (by omega), if_neg (by omega), if_pos (by omega)]; omega) ?_
    unfold row; rw [if_neg (by omega), if_neg (by omega)]; omega
  · refine plain (L + 12288) (by unfold source; rw [if_neg (by omega), if_neg (by omega), if_neg (by omega)]; omega) ?_
    unfold row; rw [if_neg (by omega), if_neg (by omega)]; omega

end Cert.Streams

end
-- ==== Proof.DilHost.lean ====
/-
  What the dilated layer's projection's host code leaves in the arrays that its call reads.
-/
module

public import proofs.«01_k».proof.Proof.DilBlock
public import proofs.«01_k».proof.Proof.DilSpec

@[expose] public section

set_option maxRecDepth 16384

noncomputable section

namespace Cert.DilatedIdeal.Hand

open Cert.DilatedIdeal Cert.DilatedIdeal.Gen
open Idealize.ShloMosaic Idealize.ShloMosaic.TcCoe Idealize.SL.Sem
open Idealize.ShloMosaic.StableHlo
open Cert.Projection (angle cosAt sinAt pick)
open Cert.Streams

variable (m : (ℓ : Loc nD τ sig) → Buf (Elt Ideal) ℓ)

abbrev ax (c : Dev nD) : Vec Ideal S2x8192x4096 .f32 := m ((c : Thread nD τ).loc main_arg0)
abbrev aw (c : Dev nD) : Vec Ideal S4096x20480 .f32 := m ((c : Thread nD τ).loc main_arg1)

theorem act_apply (c : Dev nD) (b : Fin 2) (s : Fin 8192) (k : Fin 4096) :
    (V m c main_v1 : Vec Ideal S2x1x8192x4096 .bf16) (ix4 b 0 s k) = ax m c (ix3 b s k) := by
  have e : (V m c main_v1 : Vec Ideal S2x1x8192x4096 .bf16) = broadcastInDim S2x1x8192x4096 ![0, 2, 3] bcast_S2x8192x4096_S2x1x8192x4096_0_2_3 (truncf .bf16 (ax m c) bitsLt_bf16_f32 : FVec Ideal S2x8192x4096 .bf16) := by
    show StableHlo.after hostOps0 (fun b => m (c, b)) (Proc.devRef .tc main_v1) = _
    after_results
  rw [e]
  pointwise

/-- The angles: position times inverse frequency. -/
def angles : FVec Ideal S8192x64 .f32 :=
  mulf (broadcastInDim S8192x64 ![0, 1] bcast_S8192x1_S8192x64_0_1
      (broadcastInDim S8192x1 ![0] bcast_S8192_S8192x1_0
        (sitofp .f32 (shapeCast S8192 (transpose S1x8192 [1, 0] (shapeCast S8192x1 (iotaInDim S8192 32 0 : IVec S8192 32) shapeCasts_S8192_S8192x1 : IVec S8192x1 32) transposes_S8192x1_S1x8192_1_0 : IVec S1x8192 32) shapeCasts_S1x8192_S8192 : IVec S8192 32) : FVec Ideal S8192 .f32)))
    (broadcastInDim S8192x64 ![0, 1] bcast_S1x64_S8192x64_0_1
      (broadcastInDim S1x64 ![1] bcast_S64_S1x64_1
        (Host.powf (broadcastInDim S64 ![] bcast_S_S64 (constant S_ .f32 0x461C4000#32 : FVec Ideal S_ .f32))
          (Host.divf (Host.negf (sitofp .f32 (iotaInDim S64 32 0 : IVec S64 32) : FVec Ideal S64 .f32))
            (broadcastInDim S64 ![] bcast_S_S64 (constant S_ .f32 0x42800000#32 : FVec Ideal S_ .f32))))))

def cosRow : FVec Ideal S8192x128 .f32 :=
  concatenate S8192x128 1 [⟨S8192x64, (Host.cos angles : FVec Ideal S8192x64 .f32)⟩, ⟨S8192x64, (Host.cos angles : FVec Ideal S8192x64 .f32)⟩] concatenates_S8192x64_S8192x64_S8192x128_d1
def sinRow : FVec Ideal S8192x128 .f32 :=
  concatenate S8192x128 1 [⟨S8192x64, (Host.negf (Host.sin angles) : FVec Ideal S8192x64 .f32)⟩, ⟨S8192x64, (Host.sin angles : FVec Ideal S8192x64 .f32)⟩] concatenates_S8192x64_S8192x64_S8192x128_d1

abbrev fill (s : Shape) (h : S_.BroadcastsInDim s ![]) (v : BitVec 32) : FVec Ideal s .f32 := broadcastInDim s ![] h (constant S_ .f32 v : FVec Ideal S_ .f32)

def cosTab : Vec Ideal S17408x128 .f32 :=
  concatenate S17408x128 0 [⟨S1024x128, fill _ bcast_S_S1024x128 0x3F800000#32⟩,
    ⟨S8192x128, mulf cosRow (fill _ bcast_S_S8192x128 0x3DB504F3#32)⟩, ⟨S8192x128, mulf cosRow (fill _ bcast_S_S8192x128 0x3F800000#32)⟩]
    concatenates_S1024x128_S8192x128_S8192x128_S17408x128_d0
def sinTab : Vec Ideal S17408x128 .f32 :=
  concatenate S17408x128 0 [⟨S1024x128, fill _ bcast_S_S1024x128 0x00000000#32⟩,
    ⟨S8192x128, mulf sinRow (fill _ bcast_S_S8192x128 0x3DB504F3#32)⟩, ⟨S8192x128, mulf sinRow (fill _ bcast_S_S8192x128 0x3F800000#32)⟩]
    concatenates_S1024x128_S8192x128_S8192x128_S17408x128_d0

theorem cos_eq (c : Dev nD) : (V m c main_v33 : Vec Ideal S17408x128 .f32) = cosTab := by
  show StableHlo.after hostOps0 (fun b => m (c, b)) (Proc.devRef .tc main_v33) = _
  after_results_simp <;> (try dsimp only [Matrix.cons_val]) <;> (try after_results_simp) <;> rfl

theorem sin_eq (c : Dev nD) : (V m c main_v34 : Vec Ideal S17408x128 .f32) = sinTab := by
  show StableHlo.after hostOps0 (fun b => m (c, b)) (Proc.devRef .tc main_v34) = _
  after_results_simp <;> (try dsimp only [Matrix.cons_val]) <;> (try after_results_simp) <;> rfl

theorem ang_apply (s : Fin 8192) (q : Nat) (h : q < 64) : angles (ix2 s ⟨q, h⟩) = angle s.val q := by
  unfold angles
  pointwise
  rfl

theorem cosRow_apply (s : Fin 8192) (d : Fin 128) : cosRow (ix2 s d) = cosAt s.val d.val := by
  unfold cosRow cosAt
  pointwise
  simp only [ang_apply]
  rfl

theorem sinRow_apply (s : Fin 8192) (d : Fin 128) : sinRow (ix2 s d) = sinAt s.val d.val := by
  unfold sinRow sinAt
  pointwise
  simp only [ang_apply]
  rfl

theorem cosTab_apply (r : Fin 17408) (d : Fin 128) : cosTab (ix2 r d) = cosines r.val d.val := by
  unfold cosTab cosines
  pointwise
  simp only [cosRow_apply]
  refine pick Iff.rfl (fun _ => rfl) fun _ => ?_
  refine pick (by omega) (fun _ => rfl) fun _ => ?_
  exact congrArg (fun n => cosAt n d.val) (by omega)

theorem sinTab_apply (r : Fin 17408) (d : Fin 128) : sinTab (ix2 r d) = sines r.val d.val := by
  unfold sinTab sines
  pointwise
  simp only [sinRow_apply]
  refine pick Iff.rfl (fun _ => rfl) fun _ => ?_
  refine pick (by omega) (fun _ => rfl) fun _ => ?_
  exact congrArg (fun n => sinAt n d.val) (by omega)

end Cert.DilatedIdeal.Hand

end
-- ==== Proof.DilRef.lean ====
/-
  What the dilated layer's projection's reference computes, element by element.
-/
module

public import proofs.«01_k».proof.Proof.Gen.DilatedReferenceIdeal.Run
public import proofs.«01_k».proof.Proof.Gen.DilatedReferenceIdeal.Read
public import proofs.«01_k».proof.Proof.ProjRef
public import proofs.«01_k».proof.Proof.DilSpec
public import Idealize.ShloMosaic.Lib.Pipeline.Value

@[expose] public section

set_option maxRecDepth 16384

noncomputable section

namespace Cert.DilatedReferenceIdeal.Hand

open Cert.DilatedReferenceIdeal Cert.DilatedReferenceIdeal.Read
open Cert.Projection (column column_of angle turned pick)
open Cert.Streams (scale entry)
open Cert.ProjectReferenceIdeal.Hand (turn_one turned_at)
open Idealize.ShloMosaic Idealize.ShloMosaic.TcCoe Idealize.SL.Sem
open Idealize.ShloMosaic.StableHlo

variable (x0 : Vec Ideal S2x8192x4096 .f32) (x1 : Vec Ideal S4096x20480 .f32)

/-- The columns of the product, for one row of the activations. -/
abbrev cols (b : Fin 2) (s : Fin 8192) : Nat → EReal :=
  column (fun k : Fin 4096 => x0 (ix3 b s k)) (fun (k : Fin 4096) (C : Fin 20480) => x1 (ix2 k C))

theorem dot_apply (b : Fin 2) (s : Fin 8192) (n : Nat) (h : n < 20480) :
    val_main_v0 (F := Ideal) x0 x1 (ix3 b s ⟨n, h⟩) = cols x0 x1 b s n := by
  refine Eq.trans ?_ (column_of _ _ n h)
  pointwise [val_main_v0]

theorem ang_apply (s : Fin 8192) (n : Nat) (h : n < 64) : val_main_v18 (F := Ideal) (ix2 s ⟨n, h⟩) = angle s.val n := by
  pointwise [val_main_v18, val_main_v17, val_main_v16, val_main_v15, val_main_v14, val_main_v13, val_main_v12, val_main_v11, val_main_v10, val_main_v9, val_main_v8, val_main_v7, val_main_cst, val_main_cst_0, val_main_v5]
  rfl
theorem ang_apply' (s : Fin 8192) (n : Nat) (h : n < 64) : val_main_v56 (F := Ideal) (ix2 s ⟨n, h⟩) = angle s.val n :=
  ang_apply s n h

/-- The queries, turned. -/
theorem queries (b : Fin 2) (s : Fin 8192) (l : Nat) (hl : l < 2048) :
    val_main_v41 (F := Ideal) x0 x1 (ix3 b s ⟨l, hl⟩) = turned (cols x0 x1 b s) s.val 1 l l := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v6, val_main_v1]
  simp only [dot_apply, ang_apply]
  exact turn_one _ _ _ _ _ _ _ _ (by omega) (by omega)

/-- The keys, turned. -/
theorem keys (b : Fin 2) (s : Fin 8192) (l : Nat) (hl : l < 2048) :
    val_main_v79 (F := Ideal) x0 x1 (ix3 b s ⟨l, hl⟩) = turned (cols x0 x1 b s) s.val 1 (l + 6144) l := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v44, val_main_v2]
  simp only [dot_apply, ang_apply']
  exact turn_one _ _ _ _ _ _ _ _ (by omega) (by omega)

/-- The queries, scaled. -/
theorem scaled (b : Fin 2) (s : Fin 8192) (l : Nat) (hl : l < 2048) :
    val_main_v43 (F := Ideal) x0 x1 (ix3 b s ⟨l, hl⟩) = turned (cols x0 x1 b s) s.val 1 l l * scale := by
  rw [val_main_v43_apply, val_main_v42_apply, val_main_cst_1_apply, queries]
  generalize turned (cols x0 x1 b s) s.val 1 l l = z
  rfl

/-- The values. -/
theorem values (b : Fin 2) (s : Fin 8192) (l : Nat) (hl : l < 2048) :
    val_main_v80 (F := Ideal) x0 x1 (ix3 b s ⟨l, hl⟩) = cols x0 x1 b s (l + 12288) := by
  pointwise [val_main_v80, val_main_v3]
  simp only [dot_apply]
  exact congrArg (cols x0 x1 b s) (by omega)

/-- The output gates. -/
theorem gates (b : Fin 2) (s : Fin 8192) (l : Nat) (hl : l < 2048) :
    val_main_v4 (F := Ideal) x0 x1 (ix3 b s ⟨l, hl⟩) = cols x0 x1 b s (l + 18432) := by
  pointwise [val_main_v4]
  simp only [dot_apply]
  exact congrArg (cols x0 x1 b s) (by omega)

/-- The whole result. -/
theorem result_apply (b : Fin 2) (s : Fin 8192) (L : Fin 8192) :
    val_main_v83 (F := Ideal) x0 x1 (ix4 b 0 s L) = entry (cols x0 x1 b s) s.val L.val := by
  pointwise [val_main_v83, val_main_v82, val_main_v81]
  simp only [scaled, keys, values, gates]
  unfold entry
  refine pick (by omega) (fun _ => rfl) fun _ => ?_
  refine pick (by omega) (fun _ => turned_at _ _ _ (by omega) (by omega)) fun _ => ?_
  refine pick (by omega) (fun _ => congrArg (cols x0 x1 b s) (by omega)) fun _ => ?_
  exact congrArg (cols x0 x1 b s) (by omega)

end Cert.DilatedReferenceIdeal.Hand

end
-- ==== Proof.DilValue.lean ====
/-
  The array the dilated layer's projection leaves: every element is its column of the product, times the first table's entry, plus the
  column across times the second's; and the reference's array is the same.
-/
module

public import proofs.«01_k».proof.Defs
public import proofs.«01_k».proof.Proof.DilBlock
public import proofs.«01_k».proof.Proof.DilHost
public import proofs.«01_k».proof.Proof.DilRef

@[expose] public section

set_option maxRecDepth 16384

noncomputable section

namespace Cert.DilatedIdeal.Hand

open Cert.DilatedIdeal Cert.DilatedIdeal.Gen
open Idealize.ShloMosaic Idealize.ShloMosaic.TcCoe Idealize.SL.Sem
open Cert.Projection (column column_of across)
open Cert.Streams
open Cert.ProjectIdeal.Hand (partner lane)

variable (m : (ℓ : Loc nD τ sig) → Buf (Elt Ideal) ℓ)

/-- The columns of the product, for one row of the activations. -/
abbrev cols (c : Dev nD) (b : Fin 2) (s : Fin 8192) : Nat → EReal :=
  column (fun k : Fin 4096 => ax m c (ix3 b s k)) (fun (k : Fin 4096) (C : Fin 20480) => aw m c (ix2 k C))

/-- The whole result. -/
def result (c : Dev nD) : Vec Ideal S2x1x8192x8192 .bf16 := fun i =>
  show EReal from blend (cols m c (i 0) (i 2)) (i 2).val (i 3).val

theorem idx0 : ∀ t : Fin grid0.N, cc0_transform_0 (grid0.coords t) = ![t.val / 128, 0, t.val / 16 % 8, 0] := by decide +kernel
theorem idx4 : ∀ t : Fin grid0.N, cc0_transform_4 (grid0.coords t) = ![t.val / 128, 0, t.val / 16 % 8, t.val % 16] := by decide +kernel
theorem co0 (t : Fin grid0.N) : (grid0.coords t 0).val = t.val / 16 % 16 :=
  Pipeline.Grid.coords_val t 0 (by decide) rfl
theorem co1 (t : Fin grid0.N) : (grid0.coords t 1).val = t.val % 16 := by
  have := Pipeline.Grid.coords_val t 1 (S := 1) (B := 16) (by decide) rfl
  omega

theorem source_at : ∀ j : Fin 16, (lit0 j).toNat = source j.val := by decide +kernel
theorem row_eq : ∀ j : Fin 16, ∀ q : Fin 8, (lit1 j).toNat + (lit2 j).toNat * q.val = row j.val (q.val * 1024) / 1024 := by decide +kernel

variable (hO : Ok m)

theorem win0 (t : Fin (cfgM m hO).N) : @Eq (Fin 4 → Nat) (((cfgM m hO).win 0).index t) ![t.val / 128, 0, t.val / 16 % 8, 0] := idx0 t
theorem win4 (t : Fin (cfgM m hO).N) : @Eq (Fin 4 → Nat) (((cfgM m hO).win 4).index t) ![t.val / 128, 0, t.val / 16 % 8, t.val % 16] := idx4 t
theorem win1 (t : Fin (cfgM m hO).N) : @Eq (Fin 2 → Nat) (((cfgM m hO).win 1).index t) ![0, source (t.val % 16)] := by
  show cc0_transform_1 k0_off1_inb numel1_S1 (tbl m) (grid0.coords t) = _
  rw [tbl_eq, rowW, source_at]
  show ![0, source (grid0.coords t 1).val] = _
  rw [co1]
theorem win2 (t : Fin (cfgM m hO).N) : @Eq (Fin 2 → Nat) (((cfgM m hO).win 2).index t) ![row (t.val % 16) (t.val / 16 % 8 * 1024) / 1024, 0] := by
  show cc0_transform_2 k0_off1_inb numel1_S1 (tbl m) (grid0.coords t) = _
  have hq : (grid0.coords t 0).val % 8 = t.val / 16 % 8 := by rw [co0]; omega
  rw [tbl_eq, rowT, row_eq _ ⟨(grid0.coords t 0).val % 8, Nat.mod_lt _ (by decide)⟩]
  show ![row (grid0.coords t 1).val ((grid0.coords t 0).val % 8 * 1024) / 1024, 0] = _
  rw [co1, hq]
theorem win3 (t : Fin (cfgM m hO).N) : @Eq (Fin 2 → Nat) (((cfgM m hO).win 3).index t) ![row (t.val % 16) (t.val / 16 % 8 * 1024) / 1024, 0] :=
  win2 m hO t

def place0 (t : Fin (cfgM m hO).N) (y : S1x1x1024x4096.Idx) : S2x1x8192x4096.Idx := (((cfgM m hO).win 0).blk t).view.emb y

theorem blk0 (c : Dev nD) (t : Fin (cfgM m hO).N) (r : Fin 1024) (k : Fin 4096) (b : Fin 2) (s : Fin 8192)
    (hb : b.val = t.val / 128) (hs : s.val = t.val / 16 % 8 * 1024 + r.val) :
    (iblk m hO c 0 t : Vec Ideal S1x1x1024x4096 .bf16) (ix4 0 0 r k) = ax m c (ix3 b s k) := by
  unfold iblk
  rw [← act_apply]
  show (V m c main_v1 : Vec Ideal S2x1x8192x4096 .bf16) (place0 m hO t (ix4 0 0 r k)) = (V m c main_v1 : Vec Ideal S2x1x8192x4096 .bf16) _
  refine congrArg (V m c main_v1 : Vec Ideal S2x1x8192x4096 .bf16) (funext fun a => Fin.ext ?_)
  have e := win0 m hO t
  match a with
  | ⟨0, _⟩ => show ((cfgM m hO).win 0).index t (0 : Fin 4) * 1 + 1 * 0 = b.val; rw [congrFun e (0 : Fin 4)]; show t.val / 128 * 1 + 1 * 0 = _; omega
  | ⟨1, _⟩ => show ((cfgM m hO).win 0).index t (1 : Fin 4) * 1 + 1 * 0 = 0; rw [congrFun e (1 : Fin 4)]; rfl
  | ⟨2, _⟩ => show ((cfgM m hO).win 0).index t (2 : Fin 4) * 1024 + 1 * r.val = s.val; rw [congrFun e (2 : Fin 4)]; show t.val / 16 % 8 * 1024 + 1 * r.val = _; omega
  | ⟨3, _⟩ => show ((cfgM m hO).win 0).index t (3 : Fin 4) * 4096 + 1 * k.val = k.val; rw [congrFun e (3 : Fin 4)]; show 0 * 4096 + 1 * k.val = _; omega

def place1 (t : Fin (cfgM m hO).N) (y : S4096x512.Idx) : S4096x20480.Idx := (((cfgM m hO).win 1).blk t).view.emb y

theorem blk1 (c : Dev nD) (t : Fin (cfgM m hO).N) (k : Fin 4096) (l : Fin 512) (n : Fin 20480)
    (h : n.val = source (t.val % 16) * 512 + l.val) :
    (iblk m hO c 1 t : Vec Ideal S4096x512 .f32) (ix2 k l) = aw m c (ix2 k n) := by
  unfold iblk
  refine Eq.trans ?_ (congrFun (V_main_arg1 m c) (ix2 k n))
  show (V m c main_arg1 : Vec Ideal S4096x20480 .f32) (place1 m hO t (ix2 k l)) = (V m c main_arg1 : Vec Ideal S4096x20480 .f32) _
  refine congrArg (V m c main_arg1 : Vec Ideal S4096x20480 .f32) (funext fun a => Fin.ext ?_)
  have e := win1 m hO t
  match a with
  | ⟨0, _⟩ => show ((cfgM m hO).win 1).index t (0 : Fin 2) * 4096 + 1 * k.val = k.val; rw [congrFun e (0 : Fin 2)]; show 0 * 4096 + 1 * k.val = _; omega
  | ⟨1, _⟩ => show ((cfgM m hO).win 1).index t (1 : Fin 2) * 512 + 1 * l.val = n.val; rw [congrFun e (1 : Fin 2), h]
              show source (t.val % 16) * 512 + 1 * l.val = _; omega

def place2 (t : Fin (cfgM m hO).N) (y : S1024x128.Idx) : S17408x128.Idx := (((cfgM m hO).win 2).blk t).view.emb y

theorem blk2 (c : Dev nD) (t : Fin (cfgM m hO).N) (r : Fin 1024) (d : Fin 128) (s : Nat)
    (hs : s = t.val / 16 % 8 * 1024 + r.val) :
    (iblk m hO c 2 t : Vec Ideal S1024x128 .f32) (ix2 r d) = cosines (row (t.val % 16) s) d.val := by
  unfold iblk
  refine Eq.trans ?_ (cosTab_apply ⟨row (t.val % 16) s, row_lt _ _ (by omega)⟩ d)
  rw [← cos_eq m c]
  show (V m c main_v33 : Vec Ideal S17408x128 .f32) (place2 m hO t (ix2 r d)) = (V m c main_v33 : Vec Ideal S17408x128 .f32) _
  refine congrArg (V m c main_v33 : Vec Ideal S17408x128 .f32) (funext fun a => Fin.ext ?_)
  have e := win2 m hO t
  have h := row_split (t.val % 16) s r.val r.isLt (by omega)
  rw [show s / 1024 = t.val / 16 % 8 by omega] at h
  match a with
  | ⟨0, _⟩ => show ((cfgM m hO).win 2).index t (0 : Fin 2) * 1024 + 1 * r.val = row (t.val % 16) s; rw [congrFun e (0 : Fin 2), h]
              show row (t.val % 16) (t.val / 16 % 8 * 1024) / 1024 * 1024 + 1 * r.val = _; omega
  | ⟨1, _⟩ => show ((cfgM m hO).win 2).index t (1 : Fin 2) * 128 + 1 * d.val = d.val; rw [congrFun e (1 : Fin 2)]; show 0 * 128 + 1 * d.val = _; omega

def place3 (t : Fin (cfgM m hO).N) (y : S1024x128.Idx) : S17408x128.Idx := (((cfgM m hO).win 3).blk t).view.emb y

theorem blk3 (c : Dev nD) (t : Fin (cfgM m hO).N) (r : Fin 1024) (d : Fin 128) (s : Nat)
    (hs : s = t.val / 16 % 8 * 1024 + r.val) :
    (iblk m hO c 3 t : Vec Ideal S1024x128 .f32) (ix2 r d) = sines (row (t.val % 16) s) d.val := by
  unfold iblk
  refine Eq.trans ?_ (sinTab_apply ⟨row (t.val % 16) s, row_lt _ _ (by omega)⟩ d)
  rw [← sin_eq m c]
  show (V m c main_v34 : Vec Ideal S17408x128 .f32) (place3 m hO t (ix2 r d)) = (V m c main_v34 : Vec Ideal S17408x128 .f32) _
  refine congrArg (V m c main_v34 : Vec Ideal S17408x128 .f32) (funext fun a => Fin.ext ?_)
  have e := win3 m hO t
  have h := row_split (t.val % 16) s r.val r.isLt (by omega)
  rw [show s / 1024 = t.val / 16 % 8 by omega] at h
  match a with
  | ⟨0, _⟩ => show ((cfgM m hO).win 3).index t (0 : Fin 2) * 1024 + 1 * r.val = row (t.val % 16) s; rw [congrFun e (0 : Fin 2), h]
              show row (t.val % 16) (t.val / 16 % 8 * 1024) / 1024 * 1024 + 1 * r.val = _; omega
  | ⟨1, _⟩ => show ((cfgM m hO).win 3).index t (1 : Fin 2) * 128 + 1 * d.val = d.val; rw [congrFun e (1 : Fin 2)]; show 0 * 128 + 1 * d.val = _; omega

/-- Where an element of the output block of a grid point lies in the result. -/
def place (t : Fin (cfgM m hO).N) (y : S1x1x1024x512.Idx) : S2x1x8192x8192.Idx := (((cfgM m hO).win 4).blk t).view.emb y

/-- One product over the blocks is a column of the whole product. -/
theorem product_eq (c : Dev nD) (t : Fin (cfgM m hO).N) (r : Fin 1024) (l : Fin 512) (b : Fin 2) (s : Fin 8192)
    (hb : b.val = t.val / 128) (hs : s.val = t.val / 16 % 8 * 1024 + r.val) :
    product (iblk m hO c 0 t) (iblk m hO c 1 t) r l = cols m c b s (source (t.val % 16) * 512 + l.val) := by
  have hl : source (t.val % 16) * 512 + l.val < 20480 := by
    have := source_lt (t.val % 16) (by omega)
    omega
  refine Eq.trans ?_ (column_of _ _ _ hl)
  exact Finset.sum_congr rfl fun k _ => congrArg₂ (α := EReal) (β := EReal) (γ := EReal) (· * ·)
    (blk0 m hO c t r k b s hb hs) (blk1 m hO c t k l ⟨_, hl⟩ rfl)

theorem flushed_eq (c : Dev nD) (t : Fin (cfgM m hO).N) :
    (dats m hO 0 c).flushed 4 t = (((cfgM m hO).win 4).blk t).view.read (Elt Ideal) (result m c) := by
  have hN : (cfgM m hO).N = 256 := N_0
  have e := win4 m hO t
  have f : (dats m hO 0 c).flushed 4 t = outsAt0 m hO c t := by
    show ((cfgM m hO).win 4).cut (grid0.coords t) ((dats m hO 0 c).after 4 t) = _
    rw [after0_4]
    rfl
  rw [f]
  funext y
  have y0 : (y 0 : Nat) < 1 := (y 0).isLt
  have y2 : (y 2 : Nat) < 1024 := (y 2).isLt
  have y3 : (y 3 : Nat) < 512 := (y 3).isLt
  have e0 : (place m hO t y 0).val = t.val / 128 := by
    show ((cfgM m hO).win 4).index t (0 : Fin 4) * 1 + 1 * (y 0).val = _
    rw [congrFun e (0 : Fin 4)]; show t.val / 128 * 1 + 1 * (y 0).val = _; omega
  have e2 : (place m hO t y 2).val = t.val / 16 % 8 * 1024 + (y 2).val := by
    show ((cfgM m hO).win 4).index t (2 : Fin 4) * 1024 + 1 * (y 2).val = _
    rw [congrFun e (2 : Fin 4)]; show t.val / 16 % 8 * 1024 + 1 * (y 2).val = _; omega
  have e3 : (place m hO t y 3).val = t.val % 16 * 512 + (y 3).val := by
    show ((cfgM m hO).win 4).index t (3 : Fin 4) * 512 + 1 * (y 3).val = _
    rw [congrFun e (3 : Fin 4)]; show t.val % 16 * 512 + 1 * (y 3).val = _; omega
  show outsAt0 m hO c t y = result m c (place m hO t y)
  generalize place m hO t y = i at e0 e2 e3 ⊢
  refine (out_apply _ _ _ _ _ _ _ _ _ _ _ _ _ _ _ _ _ _ _ _).trans ?_
  show (show EReal from product _ _ (y 2) (y 3) * _ + product _ _ (y 2) (partner (y 3)) * _) = blend (cols m c (i 0) (i 2)) (i 2).val (i 3).val
  rw [product_eq m hO c t (y 2) (y 3) (i 0) (i 2) e0 e2, product_eq m hO c t (y 2) (partner (y 3)) (i 0) (i 2) e0 e2,
    blk2 m hO c t (y 2) (lane (y 3)) _ e2, blk3 m hO c t (y 2) (lane (y 3)) _ e2]
  unfold blend
  rw [show (i 3).val / 512 = t.val % 16 by omega, show (i 3).val % 512 = (y 3).val by omega, show (i 3).val % 128 = (lane (y 3)).val by
    show _ = (y 3).val % 128; omega]
  rfl

theorem cover (i : S2x1x8192x8192.Idx) :
    ∃ t : Fin (cfgM m hO).N, ((cfgM m hO).win 4).flush t = true ∧ i ∈ (((cfgM m hO).win 4).blk t).view.set := by
  have h0 : (i 0 : Nat) < 2 := (i 0).isLt
  have h1 : (i 1 : Nat) < 1 := (i 1).isLt
  have h2 : (i 2 : Nat) < 8192 := (i 2).isLt
  have h3 : (i 3 : Nat) < 8192 := (i 3).isLt
  have hN : (cfgM m hO).N = 256 := N_0
  let t : Fin (cfgM m hO).N := ⟨((i 0 : Nat) * 8 + (i 2 : Nat) / 1024) * 16 + (i 3 : Nat) / 512, by omega⟩
  have e := win4 m hO t
  have q0 : ((cfgM m hO).win 4).index t (0 : Fin 4) = (i 0 : Nat) := (congrFun e (0 : Fin 4)).trans (by show t.val / 128 = _; dsimp only [t]; omega)
  have q1 : ((cfgM m hO).win 4).index t (1 : Fin 4) = 0 := (congrFun e (1 : Fin 4)).trans rfl
  have q2 : ((cfgM m hO).win 4).index t (2 : Fin 4) = (i 2 : Nat) / 1024 := (congrFun e (2 : Fin 4)).trans (by show t.val / 16 % 8 = _; dsimp only [t]; omega)
  have q3 : ((cfgM m hO).win 4).index t (3 : Fin 4) = (i 3 : Nat) / 512 := (congrFun e (3 : Fin 4)).trans (by show t.val % 16 = _; dsimp only [t]; omega)
  refine ⟨t, flush0_4 _ t, ?_⟩
  refine (Finset.ext_iff.mp (View.set_slice_whole main_v35 (((cfgM m hO).win 4).rect t)) i).mpr (Rect.mem_set_unit.mpr fun a => ?_)
  match a with
  | ⟨0, _⟩ => show ((cfgM m hO).win 4).index t (0 : Fin 4) * 1 ≤ (i 0 : Nat) ∧ (i 0 : Nat) < ((cfgM m hO).win 4).index t (0 : Fin 4) * 1 + 1
              rw [q0]; omega
  | ⟨1, _⟩ => show ((cfgM m hO).win 4).index t (1 : Fin 4) * 1 ≤ (i 1 : Nat) ∧ (i 1 : Nat) < ((cfgM m hO).win 4).index t (1 : Fin 4) * 1 + 1
              rw [q1]; omega
  | ⟨2, _⟩ => show ((cfgM m hO).win 4).index t (2 : Fin 4) * 1024 ≤ (i 2 : Nat) ∧ (i 2 : Nat) < ((cfgM m hO).win 4).index t (2 : Fin 4) * 1024 + 1024
              rw [q2]; omega
  | ⟨3, _⟩ => show ((cfgM m hO).win 4).index t (3 : Fin 4) * 512 ≤ (i 3 : Nat) ∧ (i 3 : Nat) < ((cfgM m hO).win 4).index t (3 : Fin 4) * 512 + 512
              rw [q3]; omega

theorem final (c : Dev nD) : (dats m hO 0 c).arrAt 4 (cfgM m hO).N = result m c :=
  (dats m hO 0 c).arrAt_eq_of_cover 4 (result m c) (fun t _ => flushed_eq m hO c t) (cover m hO)

/-- The reference's result is the same array. -/
theorem reference_eq (c : Dev nD) : Cert.DilatedReferenceIdeal.Read.val_main_v83 (ax m c) (aw m c) = result m c := by
  funext i
  have h1 : (i 1).val = 0 := by have : (i 1).val < 1 := (i 1).isLt; omega
  have hi : i = ix4 (i 0) 0 (i 2) (i 3) := funext fun a => match a with
    | ⟨0, _⟩ => rfl
    | ⟨1, _⟩ => Fin.ext h1
    | ⟨2, _⟩ => rfl
    | ⟨3, _⟩ => rfl
  rw [hi]
  refine (Cert.DilatedReferenceIdeal.Hand.result_apply (ax m c) (aw m c) (i 0) (i 2) (i 3)).trans ?_
  exact (blend_eq (cols m c (i 0) (i 2)) (i 2).val (i 3).val (i 2).isLt (i 3).isLt).symm

/-- Both programs end, the arguments unchanged, with the same projection. -/
theorem algebraic : Cert.algebraic_DilatedIdeal_DilatedReferenceIdeal (hDilatedIdeal := Cert.DilatedIdeal.Gen.facts)
    (hDilatedReferenceIdeal := Cert.DilatedReferenceIdeal.Gen.facts) := by
  intro m g m' g' _ hargs
  refine ⟨fun c => result m c, (θ_run _ _ _).mono (fun r h c => ?_) (θ_run_and (run_main (F := Ideal) m g (ok m)) (unchanged m g (ok m))),
    (θ_run _ _ _).mono (fun r h c => ?_) (Cert.DilatedReferenceIdeal.Value.run (F := Ideal) m' g')⟩
  · exact ⟨((h.1 c).1 4).trans (final m (ok m) c), h.2 c⟩
  · obtain ⟨hv, h0⟩ := h c
    refine ⟨hv.trans ?_, h0⟩
    rw [Cert.DilatedReferenceIdeal.Read.val_main_v83_eq, (hargs c).1, (hargs c).2]
    exact reference_eq m c

end Cert.DilatedIdeal.Hand

end
-- ==== Proof.StrRuns.lean ====
/-
  The dilation-4 projection's run, first part: the arrays at the call, the pipeline at the prefetched tables'
  contents, and the windows' staging buffers.
-/
module

public import proofs.«01_k».proof.Proof.Gen.SpreadIdeal.Launch
public import proofs.«01_k».proof.Proof.Gen.SpreadIdeal.Skeleton
public import proofs.«01_k».proof.Proof.Gen.SpreadIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.SpreadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The run holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_c
abbrev htbM0_0 : tbM0_0.IsWhole := Memref.isWhole_whole _
abbrev tbM0_1 : Memref sig .tc .smem S12 .i32 := Memref.whole main_c_0
abbrev htbM0_1 : tbM0_1.IsWhole := Memref.isWhole_whole _
abbrev tbM0_2 : Memref sig .tc .smem S12 .i32 := Memref.whole main_c_1
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_SpreadIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (by decide : main_arg0 ∈ Pipeline.restRefs sig spec0)).trans (V_main_arg0 m c),
      ((h c).1 1).trans (((dats 0 c).arrAt_in 1 rfl _).trans ((hA c 1).trans (V_main_arg1 m c)))⟩) h

/-! ## The kernel body on any staging memrefs: a subtype the run finds -/

/-- One staging buffer of output window 4, through which its contents are stated (`View.read_writes_of_cover`: the
    choice does not matter). -/
abbrev VO0_4 : View sig .tc .vmem S1x1x1024x512 .bf16 := (Memref.whole cc0_stg4_0 : Memref sig .tc .vmem S1x1x1024x512 .bf16).view
/-- Each window's current staging memref at point `t`, spelled as the pipeline passes it (`bodyAt0`), and its wholeness. -/
abbrev ms0_0 (hO : Ok m) (t : Fin (cfgM m hO).N) : Memref sig .tc .vmem S1x1x1024x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.SpreadIdeal.Gen

end
-- ==== Proof.StrRunA.lean ====
/-
  The dilation-4 projection's run, second part: the body walked once, at any grid point.
-/
module

public import proofs.«01_k».proof.Proof.StrRuns

@[expose] public section

-- membership in a rectangle of production extents (`View.cover_of_tiled`): the elaborator's structural look
-- recurses once per coordinate of the long axes
set_option maxRecDepth 16384

noncomputable section

namespace Cert.SpreadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg5 : Memref sig .tc .vmem S1x1x1024x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) :
    { L4 : List (View.Piece (Elt F) S1x1x1024x512 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} arg9.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_proj_d4_n6144 i tbM0_0 htbM0_0 tbM0_1 htbM0_1 tbM0_2 htbM0_2 arg5 harg5 arg6 harg6 arg7 harg7 arg8 harg8 arg9 harg9) K } := by
  refine ⟨?_, fun E K => ?run⟩
  case run =>
    simp only [cc0_proj_d4_n6144_eq_skeleton]; unfold cc0_proj_d4_n6144_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg5.eq_unread hf0; obtain rfl := harg6.eq_unread hf1; obtain rfl := harg7.eq_unread hf2; obtain rfl := harg8.eq_unread hf3
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexists _; iexact H4
    isplitl [HT0]; · iexact HT0
    isplitl [HT1]; · iexact HT1
    iexact HT2

end Cert.SpreadIdeal.Gen

end
-- ==== Proof.StrFrame.lean ====
/-
  The dilation-4 projection's run, last part: what the output block holds at each grid point, the pipeline's data,
  the launch, and the arguments left unchanged, for prefetched tables that keep every block inside its array.
-/
module

public import proofs.«01_k».proof.Proof.StrRunA
public import Idealize.ShloMosaic.Lib.Claim

@[expose] public section

-- membership in a rectangle of production extents (`View.cover_of_tiled`): the elaborator's structural look
-- recurses once per coordinate of the long axes
set_option maxRecDepth 16384

noncomputable section

namespace Cert.SpreadIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (16 stores of `S1x1x256x128`, checked by the kernel's evaluation: Lib/Ring.lean `Piece.tiledL`, linear in the pieces, through a loop's `@[irreducible]` trip theorem too), so they cover it. -/
theorem cover0_A_4 (c : Dev nD) (i : grid0.Coords) (arg5 : Memref sig .tc .vmem S1x1x1024x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) (y : S1x1x1024x512.Idx) :
    ∃ pc ∈ (kernelRun0_A c i arg5 harg5 arg6 harg6 arg7 harg7 arg8 harg8 arg9 harg9 x0 x1 x2 x3 xt0 xt1 xt2).1, y ∈ pc.1.set :=
  View.cover_of_tiledL (kernelRun0_A c i arg5 harg5 arg6 harg6 arg7 harg7 arg8 harg8 arg9 harg9 x0 x1 x2 x3 xt0 xt1 xt2).1 S1x1x256x128.size (by sl_kernel_rfl) y

/-- What the run leaves in output 4's staging buffer: its pieces read back over junk. -/
def out0_A_4 (c : Dev nD) (i : grid0.Coords) (arg5 : Memref sig .tc .vmem S1x1x1024x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024x512 .bf16) (harg9 : arg9.IsWhole)
    (x0 : Vec F S1x1x1024x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) : Vec F S1x1x1024x512 .bf16 :=
  VO0_4.read (Elt F) (VO0_4.writes (Elt F) VO0_4.junk (kernelRun0_A c i arg5 harg5 arg6 harg6 arg7 harg7 arg8 harg8 arg9 harg9 x0 x1 x2 x3 xt0 xt1 xt2).1)

/-! ## What the outputs hold after each point -/

/-- What the outputs' staging buffers hold after the body at point `t`: the run's contents at
    the point's memrefs and input blocks. -/
def outsAt0 (hO : Ok m) (c : Dev nD) (t : Fin (cfgM m hO).N) : Vec F S1x1x1024x512 .bf16 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  unfold out0_A_4
  iintro ⟨⟨HΦ, ⟨HT0, HT1, HT2⟩⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m hO c 0 t) (iblk m hO c 1 t) (iblk m hO c 2 t) (iblk m hO c 3 t) (tbl m 0) (tbl m 1) (tbl m 2)).2 Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  isplitl [HT2]; · iexact HT2
  iintro ⟨H0, H1, H2, H3, ⟨%e4, H4⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

/-- The arguments end unchanged and every counter at zero, for any values, under the prefetched tables' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO) ((θ_run defs _ _).mono (fun _ h => h.2) (run_main_quiescent m ρ hO))

end Cert.SpreadIdeal.Gen

end
-- ==== Proof.StrTables.lean ====
/-
  The dilation-4 projection's three tables hold constants, so every block it asks for lies inside its array.
-/
module

public import proofs.«01_k».proof.Proof.StrFrame
public import Idealize.ShloMosaic.Lib.Pipeline.Value
public import Idealize.ShloMosaic.PureOps.Ideal.Laws

@[expose] public section

set_option maxRecDepth 16384

noncomputable section

namespace Cert.SpreadIdeal.Hand

open Cert.SpreadIdeal Cert.SpreadIdeal.Gen
open Idealize.ShloMosaic Idealize.ShloMosaic.TcCoe Idealize.SL.Sem
open Idealize.ShloMosaic.StableHlo

variable {F : FTy → Type} [FloatOps F]

/-- The tables' contents: which weight block a tile reads, where its rotary rows start, and whether they move. -/
def words : pre0.Contents (Elt F)
  | ⟨0, _⟩ => fun i : S12.Idx => lit0 (S12.rowMajor i)
  | ⟨1, _⟩ => fun i : S12.Idx => lit1 (S12.rowMajor i)
  | ⟨2, _⟩ => fun i : S12.Idx => lit2 (S12.rowMajor i)

theorem tbl_eq (m : (ℓ : Loc nD τ sig) → Buf (Elt F) ℓ) : tbl m = words := by
  funext j
  match j with
  | ⟨0, _⟩ => show StableHlo.after hostOps0 (fun b => m (0, b)) (Proc.devRef .tc main_c) = _; after_results; rfl
  | ⟨1, _⟩ => show StableHlo.after hostOps0 (fun b => m (0, b)) (Proc.devRef .tc main_c_0) = _; after_results; rfl
  | ⟨2, _⟩ => show StableHlo.after hostOps0 (fun b => m (0, b)) (Proc.devRef .tc main_c_1) = _; after_results; rfl

theorem spot (i : grid0.Coords) (x : (Rect.unit (s := S12) (k0_off1 i) S1.size (k0_off1_inb i)).shape.Idx) :
    S12.rowMajor ((Rect.unit (s := S12) (k0_off1 i) S1.size (k0_off1_inb i)).idx x) = (⟨(i 1).val, (i 1).isLt⟩ : Fin 12) := by
  refine Fin.ext ?_
  have hx : (x 0).val = 0 := by have : (x 0).val < 1 := (x 0).isLt; omega
  have ho : k0_off1 i 0 = (i 1).val := congrFun (k0_off1_eq i) 0
  rw [Shape.rowMajor_val_one]
  show k0_off1 i 0 + 1 * (x 0).val = (i 1).val
  rw [hx, ho]; omega

theorem at0 (i : grid0.Coords) : (words (F := F)).at 0 (Rect.unit (s := S12) (k0_off1 i) S1.size (k0_off1_inb i)) numel1_S1 = lit0 ⟨(i 1).val, (i 1).isLt⟩ :=
  congrArg lit0 (spot i _)
theorem at1 (i : grid0.Coords) : (words (F := F)).at 1 (Rect.unit (s := S12) (k0_off1 i) S1.size (k0_off1_inb i)) numel1_S1 = lit1 ⟨(i 1).val, (i 1).isLt⟩ :=
  congrArg lit1 (spot i _)
theorem at2 (i : grid0.Coords) : (words (F := F)).at 2 (Rect.unit (s := S12) (k0_off1 i) S1.size (k0_off1_inb i)) numel1_S1 = lit2 ⟨(i 1).val, (i 1).isLt⟩ :=
  congrArg lit2 (spot i _)

theorem rowW (i : grid0.Coords) : cc0_transform_1 k0_off1_inb numel1_S1 (words (F := F)) i = ![0, (lit0 ⟨(i 1).val, (i 1).isLt⟩).toNat] := by
  refine Eq.trans ?_ (congrArg (fun v : BitVec 32 => ![0, v.toNat]) (at0 (F := F) i))
  rfl

theorem rowT_ideal : ∀ i : grid0.Coords, cc0_transform_2 k0_off1_inb numel1_S1 (words (F := Ideal)) i
    = ![(lit1 ⟨(i 1).val, (i 1).isLt⟩).toNat + (lit2 ⟨(i 1).val, (i 1).isLt⟩).toNat * ((i 0).val % 8), 0] := by
  decide +kernel

theorem rowT (i : grid0.Coords) : cc0_transform_2 k0_off1_inb numel1_S1 (words (F := F)) i
    = ![(lit1 ⟨(i 1).val, (i 1).isLt⟩).toNat + (lit2 ⟨(i 1).val, (i 1).isLt⟩).toNat * ((i 0).val % 8), 0] :=
  rowT_ideal i

theorem rowT3 (i : grid0.Coords) : cc0_transform_3 k0_off1_inb numel1_S1 (words (F := F)) i
    = ![(lit1 ⟨(i 1).val, (i 1).isLt⟩).toNat + (lit2 ⟨(i 1).val, (i 1).isLt⟩).toNat * ((i 0).val % 8), 0] :=
  rowT_ideal i

theorem wide : ∀ j : Fin 12, (lit0 j).toNat < 40 := by decide +kernel
theorem tall : ∀ j : Fin 12, (lit1 j).toNat + (lit2 j).toNat * 7 < 17 ∧ (lit2 j).toNat ≤ 1 := by decide +kernel

theorem ok (m : (ℓ : Loc nD τ sig) → Buf (Elt F) ℓ) : Ok m := by
  show ok0 (tbl m)
  rw [tbl_eq]
  have hT : ∀ i : grid0.Coords, ∀ a, (cc0_transform_2 k0_off1_inb numel1_S1 (words (F := F)) i a + 1) * S1024x128.size a ≤ S17408x128.size a := by
    intro i
    have h := tall ⟨(i 1).val, (i 1).isLt⟩
    have h' : (i 0).val % 8 ≤ 7 := by omega
    rw [rowT]
    intro a
    match a with
    | ⟨0, _⟩ =>
      show (_ + _ * _ + 1) * 1024 ≤ 17408
      have := Nat.mul_le_mul_left (lit2 ⟨(i 1).val, (i 1).isLt⟩).toNat h'
      omega
    | ⟨1, _⟩ => show (0 + 1) * 128 ≤ 128; omega
  refine ⟨fun i => ⟨?_, .inl rfl⟩, fun i => ⟨hT i, .inl rfl⟩, fun i => ⟨hT i, .inl rfl⟩⟩
  have h := wide ⟨(i 1).val, (i 1).isLt⟩
  rw [rowW]
  intro a
  match a with
  | ⟨0, _⟩ => show (0 + 1) * 4096 ≤ 4096; omega
  | ⟨1, _⟩ => show ((lit0 ⟨(i 1).val, (i 1).isLt⟩).toNat + 1) * 512 ≤ 20480; omega

end Cert.SpreadIdeal.Hand

end
-- ==== Proof.StrSame.lean ====
module

public import proofs.«01_k».proof.Defs
public import proofs.«01_k».proof.Proof.Gen.Spread
public import proofs.«01_k».proof.Proof.StrFrame
public import proofs.«01_k».proof.Proof.StrTables
public import proofs.«01_k».proof.Proof.Gen.SpreadReferenceIdeal.Run

/-!
# The dilation-4 projection as printed and its ideal reading are one program

At words the two printed texts of the projection coincide, so the run proved once, for any values, is the
run of both.
-/

@[expose] public section

noncomputable section

namespace Cert.Spread

open Idealize.ShloMosaic Idealize.SL.Sem

set_option maxRecDepth 65536
set_option maxHeartbeats 4000000

attribute [local instance] Cert.Spread.Gen.facts Cert.SpreadIdeal.Gen.facts

theorem body_eq : @Cert.Spread.cc0_proj_d4_n6144 Bits _ _ = @Cert.SpreadIdeal.cc0_proj_d4_n6144 Bits _ _ := rfl

theorem rows_eq : @Cert.Spread.defs₀ Bits _ _ = @Cert.SpreadIdeal.defs₀ Bits _ _ := by
  unfold Cert.Spread.defs₀ Cert.SpreadIdeal.defs₀
  rw [body_eq]
  refine congrArg Defs.onTc (funext fun l => ?_)
  match l with
  | 0 => exact funext fun ⟨t, s⟩ => rfl

theorem defs_eq : @Cert.Spread.defs Bits _ _ = @Cert.SpreadIdeal.defs Bits _ _ := by
  unfold Cert.Spread.defs Cert.SpreadIdeal.defs
  exact congrArg (Pipeline.defs (Cert.SpreadIdeal.pcfgs (F := Bits))) rows_eq

theorem host_eq : @Cert.Spread.main Bits _ _ = @Cert.SpreadIdeal.main Bits _ _ := rfl

/-- The projection at words ends with its arguments unchanged and every counter at zero. -/
theorem run_words : Cert.quiescent_Spread (hSpread := Cert.Spread.Gen.facts) := fun m g _ => by
  have h := Cert.SpreadIdeal.Gen.frame (F := Bits) m g (Cert.SpreadIdeal.Hand.ok m)
  rw [← defs_eq, ← host_eq] at h
  exact h

/-- The same of its ideal reading. -/
theorem run_ideal : Cert.quiescent_SpreadIdeal (hSpreadIdeal := Cert.SpreadIdeal.Gen.facts) := fun m g _ =>
  Cert.SpreadIdeal.Gen.frame (F := Ideal) m g (Cert.SpreadIdeal.Hand.ok m)

/-- The reference ends with its arguments unchanged and every counter at zero. -/
theorem run_reference : Cert.quiescent_SpreadReferenceIdeal (hSpreadReferenceIdeal := Cert.SpreadReferenceIdeal.Gen.facts) := fun m g _ =>
  (θ_run _ _ _).mono (fun r h => ⟨fun c => (h c).2, Idealize.ShloMosaic.sem_eq_zero_of_no_sems (by decide) r.2⟩)
    (Cert.SpreadReferenceIdeal.Value.run (F := Ideal) m g)

end Cert.Spread

end
-- ==== Proof.StrBlock.lean ====
/-
  The block the dilation-4 projection's body leaves: each product row and column, times the cosine row, plus the product at the
  column half a head away, times the sine row.
-/
module

public import proofs.«01_k».proof.Proof.StrTables
public import proofs.«01_k».proof.Proof.DilBlock
public import Idealize.ShloMosaic.Lib.Pointwise
public import Idealize.ShloMosaic.Lib.Pipeline.Value

@[expose] public section

set_option maxRecDepth 16384

noncomputable section

namespace Cert.SpreadIdeal.Hand

open Cert.SpreadIdeal Cert.SpreadIdeal.Gen
open Cert.ProjectIdeal.Hand (partner lane)
open Cert.DilatedIdeal.Hand (blockVal fit)
open Idealize.ShloMosaic Idealize.ShloMosaic.TcCoe Idealize.SL.Sem

set_option maxHeartbeats 2000000 in
/-- The body's block, at each of its elements. -/
theorem out_apply (c : Dev nD) (i : grid0.Coords) (a5 : Memref sig .tc .vmem S1x1x1024x4096 .bf16) (h5 : a5.IsWhole)
    (a6 : Memref sig .tc .vmem S4096x512 .f32) (h6 : a6.IsWhole) (a7 : Memref sig .tc .vmem S1024x128 .f32) (h7 : a7.IsWhole)
    (a8 : Memref sig .tc .vmem S1024x128 .f32) (h8 : a8.IsWhole) (a9 : Memref sig .tc .vmem S1x1x1024x512 .bf16) (h9 : a9.IsWhole)
    (x0 : Vec Ideal S1x1x1024x4096 .bf16) (x1 : Vec Ideal S4096x512 .f32) (x2 x3 : Vec Ideal S1024x128 .f32)
    (t0 : TbBuf0 (F := Ideal) c tbM0_0) (t1 : TbBuf0 (F := Ideal) c tbM0_1) (t2 : TbBuf0 (F := Ideal) c tbM0_2) (y : S1x1x1024x512.Idx) :
    out0_A_4 (F := Ideal) c i a5 h5 a6 h6 a7 h7 a8 h8 a9 h9 x0 x1 x2 x3 t0 t1 t2 y = blockVal x0 x1 x2 x3 y := by
  unfold out0_A_4
  rw [View.read_writes_eq_canon _ _ _ (cover0_A_4 c i a5 h5 a6 h6 a7 h7 a8 h8 a9 h9 x0 x1 x2 x3 t0 t1 t2)]
  refine View.canon_apply_of_pieces (Val := Elt Ideal) (blockVal x0 x1 x2 x3) _ (fun p hp x => ?_) y
    (cover0_A_4 c i a5 h5 a6 h6 a7 h7 a8 h8 a9 h9 x0 x1 x2 x3 t0 t1 t2 y)
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  all_goals
    sl_unfold_words
    simp only [View.readAt_eq_ld, h5.read_unread, h6.read_unread, h7.read_unread, h8.read_unread]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    have hx : (x 3).val < 128 := (x 3).isLt
    exact fit _ _ _ _ _ _ _ _ _ (by simp) (by simp) (by simp [partner] <;> omega) (by simp [lane] <;> omega)

end Cert.SpreadIdeal.Hand

end
-- ==== Proof.StrSpec.lean ====
/-
  The order of the positions in the projection for the heads of dilation 4: row `p` of a batch's four streams holds
  position `p % 2048 * 4 + p / 2048`, and the tables of angles are in that order.
-/
module

public import proofs.«01_k».proof.Proof.DilSpec

@[expose] public section

noncomputable section

namespace Cert.Streams

open Idealize.ShloMosaic
open Cert.Projection

/-- The position that row `p` of the four streams, one after the other, holds. -/
def spread (p : Nat) : Nat := p % 2048 * 4 + p / 2048

theorem spread_lt (p : Nat) (hp : p < 8192) : spread p < 8192 := by
  unfold spread; omega

/-- Row `r` of the joined tables, the positions in the order `f`. -/
def cosBy (f : Nat → Nat) (r d : Nat) : EReal :=
  if r < 1024 then 1 else if r < 9216 then cosAt (f (r - 1024)) d * scale else cosAt (f (r - 9216)) d
def sinBy (f : Nat → Nat) (r d : Nat) : EReal :=
  if r < 1024 then 0 else if r < 9216 then sinAt (f (r - 1024)) d * scale else sinAt (f (r - 9216)) d

/-- The row that a tile reads for `p` holds the angles of `p`'s position. -/
theorem cosBy_row (f : Nat → Nat) (j p d : Nat) (hp : p < 8192) (h : f p < 8192) : cosBy f (row j p) d = cosines (row j (f p)) d := by
  unfold cosBy cosines row
  by_cases h1 : j < 4
  · simp only [if_pos h1]
    rw [if_neg (by omega), if_pos (by omega), if_neg (by omega), if_pos (by omega), Nat.add_sub_cancel_left, Nat.add_sub_cancel_left]
  · by_cases h2 : j < 8
    · simp only [if_neg h1, if_pos h2]
      rw [if_neg (by omega), if_neg (by omega), if_neg (by omega), if_neg (by omega), Nat.add_sub_cancel_left, Nat.add_sub_cancel_left]
    · simp only [if_neg h1, if_neg h2]
      rw [if_pos (Nat.mod_lt _ (by decide)), if_pos (Nat.mod_lt _ (by decide))]

theorem sinBy_row (f : Nat → Nat) (j p d : Nat) (hp : p < 8192) (h : f p < 8192) : sinBy f (row j p) d = sines (row j (f p)) d := by
  unfold sinBy sines row
  by_cases h1 : j < 4
  · simp only [if_pos h1]
    rw [if_neg (by omega), if_pos (by omega), if_neg (by omega), if_pos (by omega), Nat.add_sub_cancel_left, Nat.add_sub_cancel_left]
  · by_cases h2 : j < 8
    · simp only [if_neg h1, if_pos h2]
      rw [if_neg (by omega), if_neg (by omega), if_neg (by omega), if_neg (by omega), Nat.add_sub_cancel_left, Nat.add_sub_cancel_left]
    · simp only [if_neg h1, if_neg h2]
      rw [if_pos (Nat.mod_lt _ (by decide)), if_pos (Nat.mod_lt _ (by decide))]

/-- Columns counted from a later one turn alike. -/
theorem turned_from (H : Nat → EReal) (s : Nat) (g : EReal) (k C l : Nat) (hC : ¬ l % 128 < 64 → 64 ≤ C) :
    turned (fun n => H (n + k)) s g C l = turned H s g (C + k) l := by
  unfold turned
  by_cases h : l % 128 < 64
  · rw [if_pos h, if_pos h]
    dsimp only
    rw [Nat.add_right_comm]
  · have h' := hC h
    rw [if_neg h, if_neg h]
    dsimp only
    rw [show C - 64 + k = C + k - 64 by omega]

end Cert.Streams

end
-- ==== Proof.StrHost.lean ====
/-
  What the dilation-4 projection's host code leaves in the arrays that its call reads.
-/
module

public import proofs.«01_k».proof.Proof.StrBlock
public import proofs.«01_k».proof.Proof.StrSpec

@[expose] public section

set_option maxRecDepth 16384

noncomputable section

namespace Cert.SpreadIdeal.Hand

open Cert.SpreadIdeal Cert.SpreadIdeal.Gen
open Idealize.ShloMosaic Idealize.ShloMosaic.TcCoe Idealize.SL.Sem
open Idealize.ShloMosaic.StableHlo
open Cert.Projection (angle cosAt sinAt pick)
open Cert.Streams

variable (m : (ℓ : Loc nD τ sig) → Buf (Elt Ideal) ℓ)

abbrev ax (c : Dev nD) : Vec Ideal S2x8192x4096 .f32 := m ((c : Thread nD τ).loc main_arg0)
abbrev aw (c : Dev nD) : Vec Ideal S4096x20480 .f32 := m ((c : Thread nD τ).loc main_arg1)

theorem act_apply (c : Dev nD) (b : Fin 2) (r : Fin 4) (i : Fin 2048) (k : Fin 4096) (s : Fin 8192) (hs : s.val = i.val * 4 + r.val) :
    (V m c main_v2 : Vec Ideal S2x4x2048x4096 .bf16) (ix4 b r i k) = ax m c (ix3 b s k) := by
  have e : (V m c main_v2 : Vec Ideal S2x4x2048x4096 .bf16) = transpose S2x4x2048x4096 [0, 2, 1, 3]
      (shapeCast S2x2048x4x4096 (truncf .bf16 (ax m c) bitsLt_bf16_f32 : FVec Ideal S2x8192x4096 .bf16) shapeCasts_S2x8192x4096_S2x2048x4x4096 : FVec Ideal S2x2048x4x4096 .bf16)
      transposes_S2x2048x4x4096_S2x4x2048x4096_0_2_1_3 := by
    show StableHlo.after hostOps0 (fun b => m (c, b)) (Proc.devRef .tc main_v2) = _
    after_results
    rfl
  rw [e]
  pointwise
  exact congrArg (fun z => ax m c (ix3 b z k)) (Fin.ext hs.symm)

/-- The angles: position times inverse frequency. -/
def angles : FVec Ideal S8192x64 .f32 :=
  mulf (broadcastInDim S8192x64 ![0, 1] bcast_S8192x1_S8192x64_0_1
      (broadcastInDim S8192x1 ![0] bcast_S8192_S8192x1_0
        (sitofp .f32 (shapeCast S8192 (transpose S4x2048 [1, 0] (shapeCast S2048x4 (iotaInDim S8192 32 0 : IVec S8192 32) shapeCasts_S8192_S2048x4 : IVec S2048x4 32) transposes_S2048x4_S4x2048_1_0 : IVec S4x2048 32) shapeCasts_S4x2048_S8192 : IVec S8192 32) : FVec Ideal S8192 .f32)))
    (broadcastInDim S8192x64 ![0, 1] bcast_S1x64_S8192x64_0_1
      (broadcastInDim S1x64 ![1] bcast_S64_S1x64_1
        (Host.powf (broadcastInDim S64 ![] bcast_S_S64 (constant S_ .f32 0x461C4000#32 : FVec Ideal S_ .f32))
          (Host.divf (Host.negf (sitofp .f32 (iotaInDim S64 32 0 : IVec S64 32) : FVec Ideal S64 .f32))
            (broadcastInDim S64 ![] bcast_S_S64 (constant S_ .f32 0x42800000#32 : FVec Ideal S_ .f32))))))

def cosRow : FVec Ideal S8192x128 .f32 :=
  concatenate S8192x128 1 [⟨S8192x64, (Host.cos angles : FVec Ideal S8192x64 .f32)⟩, ⟨S8192x64, (Host.cos angles : FVec Ideal S8192x64 .f32)⟩] concatenates_S8192x64_S8192x64_S8192x128_d1
def sinRow : FVec Ideal S8192x128 .f32 :=
  concatenate S8192x128 1 [⟨S8192x64, (Host.negf (Host.sin angles) : FVec Ideal S8192x64 .f32)⟩, ⟨S8192x64, (Host.sin angles : FVec Ideal S8192x64 .f32)⟩] concatenates_S8192x64_S8192x64_S8192x128_d1

abbrev fill (s : Shape) (h : S_.BroadcastsInDim s ![]) (v : BitVec 32) : FVec Ideal s .f32 := broadcastInDim s ![] h (constant S_ .f32 v : FVec Ideal S_ .f32)

def cosTab : Vec Ideal S17408x128 .f32 :=
  concatenate S17408x128 0 [⟨S1024x128, fill _ bcast_S_S1024x128 0x3F800000#32⟩,
    ⟨S8192x128, mulf cosRow (fill _ bcast_S_S8192x128 0x3DB504F3#32)⟩, ⟨S8192x128, mulf cosRow (fill _ bcast_S_S8192x128 0x3F800000#32)⟩]
    concatenates_S1024x128_S8192x128_S8192x128_S17408x128_d0
def sinTab : Vec Ideal S17408x128 .f32 :=
  concatenate S17408x128 0 [⟨S1024x128, fill _ bcast_S_S1024x128 0x00000000#32⟩,
    ⟨S8192x128, mulf sinRow (fill _ bcast_S_S8192x128 0x3DB504F3#32)⟩, ⟨S8192x128, mulf sinRow (fill _ bcast_S_S8192x128 0x3F800000#32)⟩]
    concatenates_S1024x128_S8192x128_S8192x128_S17408x128_d0

theorem cos_eq (c : Dev nD) : (V m c main_v34 : Vec Ideal S17408x128 .f32) = cosTab := by
  show StableHlo.after hostOps0 (fun b => m (c, b)) (Proc.devRef .tc main_v34) = _
  after_results_simp <;> (try dsimp only [Matrix.cons_val]) <;> (try after_results_simp) <;> rfl

theorem sin_eq (c : Dev nD) : (V m c main_v35 : Vec Ideal S17408x128 .f32) = sinTab := by
  show StableHlo.after hostOps0 (fun b => m (c, b)) (Proc.devRef .tc main_v35) = _
  after_results_simp <;> (try dsimp only [Matrix.cons_val]) <;> (try after_results_simp) <;> rfl

theorem ang_apply (s : Fin 8192) (q : Nat) (h : q < 64) : angles (ix2 s ⟨q, h⟩) = angle (spread s.val) q := by
  unfold angles
  pointwise
  rfl

theorem cosRow_apply (s : Fin 8192) (d : Fin 128) : cosRow (ix2 s d) = cosAt (spread s.val) d.val := by
  unfold cosRow cosAt
  pointwise
  simp only [ang_apply]
  rfl

theorem sinRow_apply (s : Fin 8192) (d : Fin 128) : sinRow (ix2 s d) = sinAt (spread s.val) d.val := by
  unfold sinRow sinAt
  pointwise
  simp only [ang_apply]
  rfl

theorem cosTab_apply (r : Fin 17408) (d : Fin 128) : cosTab (ix2 r d) = cosBy spread r.val d.val := by
  unfold cosTab cosBy
  pointwise
  simp only [cosRow_apply]
  refine pick Iff.rfl (fun _ => rfl) fun _ => ?_
  refine pick (by omega) (fun _ => rfl) fun _ => ?_
  exact congrArg (fun n => cosAt (spread n) d.val) (by omega)

theorem sinTab_apply (r : Fin 17408) (d : Fin 128) : sinTab (ix2 r d) = sinBy spread r.val d.val := by
  unfold sinTab sinBy
  pointwise
  simp only [sinRow_apply]
  refine pick Iff.rfl (fun _ => rfl) fun _ => ?_
  refine pick (by omega) (fun _ => rfl) fun _ => ?_
  exact congrArg (fun n => sinAt (spread n) d.val) (by omega)

end Cert.SpreadIdeal.Hand

end
-- ==== Proof.StrRef.lean ====
/-
  What the dilation-4 projection's reference computes, element by element.
-/
module

public import proofs.«01_k».proof.Proof.Gen.SpreadReferenceIdeal.Run
public import proofs.«01_k».proof.Proof.Gen.SpreadReferenceIdeal.Read
public import proofs.«01_k».proof.Proof.ProjRef
public import proofs.«01_k».proof.Proof.StrSpec
public import Idealize.ShloMosaic.Lib.Pipeline.Value

@[expose] public section

set_option maxRecDepth 16384

noncomputable section

namespace Cert.SpreadReferenceIdeal.Hand

open Cert.SpreadReferenceIdeal Cert.SpreadReferenceIdeal.Read
open Cert.Projection (column column_of angle turned pick)
open Cert.Streams (scale entry turned_from)
open Cert.ProjectReferenceIdeal.Hand (turn_one turned_at)
open Idealize.ShloMosaic Idealize.ShloMosaic.TcCoe Idealize.SL.Sem
open Idealize.ShloMosaic.StableHlo

variable (x0 : Vec Ideal S2x8192x4096 .f32) (x1 : Vec Ideal S4096x20480 .f32)

/-- The columns of the product, for one row of the activations. -/
abbrev cols (b : Fin 2) (s : Fin 8192) : Nat → EReal :=
  column (fun k : Fin 4096 => x0 (ix3 b s k)) (fun (k : Fin 4096) (C : Fin 20480) => x1 (ix2 k C))

theorem dot_apply (b : Fin 2) (s : Fin 8192) (n : Nat) (h : n < 20480) :
    val_main_v0 (F := Ideal) x0 x1 (ix3 b s ⟨n, h⟩) = cols x0 x1 b s n := by
  refine Eq.trans ?_ (column_of _ _ n h)
  pointwise [val_main_v0]

theorem ang_apply (s : Fin 8192) (n : Nat) (h : n < 64) : val_main_v18 (F := Ideal) (ix2 s ⟨n, h⟩) = angle s.val n := by
  pointwise [val_main_v18, val_main_v17, val_main_v16, val_main_v15, val_main_v14, val_main_v13, val_main_v12, val_main_v11, val_main_v10, val_main_v9, val_main_v8, val_main_v7, val_main_cst, val_main_cst_0, val_main_v5]
  rfl
theorem ang_apply' (s : Fin 8192) (n : Nat) (h : n < 64) : val_main_v56 (F := Ideal) (ix2 s ⟨n, h⟩) = angle s.val n :=
  ang_apply s n h

/-- The queries, turned. -/
theorem queries (b : Fin 2) (s : Fin 8192) (l : Nat) (hl : l < 2048) :
    val_main_v41 (F := Ideal) x0 x1 (ix3 b s ⟨l, hl⟩) = turned (cols x0 x1 b s) s.val 1 (l + 2048) l := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v6, val_main_v1]
  simp only [dot_apply, ang_apply]
  exact turn_one _ _ _ _ _ _ _ _ (by omega) (by omega)

/-- The keys, turned. -/
theorem keys (b : Fin 2) (s : Fin 8192) (l : Nat) (hl : l < 2048) :
    val_main_v79 (F := Ideal) x0 x1 (ix3 b s ⟨l, hl⟩) = turned (cols x0 x1 b s) s.val 1 (l + 8192) l := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v44, val_main_v2]
  simp only [dot_apply, ang_apply']
  exact turn_one _ _ _ _ _ _ _ _ (by omega) (by omega)

/-- The queries, scaled. -/
theorem scaled (b : Fin 2) (s : Fin 8192) (l : Nat) (hl : l < 2048) :
    val_main_v43 (F := Ideal) x0 x1 (ix3 b s ⟨l, hl⟩) = turned (cols x0 x1 b s) s.val 1 (l + 2048) l * scale := by
  rw [val_main_v43_apply, val_main_v42_apply, val_main_cst_1_apply, queries]
  generalize turned (cols x0 x1 b s) s.val 1 (l + 2048) l = z
  rfl

/-- The values. -/
theorem values (b : Fin 2) (s : Fin 8192) (l : Nat) (hl : l < 2048) :
    val_main_v80 (F := Ideal) x0 x1 (ix3 b s ⟨l, hl⟩) = cols x0 x1 b s (l + 14336) := by
  pointwise [val_main_v80, val_main_v3]
  simp only [dot_apply]
  exact congrArg (cols x0 x1 b s) (by omega)

/-- The whole result: in stream `q`, row `i` is position `4 * i + q`; the columns are counted from the second group's first. -/
theorem result_apply (b : Fin 2) (q : Fin 4) (i : Fin 2048) (L : Fin 6144) (s : Fin 8192) (hs : s.val = i.val * 4 + q.val) :
    val_main_v84 (F := Ideal) x0 x1 (ix4 b q i L) = entry (fun n => cols x0 x1 b s (n + 2048)) s.val L.val := by
  have e : val_main_v84 (F := Ideal) x0 x1 (ix4 b q i L) = val_main_v81 (F := Ideal) x0 x1 (ix3 b s L) := by
    pointwise [val_main_v84, val_main_v83, val_main_v82]
    exact congrArg (fun z => val_main_v81 (F := Ideal) x0 x1 (ix3 b z L)) (Fin.ext hs.symm)
  have hL : L.val < 6144 := L.isLt
  rw [e]
  pointwise [val_main_v81]
  simp only [scaled, keys, values]
  unfold entry
  refine pick (by omega) (fun _ => ?_) fun _ => ?_
  · rw [turned_from _ _ _ _ _ _ (by omega)]
  refine pick (by omega) (fun _ => ?_) fun _ => ?_
  · rw [turned_from _ _ _ _ _ _ (by omega)]
    exact turned_at _ _ _ (by omega) (by omega)
  rw [if_pos (by omega)]
  exact congrArg (cols x0 x1 b s) (by omega)

end Cert.SpreadReferenceIdeal.Hand

end
-- ==== Proof.StrValue.lean ====
/-
  The array the dilation-4 projection leaves: every element is its column of the product, times the first table's entry, plus the
  column across times the second's; and the reference's array is the same.
-/
module

public import proofs.«01_k».proof.Defs
public import proofs.«01_k».proof.Proof.StrBlock
public import proofs.«01_k».proof.Proof.StrHost
public import proofs.«01_k».proof.Proof.StrRef

@[expose] public section

set_option maxRecDepth 16384

noncomputable section

namespace Cert.SpreadIdeal.Hand

open Cert.SpreadIdeal Cert.SpreadIdeal.Gen
open Idealize.ShloMosaic Idealize.ShloMosaic.TcCoe Idealize.SL.Sem
open Cert.Projection (column column_of across)
open Cert.Streams
open Cert.ProjectIdeal.Hand (partner lane)
open Cert.DilatedIdeal.Hand (product blockVal)

variable (m : (ℓ : Loc nD τ sig) → Buf (Elt Ideal) ℓ)

/-- The columns of the product, for one row of the activations. -/
abbrev cols (c : Dev nD) (b : Fin 2) (s : Fin 8192) : Nat → EReal :=
  column (fun k : Fin 4096 => ax m c (ix3 b s k)) (fun (k : Fin 4096) (C : Fin 20480) => aw m c (ix2 k C))

/-- The position of row `i` of stream `q`. -/
def at4 (q : Fin 4) (i : Fin 2048) : Fin 8192 := ⟨i.val * 4 + q.val, by omega⟩

/-- The whole result. -/
def result (c : Dev nD) : Vec Ideal S2x4x2048x6144 .bf16 := fun i =>
  show EReal from blend (fun n => cols m c (i 0) (at4 (i 1) (i 2)) (n + 2048)) (at4 (i 1) (i 2)).val (i 3).val

theorem idx0 : ∀ t : Fin grid0.N, cc0_transform_0 (grid0.coords t) = ![t.val / 96, t.val / 24 % 4, t.val / 12 % 2, 0] := by decide +kernel
theorem idx4 : ∀ t : Fin grid0.N, cc0_transform_4 (grid0.coords t) = ![t.val / 96, t.val / 24 % 4, t.val / 12 % 2, t.val % 12] := by decide +kernel
theorem co0 (t : Fin grid0.N) : (grid0.coords t 0).val = t.val / 12 % 16 :=
  Pipeline.Grid.coords_val t 0 (by decide) rfl
theorem co1 (t : Fin grid0.N) : (grid0.coords t 1).val = t.val % 12 := by
  have := Pipeline.Grid.coords_val t 1 (S := 1) (B := 12) (by decide) rfl
  omega

theorem source_at : ∀ j : Fin 12, (lit0 j).toNat = source j.val + 4 := by decide +kernel
theorem source_low : ∀ j : Fin 12, source j.val < 36 := by decide +kernel
theorem row_eq : ∀ j : Fin 12, ∀ q : Fin 8, (lit1 j).toNat + (lit2 j).toNat * q.val = row j.val (q.val * 1024) / 1024 := by decide +kernel

variable (hO : Ok m)

theorem win0 (t : Fin (cfgM m hO).N) : @Eq (Fin 4 → Nat) (((cfgM m hO).win 0).index t) ![t.val / 96, t.val / 24 % 4, t.val / 12 % 2, 0] := idx0 t
theorem win4 (t : Fin (cfgM m hO).N) : @Eq (Fin 4 → Nat) (((cfgM m hO).win 4).index t) ![t.val / 96, t.val / 24 % 4, t.val / 12 % 2, t.val % 12] := idx4 t
theorem win1 (t : Fin (cfgM m hO).N) : @Eq (Fin 2 → Nat) (((cfgM m hO).win 1).index t) ![0, source (t.val % 12) + 4] := by
  show cc0_transform_1 k0_off1_inb numel1_S1 (tbl m) (grid0.coords t) = _
  rw [tbl_eq, rowW, source_at]
  show ![0, source (grid0.coords t 1).val + 4] = _
  rw [co1]
theorem win2 (t : Fin (cfgM m hO).N) : @Eq (Fin 2 → Nat) (((cfgM m hO).win 2).index t) ![row (t.val % 12) (t.val / 12 % 8 * 1024) / 1024, 0] := by
  show cc0_transform_2 k0_off1_inb numel1_S1 (tbl m) (grid0.coords t) = _
  have hq : (grid0.coords t 0).val % 8 = t.val / 12 % 8 := by rw [co0]; omega
  rw [tbl_eq, rowT, row_eq _ ⟨(grid0.coords t 0).val % 8, Nat.mod_lt _ (by decide)⟩]
  show ![row (grid0.coords t 1).val ((grid0.coords t 0).val % 8 * 1024) / 1024, 0] = _
  rw [co1, hq]
theorem win3 (t : Fin (cfgM m hO).N) : @Eq (Fin 2 → Nat) (((cfgM m hO).win 3).index t) ![row (t.val % 12) (t.val / 12 % 8 * 1024) / 1024, 0] :=
  win2 m hO t

def place0 (t : Fin (cfgM m hO).N) (y : S1x1x1024x4096.Idx) : S2x4x2048x4096.Idx := (((cfgM m hO).win 0).blk t).view.emb y

theorem blk0 (c : Dev nD) (t : Fin (cfgM m hO).N) (r : Fin 1024) (k : Fin 4096) (b : Fin 2) (s : Fin 8192)
    (hb : b.val = t.val / 96) (hs : s.val = (t.val / 12 % 2 * 1024 + r.val) * 4 + t.val / 24 % 4) :
    (iblk m hO c 0 t : Vec Ideal S1x1x1024x4096 .bf16) (ix4 0 0 r k) = ax m c (ix3 b s k) := by
  unfold iblk
  have hN : (cfgM m hO).N = 192 := N_0
  rw [← act_apply m c b ⟨t.val / 24 % 4, by omega⟩ ⟨t.val / 12 % 2 * 1024 + r.val, by omega⟩ k s hs]
  show (V m c main_v2 : Vec Ideal S2x4x2048x4096 .bf16) (place0 m hO t (ix4 0 0 r k)) = (V m c main_v2 : Vec Ideal S2x4x2048x4096 .bf16) _
  refine congrArg (V m c main_v2 : Vec Ideal S2x4x2048x4096 .bf16) (funext fun a => Fin.ext ?_)
  have e := win0 m hO t
  match a with
  | ⟨0, _⟩ => show ((cfgM m hO).win 0).index t (0 : Fin 4) * 1 + 1 * 0 = b.val; rw [congrFun e (0 : Fin 4)]; show t.val / 96 * 1 + 1 * 0 = _; omega
  | ⟨1, _⟩ => show ((cfgM m hO).win 0).index t (1 : Fin 4) * 1 + 1 * 0 = t.val / 24 % 4; rw [congrFun e (1 : Fin 4)]; show t.val / 24 % 4 * 1 + 1 * 0 = _; omega
  | ⟨2, _⟩ => show ((cfgM m hO).win 0).index t (2 : Fin 4) * 1024 + 1 * r.val = t.val / 12 % 2 * 1024 + r.val; rw [congrFun e (2 : Fin 4)]; show t.val / 12 % 2 * 1024 + 1 * r.val = _; omega
  | ⟨3, _⟩ => show ((cfgM m hO).win 0).index t (3 : Fin 4) * 4096 + 1 * k.val = k.val; rw [congrFun e (3 : Fin 4)]; show 0 * 4096 + 1 * k.val = _; omega

def place1 (t : Fin (cfgM m hO).N) (y : S4096x512.Idx) : S4096x20480.Idx := (((cfgM m hO).win 1).blk t).view.emb y

theorem blk1 (c : Dev nD) (t : Fin (cfgM m hO).N) (k : Fin 4096) (l : Fin 512) (n : Fin 20480)
    (h : n.val = (source (t.val % 12) + 4) * 512 + l.val) :
    (iblk m hO c 1 t : Vec Ideal S4096x512 .f32) (ix2 k l) = aw m c (ix2 k n) := by
  unfold iblk
  refine Eq.trans ?_ (congrFun (V_main_arg1 m c) (ix2 k n))
  show (V m c main_arg1 : Vec Ideal S4096x20480 .f32) (place1 m hO t (ix2 k l)) = (V m c main_arg1 : Vec Ideal S4096x20480 .f32) _
  refine congrArg (V m c main_arg1 : Vec Ideal S4096x20480 .f32) (funext fun a => Fin.ext ?_)
  have e := win1 m hO t
  match a with
  | ⟨0, _⟩ => show ((cfgM m hO).win 1).index t (0 : Fin 2) * 4096 + 1 * k.val = k.val; rw [congrFun e (0 : Fin 2)]; show 0 * 4096 + 1 * k.val = _; omega
  | ⟨1, _⟩ => show ((cfgM m hO).win 1).index t (1 : Fin 2) * 512 + 1 * l.val = n.val; rw [congrFun e (1 : Fin 2), h]
              show (source (t.val % 12) + 4) * 512 + 1 * l.val = _; omega

def place2 (t : Fin (cfgM m hO).N) (y : S1024x128.Idx) : S17408x128.Idx := (((cfgM m hO).win 2).blk t).view.emb y

theorem blk2 (c : Dev nD) (t : Fin (cfgM m hO).N) (r : Fin 1024) (d : Fin 128) (s : Nat)
    (hs : s = t.val / 12 % 8 * 1024 + r.val) :
    (iblk m hO c 2 t : Vec Ideal S1024x128 .f32) (ix2 r d) = cosBy spread (row (t.val % 12) s) d.val := by
  unfold iblk
  refine Eq.trans ?_ (cosTab_apply ⟨row (t.val % 12) s, row_lt _ _ (by omega)⟩ d)
  rw [← cos_eq m c]
  show (V m c main_v34 : Vec Ideal S17408x128 .f32) (place2 m hO t (ix2 r d)) = (V m c main_v34 : Vec Ideal S17408x128 .f32) _
  refine congrArg (V m c main_v34 : Vec Ideal S17408x128 .f32) (funext fun a => Fin.ext ?_)
  have e := win2 m hO t
  have h := row_split (t.val % 12) s r.val r.isLt (by omega)
  rw [show s / 1024 = t.val / 12 % 8 by omega] at h
  match a with
  | ⟨0, _⟩ => show ((cfgM m hO).win 2).index t (0 : Fin 2) * 1024 + 1 * r.val = row (t.val % 12) s; rw [congrFun e (0 : Fin 2), h]
              show row (t.val % 12) (t.val / 12 % 8 * 1024) / 1024 * 1024 + 1 * r.val = _; omega
  | ⟨1, _⟩ => show ((cfgM m hO).win 2).index t (1 : Fin 2) * 128 + 1 * d.val = d.val; rw [congrFun e (1 : Fin 2)]; show 0 * 128 + 1 * d.val = _; omega

def place3 (t : Fin (cfgM m hO).N) (y : S1024x128.Idx) : S17408x128.Idx := (((cfgM m hO).win 3).blk t).view.emb y

theorem blk3 (c : Dev nD) (t : Fin (cfgM m hO).N) (r : Fin 1024) (d : Fin 128) (s : Nat)
    (hs : s = t.val / 12 % 8 * 1024 + r.val) :
    (iblk m hO c 3 t : Vec Ideal S1024x128 .f32) (ix2 r d) = sinBy spread (row (t.val % 12) s) d.val := by
  unfold iblk
  refine Eq.trans ?_ (sinTab_apply ⟨row (t.val % 12) s, row_lt _ _ (by omega)⟩ d)
  rw [← sin_eq m c]
  show (V m c main_v35 : Vec Ideal S17408x128 .f32) (place3 m hO t (ix2 r d)) = (V m c main_v35 : Vec Ideal S17408x128 .f32) _
  refine congrArg (V m c main_v35 : Vec Ideal S17408x128 .f32) (funext fun a => Fin.ext ?_)
  have e := win3 m hO t
  have h := row_split (t.val % 12) s r.val r.isLt (by omega)
  rw [show s / 1024 = t.val / 12 % 8 by omega] at h
  match a with
  | ⟨0, _⟩ => show ((cfgM m hO).win 3).index t (0 : Fin 2) * 1024 + 1 * r.val = row (t.val % 12) s; rw [congrFun e (0 : Fin 2), h]
              show row (t.val % 12) (t.val / 12 % 8 * 1024) / 1024 * 1024 + 1 * r.val = _; omega
  | ⟨1, _⟩ => show ((cfgM m hO).win 3).index t (1 : Fin 2) * 128 + 1 * d.val = d.val; rw [congrFun e (1 : Fin 2)]; show 0 * 128 + 1 * d.val = _; omega

/-- Where an element of the output block of a grid point lies in the result. -/
def place (t : Fin (cfgM m hO).N) (y : S1x1x1024x512.Idx) : S2x4x2048x6144.Idx := (((cfgM m hO).win 4).blk t).view.emb y

/-- One product over the blocks is a column of the whole product. -/
theorem product_eq (c : Dev nD) (t : Fin (cfgM m hO).N) (r : Fin 1024) (l : Fin 512) (b : Fin 2) (s : Fin 8192)
    (hb : b.val = t.val / 96) (hs : s.val = (t.val / 12 % 2 * 1024 + r.val) * 4 + t.val / 24 % 4) :
    product (iblk m hO c 0 t) (iblk m hO c 1 t) r l = cols m c b s (source (t.val % 12) * 512 + l.val + 2048) := by
  have hl : source (t.val % 12) * 512 + l.val + 2048 < 20480 := by
    have := source_low ⟨t.val % 12, Nat.mod_lt _ (by decide)⟩
    dsimp only at this
    omega
  refine Eq.trans ?_ (column_of _ _ _ hl)
  exact Finset.sum_congr rfl fun k _ => congrArg₂ (α := EReal) (β := EReal) (γ := EReal) (· * ·)
    (blk0 m hO c t r k b s hb hs) (blk1 m hO c t k l ⟨_, hl⟩ (by show source (t.val % 12) * 512 + l.val + 2048 = _; omega))

/-- The physical row of a grid point's row holds the position that row stands for. -/
theorem spread_place (t r : Nat) (hr : r < 1024) :
    spread (t / 12 % 8 * 1024 + r) = (t / 12 % 2 * 1024 + r) * 4 + t / 24 % 4 := by
  have a : t / 24 = t / 12 / 2 := by rw [Nat.div_div_eq_div_mul]
  rw [a]
  generalize t / 12 = n
  unfold spread
  omega

theorem flushed_eq (c : Dev nD) (t : Fin (cfgM m hO).N) :
    (dats m hO 0 c).flushed 4 t = (((cfgM m hO).win 4).blk t).view.read (Elt Ideal) (result m c) := by
  have hN : (cfgM m hO).N = 192 := N_0
  have e := win4 m hO t
  have f : (dats m hO 0 c).flushed 4 t = outsAt0 m hO c t := by
    show ((cfgM m hO).win 4).cut (grid0.coords t) ((dats m hO 0 c).after 4 t) = _
    rw [after0_4]
    rfl
  rw [f]
  funext y
  have y0 : (y 0 : Nat) < 1 := (y 0).isLt
  have y2 : (y 2 : Nat) < 1024 := (y 2).isLt
  have y3 : (y 3 : Nat) < 512 := (y 3).isLt
  have e0 : (place m hO t y 0).val = t.val / 96 := by
    show ((cfgM m hO).win 4).index t (0 : Fin 4) * 1 + 1 * (y 0).val = _
    rw [congrFun e (0 : Fin 4)]; show t.val / 96 * 1 + 1 * (y 0).val = _; omega
  have y1 : (y 1 : Nat) < 1 := (y 1).isLt
  have e1 : (place m hO t y 1).val = t.val / 24 % 4 := by
    show ((cfgM m hO).win 4).index t (1 : Fin 4) * 1 + 1 * (y 1).val = _
    rw [congrFun e (1 : Fin 4)]; show t.val / 24 % 4 * 1 + 1 * (y 1).val = _; omega
  have e2 : (place m hO t y 2).val = t.val / 12 % 2 * 1024 + (y 2).val := by
    show ((cfgM m hO).win 4).index t (2 : Fin 4) * 1024 + 1 * (y 2).val = _
    rw [congrFun e (2 : Fin 4)]; show t.val / 12 % 2 * 1024 + 1 * (y 2).val = _; omega
  have e3 : (place m hO t y 3).val = t.val % 12 * 512 + (y 3).val := by
    show ((cfgM m hO).win 4).index t (3 : Fin 4) * 512 + 1 * (y 3).val = _
    rw [congrFun e (3 : Fin 4)]; show t.val % 12 * 512 + 1 * (y 3).val = _; omega
  show outsAt0 m hO c t y = result m c (place m hO t y)
  generalize place m hO t y = i at e0 e1 e2 e3 ⊢
  have hs : (at4 (i 1) (i 2)).val = (t.val / 12 % 2 * 1024 + (y 2).val) * 4 + t.val / 24 % 4 := by
    show (i 2).val * 4 + (i 1).val = _
    omega
  have hp : spread (t.val / 12 % 8 * 1024 + (y 2).val) = (at4 (i 1) (i 2)).val := by
    rw [hs]
    exact spread_place _ _ y2
  refine (out_apply _ _ _ _ _ _ _ _ _ _ _ _ _ _ _ _ _ _ _ _).trans ?_
  show (show EReal from product _ _ (y 2) (y 3) * _ + product _ _ (y 2) (partner (y 3)) * _)
    = blend (fun n => cols m c (i 0) (at4 (i 1) (i 2)) (n + 2048)) (at4 (i 1) (i 2)).val (i 3).val
  rw [product_eq m hO c t (y 2) (y 3) (i 0) _ e0 hs, product_eq m hO c t (y 2) (partner (y 3)) (i 0) _ e0 hs,
    blk2 m hO c t (y 2) (lane (y 3)) _ rfl, blk3 m hO c t (y 2) (lane (y 3)) _ rfl,
    cosBy_row _ _ _ _ (by omega) (spread_lt _ (by omega)), sinBy_row _ _ _ _ (by omega) (spread_lt _ (by omega)), hp]
  unfold blend
  rw [show (i 3).val / 512 = t.val % 12 by omega, show (i 3).val % 512 = (y 3).val by omega, show (i 3).val % 128 = (lane (y 3)).val by
    show _ = (y 3).val % 128; omega]
  rfl

theorem cover (i : S2x4x2048x6144.Idx) :
    ∃ t : Fin (cfgM m hO).N, ((cfgM m hO).win 4).flush t = true ∧ i ∈ (((cfgM m hO).win 4).blk t).view.set := by
  have h0 : (i 0 : Nat) < 2 := (i 0).isLt
  have h1 : (i 1 : Nat) < 4 := (i 1).isLt
  have h2 : (i 2 : Nat) < 2048 := (i 2).isLt
  have h3 : (i 3 : Nat) < 6144 := (i 3).isLt
  have hN : (cfgM m hO).N = 192 := N_0
  let t : Fin (cfgM m hO).N := ⟨(((i 0 : Nat) * 4 + (i 1 : Nat)) * 2 + (i 2 : Nat) / 1024) * 12 + (i 3 : Nat) / 512, by omega⟩
  have e := win4 m hO t
  have q0 : ((cfgM m hO).win 4).index t (0 : Fin 4) = (i 0 : Nat) := (congrFun e (0 : Fin 4)).trans (by show t.val / 96 = _; dsimp only [t]; omega)
  have q1 : ((cfgM m hO).win 4).index t (1 : Fin 4) = (i 1 : Nat) := (congrFun e (1 : Fin 4)).trans (by show t.val / 24 % 4 = _; dsimp only [t]; omega)
  have q2 : ((cfgM m hO).win 4).index t (2 : Fin 4) = (i 2 : Nat) / 1024 := (congrFun e (2 : Fin 4)).trans (by show t.val / 12 % 2 = _; dsimp only [t]; omega)
  have q3 : ((cfgM m hO).win 4).index t (3 : Fin 4) = (i 3 : Nat) / 512 := (congrFun e (3 : Fin 4)).trans (by show t.val % 12 = _; dsimp only [t]; omega)
  refine ⟨t, flush0_4 _ t, ?_⟩
  refine (Finset.ext_iff.mp (View.set_slice_whole main_v36 (((cfgM m hO).win 4).rect t)) i).mpr (Rect.mem_set_unit.mpr fun a => ?_)
  match a with
  | ⟨0, _⟩ => show ((cfgM m hO).win 4).index t (0 : Fin 4) * 1 ≤ (i 0 : Nat) ∧ (i 0 : Nat) < ((cfgM m hO).win 4).index t (0 : Fin 4) * 1 + 1
              rw [q0]; omega
  | ⟨1, _⟩ => show ((cfgM m hO).win 4).index t (1 : Fin 4) * 1 ≤ (i 1 : Nat) ∧ (i 1 : Nat) < ((cfgM m hO).win 4).index t (1 : Fin 4) * 1 + 1
              rw [q1]; omega
  | ⟨2, _⟩ => show ((cfgM m hO).win 4).index t (2 : Fin 4) * 1024 ≤ (i 2 : Nat) ∧ (i 2 : Nat) < ((cfgM m hO).win 4).index t (2 : Fin 4) * 1024 + 1024
              rw [q2]; omega
  | ⟨3, _⟩ => show ((cfgM m hO).win 4).index t (3 : Fin 4) * 512 ≤ (i 3 : Nat) ∧ (i 3 : Nat) < ((cfgM m hO).win 4).index t (3 : Fin 4) * 512 + 512
              rw [q3]; omega

theorem final (c : Dev nD) : (dats m hO 0 c).arrAt 4 (cfgM m hO).N = result m c :=
  (dats m hO 0 c).arrAt_eq_of_cover 4 (result m c) (fun t _ => flushed_eq m hO c t) (cover m hO)

/-- The reference's result is the same array. -/
theorem reference_eq (c : Dev nD) : Cert.SpreadReferenceIdeal.Read.val_main_v84 (ax m c) (aw m c) = result m c := by
  funext i
  have hi : i = ix4 (i 0) (i 1) (i 2) (i 3) := funext fun a => match a with
    | ⟨0, _⟩ => rfl
    | ⟨1, _⟩ => rfl
    | ⟨2, _⟩ => rfl
    | ⟨3, _⟩ => rfl
  rw [hi]
  refine (Cert.SpreadReferenceIdeal.Hand.result_apply (ax m c) (aw m c) (i 0) (i 1) (i 2) (i 3) (at4 (i 1) (i 2)) rfl).trans ?_
  exact (blend_eq (fun n => cols m c (i 0) (at4 (i 1) (i 2)) (n + 2048)) (at4 (i 1) (i 2)).val (i 3).val (at4 (i 1) (i 2)).isLt
    (Nat.lt_of_lt_of_le (i 3).isLt (by decide))).symm

/-- Both programs end, the arguments unchanged, with the same projection. -/
theorem algebraic : Cert.algebraic_SpreadIdeal_SpreadReferenceIdeal (hSpreadIdeal := Cert.SpreadIdeal.Gen.facts)
    (hSpreadReferenceIdeal := Cert.SpreadReferenceIdeal.Gen.facts) := by
  intro m g m' g' _ hargs
  refine ⟨fun c => result m c, (θ_run _ _ _).mono (fun r h c => ?_) (θ_run_and (run_main (F := Ideal) m g (ok m)) (unchanged m g (ok m))),
    (θ_run _ _ _).mono (fun r h c => ?_) (Cert.SpreadReferenceIdeal.Value.run (F := Ideal) m' g')⟩
  · exact ⟨((h.1 c).1 4).trans (final m (ok m) c), h.2 c⟩
  · obtain ⟨hv, h0⟩ := h c
    refine ⟨hv.trans ?_, h0⟩
    rw [Cert.SpreadReferenceIdeal.Read.val_main_v84_eq, (hargs c).1, (hargs c).2]
    exact reference_eq m c

end Cert.SpreadIdeal.Hand

end
-- ==== Proof.LastValue.lean ====
/-
  The value of the dilated layer's output projection: the array it leaves is, element by element, the product, and
  the reference's is the same sum.
-/
module

public import proofs.«01_k».proof.Defs
public import proofs.«01_k».proof.Proof.Gen.LastIdeal.Value
public import proofs.«01_k».proof.Proof.Gen.LastReferenceIdeal.Run
public import Idealize.ShloMosaic.Lib.Pointwise
public import Idealize.ShloMosaic.Lib.Pipeline.Value

@[expose] public section

noncomputable section

namespace Cert.LastIdeal.Hand

open Cert.LastIdeal Cert.LastIdeal.Gen
open Idealize.ShloMosaic Idealize.ShloMosaic.TcCoe Idealize.SL.Sem
open Idealize.ShloMosaic.Pipeline (Dat)

/-- The block the body leaves, at a row and a column of the block. -/
def blockVal (x0 : Vec Ideal S1024x2048 .bf16) (x1 : Vec Ideal S2048x512 .f32) (y : S1024x512.Idx) : Elt Ideal .bf16 :=
  show EReal from ∑ k : Fin 2048, x0 (ix2 (y 0) k) * x1 (ix2 k (y 1))

theorem out_apply (x0 : Vec Ideal S1024x2048 .bf16) (x1 : Vec Ideal S2048x512 .f32) (y : S1024x512.Idx) :
    out0_2 (F := Ideal) x0 x1 y = blockVal x0 x1 y := by
  refine View.canon_apply_of_pieces (Val := Elt Ideal) (blockVal x0 x1) _ (fun p hp x => ?_) y (cover0_2 _ _ _ _ y)
  simp only [List.mem_cons, List.not_mem_nil, or_false] at hp
  rcases hp with rfl | rfl | rfl | rfl
  · show _ = blockVal x0 x1 (r0_8.toLoadRect.idx x)
    pointwise [k0_pay5, k0_pay1, blockVal]
  · show _ = blockVal x0 x1 (r0_6.toLoadRect.idx x)
    pointwise [k0_pay4, k0_pay1, blockVal]
  · show _ = blockVal x0 x1 (r0_4.toLoadRect.idx x)
    pointwise [k0_pay3, k0_pay1, blockVal]
  · show _ = blockVal x0 x1 (r0_2.toLoadRect.idx x)
    pointwise [k0_pay2, k0_pay1, blockVal]

variable (m : (ℓ : Loc nD τ sig) → Buf (Elt Ideal) ℓ)

abbrev o (c : Dev nD) : Vec Ideal S16384x2048 .bf16 := m ((c : Thread nD τ).loc main_arg0)
abbrev w (c : Dev nD) : Vec Ideal S2048x4096 .f32 := m ((c : Thread nD τ).loc main_arg1)

/-- The whole result: one product. -/
def result (c : Dev nD) : Vec Ideal S16384x4096 .bf16 := fun i => ∑ k : Fin 2048, o m c (ix2 (i 0) k) * w m c (ix2 k (i 1))

theorem idx : ∀ t : Fin cfg0.N, win0_0.index t 0 = t.val / 8 ∧ win0_0.index t 1 = 0 ∧ win0_1.index t 0 = 0
    ∧ win0_1.index t 1 = t.val % 8 ∧ win0_2.index t 0 = t.val / 8 ∧ win0_2.index t 1 = t.val % 8 :=
  (by decide +kernel : ∀ t : Fin grid0.N, win0_0.index t 0 = t.val / 8 ∧ win0_0.index t 1 = 0 ∧ win0_1.index t 0 = 0
    ∧ win0_1.index t 1 = t.val % 8 ∧ win0_2.index t 0 = t.val / 8 ∧ win0_2.index t 1 = t.val % 8)

theorem blk0 (c : Dev nD) (t : Fin cfg0.N) (r : Fin 1024) (k : Fin 2048) (R : Fin 16384) (hR : R.val = t.val / 8 * 1024 + r.val) :
    (iblk m c 0 t : Vec Ideal S1024x2048 .bf16) (ix2 r k) = o m c (ix2 R k) := by
  unfold iblk
  rw [View.read_apply]
  show V m c main_arg0 _ = _
  unfold V
  refine congrArg (o m c) (funext fun a => Fin.ext ?_)
  match a with
  | ⟨0, _⟩ => show win0_0.index t 0 * 1024 + 1 * r.val = R.val; rw [(idx t).1]; omega
  | ⟨1, _⟩ => show win0_0.index t 1 * 2048 + 1 * k.val = k.val; rw [(idx t).2.1]; omega

theorem blk1 (c : Dev nD) (t : Fin cfg0.N) (k : Fin 2048) (l : Fin 512) (L : Fin 4096) (hL : L.val = t.val % 8 * 512 + l.val) :
    (iblk m c 1 t : Vec Ideal S2048x512 .f32) (ix2 k l) = w m c (ix2 k L) := by
  unfold iblk
  rw [View.read_apply]
  show V m c main_arg1 _ = _
  unfold V
  refine congrArg (w m c) (funext fun a => Fin.ext ?_)
  match a with
  | ⟨0, _⟩ => show win0_1.index t 0 * 2048 + 1 * k.val = k.val; rw [(idx t).2.2.1]; omega
  | ⟨1, _⟩ => show win0_1.index t 1 * 512 + 1 * l.val = L.val; rw [(idx t).2.2.2.1]; omega

theorem flushed_eq (c : Dev nD) (t : Fin cfg0.N) :
    (dats m 0 c).flushed 2 t = ((cfg0.win 2).blk t).view.read (Elt Ideal) (result m c) := by
  rw [Cert.LastIdeal.Value.flushed2]
  funext y
  have e0 : ((((cfg0.win 2).blk t).view.emb y : S16384x4096.Idx) 0).val = t.val / 8 * 1024 + (y 0).val := by
    show win0_2.index t 0 * 1024 + 1 * (y 0).val = _
    rw [(idx t).2.2.2.2.1]; omega
  have e1 : ((((cfg0.win 2).blk t).view.emb y : S16384x4096.Idx) 1).val = t.val % 8 * 512 + (y 1).val := by
    show win0_2.index t 1 * 512 + 1 * (y 1).val = _
    rw [(idx t).2.2.2.2.2]; omega
  rw [View.read_apply]
  refine (out_apply _ _ _).trans ?_
  exact Finset.sum_congr rfl fun k _ => congrArg₂ (α := EReal) (β := EReal) (γ := EReal) (· * ·)
    (blk0 m c t _ k _ e0) (blk1 m c t k _ _ e1)

theorem cover (i : S16384x4096.Idx) :
    ∃ t : Fin cfg0.N, (cfg0.win 2).flush t = true ∧ i ∈ ((cfg0.win 2).blk t).view.set := by
  have h0 : (i 0 : Nat) < 16384 := (i 0).isLt
  have h1 : (i 1 : Nat) < 4096 := (i 1).isLt
  have hN : cfg0.N = 128 := N_0
  let t : Fin cfg0.N := ⟨(i 0 : Nat) / 1024 * 8 + (i 1 : Nat) / 512, by omega⟩
  have q0 : win0_2.index t 0 = (i 0 : Nat) / 1024 := (idx t).2.2.2.2.1.trans (by dsimp only [t]; omega)
  have q1 : win0_2.index t 1 = (i 1 : Nat) / 512 := (idx t).2.2.2.2.2.trans (by dsimp only [t]; omega)
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [q0]; omega
  | ⟨1, _⟩ => show win0_2.index t 1 * 512 ≤ (i 1 : Nat) ∧ (i 1 : Nat) < win0_2.index t 1 * 512 + 512
              rw [q1]; omega

theorem final (c : Dev nD) : (dats m 0 c).arrAt 2 cfg0.N = result m c :=
  (dats m 0 c).arrAt_eq_of_cover 2 (result m c) (fun t _ => flushed_eq m c t) cover

/-- The reference's product at an index. -/
theorem reference_eq (a : Vec Ideal S16384x2048 .bf16) (W : Vec Ideal S2048x4096 .f32) (i : S16384x4096.Idx)
    (hb : FTy.bits .bf16 < FTy.bits .f32) :
    (truncf .bf16 (Host.dotGeneral (φ₁ := .f32) (φ₂ := .f32) Cert.LastReferenceIdeal.dot_S16384x2048_S2048x4096_S16384x4096_1_0_0_1_n_n none
      (extf .f32 (a : FVec Ideal S16384x2048 .bf16) hb : FVec Ideal S16384x2048 .f32) (W : FVec Ideal S2048x4096 .f32))
        hb : FVec Ideal S16384x4096 .bf16) i
      = ∑ k : Fin 2048, a (ix2 (i 0) k) * W (ix2 k (i 1)) := by
  pointwise
  done

/-- Both programs end, the arguments unchanged, with the same product. -/
theorem algebraic : Cert.algebraic_LastIdeal_LastReferenceIdeal (hLastIdeal := Cert.LastIdeal.Gen.facts)
    (hLastReferenceIdeal := Cert.LastReferenceIdeal.Gen.facts) := by
  intro m g m' g' _ hargs
  refine ⟨fun c => result m c, (θ_run _ _ _).mono (fun r h c => ?_) (Cert.LastIdeal.Value.run_blocks (F := Ideal) m g),
    (θ_run _ _ _).mono (fun r h c => ?_) (Cert.LastReferenceIdeal.Value.run (F := Ideal) m' g')⟩
  · obtain ⟨hv, h0⟩ := h c
    exact ⟨hv.trans (final m c), h0⟩
  · obtain ⟨hv, h0⟩ := h c
    refine ⟨hv.trans ?_, h0⟩
    rw [(hargs c).1, (hargs c).2]
    exact funext fun i => reference_eq _ _ i _

end Cert.LastIdeal.Hand

end
-- ==== Proof.FarRuns.lean ====
/-
  The dilation-16 projection's run, first part: the arrays at the call, the pipeline at the prefetched tables'
  contents, and the windows' staging buffers.
-/
module

public import proofs.«01_k».proof.Proof.Gen.FarIdeal.Launch
public import proofs.«01_k».proof.Proof.Gen.FarIdeal.Skeleton
public import proofs.«01_k».proof.Proof.Gen.FarIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.FarIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The run holds
    under it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_c
abbrev htbM0_0 : tbM0_0.IsWhole := Memref.isWhole_whole _
abbrev tbM0_1 : Memref sig .tc .smem S12 .i32 := Memref.whole main_c_0
abbrev htbM0_1 : tbM0_1.IsWhole := Memref.isWhole_whole _
abbrev tbM0_2 : Memref sig .tc .smem S12 .i32 := Memref.whole main_c_1
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FarIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (by decide : main_arg0 ∈ Pipeline.restRefs sig spec0)).trans (V_main_arg0 m c),
      ((h c).1 1).trans (((dats 0 c).arrAt_in 1 rfl _).trans ((hA c 1).trans (V_main_arg1 m c)))⟩) h

/-! ## The kernel body on any staging memrefs: a subtype the run finds -/

/-- One staging buffer of output window 4, through which its contents are stated (`View.read_writes_of_cover`: the
    choice does not matter). -/
abbrev VO0_4 : View sig .tc .vmem S1x2x512x512 .bf16 := (Memref.whole cc0_stg4_0 : Memref sig .tc .vmem S1x2x512x512 .bf16).view
/-- Each window's current staging memref at point `t`, spelled as the pipeline passes it (`bodyAt0`), and its wholeness. -/
abbrev ms0_0 (hO : Ok m) (t : Fin (cfgM m hO).N) : Memref sig .tc .vmem S1x2x512x4096 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4096x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1024x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2x512x512 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.FarIdeal.Gen

end
-- ==== Proof.FarRunA.lean ====
/-
  The dilation-16 projection's run, second part: the body walked once, at any grid point.
-/
module

public import proofs.«01_k».proof.Proof.FarRuns

@[expose] public section

-- membership in a rectangle of production extents (`View.cover_of_tiled`): the elaborator's structural look
-- recurses once per coordinate of the long axes
set_option maxRecDepth 16384

noncomputable section

namespace Cert.FarIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg5 : Memref sig .tc .vmem S1x2x512x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x2x512x512 .bf16) (harg9 : arg9.IsWhole)
    (x0 : Vec F S1x2x512x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) :
    { L4 : List (View.Piece (Elt F) S1x2x512x512 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ (∃ f, arg9.view.loc (c : Thread nD τ) ↦[arg9.view.set]{fullShare} arg9.view.writes (Elt F) f L4) ∗ tbPt0 c tbM0_0 xt0 ∗ tbPt0 c tbM0_1 xt1 ∗ tbPt0 c tbM0_2 xt2) -∗ K ⟨⟩))
          ⊢ wp frame (wpE (defs₀ (F := F)) Variants.none c none) E (cc0_proj_d16_n6144 i tbM0_0 htbM0_0 tbM0_1 htbM0_1 tbM0_2 htbM0_2 arg5 harg5 arg6 harg6 arg7 harg7 arg8 harg8 arg9 harg9) K } := by
  refine ⟨?_, fun E K => ?run⟩
  case run =>
    simp only [cc0_proj_d16_n6144_eq_skeleton]; unfold cc0_proj_d16_n6144_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, HT2, Hk⟩
    obtain rfl := harg5.eq_unread hf0; obtain rfl := harg6.eq_unread hf1; obtain rfl := harg7.eq_unread hf2; obtain rfl := harg8.eq_unread hf3
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]; · iexists _; iexact H4
    isplitl [HT0]; · iexact HT0
    isplitl [HT1]; · iexact HT1
    iexact HT2

end Cert.FarIdeal.Gen

end
-- ==== Proof.FarFrame.lean ====
/-
  The dilation-16 projection's run, last part: what the output block holds at each grid point, the pipeline's data,
  the launch, and the arguments left unchanged, for prefetched tables that keep every block inside its array.
-/
module

public import proofs.«01_k».proof.Proof.FarRunA
public import Idealize.ShloMosaic.Lib.Claim

@[expose] public section

-- membership in a rectangle of production extents (`View.cover_of_tiled`): the elaborator's structural look
-- recurses once per coordinate of the long axes
set_option maxRecDepth 16384

noncomputable section

namespace Cert.FarIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (16 stores of `S1x1x256x128`, checked by the kernel's evaluation: Lib/Ring.lean `Piece.tiledL`, linear in the pieces, through a loop's `@[irreducible]` trip theorem too), so they cover it. -/
theorem cover0_A_4 (c : Dev nD) (i : grid0.Coords) (arg5 : Memref sig .tc .vmem S1x2x512x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x2x512x512 .bf16) (harg9 : arg9.IsWhole)
    (x0 : Vec F S1x2x512x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) (y : S1x2x512x512.Idx) :
    ∃ pc ∈ (kernelRun0_A c i arg5 harg5 arg6 harg6 arg7 harg7 arg8 harg8 arg9 harg9 x0 x1 x2 x3 xt0 xt1 xt2).1, y ∈ pc.1.set :=
  View.cover_of_tiledL (kernelRun0_A c i arg5 harg5 arg6 harg6 arg7 harg7 arg8 harg8 arg9 harg9 x0 x1 x2 x3 xt0 xt1 xt2).1 S1x1x256x128.size (by sl_kernel_rfl) y

/-- What the run leaves in output 4's staging buffer: its pieces read back over junk. -/
def out0_A_4 (c : Dev nD) (i : grid0.Coords) (arg5 : Memref sig .tc .vmem S1x2x512x4096 .bf16) (harg5 : arg5.IsWhole) (arg6 : Memref sig .tc .vmem S4096x512 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x2x512x512 .bf16) (harg9 : arg9.IsWhole)
    (x0 : Vec F S1x2x512x4096 .bf16) (x1 : Vec F S4096x512 .f32) (x2 : Vec F S1024x128 .f32) (x3 : Vec F S1024x128 .f32) (xt0 : TbBuf0 (F := F) c tbM0_0) (xt1 : TbBuf0 (F := F) c tbM0_1) (xt2 : TbBuf0 (F := F) c tbM0_2) : Vec F S1x2x512x512 .bf16 :=
  VO0_4.read (Elt F) (VO0_4.writes (Elt F) VO0_4.junk (kernelRun0_A c i arg5 harg5 arg6 harg6 arg7 harg7 arg8 harg8 arg9 harg9 x0 x1 x2 x3 xt0 xt1 xt2).1)

/-! ## What the outputs hold after each point -/

/-- What the outputs' staging buffers hold after the body at point `t`: the run's contents at
    the point's memrefs and input blocks. -/
def outsAt0 (hO : Ok m) (c : Dev nD) (t : Fin (cfgM m hO).N) : Vec F S1x2x512x512 .bf16 :=
  out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (tbl m 2)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  unfold out0_A_4
  iintro ⟨⟨HΦ, ⟨HT0, HT1, HT2⟩⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk m hO c 0 t) (iblk m hO c 1 t) (iblk m hO c 2 t) (iblk m hO c 3 t) (tbl m 0) (tbl m 1) (tbl m 2)).2 Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  isplitl [HT2]; · iexact HT2
  iintro ⟨H0, H1, H2, H3, ⟨%e4, H4⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

/-- The arguments end unchanged and every counter at zero, for any values, under the prefetched tables' side condition. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO) ((θ_run defs _ _).mono (fun _ h => h.2) (run_main_quiescent m ρ hO))

end Cert.FarIdeal.Gen

end
-- ==== Proof.FarTables.lean ====
/-
  The dilation-16 projection's three tables hold constants, so every block it asks for lies inside its array.
-/
module

public import proofs.«01_k».proof.Proof.FarFrame
public import Idealize.ShloMosaic.Lib.Pipeline.Value
public import Idealize.ShloMosaic.PureOps.Ideal.Laws

@[expose] public section

set_option maxRecDepth 16384

noncomputable section

namespace Cert.FarIdeal.Hand

open Cert.FarIdeal Cert.FarIdeal.Gen
open Idealize.ShloMosaic Idealize.ShloMosaic.TcCoe Idealize.SL.Sem
open Idealize.ShloMosaic.StableHlo

variable {F : FTy → Type} [FloatOps F]

/-- The tables' contents: which weight block a tile reads, where its rotary rows start, and whether they move. -/
def words : pre0.Contents (Elt F)
  | ⟨0, _⟩ => fun i : S12.Idx => lit0 (S12.rowMajor i)
  | ⟨1, _⟩ => fun i : S12.Idx => lit1 (S12.rowMajor i)
  | ⟨2, _⟩ => fun i : S12.Idx => lit2 (S12.rowMajor i)

theorem tbl_eq (m : (ℓ : Loc nD τ sig) → Buf (Elt F) ℓ) : tbl m = words := by
  funext j
  match j with
  | ⟨0, _⟩ => show StableHlo.after hostOps0 (fun b => m (0, b)) (Proc.devRef .tc main_c) = _; after_results; rfl
  | ⟨1, _⟩ => show StableHlo.after hostOps0 (fun b => m (0, b)) (Proc.devRef .tc main_c_0) = _; after_results; rfl
  | ⟨2, _⟩ => show StableHlo.after hostOps0 (fun b => m (0, b)) (Proc.devRef .tc main_c_1) = _; after_results; rfl

theorem spot (i : grid0.Coords) (x : (Rect.unit (s := S12) (k0_off1 i) S1.size (k0_off1_inb i)).shape.Idx) :
    S12.rowMajor ((Rect.unit (s := S12) (k0_off1 i) S1.size (k0_off1_inb i)).idx x) = (⟨(i 1).val, (i 1).isLt⟩ : Fin 12) := by
  refine Fin.ext ?_
  have hx : (x 0).val = 0 := by have : (x 0).val < 1 := (x 0).isLt; omega
  have ho : k0_off1 i 0 = (i 1).val := congrFun (k0_off1_eq i) 0
  rw [Shape.rowMajor_val_one]
  show k0_off1 i 0 + 1 * (x 0).val = (i 1).val
  rw [hx, ho]; omega

theorem at0 (i : grid0.Coords) : (words (F := F)).at 0 (Rect.unit (s := S12) (k0_off1 i) S1.size (k0_off1_inb i)) numel1_S1 = lit0 ⟨(i 1).val, (i 1).isLt⟩ :=
  congrArg lit0 (spot i _)
theorem at1 (i : grid0.Coords) : (words (F := F)).at 1 (Rect.unit (s := S12) (k0_off1 i) S1.size (k0_off1_inb i)) numel1_S1 = lit1 ⟨(i 1).val, (i 1).isLt⟩ :=
  congrArg lit1 (spot i _)
theorem at2 (i : grid0.Coords) : (words (F := F)).at 2 (Rect.unit (s := S12) (k0_off1 i) S1.size (k0_off1_inb i)) numel1_S1 = lit2 ⟨(i 1).val, (i 1).isLt⟩ :=
  congrArg lit2 (spot i _)

theorem rowW (i : grid0.Coords) : cc0_transform_1 k0_off1_inb numel1_S1 (words (F := F)) i = ![0, (lit0 ⟨(i 1).val, (i 1).isLt⟩).toNat] := by
  refine Eq.trans ?_ (congrArg (fun v : BitVec 32 => ![0, v.toNat]) (at0 (F := F) i))
  rfl

theorem rowT_ideal : ∀ i : grid0.Coords, cc0_transform_2 k0_off1_inb numel1_S1 (words (F := Ideal)) i
    = ![(lit1 ⟨(i 1).val, (i 1).isLt⟩).toNat + (lit2 ⟨(i 1).val, (i 1).isLt⟩).toNat * ((i 0).val % 8), 0] := by
  decide +kernel

theorem rowT (i : grid0.Coords) : cc0_transform_2 k0_off1_inb numel1_S1 (words (F := F)) i
    = ![(lit1 ⟨(i 1).val, (i 1).isLt⟩).toNat + (lit2 ⟨(i 1).val, (i 1).isLt⟩).toNat * ((i 0).val % 8), 0] :=
  rowT_ideal i

theorem rowT3 (i : grid0.Coords) : cc0_transform_3 k0_off1_inb numel1_S1 (words (F := F)) i
    = ![(lit1 ⟨(i 1).val, (i 1).isLt⟩).toNat + (lit2 ⟨(i 1).val, (i 1).isLt⟩).toNat * ((i 0).val % 8), 0] :=
  rowT_ideal i

theorem wide : ∀ j : Fin 12, (lit0 j).toNat < 40 := by decide +kernel
theorem tall : ∀ j : Fin 12, (lit1 j).toNat + (lit2 j).toNat * 7 < 17 ∧ (lit2 j).toNat ≤ 1 := by decide +kernel

theorem ok (m : (ℓ : Loc nD τ sig) → Buf (Elt F) ℓ) : Ok m := by
  show ok0 (tbl m)
  rw [tbl_eq]
  have hT : ∀ i : grid0.Coords, ∀ a, (cc0_transform_2 k0_off1_inb numel1_S1 (words (F := F)) i a + 1) * S1024x128.size a ≤ S17408x128.size a := by
    intro i
    have h := tall ⟨(i 1).val, (i 1).isLt⟩
    have h' : (i 0).val % 8 ≤ 7 := by omega
    rw [rowT]
    intro a
    match a with
    | ⟨0, _⟩ =>
      show (_ + _ * _ + 1) * 1024 ≤ 17408
      have := Nat.mul_le_mul_left (lit2 ⟨(i 1).val, (i 1).isLt⟩).toNat h'
      omega
    | ⟨1, _⟩ => show (0 + 1) * 128 ≤ 128; omega
  refine ⟨fun i => ⟨?_, .inl rfl⟩, fun i => ⟨hT i, .inl rfl⟩, fun i => ⟨hT i, .inl rfl⟩⟩
  have h := wide ⟨(i 1).val, (i 1).isLt⟩
  rw [rowW]
  intro a
  match a with
  | ⟨0, _⟩ => show (0 + 1) * 4096 ≤ 4096; omega
  | ⟨1, _⟩ => show ((lit0 ⟨(i 1).val, (i 1).isLt⟩).toNat + 1) * 512 ≤ 20480; omega

end Cert.FarIdeal.Hand

end
-- ==== Proof.FarSame.lean ====
module

public import proofs.«01_k».proof.Defs
public import proofs.«01_k».proof.Proof.Gen.Far
public import proofs.«01_k».proof.Proof.FarFrame
public import proofs.«01_k».proof.Proof.FarTables
public import proofs.«01_k».proof.Proof.Gen.FarReferenceIdeal.Run

/-!
# The dilation-16 projection as printed and its ideal reading are one program

At words the two printed texts of the projection coincide, so the run proved once, for any values, is the
run of both.
-/

@[expose] public section

noncomputable section

namespace Cert.Far

open Idealize.ShloMosaic Idealize.SL.Sem

set_option maxRecDepth 65536
set_option maxHeartbeats 4000000

attribute [local instance] Cert.Far.Gen.facts Cert.FarIdeal.Gen.facts

theorem body_eq : @Cert.Far.cc0_proj_d16_n6144 Bits _ _ = @Cert.FarIdeal.cc0_proj_d16_n6144 Bits _ _ := rfl

theorem rows_eq : @Cert.Far.defs₀ Bits _ _ = @Cert.FarIdeal.defs₀ Bits _ _ := by
  unfold Cert.Far.defs₀ Cert.FarIdeal.defs₀
  rw [body_eq]
  refine congrArg Defs.onTc (funext fun l => ?_)
  match l with
  | 0 => exact funext fun ⟨t, s⟩ => rfl

theorem defs_eq : @Cert.Far.defs Bits _ _ = @Cert.FarIdeal.defs Bits _ _ := by
  unfold Cert.Far.defs Cert.FarIdeal.defs
  exact congrArg (Pipeline.defs (Cert.FarIdeal.pcfgs (F := Bits))) rows_eq

theorem host_eq : @Cert.Far.main Bits _ _ = @Cert.FarIdeal.main Bits _ _ := rfl

/-- The projection at words ends with its arguments unchanged and every counter at zero. -/
theorem run_words : Cert.quiescent_Far (hFar := Cert.Far.Gen.facts) := fun m g _ => by
  have h := Cert.FarIdeal.Gen.frame (F := Bits) m g (Cert.FarIdeal.Hand.ok m)
  rw [← defs_eq, ← host_eq] at h
  exact h

/-- The same of its ideal reading. -/
theorem run_ideal : Cert.quiescent_FarIdeal (hFarIdeal := Cert.FarIdeal.Gen.facts) := fun m g _ =>
  Cert.FarIdeal.Gen.frame (F := Ideal) m g (Cert.FarIdeal.Hand.ok m)

/-- The reference ends with its arguments unchanged and every counter at zero. -/
theorem run_reference : Cert.quiescent_FarReferenceIdeal (hFarReferenceIdeal := Cert.FarReferenceIdeal.Gen.facts) := fun m g _ =>
  (θ_run _ _ _).mono (fun r h => ⟨fun c => (h c).2, Idealize.ShloMosaic.sem_eq_zero_of_no_sems (by decide) r.2⟩)
    (Cert.FarReferenceIdeal.Value.run (F := Ideal) m g)

end Cert.Far

end
-- ==== Proof.FarBlock.lean ====
/-
  The block the dilation-16 projection's body leaves: each product row and column, times the cosine row, plus the product at the
  column half a head away, times the sine row.
-/
module

public import proofs.«01_k».proof.Proof.FarTables
public import proofs.«01_k».proof.Proof.ProjBlock
public import Idealize.ShloMosaic.Lib.Pointwise
public import Idealize.ShloMosaic.Lib.Pipeline.Value

@[expose] public section

set_option maxRecDepth 16384

noncomputable section

namespace Cert.FarIdeal.Hand

open Cert.FarIdeal Cert.FarIdeal.Gen
open Cert.ProjectIdeal.Hand (partner lane)
open Idealize.ShloMosaic Idealize.ShloMosaic.TcCoe Idealize.SL.Sem

/-- One row of one of the two streams times one column. -/
def product (x0 : Vec Ideal S1x2x512x4096 .bf16) (x1 : Vec Ideal S4096x512 .f32) (q : Fin 2) (r l : Fin 512) : EReal :=
  ∑ k : Fin 4096, x0 (ix4 0 q r k) * x1 (ix2 k l)

/-- The row of the angle tables for a row of a stream. -/
def under (q : Fin 2) (r : Fin 512) : Fin 1024 := ⟨q.val * 512 + r.val, by omega⟩

/-- The block the body leaves. -/
def blockVal (x0 : Vec Ideal S1x2x512x4096 .bf16) (x1 : Vec Ideal S4096x512 .f32) (x2 x3 : Vec Ideal S1024x128 .f32)
    (y : S1x2x512x512.Idx) : Elt Ideal .bf16 :=
  show EReal from
  product x0 x1 (y 1) (y 2) (y 3) * x2 (ix2 (under (y 1) (y 2)) (lane (y 3)))
    + product x0 x1 (y 1) (y 2) (partner (y 3)) * x3 (ix2 (under (y 1) (y 2)) (lane (y 3)))

/-- A chunk's element is the block's at its own stream, row and column. -/
theorem fit (x0 : Vec Ideal S1x2x512x4096 .bf16) (x1 : Vec Ideal S4096x512 .f32) (x2 x3 : Vec Ideal S1024x128 .f32)
    (y : S1x2x512x512.Idx) (q : Fin 2) (R L P : Fin 512) (T : Fin 1024) (d : Fin 128) (hq : q.val = (y 1).val) (hR : R.val = (y 2).val)
    (hL : L.val = (y 3).val) (hP : P.val = (partner (y 3)).val) (hT : T.val = (under (y 1) (y 2)).val) (hd : d.val = (lane (y 3)).val) :
    (show EReal from (∑ k : Fin 4096, x0 (ix4 0 q R k) * x1 (ix2 k L)) * x2 (ix2 T d)
      + (∑ k : Fin 4096, x0 (ix4 0 q R k) * x1 (ix2 k P)) * x3 (ix2 T d)) = blockVal x0 x1 x2 x3 y := by
  have eq : q = y 1 := Fin.ext hq
  have eR : R = y 2 := Fin.ext hR
  have eL : L = y 3 := Fin.ext hL
  have eP : P = partner (y 3) := Fin.ext hP
  have eT : T = under (y 1) (y 2) := Fin.ext hT
  have ed : d = lane (y 3) := Fin.ext hd
  rw [eq, eR, eL, eP, eT, ed]
  rfl

set_option maxHeartbeats 2000000 in
/-- The body's block, at each of its elements. -/
theorem out_apply (c : Dev nD) (i : grid0.Coords) (a5 : Memref sig .tc .vmem S1x2x512x4096 .bf16) (h5 : a5.IsWhole)
    (a6 : Memref sig .tc .vmem S4096x512 .f32) (h6 : a6.IsWhole) (a7 : Memref sig .tc .vmem S1024x128 .f32) (h7 : a7.IsWhole)
    (a8 : Memref sig .tc .vmem S1024x128 .f32) (h8 : a8.IsWhole) (a9 : Memref sig .tc .vmem S1x2x512x512 .bf16) (h9 : a9.IsWhole)
    (x0 : Vec Ideal S1x2x512x4096 .bf16) (x1 : Vec Ideal S4096x512 .f32) (x2 x3 : Vec Ideal S1024x128 .f32)
    (t0 : TbBuf0 (F := Ideal) c tbM0_0) (t1 : TbBuf0 (F := Ideal) c tbM0_1) (t2 : TbBuf0 (F := Ideal) c tbM0_2) (y : S1x2x512x512.Idx) :
    out0_A_4 (F := Ideal) c i a5 h5 a6 h6 a7 h7 a8 h8 a9 h9 x0 x1 x2 x3 t0 t1 t2 y = blockVal x0 x1 x2 x3 y := by
  unfold out0_A_4
  rw [View.read_writes_eq_canon _ _ _ (cover0_A_4 c i a5 h5 a6 h6 a7 h7 a8 h8 a9 h9 x0 x1 x2 x3 t0 t1 t2)]
  refine View.canon_apply_of_pieces (Val := Elt Ideal) (blockVal x0 x1 x2 x3) _ (fun p hp x => ?_) y
    (cover0_A_4 c i a5 h5 a6 h6 a7 h7 a8 h8 a9 h9 x0 x1 x2 x3 t0 t1 t2 y)
  unfold kernelRun0_A at hp
  dsimp only at hp
  simp only [List.mem_cons, List.not_mem_nil, or_false] at hp
  rcases hp with rfl | rfl | rfl | rfl | rfl | rfl | rfl | rfl | rfl | rfl | rfl | rfl | rfl | rfl | rfl | rfl
  all_goals
    sl_unfold_words
    simp only [View.readAt_eq_ld, h5.read_unread, h6.read_unread, h7.read_unread, h8.read_unread]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    have hx : (x 3).val < 128 := (x 3).isLt
    have hx1 : (x 1).val = 0 := by have : (x 1).val < 1 := (x 1).isLt; omega
    exact fit _ _ _ _ _ _ _ _ _ _ _ (by simp [hx1]) (by simp) (by simp) (by simp [partner] <;> omega) (by simp [under, hx1] <;> omega)
      (by simp [lane] <;> omega)

end Cert.FarIdeal.Hand

end
-- ==== Proof.FarSpec.lean ====
/-
  The order of the positions in the projection for the heads of dilation 16: row `p` of a batch's sixteen streams holds
  position `p % 512 * 16 + p / 512`.
-/
module

public import proofs.«01_k».proof.Proof.StrSpec

@[expose] public section

namespace Cert.Streams

/-- The position that row `p` of the sixteen streams, one after the other, holds. -/
def afar (p : Nat) : Nat := p % 512 * 16 + p / 512

theorem afar_lt (p : Nat) (hp : p < 8192) : afar p < 8192 := by
  unfold afar; omega

/-- The physical row of a grid point's row holds the position that row stands for: two streams a step. -/
theorem afar_place (t q r : Nat) (hq : q < 2) (hr : r < 512) :
    afar (t / 12 % 8 * 1024 + (q * 512 + r)) = r * 16 + (t / 12 % 8 * 2 + q) := by
  generalize t / 12 % 8 = n
  unfold afar
  omega

end Cert.Streams

end
-- ==== Proof.FarHost.lean ====
/-
  What the dilation-16 projection's host code leaves in the arrays that its call reads.
-/
module

public import proofs.«01_k».proof.Proof.FarBlock
public import proofs.«01_k».proof.Proof.FarSpec

@[expose] public section

set_option maxRecDepth 16384

noncomputable section

namespace Cert.FarIdeal.Hand

open Cert.FarIdeal Cert.FarIdeal.Gen
open Idealize.ShloMosaic Idealize.ShloMosaic.TcCoe Idealize.SL.Sem
open Idealize.ShloMosaic.StableHlo
open Cert.Projection (angle cosAt sinAt pick)
open Cert.Streams

variable (m : (ℓ : Loc nD τ sig) → Buf (Elt Ideal) ℓ)

abbrev ax (c : Dev nD) : Vec Ideal S2x8192x4096 .f32 := m ((c : Thread nD τ).loc main_arg0)
abbrev aw (c : Dev nD) : Vec Ideal S4096x20480 .f32 := m ((c : Thread nD τ).loc main_arg1)

theorem act_apply (c : Dev nD) (b : Fin 2) (r : Fin 16) (i : Fin 512) (k : Fin 4096) (s : Fin 8192) (hs : s.val = i.val * 16 + r.val) :
    (V m c main_v2 : Vec Ideal S2x16x512x4096 .bf16) (ix4 b r i k) = ax m c (ix3 b s k) := by
  have e : (V m c main_v2 : Vec Ideal S2x16x512x4096 .bf16) = transpose S2x16x512x4096 [0, 2, 1, 3]
      (shapeCast S2x512x16x4096 (truncf .bf16 (ax m c) bitsLt_bf16_f32 : FVec Ideal S2x8192x4096 .bf16) shapeCasts_S2x8192x4096_S2x512x16x4096 : FVec Ideal S2x512x16x4096 .bf16)
      transposes_S2x512x16x4096_S2x16x512x4096_0_2_1_3 := by
    show StableHlo.after hostOps0 (fun b => m (c, b)) (Proc.devRef .tc main_v2) = _
    after_results
    rfl
  rw [e]
  pointwise
  exact congrArg (fun z => ax m c (ix3 b z k)) (Fin.ext hs.symm)

/-- The angles: position times inverse frequency. -/
def angles : FVec Ideal S8192x64 .f32 :=
  mulf (broadcastInDim S8192x64 ![0, 1] bcast_S8192x1_S8192x64_0_1
      (broadcastInDim S8192x1 ![0] bcast_S8192_S8192x1_0
        (sitofp .f32 (shapeCast S8192 (transpose S16x512 [1, 0] (shapeCast S512x16 (iotaInDim S8192 32 0 : IVec S8192 32) shapeCasts_S8192_S512x16 : IVec S512x16 32) transposes_S512x16_S16x512_1_0 : IVec S16x512 32) shapeCasts_S16x512_S8192 : IVec S8192 32) : FVec Ideal S8192 .f32)))
    (broadcastInDim S8192x64 ![0, 1] bcast_S1x64_S8192x64_0_1
      (broadcastInDim S1x64 ![1] bcast_S64_S1x64_1
        (Host.powf (broadcastInDim S64 ![] bcast_S_S64 (constant S_ .f32 0x461C4000#32 : FVec Ideal S_ .f32))
          (Host.divf (Host.negf (sitofp .f32 (iotaInDim S64 32 0 : IVec S64 32) : FVec Ideal S64 .f32))
            (broadcastInDim S64 ![] bcast_S_S64 (constant S_ .f32 0x42800000#32 : FVec Ideal S_ .f32))))))

def cosRow : FVec Ideal S8192x128 .f32 :=
  concatenate S8192x128 1 [⟨S8192x64, (Host.cos angles : FVec Ideal S8192x64 .f32)⟩, ⟨S8192x64, (Host.cos angles : FVec Ideal S8192x64 .f32)⟩] concatenates_S8192x64_S8192x64_S8192x128_d1
def sinRow : FVec Ideal S8192x128 .f32 :=
  concatenate S8192x128 1 [⟨S8192x64, (Host.negf (Host.sin angles) : FVec Ideal S8192x64 .f32)⟩, ⟨S8192x64, (Host.sin angles : FVec Ideal S8192x64 .f32)⟩] concatenates_S8192x64_S8192x64_S8192x128_d1

abbrev fill (s : Shape) (h : S_.BroadcastsInDim s ![]) (v : BitVec 32) : FVec Ideal s .f32 := broadcastInDim s ![] h (constant S_ .f32 v : FVec Ideal S_ .f32)

def cosTab : Vec Ideal S17408x128 .f32 :=
  concatenate S17408x128 0 [⟨S1024x128, fill _ bcast_S_S1024x128 0x3F800000#32⟩,
    ⟨S8192x128, mulf cosRow (fill _ bcast_S_S8192x128 0x3DB504F3#32)⟩, ⟨S8192x128, mulf cosRow (fill _ bcast_S_S8192x128 0x3F800000#32)⟩]
    concatenates_S1024x128_S8192x128_S8192x128_S17408x128_d0
def sinTab : Vec Ideal S17408x128 .f32 :=
  concatenate S17408x128 0 [⟨S1024x128, fill _ bcast_S_S1024x128 0x00000000#32⟩,
    ⟨S8192x128, mulf sinRow (fill _ bcast_S_S8192x128 0x3DB504F3#32)⟩, ⟨S8192x128, mulf sinRow (fill _ bcast_S_S8192x128 0x3F800000#32)⟩]
    concatenates_S1024x128_S8192x128_S8192x128_S17408x128_d0

theorem cos_eq (c : Dev nD) : (V m c main_v34 : Vec Ideal S17408x128 .f32) = cosTab := by
  show StableHlo.after hostOps0 (fun b => m (c, b)) (Proc.devRef .tc main_v34) = _
  after_results_simp <;> (try dsimp only [Matrix.cons_val]) <;> (try after_results_simp) <;> rfl

theorem sin_eq (c : Dev nD) : (V m c main_v35 : Vec Ideal S17408x128 .f32) = sinTab := by
  show StableHlo.after hostOps0 (fun b => m (c, b)) (Proc.devRef .tc main_v35) = _
  after_results_simp <;> (try dsimp only [Matrix.cons_val]) <;> (try after_results_simp) <;> rfl

theorem ang_apply (s : Fin 8192) (q : Nat) (h : q < 64) : angles (ix2 s ⟨q, h⟩) = angle (afar s.val) q := by
  unfold angles
  pointwise
  rfl

theorem cosRow_apply (s : Fin 8192) (d : Fin 128) : cosRow (ix2 s d) = cosAt (afar s.val) d.val := by
  unfold cosRow cosAt
  pointwise
  simp only [ang_apply]
  rfl

theorem sinRow_apply (s : Fin 8192) (d : Fin 128) : sinRow (ix2 s d) = sinAt (afar s.val) d.val := by
  unfold sinRow sinAt
  pointwise
  simp only [ang_apply]
  rfl

theorem cosTab_apply (r : Fin 17408) (d : Fin 128) : cosTab (ix2 r d) = cosBy afar r.val d.val := by
  unfold cosTab cosBy
  pointwise
  simp only [cosRow_apply]
  refine pick Iff.rfl (fun _ => rfl) fun _ => ?_
  refine pick (by omega) (fun _ => rfl) fun _ => ?_
  exact congrArg (fun n => cosAt (afar n) d.val) (by omega)

theorem sinTab_apply (r : Fin 17408) (d : Fin 128) : sinTab (ix2 r d) = sinBy afar r.val d.val := by
  unfold sinTab sinBy
  pointwise
  simp only [sinRow_apply]
  refine pick Iff.rfl (fun _ => rfl) fun _ => ?_
  refine pick (by omega) (fun _ => rfl) fun _ => ?_
  exact congrArg (fun n => sinAt (afar n) d.val) (by omega)

end Cert.FarIdeal.Hand

end
-- ==== Proof.FarRef.lean ====
/-
  What the dilation-16 projection's reference computes, element by element.
-/
module

public import proofs.«01_k».proof.Proof.Gen.FarReferenceIdeal.Run
public import proofs.«01_k».proof.Proof.Gen.FarReferenceIdeal.Read
public import proofs.«01_k».proof.Proof.ProjRef
public import proofs.«01_k».proof.Proof.FarSpec
public import Idealize.ShloMosaic.Lib.Pipeline.Value

@[expose] public section

set_option maxRecDepth 16384

noncomputable section

namespace Cert.FarReferenceIdeal.Hand

open Cert.FarReferenceIdeal Cert.FarReferenceIdeal.Read
open Cert.Projection (column column_of angle turned pick)
open Cert.Streams (scale entry turned_from)
open Cert.ProjectReferenceIdeal.Hand (turn_one turned_at)
open Idealize.ShloMosaic Idealize.ShloMosaic.TcCoe Idealize.SL.Sem
open Idealize.ShloMosaic.StableHlo

variable (x0 : Vec Ideal S2x8192x4096 .f32) (x1 : Vec Ideal S4096x20480 .f32)

/-- The columns of the product, for one row of the activations. -/
abbrev cols (b : Fin 2) (s : Fin 8192) : Nat → EReal :=
  column (fun k : Fin 4096 => x0 (ix3 b s k)) (fun (k : Fin 4096) (C : Fin 20480) => x1 (ix2 k C))

theorem dot_apply (b : Fin 2) (s : Fin 8192) (n : Nat) (h : n < 20480) :
    val_main_v0 (F := Ideal) x0 x1 (ix3 b s ⟨n, h⟩) = cols x0 x1 b s n := by
  refine Eq.trans ?_ (column_of _ _ n h)
  pointwise [val_main_v0]

theorem ang_apply (s : Fin 8192) (n : Nat) (h : n < 64) : val_main_v18 (F := Ideal) (ix2 s ⟨n, h⟩) = angle s.val n := by
  pointwise [val_main_v18, val_main_v17, val_main_v16, val_main_v15, val_main_v14, val_main_v13, val_main_v12, val_main_v11, val_main_v10, val_main_v9, val_main_v8, val_main_v7, val_main_cst, val_main_cst_0, val_main_v5]
  rfl
theorem ang_apply' (s : Fin 8192) (n : Nat) (h : n < 64) : val_main_v56 (F := Ideal) (ix2 s ⟨n, h⟩) = angle s.val n :=
  ang_apply s n h

/-- The queries, turned. -/
theorem queries (b : Fin 2) (s : Fin 8192) (l : Nat) (hl : l < 2048) :
    val_main_v41 (F := Ideal) x0 x1 (ix3 b s ⟨l, hl⟩) = turned (cols x0 x1 b s) s.val 1 (l + 4096) l := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v6, val_main_v1]
  simp only [dot_apply, ang_apply]
  exact turn_one _ _ _ _ _ _ _ _ (by omega) (by omega)

/-- The keys, turned. -/
theorem keys (b : Fin 2) (s : Fin 8192) (l : Nat) (hl : l < 2048) :
    val_main_v79 (F := Ideal) x0 x1 (ix3 b s ⟨l, hl⟩) = turned (cols x0 x1 b s) s.val 1 (l + 10240) l := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v44, val_main_v2]
  simp only [dot_apply, ang_apply']
  exact turn_one _ _ _ _ _ _ _ _ (by omega) (by omega)

/-- The queries, scaled. -/
theorem scaled (b : Fin 2) (s : Fin 8192) (l : Nat) (hl : l < 2048) :
    val_main_v43 (F := Ideal) x0 x1 (ix3 b s ⟨l, hl⟩) = turned (cols x0 x1 b s) s.val 1 (l + 4096) l * scale := by
  rw [val_main_v43_apply, val_main_v42_apply, val_main_cst_1_apply, queries]
  generalize turned (cols x0 x1 b s) s.val 1 (l + 4096) l = z
  rfl

/-- The values. -/
theorem values (b : Fin 2) (s : Fin 8192) (l : Nat) (hl : l < 2048) :
    val_main_v80 (F := Ideal) x0 x1 (ix3 b s ⟨l, hl⟩) = cols x0 x1 b s (l + 16384) := by
  pointwise [val_main_v80, val_main_v3]
  simp only [dot_apply]
  exact congrArg (cols x0 x1 b s) (by omega)

/-- The whole result: in stream `q`, row `i` is position `16 * i + q`; the columns are counted from the third group's first. -/
theorem result_apply (b : Fin 2) (q : Fin 16) (i : Fin 512) (L : Fin 6144) (s : Fin 8192) (hs : s.val = i.val * 16 + q.val) :
    val_main_v84 (F := Ideal) x0 x1 (ix4 b q i L) = entry (fun n => cols x0 x1 b s (n + 4096)) s.val L.val := by
  have e : val_main_v84 (F := Ideal) x0 x1 (ix4 b q i L) = val_main_v81 (F := Ideal) x0 x1 (ix3 b s L) := by
    pointwise [val_main_v84, val_main_v83, val_main_v82]
    exact congrArg (fun z => val_main_v81 (F := Ideal) x0 x1 (ix3 b z L)) (Fin.ext hs.symm)
  have hL : L.val < 6144 := L.isLt
  rw [e]
  pointwise [val_main_v81]
  simp only [scaled, keys, values]
  unfold entry
  refine pick (by omega) (fun _ => ?_) fun _ => ?_
  · rw [turned_from _ _ _ _ _ _ (by omega)]
  refine pick (by omega) (fun _ => ?_) fun _ => ?_
  · rw [turned_from _ _ _ _ _ _ (by omega)]
    exact turned_at _ _ _ (by omega) (by omega)
  rw [if_pos (by omega)]
  exact congrArg (cols x0 x1 b s) (by omega)

end Cert.FarReferenceIdeal.Hand

end
-- ==== Proof.FarValue.lean ====
/-
  The array the dilation-16 projection leaves: every element is its column of the product, times the first table's entry, plus the
  column across times the second's; and the reference's array is the same.
-/
module

public import proofs.«01_k».proof.Defs
public import proofs.«01_k».proof.Proof.FarBlock
public import proofs.«01_k».proof.Proof.FarHost
public import proofs.«01_k».proof.Proof.FarRef

@[expose] public section

set_option maxRecDepth 16384

noncomputable section

namespace Cert.FarIdeal.Hand

open Cert.FarIdeal Cert.FarIdeal.Gen
open Idealize.ShloMosaic Idealize.ShloMosaic.TcCoe Idealize.SL.Sem
open Cert.Projection (column column_of across)
open Cert.Streams
open Cert.ProjectIdeal.Hand (partner lane)

variable (m : (ℓ : Loc nD τ sig) → Buf (Elt Ideal) ℓ)

/-- The columns of the product, for one row of the activations. -/
abbrev cols (c : Dev nD) (b : Fin 2) (s : Fin 8192) : Nat → EReal :=
  column (fun k : Fin 4096 => ax m c (ix3 b s k)) (fun (k : Fin 4096) (C : Fin 20480) => aw m c (ix2 k C))

/-- The position of row `i` of stream `q`. -/
def at16 (q : Fin 16) (i : Fin 512) : Fin 8192 := ⟨i.val * 16 + q.val, by omega⟩

/-- The whole result. -/
def result (c : Dev nD) : Vec Ideal S2x16x512x6144 .bf16 := fun i =>
  show EReal from blend (fun n => cols m c (i 0) (at16 (i 1) (i 2)) (n + 4096)) (at16 (i 1) (i 2)).val (i 3).val

theorem idx0 : ∀ t : Fin grid0.N, cc0_transform_0 (grid0.coords t) = ![t.val / 96, t.val / 12 % 8, 0, 0] := by decide +kernel
theorem idx4 : ∀ t : Fin grid0.N, cc0_transform_4 (grid0.coords t) = ![t.val / 96, t.val / 12 % 8, 0, t.val % 12] := by decide +kernel
theorem co0 (t : Fin grid0.N) : (grid0.coords t 0).val = t.val / 12 % 16 :=
  Pipeline.Grid.coords_val t 0 (by decide) rfl
theorem co1 (t : Fin grid0.N) : (grid0.coords t 1).val = t.val % 12 := by
  have := Pipeline.Grid.coords_val t 1 (S := 1) (B := 12) (by decide) rfl
  omega

theorem source_at : ∀ j : Fin 12, (lit0 j).toNat = source j.val + 8 := by decide +kernel
theorem source_low : ∀ j : Fin 12, source j.val < 32 := by decide +kernel
theorem row_eq : ∀ j : Fin 12, ∀ q : Fin 8, (lit1 j).toNat + (lit2 j).toNat * q.val = row j.val (q.val * 1024) / 1024 := by decide +kernel

variable (hO : Ok m)

theorem win0 (t : Fin (cfgM m hO).N) : @Eq (Fin 4 → Nat) (((cfgM m hO).win 0).index t) ![t.val / 96, t.val / 12 % 8, 0, 0] := idx0 t
theorem win4 (t : Fin (cfgM m hO).N) : @Eq (Fin 4 → Nat) (((cfgM m hO).win 4).index t) ![t.val / 96, t.val / 12 % 8, 0, t.val % 12] := idx4 t
theorem win1 (t : Fin (cfgM m hO).N) : @Eq (Fin 2 → Nat) (((cfgM m hO).win 1).index t) ![0, source (t.val % 12) + 8] := by
  show cc0_transform_1 k0_off1_inb numel1_S1 (tbl m) (grid0.coords t) = _
  rw [tbl_eq, rowW, source_at]
  show ![0, source (grid0.coords t 1).val + 8] = _
  rw [co1]
theorem win2 (t : Fin (cfgM m hO).N) : @Eq (Fin 2 → Nat) (((cfgM m hO).win 2).index t) ![row (t.val % 12) (t.val / 12 % 8 * 1024) / 1024, 0] := by
  show cc0_transform_2 k0_off1_inb numel1_S1 (tbl m) (grid0.coords t) = _
  have hq : (grid0.coords t 0).val % 8 = t.val / 12 % 8 := by rw [co0]; omega
  rw [tbl_eq, rowT, row_eq _ ⟨(grid0.coords t 0).val % 8, Nat.mod_lt _ (by decide)⟩]
  show ![row (grid0.coords t 1).val ((grid0.coords t 0).val % 8 * 1024) / 1024, 0] = _
  rw [co1, hq]
theorem win3 (t : Fin (cfgM m hO).N) : @Eq (Fin 2 → Nat) (((cfgM m hO).win 3).index t) ![row (t.val % 12) (t.val / 12 % 8 * 1024) / 1024, 0] :=
  win2 m hO t

def place0 (t : Fin (cfgM m hO).N) (y : S1x2x512x4096.Idx) : S2x16x512x4096.Idx := (((cfgM m hO).win 0).blk t).view.emb y

theorem blk0 (c : Dev nD) (t : Fin (cfgM m hO).N) (q : Fin 2) (r : Fin 512) (k : Fin 4096) (b : Fin 2) (s : Fin 8192)
    (hb : b.val = t.val / 96) (hs : s.val = r.val * 16 + (t.val / 12 % 8 * 2 + q.val)) :
    (iblk m hO c 0 t : Vec Ideal S1x2x512x4096 .bf16) (ix4 0 q r k) = ax m c (ix3 b s k) := by
  unfold iblk
  have hN : (cfgM m hO).N = 192 := N_0
  rw [← act_apply m c b ⟨t.val / 12 % 8 * 2 + q.val, by omega⟩ r k s hs]
  show (V m c main_v2 : Vec Ideal S2x16x512x4096 .bf16) (place0 m hO t (ix4 0 q r k)) = (V m c main_v2 : Vec Ideal S2x16x512x4096 .bf16) _
  refine congrArg (V m c main_v2 : Vec Ideal S2x16x512x4096 .bf16) (funext fun a => Fin.ext ?_)
  have e := win0 m hO t
  match a with
  | ⟨0, _⟩ => show ((cfgM m hO).win 0).index t (0 : Fin 4) * 1 + 1 * 0 = b.val; rw [congrFun e (0 : Fin 4)]; show t.val / 96 * 1 + 1 * 0 = _; omega
  | ⟨1, _⟩ => show ((cfgM m hO).win 0).index t (1 : Fin 4) * 2 + 1 * q.val = t.val / 12 % 8 * 2 + q.val; rw [congrFun e (1 : Fin 4)]; show t.val / 12 % 8 * 2 + 1 * q.val = _; omega
  | ⟨2, _⟩ => show ((cfgM m hO).win 0).index t (2 : Fin 4) * 512 + 1 * r.val = r.val; rw [congrFun e (2 : Fin 4)]; show 0 * 512 + 1 * r.val = _; omega
  | ⟨3, _⟩ => show ((cfgM m hO).win 0).index t (3 : Fin 4) * 4096 + 1 * k.val = k.val; rw [congrFun e (3 : Fin 4)]; show 0 * 4096 + 1 * k.val = _; omega

def place1 (t : Fin (cfgM m hO).N) (y : S4096x512.Idx) : S4096x20480.Idx := (((cfgM m hO).win 1).blk t).view.emb y

theorem blk1 (c : Dev nD) (t : Fin (cfgM m hO).N) (k : Fin 4096) (l : Fin 512) (n : Fin 20480)
    (h : n.val = (source (t.val % 12) + 8) * 512 + l.val) :
    (iblk m hO c 1 t : Vec Ideal S4096x512 .f32) (ix2 k l) = aw m c (ix2 k n) := by
  unfold iblk
  refine Eq.trans ?_ (congrFun (V_main_arg1 m c) (ix2 k n))
  show (V m c main_arg1 : Vec Ideal S4096x20480 .f32) (place1 m hO t (ix2 k l)) = (V m c main_arg1 : Vec Ideal S4096x20480 .f32) _
  refine congrArg (V m c main_arg1 : Vec Ideal S4096x20480 .f32) (funext fun a => Fin.ext ?_)
  have e := win1 m hO t
  match a with
  | ⟨0, _⟩ => show ((cfgM m hO).win 1).index t (0 : Fin 2) * 4096 + 1 * k.val = k.val; rw [congrFun e (0 : Fin 2)]; show 0 * 4096 + 1 * k.val = _; omega
  | ⟨1, _⟩ => show ((cfgM m hO).win 1).index t (1 : Fin 2) * 512 + 1 * l.val = n.val; rw [congrFun e (1 : Fin 2), h]
              show (source (t.val % 12) + 8) * 512 + 1 * l.val = _; omega

def place2 (t : Fin (cfgM m hO).N) (y : S1024x128.Idx) : S17408x128.Idx := (((cfgM m hO).win 2).blk t).view.emb y

theorem blk2 (c : Dev nD) (t : Fin (cfgM m hO).N) (r : Fin 1024) (d : Fin 128) (s : Nat)
    (hs : s = t.val / 12 % 8 * 1024 + r.val) :
    (iblk m hO c 2 t : Vec Ideal S1024x128 .f32) (ix2 r d) = cosBy afar (row (t.val % 12) s) d.val := by
  unfold iblk
  refine Eq.trans ?_ (cosTab_apply ⟨row (t.val % 12) s, row_lt _ _ (by omega)⟩ d)
  rw [← cos_eq m c]
  show (V m c main_v34 : Vec Ideal S17408x128 .f32) (place2 m hO t (ix2 r d)) = (V m c main_v34 : Vec Ideal S17408x128 .f32) _
  refine congrArg (V m c main_v34 : Vec Ideal S17408x128 .f32) (funext fun a => Fin.ext ?_)
  have e := win2 m hO t
  have h := row_split (t.val % 12) s r.val r.isLt (by omega)
  rw [show s / 1024 = t.val / 12 % 8 by omega] at h
  match a with
  | ⟨0, _⟩ => show ((cfgM m hO).win 2).index t (0 : Fin 2) * 1024 + 1 * r.val = row (t.val % 12) s; rw [congrFun e (0 : Fin 2), h]
              show row (t.val % 12) (t.val / 12 % 8 * 1024) / 1024 * 1024 + 1 * r.val = _; omega
  | ⟨1, _⟩ => show ((cfgM m hO).win 2).index t (1 : Fin 2) * 128 + 1 * d.val = d.val; rw [congrFun e (1 : Fin 2)]; show 0 * 128 + 1 * d.val = _; omega

def place3 (t : Fin (cfgM m hO).N) (y : S1024x128.Idx) : S17408x128.Idx := (((cfgM m hO).win 3).blk t).view.emb y

theorem blk3 (c : Dev nD) (t : Fin (cfgM m hO).N) (r : Fin 1024) (d : Fin 128) (s : Nat)
    (hs : s = t.val / 12 % 8 * 1024 + r.val) :
    (iblk m hO c 3 t : Vec Ideal S1024x128 .f32) (ix2 r d) = sinBy afar (row (t.val % 12) s) d.val := by
  unfold iblk
  refine Eq.trans ?_ (sinTab_apply ⟨row (t.val % 12) s, row_lt _ _ (by omega)⟩ d)
  rw [← sin_eq m c]
  show (V m c main_v35 : Vec Ideal S17408x128 .f32) (place3 m hO t (ix2 r d)) = (V m c main_v35 : Vec Ideal S17408x128 .f32) _
  refine congrArg (V m c main_v35 : Vec Ideal S17408x128 .f32) (funext fun a => Fin.ext ?_)
  have e := win3 m hO t
  have h := row_split (t.val % 12) s r.val r.isLt (by omega)
  rw [show s / 1024 = t.val / 12 % 8 by omega] at h
  match a with
  | ⟨0, _⟩ => show ((cfgM m hO).win 3).index t (0 : Fin 2) * 1024 + 1 * r.val = row (t.val % 12) s; rw [congrFun e (0 : Fin 2), h]
              show row (t.val % 12) (t.val / 12 % 8 * 1024) / 1024 * 1024 + 1 * r.val = _; omega
  | ⟨1, _⟩ => show ((cfgM m hO).win 3).index t (1 : Fin 2) * 128 + 1 * d.val = d.val; rw [congrFun e (1 : Fin 2)]; show 0 * 128 + 1 * d.val = _; omega

/-- Where an element of the output block of a grid point lies in the result. -/
def place (t : Fin (cfgM m hO).N) (y : S1x2x512x512.Idx) : S2x16x512x6144.Idx := (((cfgM m hO).win 4).blk t).view.emb y

/-- One product over the blocks is a column of the whole product. -/
theorem product_eq (c : Dev nD) (t : Fin (cfgM m hO).N) (q : Fin 2) (r l : Fin 512) (b : Fin 2) (s : Fin 8192)
    (hb : b.val = t.val / 96) (hs : s.val = r.val * 16 + (t.val / 12 % 8 * 2 + q.val)) :
    product (iblk m hO c 0 t) (iblk m hO c 1 t) q r l = cols m c b s (source (t.val % 12) * 512 + l.val + 4096) := by
  have hl : source (t.val % 12) * 512 + l.val + 4096 < 20480 := by
    have := source_low ⟨t.val % 12, Nat.mod_lt _ (by decide)⟩
    dsimp only at this
    omega
  refine Eq.trans ?_ (column_of _ _ _ hl)
  exact Finset.sum_congr rfl fun k _ => congrArg₂ (α := EReal) (β := EReal) (γ := EReal) (· * ·)
    (blk0 m hO c t q r k b s hb hs) (blk1 m hO c t k l ⟨_, hl⟩ (by show source (t.val % 12) * 512 + l.val + 4096 = _; omega))

theorem flushed_eq (c : Dev nD) (t : Fin (cfgM m hO).N) :
    (dats m hO 0 c).flushed 4 t = (((cfgM m hO).win 4).blk t).view.read (Elt Ideal) (result m c) := by
  have hN : (cfgM m hO).N = 192 := N_0
  have e := win4 m hO t
  have f : (dats m hO 0 c).flushed 4 t = outsAt0 m hO c t := by
    show ((cfgM m hO).win 4).cut (grid0.coords t) ((dats m hO 0 c).after 4 t) = _
    rw [after0_4]
    rfl
  rw [f]
  funext y
  have y0 : (y 0 : Nat) < 1 := (y 0).isLt
  have y2 : (y 2 : Nat) < 512 := (y 2).isLt
  have y3 : (y 3 : Nat) < 512 := (y 3).isLt
  have e0 : (place m hO t y 0).val = t.val / 96 := by
    show ((cfgM m hO).win 4).index t (0 : Fin 4) * 1 + 1 * (y 0).val = _
    rw [congrFun e (0 : Fin 4)]; show t.val / 96 * 1 + 1 * (y 0).val = _; omega
  have y1 : (y 1 : Nat) < 2 := (y 1).isLt
  have e1 : (place m hO t y 1).val = t.val / 12 % 8 * 2 + (y 1).val := by
    show ((cfgM m hO).win 4).index t (1 : Fin 4) * 2 + 1 * (y 1).val = _
    rw [congrFun e (1 : Fin 4)]; show t.val / 12 % 8 * 2 + 1 * (y 1).val = _; omega
  have e2 : (place m hO t y 2).val = (y 2).val := by
    show ((cfgM m hO).win 4).index t (2 : Fin 4) * 512 + 1 * (y 2).val = _
    rw [congrFun e (2 : Fin 4)]; show 0 * 512 + 1 * (y 2).val = _; omega
  have e3 : (place m hO t y 3).val = t.val % 12 * 512 + (y 3).val := by
    show ((cfgM m hO).win 4).index t (3 : Fin 4) * 512 + 1 * (y 3).val = _
    rw [congrFun e (3 : Fin 4)]; show t.val % 12 * 512 + 1 * (y 3).val = _; omega
  show outsAt0 m hO c t y = result m c (place m hO t y)
  generalize place m hO t y = i at e0 e1 e2 e3 ⊢
  have hs : (at16 (i 1) (i 2)).val = (y 2).val * 16 + (t.val / 12 % 8 * 2 + (y 1).val) := by
    show (i 2).val * 16 + (i 1).val = _
    omega
  have hp : afar (t.val / 12 % 8 * 1024 + ((y 1).val * 512 + (y 2).val)) = (at16 (i 1) (i 2)).val := by
    rw [hs]
    exact afar_place _ _ _ y1 y2
  refine (out_apply _ _ _ _ _ _ _ _ _ _ _ _ _ _ _ _ _ _ _ _).trans ?_
  show (show EReal from product _ _ (y 1) (y 2) (y 3) * _ + product _ _ (y 1) (y 2) (partner (y 3)) * _)
    = blend (fun n => cols m c (i 0) (at16 (i 1) (i 2)) (n + 4096)) (at16 (i 1) (i 2)).val (i 3).val
  rw [product_eq m hO c t (y 1) (y 2) (y 3) (i 0) _ e0 hs, product_eq m hO c t (y 1) (y 2) (partner (y 3)) (i 0) _ e0 hs,
    blk2 m hO c t (under (y 1) (y 2)) (lane (y 3)) (t.val / 12 % 8 * 1024 + ((y 1).val * 512 + (y 2).val)) rfl, blk3 m hO c t (under (y 1) (y 2)) (lane (y 3)) (t.val / 12 % 8 * 1024 + ((y 1).val * 512 + (y 2).val)) rfl,
    cosBy_row _ _ _ _ (by omega) (afar_lt _ (by omega)), sinBy_row _ _ _ _ (by omega) (afar_lt _ (by omega)), hp]
  unfold blend
  rw [show (i 3).val / 512 = t.val % 12 by omega, show (i 3).val % 512 = (y 3).val by omega, show (i 3).val % 128 = (lane (y 3)).val by
    show _ = (y 3).val % 128; omega]
  rfl

theorem cover (i : S2x16x512x6144.Idx) :
    ∃ t : Fin (cfgM m hO).N, ((cfgM m hO).win 4).flush t = true ∧ i ∈ (((cfgM m hO).win 4).blk t).view.set := by
  have h0 : (i 0 : Nat) < 2 := (i 0).isLt
  have h1 : (i 1 : Nat) < 16 := (i 1).isLt
  have h2 : (i 2 : Nat) < 512 := (i 2).isLt
  have h3 : (i 3 : Nat) < 6144 := (i 3).isLt
  have hN : (cfgM m hO).N = 192 := N_0
  let t : Fin (cfgM m hO).N := ⟨((i 0 : Nat) * 8 + (i 1 : Nat) / 2) * 12 + (i 3 : Nat) / 512, by omega⟩
  have e := win4 m hO t
  have q0 : ((cfgM m hO).win 4).index t (0 : Fin 4) = (i 0 : Nat) := (congrFun e (0 : Fin 4)).trans (by show t.val / 96 = _; dsimp only [t]; omega)
  have q1 : ((cfgM m hO).win 4).index t (1 : Fin 4) = (i 1 : Nat) / 2 := (congrFun e (1 : Fin 4)).trans (by show t.val / 12 % 8 = _; dsimp only [t]; omega)
  have q2 : ((cfgM m hO).win 4).index t (2 : Fin 4) = 0 := (congrFun e (2 : Fin 4)).trans rfl
  have q3 : ((cfgM m hO).win 4).index t (3 : Fin 4) = (i 3 : Nat) / 512 := (congrFun e (3 : Fin 4)).trans (by show t.val % 12 = _; dsimp only [t]; omega)
  refine ⟨t, flush0_4 _ t, ?_⟩
  refine (Finset.ext_iff.mp (View.set_slice_whole main_v36 (((cfgM m hO).win 4).rect t)) i).mpr (Rect.mem_set_unit.mpr fun a => ?_)
  match a with
  | ⟨0, _⟩ => show ((cfgM m hO).win 4).index t (0 : Fin 4) * 1 ≤ (i 0 : Nat) ∧ (i 0 : Nat) < ((cfgM m hO).win 4).index t (0 : Fin 4) * 1 + 1
              rw [q0]; omega
  | ⟨1, _⟩ => show ((cfgM m hO).win 4).index t (1 : Fin 4) * 2 ≤ (i 1 : Nat) ∧ (i 1 : Nat) < ((cfgM m hO).win 4).index t (1 : Fin 4) * 2 + 2
              rw [q1]; omega
  | ⟨2, _⟩ => show ((cfgM m hO).win 4).index t (2 : Fin 4) * 512 ≤ (i 2 : Nat) ∧ (i 2 : Nat) < ((cfgM m hO).win 4).index t (2 : Fin 4) * 512 + 512
              rw [q2]; omega
  | ⟨3, _⟩ => show ((cfgM m hO).win 4).index t (3 : Fin 4) * 512 ≤ (i 3 : Nat) ∧ (i 3 : Nat) < ((cfgM m hO).win 4).index t (3 : Fin 4) * 512 + 512
              rw [q3]; omega

theorem final (c : Dev nD) : (dats m hO 0 c).arrAt 4 (cfgM m hO).N = result m c :=
  (dats m hO 0 c).arrAt_eq_of_cover 4 (result m c) (fun t _ => flushed_eq m hO c t) (cover m hO)

/-- The reference's result is the same array. -/
theorem reference_eq (c : Dev nD) : Cert.FarReferenceIdeal.Read.val_main_v84 (ax m c) (aw m c) = result m c := by
  funext i
  have hi : i = ix4 (i 0) (i 1) (i 2) (i 3) := funext fun a => match a with
    | ⟨0, _⟩ => rfl
    | ⟨1, _⟩ => rfl
    | ⟨2, _⟩ => rfl
    | ⟨3, _⟩ => rfl
  rw [hi]
  refine (Cert.FarReferenceIdeal.Hand.result_apply (ax m c) (aw m c) (i 0) (i 1) (i 2) (i 3) (at16 (i 1) (i 2)) rfl).trans ?_
  exact (blend_eq (fun n => cols m c (i 0) (at16 (i 1) (i 2)) (n + 4096)) (at16 (i 1) (i 2)).val (i 3).val (at16 (i 1) (i 2)).isLt
    (Nat.lt_of_lt_of_le (i 3).isLt (by decide))).symm

/-- Both programs end, the arguments unchanged, with the same projection. -/
theorem algebraic : Cert.algebraic_FarIdeal_FarReferenceIdeal (hFarIdeal := Cert.FarIdeal.Gen.facts)
    (hFarReferenceIdeal := Cert.FarReferenceIdeal.Gen.facts) := by
  intro m g m' g' _ hargs
  refine ⟨fun c => result m c, (θ_run _ _ _).mono (fun r h c => ?_) (θ_run_and (run_main (F := Ideal) m g (ok m)) (unchanged m g (ok m))),
    (θ_run _ _ _).mono (fun r h c => ?_) (Cert.FarReferenceIdeal.Value.run (F := Ideal) m' g')⟩
  · exact ⟨((h.1 c).1 4).trans (final m (ok m) c), h.2 c⟩
  · obtain ⟨hv, h0⟩ := h c
    refine ⟨hv.trans ?_, h0⟩
    rw [Cert.FarReferenceIdeal.Read.val_main_v84_eq, (hargs c).1, (hargs c).2]
    exact reference_eq m c

end Cert.FarIdeal.Hand

end
-- ==== Proof.lean ====
/-
  The claims: the attention kernel, the first layer's two projections and four projections of the second layer run to the end with their arguments unchanged
  and every counter back at zero, and the projections compute their references' functions over the extended reals.
-/
module

public import proofs.«01_k».proof.Defs
public import proofs.«01_k».proof.Proof.FrameRun
public import proofs.«01_k».proof.Proof.Same
public import proofs.«01_k».proof.Proof.OutValue
public import proofs.«01_k».proof.Proof.ProjSame
public import proofs.«01_k».proof.Proof.ProjValue
public import proofs.«01_k».proof.Proof.DilSame
public import proofs.«01_k».proof.Proof.DilValue
public import proofs.«01_k».proof.Proof.StrSame
public import proofs.«01_k».proof.Proof.StrValue
public import proofs.«01_k».proof.Proof.LastValue
public import proofs.«01_k».proof.Proof.FarSame
public import proofs.«01_k».proof.Proof.FarValue
public import proofs.«01_k».proof.Proof.Gen.OutProject.Frame
public import proofs.«01_k».proof.Proof.Gen.OutProjectIdeal.Value
public import proofs.«01_k».proof.Proof.Gen.OutReferenceIdeal.Run
public import proofs.«01_k».proof.Proof.Gen.DilatedReferenceIdeal.Run
public import proofs.«01_k».proof.Proof.Gen.DilatedReferenceIdeal.Read
public import proofs.«01_k».proof.Proof.Gen.SpreadReferenceIdeal.Run
public import proofs.«01_k».proof.Proof.Gen.SpreadReferenceIdeal.Read
public import proofs.«01_k».proof.Proof.Gen.FarReferenceIdeal.Run
public import proofs.«01_k».proof.Proof.Gen.FarReferenceIdeal.Read
public import proofs.«01_k».proof.Proof.Gen.Last.Frame
public import proofs.«01_k».proof.Proof.Gen.LastIdeal.Value
public import proofs.«01_k».proof.Proof.Gen.LastReferenceIdeal.Run
public import Idealize.ShloMosaic.Adequacy
public import Idealize.ShloMosaic.Init

@[expose] public section

noncomputable section

namespace Cert.Proof

open Idealize.ShloMosaic Idealize.SL.Sem

theorem run_KernelIdeal : Cert.quiescent_KernelIdeal (hKernelIdeal := Cert.KernelIdeal.Gen.facts) := fun m g _ =>
  Cert.Proof.KI.run_main (F := Ideal) m g

/-- The reference's run, read for its arguments and its counters. -/
theorem run_OutReferenceIdeal : Cert.quiescent_OutReferenceIdeal (hOutReferenceIdeal := Cert.OutReferenceIdeal.Gen.facts) := fun m g _ =>
  (θ_run Cert.OutReferenceIdeal.defs _ _).mono
    (fun r h => ⟨fun c => (h c).2, Idealize.ShloMosaic.sem_eq_zero_of_no_sems (by decide) r.2⟩)
    (Cert.OutReferenceIdeal.Value.run (F := Ideal) m g)

theorem run_LastReferenceIdeal : Cert.quiescent_LastReferenceIdeal (hLastReferenceIdeal := Cert.LastReferenceIdeal.Gen.facts) := fun m g _ =>
  (θ_run Cert.LastReferenceIdeal.defs _ _).mono
    (fun r h => ⟨fun c => (h c).2, Idealize.ShloMosaic.sem_eq_zero_of_no_sems (by decide) r.2⟩)
    (Cert.LastReferenceIdeal.Value.run (F := Ideal) m g)

theorem claim : Cert.Claim :=
  ⟨Cert.Kernel.Gen.facts, Cert.KernelIdeal.Gen.facts, Cert.OutProject.Gen.facts, Cert.OutProjectIdeal.Gen.facts,
    Cert.OutReferenceIdeal.Gen.facts, Cert.Project.Gen.facts, Cert.ProjectIdeal.Gen.facts, Cert.ProjectReferenceIdeal.Gen.facts,
    Cert.Dilated.Gen.facts, Cert.DilatedIdeal.Gen.facts, Cert.DilatedReferenceIdeal.Gen.facts,
    Cert.Spread.Gen.facts, Cert.SpreadIdeal.Gen.facts, Cert.SpreadReferenceIdeal.Gen.facts,
    Cert.Last.Gen.facts, Cert.LastIdeal.Gen.facts, Cert.LastReferenceIdeal.Gen.facts,
    Cert.Far.Gen.facts, Cert.FarIdeal.Gen.facts, Cert.FarReferenceIdeal.Gen.facts,
    run_Kernel, run_KernelIdeal, fun m g _ => Cert.OutProject.Gen.frame m g, fun m g _ => Cert.OutProjectIdeal.Gen.frame m g,
    run_OutReferenceIdeal, Cert.Projection.run_words, Cert.Projection.run_ideal, Cert.Projection.run_reference,
    Cert.Streams.run_words, Cert.Streams.run_ideal, Cert.Streams.run_reference,
    Cert.Spread.run_words, Cert.Spread.run_ideal, Cert.Spread.run_reference,
    fun m g _ => Cert.Last.Gen.frame m g, fun m g _ => Cert.LastIdeal.Gen.frame m g, run_LastReferenceIdeal,
    Cert.Far.run_words, Cert.Far.run_ideal, Cert.Far.run_reference,
    trivial, trivial, Cert.OutProjectIdeal.Hand.algebraic, trivial, Cert.ProjectIdeal.Hand.algebraic,
    trivial, Cert.DilatedIdeal.Hand.algebraic, trivial, Cert.SpreadIdeal.Hand.algebraic,
    trivial, Cert.LastIdeal.Hand.algebraic, trivial, Cert.FarIdeal.Hand.algebraic⟩

end Cert.Proof

end
